-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)) (v5 : (c : Dev Cert.KernelIdeal.nD) → Buf (Elt Ideal) ((c.tc : Thread Cert.KernelIdeal.nD Cert.KernelIdeal.τ).loc Cert.KernelIdeal.main_v16_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_v16_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x4096x16x64 : Shape := ⟨4, ![2, 4096, 16, 64]⟩
abbrev S1024x1024 : Shape := ⟨2, ![1024, 1024]⟩
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S2x4096x1024 : Shape := ⟨3, ![2, 4096, 1024]⟩
abbrev S2x4096x3072 : Shape := ⟨3, ![2, 4096, 3072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S1x4096x256 : Shape := ⟨3, ![1, 4096, 256]⟩
abbrev S16x512 : Shape := ⟨2, ![16, 512]⟩
abbrev S16x2048 : Shape := ⟨2, ![16, 2048]⟩
abbrev S16x5632 : Shape := ⟨2, ![16, 5632]⟩
abbrev S176x512 : Shape := ⟨2, ![176, 512]⟩
abbrev S16x1024x256 : Shape := ⟨3, ![16, 1024, 256]⟩
abbrev S1024x256 : Shape := ⟨2, ![1024, 256]⟩
abbrev S1x1024x256 : Shape := ⟨3, ![1, 1024, 256]⟩
abbrev S1024x1 : Shape := ⟨2, ![1024, 1]⟩
abbrev S256x1024 : Shape := ⟨2, ![256, 1024]⟩

abbrev nBuf : Space → Nat
  | .hbm => 32
  | .vmem => 30
  | .smem => 0
  | _ => 0

abbrev bufTy : (tb : Table) → Fin (tcTables nBuf tb) → BufTy
  | .hbm, ⟨0, _⟩ => ⟨S2x4096x16x64, .f32⟩
  | .hbm, ⟨1, _⟩ => ⟨S2x4096x16x64, .f32⟩
  | .hbm, ⟨2, _⟩ => ⟨S2x4096x16x64, .f32⟩
  | .hbm, ⟨3, _⟩ => ⟨S1024x1024, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x3072, .f32⟩
  | .hbm, ⟨18, _⟩ => ⟨S2x4096x3072, .bf16⟩
  | .hbm, ⟨19, _⟩ => ⟨S256, .i32⟩
  | .hbm, ⟨20, _⟩ => ⟨S256x1, .i32⟩
  | .hbm, ⟨21, _⟩ => ⟨S1x256, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S256x256, .bf16⟩
  | .hbm, ⟨26, _⟩ => ⟨S2x4096x1024, .bf16⟩
  | .hbm, ⟨27, _⟩ => ⟨S1024x1024, .bf16⟩
  | .hbm, ⟨28, _⟩ => ⟨S2048x2048, .bf16⟩
  | .hbm, ⟨29, _⟩ => ⟨S2048x5632, .bf16⟩
  | .hbm, ⟨30, _⟩ => ⟨S2048x5632, .bf16⟩
  | .hbm, ⟨31, _⟩ => ⟨S5632x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S256x256, .bf16⟩
  | .local _ .vmem, ⟨7, _⟩ => ⟨S16x512, .f32⟩
  | .local _ .vmem, ⟨8, _⟩ => ⟨S16x512, .f32⟩
  | .local _ .vmem, ⟨9, _⟩ => ⟨S16x2048, .f32⟩
  | .local _ .vmem, ⟨10, _⟩ => ⟨S16x2048, .f32⟩
  | .local _ .vmem, ⟨11, _⟩ => ⟨S16x5632, .f32⟩
  | .local _ .vmem, ⟨12, _⟩ => ⟨S16x5632, .f32⟩
  | .local _ .vmem, ⟨13, _⟩ => ⟨S16x5632, .f32⟩
  | .local _ .vmem, ⟨14, _⟩ => ⟨S16x5632, .f32⟩
  | .local _ .vmem, ⟨15, _⟩ => ⟨S176x512, .f32⟩
  | .local _ .vmem, ⟨16, _⟩ => ⟨S176x512, .f32⟩
  | .local _ .vmem, ⟨17, _⟩ => ⟨S1x256x256, .bf16⟩
  | .local _ .vmem, ⟨18, _⟩ => ⟨S1x256x256, .bf16⟩
  | .local _ .vmem, ⟨19, _⟩ => ⟨S16x512, .bf16⟩
  | .local _ .vmem, ⟨20, _⟩ => ⟨S16x512, .bf16⟩
  | .local _ .vmem, ⟨21, _⟩ => ⟨S16x2048, .bf16⟩
  | .local _ .vmem, ⟨22, _⟩ => ⟨S16x2048, .bf16⟩
  | .local _ .vmem, ⟨23, _⟩ => ⟨S16x5632, .bf16⟩
  | .local _ .vmem, ⟨24, _⟩ => ⟨S16x5632, .bf16⟩
  | .local _ .vmem, ⟨25, _⟩ => ⟨S16x5632, .bf16⟩
  | .local _ .vmem, ⟨26, _⟩ => ⟨S16x5632, .bf16⟩
  | .local _ .vmem, ⟨27, _⟩ => ⟨S176x512, .bf16⟩
  | .local _ .vmem, ⟨28, _⟩ => ⟨S176x512, .bf16⟩
  | .local _ .vmem, ⟨29, _⟩ => ⟨S16x1024x256, .bf16⟩
  | _, _ => ⟨S2x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨3, ![2, 4, 16], ![false, false, false]⟩

def k0_cond1 (i : grid0.Coords) : BitVec 1 :=
  let arg2 : BitVec 32 := BitVec.ofNat 32 (i 2).val
  let c0_i32_25 : BitVec 32 := 0#32
  let v39 : BitVec 1 := Scalar.cmpi .eq arg2 c0_i32_25
  let v40 : BitVec 32 := Scalar.extui v39
  let c0_i32_26 : BitVec 32 := 0#32
  let v41 : BitVec 1 := Scalar.cmpi .ne v40 c0_i32_26
  v41

@[reducible] def k0_t1_loop : Scf.Loop 32 :=
  let c0_i32_63 : BitVec 32 := 0#32
  let c16_i32 : BitVec 32 := 16#32
  let v128 : BitVec 32 := Scalar.addi c0_i32_63 c16_i32
  let c1_i32_64 : BitVec 32 := 1#32
  ⟨c0_i32_63, v128, c1_i32_64⟩
def k0_mult1 (k0_t1 : Fin k0_t1_loop.trips) : BitVec 32 :=
  let c0_i32_63 : BitVec 32 := 0#32
  let c1_i32_64 : BitVec 32 := 1#32
  let arg19 : BitVec 32 := Scf.iv c0_i32_63 c1_i32_64 k0_t1
  let c256_i32_66 : BitVec 32 := 256#32
  let v129 : BitVec 32 := Scalar.muli arg19 c256_i32_66
  v129
def k0_off1 (k0_t1 : Fin k0_t1_loop.trips) : Fin 3 → Nat :=
  let c0_67 : Index := 0#32
  let c0_i32_63 : BitVec 32 := 0#32
  let c1_i32_64 : BitVec 32 := 1#32
  let arg19 : BitVec 32 := Scf.iv c0_i32_63 c1_i32_64 k0_t1
  let c256_i32_66 : BitVec 32 := 256#32
  let v129 : BitVec 32 := Scalar.muli arg19 c256_i32_66
  let v130 : BitVec 32 := v129
  let v131 : Index := Scalar.indexCast v130
  let c0_68 : Index := 0#32
  ![0, v131.toNat, 0]
def k0_off2 (k0_t1 : Fin k0_t1_loop.trips) : Fin 3 → Nat :=
  let c0_i32_63 : BitVec 32 := 0#32
  let c1_i32_64 : BitVec 32 := 1#32
  let arg19 : BitVec 32 := Scf.iv c0_i32_63 c1_i32_64 k0_t1
  let v139 : Index := Scalar.indexCast arg19
  let c0_69 : Index := 0#32
  let c0_70 : Index := 0#32
  ![v139.toNat, 0, 0]
def k0_cond2 (i : grid0.Coords) : BitVec 1 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let c0_i32_31 : BitVec 32 := 0#32
  let v61 : BitVec 32 := Scalar.maxsi v60 c0_i32_31
  let c3_i32 : BitVec 32 := 3#32
  let v62 : BitVec 32 := Scalar.minsi v61 c3_i32
  let c0_i32_32 : BitVec 32 := 0#32
  let v63 : BitVec 1 := Scalar.cmpi .ne v62 c0_i32_32
  v63

def k0_cond3 (i : grid0.Coords) : BitVec 1 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let c0_i32_31 : BitVec 32 := 0#32
  let v61 : BitVec 32 := Scalar.maxsi v60 c0_i32_31
  let c3_i32 : BitVec 32 := 3#32
  let v62 : BitVec 32 := Scalar.minsi v61 c3_i32
  let c1_i32_63 : BitVec 32 := 1#32
  let v128 : BitVec 32 := Scalar.subi v62 c1_i32_63
  let c0_i32_64 : BitVec 32 := 0#32
  let v129 : BitVec 1 := Scalar.cmpi .ne v128 c0_i32_64
  v129

def k0_cond4 (i : grid0.Coords) : BitVec 1 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let c0_i32_31 : BitVec 32 := 0#32
  let v61 : BitVec 32 := Scalar.maxsi v60 c0_i32_31
  let c3_i32 : BitVec 32 := 3#32
  let v62 : BitVec 32 := Scalar.minsi v61 c3_i32
  let c1_i32_63 : BitVec 32 := 1#32
  let v128 : BitVec 32 := Scalar.subi v62 c1_i32_63
  let c1_i32_65 : BitVec 32 := 1#32
  let v131 : BitVec 32 := Scalar.subi v128 c1_i32_65
  let c0_i32_66 : BitVec 32 := 0#32
  let v132 : BitVec 1 := Scalar.cmpi .ne v131 c0_i32_66
  v132

def k0_mult2 (i : grid0.Coords) : BitVec 32 :=
  let arg2 : BitVec 32 := BitVec.ofNat 32 (i 2).val
  let c256_i32_69 : BitVec 32 := 256#32
  let v136 : BitVec 32 := Scalar.muli arg2 c256_i32_69
  v136
def k0_off3 (i : grid0.Coords) : Fin 3 → Nat :=
  let c0_70 : Index := 0#32
  let arg2 : BitVec 32 := BitVec.ofNat 32 (i 2).val
  let c256_i32_69 : BitVec 32 := 256#32
  let v136 : BitVec 32 := Scalar.muli arg2 c256_i32_69
  let v137 : BitVec 32 := v136
  let v138 : Index := Scalar.indexCast v137
  let c0_71 : Index := 0#32
  ![0, v138.toNat, 0]
def k0_off4 (i : grid0.Coords) : Fin 3 → Nat :=
  let arg2 : BitVec 32 := BitVec.ofNat 32 (i 2).val
  let v171 : Index := Scalar.indexCast arg2
  let c0_82 : Index := 0#32
  let c0_83 : Index := 0#32
  ![v171.toNat, 0, 0]
def k0_mult3 (i : grid0.Coords) : BitVec 32 :=
  let arg2 : BitVec 32 := BitVec.ofNat 32 (i 2).val
  let c1_i32_85 : BitVec 32 := 1#32
  let v180 : BitVec 32 := Scalar.subi arg2 c1_i32_85
  let c0_i32_86 : BitVec 32 := 0#32
  let v181 : BitVec 32 := Scalar.subi v180 c0_i32_86
  let c256_i32_87 : BitVec 32 := 256#32
  let v182 : BitVec 32 := Scalar.muli v181 c256_i32_87
  v182
def k0_off5 (i : grid0.Coords) (c0_i32_86 : BitVec 32) : Fin 3 → Nat :=
  let c0_88 : Index := 0#32
  let arg2 : BitVec 32 := BitVec.ofNat 32 (i 2).val
  let c1_i32_85 : BitVec 32 := 1#32
  let v180 : BitVec 32 := Scalar.subi arg2 c1_i32_85
  let v181 : BitVec 32 := Scalar.subi v180 c0_i32_86
  let c256_i32_87 : BitVec 32 := 256#32
  let v182 : BitVec 32 := Scalar.muli v181 c256_i32_87
  let v183 : BitVec 32 := v182
  let v184 : Index := Scalar.indexCast v183
  let c0_89 : Index := 0#32
  ![0, v184.toNat, 0]
def k0_off6 (i : grid0.Coords) (c0_i32_86 : BitVec 32) : Fin 3 → Nat :=
  let arg2 : BitVec 32 := BitVec.ofNat 32 (i 2).val
  let c1_i32_85 : BitVec 32 := 1#32
  let v180 : BitVec 32 := Scalar.subi arg2 c1_i32_85
  let v181 : BitVec 32 := Scalar.subi v180 c0_i32_86
  let v213 : Index := Scalar.indexCast v181
  let c0_98 : Index := 0#32
  let c0_99 : Index := 0#32
  ![v213.toNat, 0, 0]
def k0_mult4 (i : grid0.Coords) : BitVec 32 :=
  let arg2 : BitVec 32 := BitVec.ofNat 32 (i 2).val
  let c1_i32_101 : BitVec 32 := 1#32
  let v222 : BitVec 32 := Scalar.subi arg2 c1_i32_101
  let c1_i32_102 : BitVec 32 := 1#32
  let v223 : BitVec 32 := Scalar.subi v222 c1_i32_102
  let c256_i32_103 : BitVec 32 := 256#32
  let v224 : BitVec 32 := Scalar.muli v223 c256_i32_103
  v224
def k0_mult5 (i : grid0.Coords) : BitVec 32 :=
  let arg2 : BitVec 32 := BitVec.ofNat 32 (i 2).val
  let c1_i32_117 : BitVec 32 := 1#32
  let v264 : BitVec 32 := Scalar.subi arg2 c1_i32_117
  let c2_i32 : BitVec 32 := 2#32
  let v265 : BitVec 32 := Scalar.subi v264 c2_i32
  let c256_i32_118 : BitVec 32 := 256#32
  let v266 : BitVec 32 := Scalar.muli v265 c256_i32_118
  v266
def k0_mult6 (i : grid0.Coords) : BitVec 32 :=
  let arg2 : BitVec 32 := BitVec.ofNat 32 (i 2).val
  let c256_i32_69 : BitVec 32 := 256#32
  let v136 : BitVec 32 := Scalar.muli arg2 c256_i32_69
  v136
def k0_off7 (i : grid0.Coords) : Fin 3 → Nat :=
  let c0_70 : Index := 0#32
  let arg2 : BitVec 32 := BitVec.ofNat 32 (i 2).val
  let c256_i32_69 : BitVec 32 := 256#32
  let v136 : BitVec 32 := Scalar.muli arg2 c256_i32_69
  let v137 : BitVec 32 := v136
  let v138 : Index := Scalar.indexCast v137
  let c0_71 : Index := 0#32
  ![0, v138.toNat, 0]
def k0_off8 (i : grid0.Coords) : Fin 3 → Nat :=
  let arg2 : BitVec 32 := BitVec.ofNat 32 (i 2).val
  let v171 : Index := Scalar.indexCast arg2
  let c0_82 : Index := 0#32
  let c0_83 : Index := 0#32
  ![v171.toNat, 0, 0]
def k0_mult7 (i : grid0.Coords) : BitVec 32 :=
  let arg2 : BitVec 32 := BitVec.ofNat 32 (i 2).val
  let c1_i32_85 : BitVec 32 := 1#32
  let v180 : BitVec 32 := Scalar.subi arg2 c1_i32_85
  let c0_i32_86 : BitVec 32 := 0#32
  let v181 : BitVec 32 := Scalar.subi v180 c0_i32_86
  let c256_i32_87 : BitVec 32 := 256#32
  let v182 : BitVec 32 := Scalar.muli v181 c256_i32_87
  v182
def k0_off9 (i : grid0.Coords) (c0_i32_86 : BitVec 32) : Fin 3 → Nat :=
  let c0_88 : Index := 0#32
  let arg2 : BitVec 32 := BitVec.ofNat 32 (i 2).val
  let c1_i32_85 : BitVec 32 := 1#32
  let v180 : BitVec 32 := Scalar.subi arg2 c1_i32_85
  let v181 : BitVec 32 := Scalar.subi v180 c0_i32_86
  let c256_i32_87 : BitVec 32 := 256#32
  let v182 : BitVec 32 := Scalar.muli v181 c256_i32_87
  let v183 : BitVec 32 := v182
  let v184 : Index := Scalar.indexCast v183
  let c0_89 : Index := 0#32
  ![0, v184.toNat, 0]
def k0_off10 (i : grid0.Coords) (c0_i32_86 : BitVec 32) : Fin 3 → Nat :=
  let arg2 : BitVec 32 := BitVec.ofNat 32 (i 2).val
  let c1_i32_85 : BitVec 32 := 1#32
  let v180 : BitVec 32 := Scalar.subi arg2 c1_i32_85
  let v181 : BitVec 32 := Scalar.subi v180 c0_i32_86
  let v213 : Index := Scalar.indexCast v181
  let c0_98 : Index := 0#32
  let c0_99 : Index := 0#32
  ![v213.toNat, 0, 0]
def k0_mult8 (i : grid0.Coords) : BitVec 32 :=
  let arg2 : BitVec 32 := BitVec.ofNat 32 (i 2).val
  let c1_i32_101 : BitVec 32 := 1#32
  let v222 : BitVec 32 := Scalar.subi arg2 c1_i32_101
  let c1_i32_102 : BitVec 32 := 1#32
  let v223 : BitVec 32 := Scalar.subi v222 c1_i32_102
  let c256_i32_103 : BitVec 32 := 256#32
  let v224 : BitVec 32 := Scalar.muli v223 c256_i32_103
  v224
def k0_mult9 (i : grid0.Coords) : BitVec 32 :=
  let arg2 : BitVec 32 := BitVec.ofNat 32 (i 2).val
  let c256_i32_67 : BitVec 32 := 256#32
  let v133 : BitVec 32 := Scalar.muli arg2 c256_i32_67
  v133
def k0_off11 (i : grid0.Coords) : Fin 3 → Nat :=
  let c0_68 : Index := 0#32
  let arg2 : BitVec 32 := BitVec.ofNat 32 (i 2).val
  let c256_i32_67 : BitVec 32 := 256#32
  let v133 : BitVec 32 := Scalar.muli arg2 c256_i32_67
  let v134 : BitVec 32 := v133
  let v135 : Index := Scalar.indexCast v134
  let c0_69 : Index := 0#32
  ![0, v135.toNat, 0]
def k0_off12 (i : grid0.Coords) : Fin 3 → Nat :=
  let arg2 : BitVec 32 := BitVec.ofNat 32 (i 2).val
  let v168 : Index := Scalar.indexCast arg2
  let c0_80 : Index := 0#32
  let c0_81 : Index := 0#32
  ![v168.toNat, 0, 0]
def k0_mult10 (i : grid0.Coords) : BitVec 32 :=
  let arg2 : BitVec 32 := BitVec.ofNat 32 (i 2).val
  let c1_i32_83 : BitVec 32 := 1#32
  let v177 : BitVec 32 := Scalar.subi arg2 c1_i32_83
  let c0_i32_84 : BitVec 32 := 0#32
  let v178 : BitVec 32 := Scalar.subi v177 c0_i32_84
  let c256_i32_85 : BitVec 32 := 256#32
  let v179 : BitVec 32 := Scalar.muli v178 c256_i32_85
  v179
def k0_off13 (i : grid0.Coords) : Fin 3 → Nat :=
  let c0_86 : Index := 0#32
  let arg2 : BitVec 32 := BitVec.ofNat 32 (i 2).val
  let c1_i32_83 : BitVec 32 := 1#32
  let v177 : BitVec 32 := Scalar.subi arg2 c1_i32_83
  let c0_i32_84 : BitVec 32 := 0#32
  let v178 : BitVec 32 := Scalar.subi v177 c0_i32_84
  let c256_i32_85 : BitVec 32 := 256#32
  let v179 : BitVec 32 := Scalar.muli v178 c256_i32_85
  let v180 : BitVec 32 := v179
  let v181 : Index := Scalar.indexCast v180
  let c0_87 : Index := 0#32
  ![0, v181.toNat, 0]
def k0_off14 (i : grid0.Coords) : Fin 3 → Nat :=
  let arg2 : BitVec 32 := BitVec.ofNat 32 (i 2).val
  let c1_i32_83 : BitVec 32 := 1#32
  let v177 : BitVec 32 := Scalar.subi arg2 c1_i32_83
  let c0_i32_84 : BitVec 32 := 0#32
  let v178 : BitVec 32 := Scalar.subi v177 c0_i32_84
  let v210 : Index := Scalar.indexCast v178
  let c0_96 : Index := 0#32
  let c0_97 : Index := 0#32
  ![v210.toNat, 0, 0]
def k0_mult11 (i : grid0.Coords) : BitVec 32 :=
  let arg2 : BitVec 32 := BitVec.ofNat 32 (i 2).val
  let c256_i32_65 : BitVec 32 := 256#32
  let v130 : BitVec 32 := Scalar.muli arg2 c256_i32_65
  v130
def k0_off15 (i : grid0.Coords) : Fin 3 → Nat :=
  let c0_66 : Index := 0#32
  let arg2 : BitVec 32 := BitVec.ofNat 32 (i 2).val
  let c256_i32_65 : BitVec 32 := 256#32
  let v130 : BitVec 32 := Scalar.muli arg2 c256_i32_65
  let v131 : BitVec 32 := v130
  let v132 : Index := Scalar.indexCast v131
  let c0_67 : Index := 0#32
  ![0, v132.toNat, 0]
def k0_off16 (i : grid0.Coords) : Fin 3 → Nat :=
  let arg2 : BitVec 32 := BitVec.ofNat 32 (i 2).val
  let v165 : Index := Scalar.indexCast arg2
  let c0_78 : Index := 0#32
  let c0_79 : Index := 0#32
  ![v165.toNat, 0, 0]
@[reducible] def k0_t2_loop (i : grid0.Coords) : Scf.Loop 32 :=
  let c0_i32_39 : BitVec 32 := 0#32
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let c1_i32_41 : BitVec 32 := 1#32
  ⟨c0_i32_39, v87, c1_i32_41⟩
def k0_mult12 (i : grid0.Coords) (k0_t2 : Fin (k0_t2_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_63 : BitVec 32 := 1#32
  let v128 : BitVec 32 := Scalar.subi v65 c1_i32_63
  let c0_i32_64 : BitVec 32 := 0#32
  let v129 : BitVec 32 := Scalar.subi v128 c0_i32_64
  let c8_i32_65 : BitVec 32 := 8#32
  let c0_i32_39 : BitVec 32 := 0#32
  let c1_i32_41 : BitVec 32 := 1#32
  let arg19 : BitVec 32 := Scf.iv c0_i32_39 c1_i32_41 k0_t2
  let v130 : BitVec 32 := Scalar.muli c8_i32_65 arg19
  let v131 : BitVec 32 := Scalar.subi v129 v130
  let c256_i32_66 : BitVec 32 := 256#32
  let v132 : BitVec 32 := Scalar.muli v131 c256_i32_66
  v132
def k0_off17 (i : grid0.Coords) (k0_t2 : Fin (k0_t2_loop i).trips) (c0_i32_64 : BitVec 32) : Fin 3 → Nat :=
  let c0_67 : Index := 0#32
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_63 : BitVec 32 := 1#32
  let v128 : BitVec 32 := Scalar.subi v65 c1_i32_63
  let v129 : BitVec 32 := Scalar.subi v128 c0_i32_64
  let c8_i32_65 : BitVec 32 := 8#32
  let c0_i32_39 : BitVec 32 := 0#32
  let c1_i32_41 : BitVec 32 := 1#32
  let arg19 : BitVec 32 := Scf.iv c0_i32_39 c1_i32_41 k0_t2
  let v130 : BitVec 32 := Scalar.muli c8_i32_65 arg19
  let v131 : BitVec 32 := Scalar.subi v129 v130
  let c256_i32_66 : BitVec 32 := 256#32
  let v132 : BitVec 32 := Scalar.muli v131 c256_i32_66
  let v133 : BitVec 32 := v132
  let v134 : Index := Scalar.indexCast v133
  let c0_68 : Index := 0#32
  ![0, v134.toNat, 0]
def k0_off18 (i : grid0.Coords) (k0_t2 : Fin (k0_t2_loop i).trips) (c0_i32_64 : BitVec 32) : Fin 3 → Nat :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_63 : BitVec 32 := 1#32
  let v128 : BitVec 32 := Scalar.subi v65 c1_i32_63
  let v129 : BitVec 32 := Scalar.subi v128 c0_i32_64
  let c8_i32_65 : BitVec 32 := 8#32
  let c0_i32_39 : BitVec 32 := 0#32
  let c1_i32_41 : BitVec 32 := 1#32
  let arg19 : BitVec 32 := Scf.iv c0_i32_39 c1_i32_41 k0_t2
  let v130 : BitVec 32 := Scalar.muli c8_i32_65 arg19
  let v131 : BitVec 32 := Scalar.subi v129 v130
  let v163 : Index := Scalar.indexCast v131
  let c0_77 : Index := 0#32
  let c0_78 : Index := 0#32
  ![v163.toNat, 0, 0]
def k0_mult13 (i : grid0.Coords) (k0_t2 : Fin (k0_t2_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_80 : BitVec 32 := 1#32
  let v172 : BitVec 32 := Scalar.subi v65 c1_i32_80
  let c1_i32_81 : BitVec 32 := 1#32
  let v173 : BitVec 32 := Scalar.subi v172 c1_i32_81
  let c8_i32_82 : BitVec 32 := 8#32
  let c0_i32_39 : BitVec 32 := 0#32
  let c1_i32_41 : BitVec 32 := 1#32
  let arg19 : BitVec 32 := Scf.iv c0_i32_39 c1_i32_41 k0_t2
  let v174 : BitVec 32 := Scalar.muli c8_i32_82 arg19
  let v175 : BitVec 32 := Scalar.subi v173 v174
  let c256_i32_83 : BitVec 32 := 256#32
  let v176 : BitVec 32 := Scalar.muli v175 c256_i32_83
  v176
def k0_mult14 (i : grid0.Coords) (k0_t2 : Fin (k0_t2_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_97 : BitVec 32 := 1#32
  let v216 : BitVec 32 := Scalar.subi v65 c1_i32_97
  let c2_i32 : BitVec 32 := 2#32
  let v217 : BitVec 32 := Scalar.subi v216 c2_i32
  let c8_i32_98 : BitVec 32 := 8#32
  let c0_i32_39 : BitVec 32 := 0#32
  let c1_i32_41 : BitVec 32 := 1#32
  let arg19 : BitVec 32 := Scf.iv c0_i32_39 c1_i32_41 k0_t2
  let v218 : BitVec 32 := Scalar.muli c8_i32_98 arg19
  let v219 : BitVec 32 := Scalar.subi v217 v218
  let c256_i32_99 : BitVec 32 := 256#32
  let v220 : BitVec 32 := Scalar.muli v219 c256_i32_99
  v220
def k0_mult15 (i : grid0.Coords) (k0_t2 : Fin (k0_t2_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_113 : BitVec 32 := 1#32
  let v260 : BitVec 32 := Scalar.subi v65 c1_i32_113
  let c3_i32_114 : BitVec 32 := 3#32
  let v261 : BitVec 32 := Scalar.subi v260 c3_i32_114
  let c8_i32_115 : BitVec 32 := 8#32
  let c0_i32_39 : BitVec 32 := 0#32
  let c1_i32_41 : BitVec 32 := 1#32
  let arg19 : BitVec 32 := Scf.iv c0_i32_39 c1_i32_41 k0_t2
  let v262 : BitVec 32 := Scalar.muli c8_i32_115 arg19
  let v263 : BitVec 32 := Scalar.subi v261 v262
  let c256_i32_116 : BitVec 32 := 256#32
  let v264 : BitVec 32 := Scalar.muli v263 c256_i32_116
  v264
def k0_mult16 (i : grid0.Coords) (k0_t2 : Fin (k0_t2_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_130 : BitVec 32 := 1#32
  let v304 : BitVec 32 := Scalar.subi v65 c1_i32_130
  let c4_i32_131 : BitVec 32 := 4#32
  let v305 : BitVec 32 := Scalar.subi v304 c4_i32_131
  let c8_i32_132 : BitVec 32 := 8#32
  let c0_i32_39 : BitVec 32 := 0#32
  let c1_i32_41 : BitVec 32 := 1#32
  let arg19 : BitVec 32 := Scf.iv c0_i32_39 c1_i32_41 k0_t2
  let v306 : BitVec 32 := Scalar.muli c8_i32_132 arg19
  let v307 : BitVec 32 := Scalar.subi v305 v306
  let c256_i32_133 : BitVec 32 := 256#32
  let v308 : BitVec 32 := Scalar.muli v307 c256_i32_133
  v308
def k0_mult17 (i : grid0.Coords) (k0_t2 : Fin (k0_t2_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_147 : BitVec 32 := 1#32
  let v348 : BitVec 32 := Scalar.subi v65 c1_i32_147
  let c5_i32 : BitVec 32 := 5#32
  let v349 : BitVec 32 := Scalar.subi v348 c5_i32
  let c8_i32_148 : BitVec 32 := 8#32
  let c0_i32_39 : BitVec 32 := 0#32
  let c1_i32_41 : BitVec 32 := 1#32
  let arg19 : BitVec 32 := Scf.iv c0_i32_39 c1_i32_41 k0_t2
  let v350 : BitVec 32 := Scalar.muli c8_i32_148 arg19
  let v351 : BitVec 32 := Scalar.subi v349 v350
  let c256_i32_149 : BitVec 32 := 256#32
  let v352 : BitVec 32 := Scalar.muli v351 c256_i32_149
  v352
def k0_mult18 (i : grid0.Coords) (k0_t2 : Fin (k0_t2_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_163 : BitVec 32 := 1#32
  let v392 : BitVec 32 := Scalar.subi v65 c1_i32_163
  let c6_i32 : BitVec 32 := 6#32
  let v393 : BitVec 32 := Scalar.subi v392 c6_i32
  let c8_i32_164 : BitVec 32 := 8#32
  let c0_i32_39 : BitVec 32 := 0#32
  let c1_i32_41 : BitVec 32 := 1#32
  let arg19 : BitVec 32 := Scf.iv c0_i32_39 c1_i32_41 k0_t2
  let v394 : BitVec 32 := Scalar.muli c8_i32_164 arg19
  let v395 : BitVec 32 := Scalar.subi v393 v394
  let c256_i32_165 : BitVec 32 := 256#32
  let v396 : BitVec 32 := Scalar.muli v395 c256_i32_165
  v396
def k0_mult19 (i : grid0.Coords) (k0_t2 : Fin (k0_t2_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_179 : BitVec 32 := 1#32
  let v436 : BitVec 32 := Scalar.subi v65 c1_i32_179
  let c7_i32 : BitVec 32 := 7#32
  let v437 : BitVec 32 := Scalar.subi v436 c7_i32
  let c8_i32_180 : BitVec 32 := 8#32
  let c0_i32_39 : BitVec 32 := 0#32
  let c1_i32_41 : BitVec 32 := 1#32
  let arg19 : BitVec 32 := Scf.iv c0_i32_39 c1_i32_41 k0_t2
  let v438 : BitVec 32 := Scalar.muli c8_i32_180 arg19
  let v439 : BitVec 32 := Scalar.subi v437 v438
  let c256_i32_181 : BitVec 32 := 256#32
  let v440 : BitVec 32 := Scalar.muli v439 c256_i32_181
  v440
@[reducible] def k0_t3_loop (i : grid0.Coords) : Scf.Loop 32 :=
  let c0_i32_39 : BitVec 32 := 0#32
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let v84 : BitVec 32 := Scalar.addi c0_i32_39 v83
  let c1_i32_42 : BitVec 32 := 1#32
  ⟨v87, v84, c1_i32_42⟩
def k0_mult20 (i : grid0.Coords) (k0_t3 : Fin (k0_t3_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_63 : BitVec 32 := 1#32
  let v128 : BitVec 32 := Scalar.subi v65 c1_i32_63
  let c0_i32_64 : BitVec 32 := 0#32
  let v129 : BitVec 32 := Scalar.subi v128 c0_i32_64
  let c8_i32_65 : BitVec 32 := 8#32
  let c0_i32_39 : BitVec 32 := 0#32
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let c1_i32_42 : BitVec 32 := 1#32
  let arg19 : BitVec 32 := Scf.iv v87 c1_i32_42 k0_t3
  let v130 : BitVec 32 := Scalar.muli c8_i32_65 arg19
  let v131 : BitVec 32 := Scalar.subi v129 v130
  let c256_i32_66 : BitVec 32 := 256#32
  let v132 : BitVec 32 := Scalar.muli v131 c256_i32_66
  v132
def k0_off19 (i : grid0.Coords) (k0_t3 : Fin (k0_t3_loop i).trips) (c0_i32_64 : BitVec 32) : Fin 3 → Nat :=
  let c0_67 : Index := 0#32
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_63 : BitVec 32 := 1#32
  let v128 : BitVec 32 := Scalar.subi v65 c1_i32_63
  let v129 : BitVec 32 := Scalar.subi v128 c0_i32_64
  let c8_i32_65 : BitVec 32 := 8#32
  let c0_i32_39 : BitVec 32 := 0#32
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let c1_i32_42 : BitVec 32 := 1#32
  let arg19 : BitVec 32 := Scf.iv v87 c1_i32_42 k0_t3
  let v130 : BitVec 32 := Scalar.muli c8_i32_65 arg19
  let v131 : BitVec 32 := Scalar.subi v129 v130
  let c256_i32_66 : BitVec 32 := 256#32
  let v132 : BitVec 32 := Scalar.muli v131 c256_i32_66
  let v133 : BitVec 32 := v132
  let v134 : Index := Scalar.indexCast v133
  let c0_68 : Index := 0#32
  ![0, v134.toNat, 0]
def k0_off20 (i : grid0.Coords) (k0_t3 : Fin (k0_t3_loop i).trips) (c0_i32_64 : BitVec 32) : Fin 3 → Nat :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_63 : BitVec 32 := 1#32
  let v128 : BitVec 32 := Scalar.subi v65 c1_i32_63
  let v129 : BitVec 32 := Scalar.subi v128 c0_i32_64
  let c8_i32_65 : BitVec 32 := 8#32
  let c0_i32_39 : BitVec 32 := 0#32
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let c1_i32_42 : BitVec 32 := 1#32
  let arg19 : BitVec 32 := Scf.iv v87 c1_i32_42 k0_t3
  let v130 : BitVec 32 := Scalar.muli c8_i32_65 arg19
  let v131 : BitVec 32 := Scalar.subi v129 v130
  let v163 : Index := Scalar.indexCast v131
  let c0_77 : Index := 0#32
  let c0_78 : Index := 0#32
  ![v163.toNat, 0, 0]
def k0_mult21 (i : grid0.Coords) (k0_t3 : Fin (k0_t3_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_80 : BitVec 32 := 1#32
  let v172 : BitVec 32 := Scalar.subi v65 c1_i32_80
  let c1_i32_81 : BitVec 32 := 1#32
  let v173 : BitVec 32 := Scalar.subi v172 c1_i32_81
  let c8_i32_82 : BitVec 32 := 8#32
  let c0_i32_39 : BitVec 32 := 0#32
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let c1_i32_42 : BitVec 32 := 1#32
  let arg19 : BitVec 32 := Scf.iv v87 c1_i32_42 k0_t3
  let v174 : BitVec 32 := Scalar.muli c8_i32_82 arg19
  let v175 : BitVec 32 := Scalar.subi v173 v174
  let c256_i32_83 : BitVec 32 := 256#32
  let v176 : BitVec 32 := Scalar.muli v175 c256_i32_83
  v176
def k0_mult22 (i : grid0.Coords) (k0_t3 : Fin (k0_t3_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_97 : BitVec 32 := 1#32
  let v216 : BitVec 32 := Scalar.subi v65 c1_i32_97
  let c2_i32 : BitVec 32 := 2#32
  let v217 : BitVec 32 := Scalar.subi v216 c2_i32
  let c8_i32_98 : BitVec 32 := 8#32
  let c0_i32_39 : BitVec 32 := 0#32
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let c1_i32_42 : BitVec 32 := 1#32
  let arg19 : BitVec 32 := Scf.iv v87 c1_i32_42 k0_t3
  let v218 : BitVec 32 := Scalar.muli c8_i32_98 arg19
  let v219 : BitVec 32 := Scalar.subi v217 v218
  let c256_i32_99 : BitVec 32 := 256#32
  let v220 : BitVec 32 := Scalar.muli v219 c256_i32_99
  v220
def k0_mult23 (i : grid0.Coords) (k0_t3 : Fin (k0_t3_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_113 : BitVec 32 := 1#32
  let v260 : BitVec 32 := Scalar.subi v65 c1_i32_113
  let c3_i32_114 : BitVec 32 := 3#32
  let v261 : BitVec 32 := Scalar.subi v260 c3_i32_114
  let c8_i32_115 : BitVec 32 := 8#32
  let c0_i32_39 : BitVec 32 := 0#32
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let c1_i32_42 : BitVec 32 := 1#32
  let arg19 : BitVec 32 := Scf.iv v87 c1_i32_42 k0_t3
  let v262 : BitVec 32 := Scalar.muli c8_i32_115 arg19
  let v263 : BitVec 32 := Scalar.subi v261 v262
  let c256_i32_116 : BitVec 32 := 256#32
  let v264 : BitVec 32 := Scalar.muli v263 c256_i32_116
  v264
def k0_mult24 (i : grid0.Coords) (k0_t3 : Fin (k0_t3_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_130 : BitVec 32 := 1#32
  let v304 : BitVec 32 := Scalar.subi v65 c1_i32_130
  let c4_i32_131 : BitVec 32 := 4#32
  let v305 : BitVec 32 := Scalar.subi v304 c4_i32_131
  let c8_i32_132 : BitVec 32 := 8#32
  let c0_i32_39 : BitVec 32 := 0#32
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let c1_i32_42 : BitVec 32 := 1#32
  let arg19 : BitVec 32 := Scf.iv v87 c1_i32_42 k0_t3
  let v306 : BitVec 32 := Scalar.muli c8_i32_132 arg19
  let v307 : BitVec 32 := Scalar.subi v305 v306
  let c256_i32_133 : BitVec 32 := 256#32
  let v308 : BitVec 32 := Scalar.muli v307 c256_i32_133
  v308
def k0_mult25 (i : grid0.Coords) (k0_t3 : Fin (k0_t3_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_147 : BitVec 32 := 1#32
  let v348 : BitVec 32 := Scalar.subi v65 c1_i32_147
  let c5_i32 : BitVec 32 := 5#32
  let v349 : BitVec 32 := Scalar.subi v348 c5_i32
  let c8_i32_148 : BitVec 32 := 8#32
  let c0_i32_39 : BitVec 32 := 0#32
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let c1_i32_42 : BitVec 32 := 1#32
  let arg19 : BitVec 32 := Scf.iv v87 c1_i32_42 k0_t3
  let v350 : BitVec 32 := Scalar.muli c8_i32_148 arg19
  let v351 : BitVec 32 := Scalar.subi v349 v350
  let c256_i32_149 : BitVec 32 := 256#32
  let v352 : BitVec 32 := Scalar.muli v351 c256_i32_149
  v352
def k0_mult26 (i : grid0.Coords) (k0_t3 : Fin (k0_t3_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_163 : BitVec 32 := 1#32
  let v392 : BitVec 32 := Scalar.subi v65 c1_i32_163
  let c6_i32 : BitVec 32 := 6#32
  let v393 : BitVec 32 := Scalar.subi v392 c6_i32
  let c8_i32_164 : BitVec 32 := 8#32
  let c0_i32_39 : BitVec 32 := 0#32
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let c1_i32_42 : BitVec 32 := 1#32
  let arg19 : BitVec 32 := Scf.iv v87 c1_i32_42 k0_t3
  let v394 : BitVec 32 := Scalar.muli c8_i32_164 arg19
  let v395 : BitVec 32 := Scalar.subi v393 v394
  let c256_i32_165 : BitVec 32 := 256#32
  let v396 : BitVec 32 := Scalar.muli v395 c256_i32_165
  v396
def k0_mult27 (i : grid0.Coords) (k0_t3 : Fin (k0_t3_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c1_i32_179 : BitVec 32 := 1#32
  let v436 : BitVec 32 := Scalar.subi v65 c1_i32_179
  let c7_i32 : BitVec 32 := 7#32
  let v437 : BitVec 32 := Scalar.subi v436 c7_i32
  let c8_i32_180 : BitVec 32 := 8#32
  let c0_i32_39 : BitVec 32 := 0#32
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c8_i32 : BitVec 32 := 8#32
  let c0_i32_35 : BitVec 32 := 0#32
  let v72 : BitVec 1 := Scalar.cmpi .sgt c8_i32 c0_i32_35
  let v73 : BitVec 32 := Scalar.extui v72
  let c0_i32_36 : BitVec 32 := 0#32
  let v74 : BitVec 1 := Scalar.cmpi .slt c8_i32 c0_i32_36
  let v75 : BitVec 32 := Scalar.extui v74
  let v76 : BitVec 32 := Scalar.subi v73 v75
  let v77 : BitVec 1 := Scalar.cmpi .ne v71 v76
  let v78 : BitVec 32 := Scalar.remsi v65 c8_i32
  let c0_i32_37 : BitVec 32 := 0#32
  let v79 : BitVec 1 := Scalar.cmpi .ne v78 c0_i32_37
  let v80 : BitVec 1 := Scalar.andi v77 v79
  let v66 : BitVec 32 := Scalar.divsi v65 c8_i32
  let c1_i32_38 : BitVec 32 := 1#32
  let v81 : BitVec 32 := Scalar.subi v66 c1_i32_38
  let v82 : BitVec 32 := Scalar.select v80 v81 v66
  let v83 : BitVec 32 := Scalar.subi v82 c0_i32_39
  let c1_i32_40 : BitVec 32 := 1#32
  let v85 : BitVec 32 := Scalar.divsi v83 c1_i32_40
  let v86 : BitVec 32 := Scalar.muli v85 c1_i32_40
  let v87 : BitVec 32 := Scalar.addi c0_i32_39 v86
  let c1_i32_42 : BitVec 32 := 1#32
  let arg19 : BitVec 32 := Scf.iv v87 c1_i32_42 k0_t3
  let v438 : BitVec 32 := Scalar.muli c8_i32_180 arg19
  let v439 : BitVec 32 := Scalar.subi v437 v438
  let c256_i32_181 : BitVec 32 := 256#32
  let v440 : BitVec 32 := Scalar.muli v439 c256_i32_181
  v440
@[reducible] def k0_t4_loop (i : grid0.Coords) : Scf.Loop 32 :=
  let c0_i32_56 : BitVec 32 := 0#32
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c4_i32_49 : BitVec 32 := 4#32
  let c0_i32_52 : BitVec 32 := 0#32
  let v106 : BitVec 1 := Scalar.cmpi .sgt c4_i32_49 c0_i32_52
  let v107 : BitVec 32 := Scalar.extui v106
  let c0_i32_53 : BitVec 32 := 0#32
  let v108 : BitVec 1 := Scalar.cmpi .slt c4_i32_49 c0_i32_53
  let v109 : BitVec 32 := Scalar.extui v108
  let v110 : BitVec 32 := Scalar.subi v107 v109
  let v111 : BitVec 1 := Scalar.cmpi .ne v105 v110
  let v112 : BitVec 32 := Scalar.remsi v99 c4_i32_49
  let c0_i32_54 : BitVec 32 := 0#32
  let v113 : BitVec 1 := Scalar.cmpi .ne v112 c0_i32_54
  let v114 : BitVec 1 := Scalar.andi v111 v113
  let v100 : BitVec 32 := Scalar.divsi v99 c4_i32_49
  let c1_i32_55 : BitVec 32 := 1#32
  let v115 : BitVec 32 := Scalar.subi v100 c1_i32_55
  let v116 : BitVec 32 := Scalar.select v114 v115 v100
  let v117 : BitVec 32 := Scalar.subi v116 c0_i32_56
  let c1_i32_57 : BitVec 32 := 1#32
  let v119 : BitVec 32 := Scalar.divsi v117 c1_i32_57
  let v120 : BitVec 32 := Scalar.muli v119 c1_i32_57
  let v121 : BitVec 32 := Scalar.addi c0_i32_56 v120
  let c1_i32_58 : BitVec 32 := 1#32
  ⟨c0_i32_56, v121, c1_i32_58⟩
def k0_mult28 (i : grid0.Coords) (k0_t4 : Fin (k0_t4_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_63 : BitVec 32 := 1#32
  let v128 : BitVec 32 := Scalar.subi v99 c1_i32_63
  let c0_i32_64 : BitVec 32 := 0#32
  let v129 : BitVec 32 := Scalar.subi v128 c0_i32_64
  let c4_i32_65 : BitVec 32 := 4#32
  let c0_i32_56 : BitVec 32 := 0#32
  let c1_i32_58 : BitVec 32 := 1#32
  let arg19 : BitVec 32 := Scf.iv c0_i32_56 c1_i32_58 k0_t4
  let v130 : BitVec 32 := Scalar.muli c4_i32_65 arg19
  let v131 : BitVec 32 := Scalar.subi v129 v130
  let c256_i32_66 : BitVec 32 := 256#32
  let v132 : BitVec 32 := Scalar.muli v131 c256_i32_66
  v132
def k0_off21 (i : grid0.Coords) (k0_t4 : Fin (k0_t4_loop i).trips) (c0_i32_64 : BitVec 32) : Fin 3 → Nat :=
  let c0_67 : Index := 0#32
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_63 : BitVec 32 := 1#32
  let v128 : BitVec 32 := Scalar.subi v99 c1_i32_63
  let v129 : BitVec 32 := Scalar.subi v128 c0_i32_64
  let c4_i32_65 : BitVec 32 := 4#32
  let c0_i32_56 : BitVec 32 := 0#32
  let c1_i32_58 : BitVec 32 := 1#32
  let arg19 : BitVec 32 := Scf.iv c0_i32_56 c1_i32_58 k0_t4
  let v130 : BitVec 32 := Scalar.muli c4_i32_65 arg19
  let v131 : BitVec 32 := Scalar.subi v129 v130
  let c256_i32_66 : BitVec 32 := 256#32
  let v132 : BitVec 32 := Scalar.muli v131 c256_i32_66
  let v133 : BitVec 32 := v132
  let v134 : Index := Scalar.indexCast v133
  let c0_68 : Index := 0#32
  ![0, v134.toNat, 0]
def k0_off22 (i : grid0.Coords) (k0_t4 : Fin (k0_t4_loop i).trips) (c0_i32_64 : BitVec 32) : Fin 3 → Nat :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_63 : BitVec 32 := 1#32
  let v128 : BitVec 32 := Scalar.subi v99 c1_i32_63
  let v129 : BitVec 32 := Scalar.subi v128 c0_i32_64
  let c4_i32_65 : BitVec 32 := 4#32
  let c0_i32_56 : BitVec 32 := 0#32
  let c1_i32_58 : BitVec 32 := 1#32
  let arg19 : BitVec 32 := Scf.iv c0_i32_56 c1_i32_58 k0_t4
  let v130 : BitVec 32 := Scalar.muli c4_i32_65 arg19
  let v131 : BitVec 32 := Scalar.subi v129 v130
  let v163 : Index := Scalar.indexCast v131
  let c0_77 : Index := 0#32
  let c0_78 : Index := 0#32
  ![v163.toNat, 0, 0]
def k0_mult29 (i : grid0.Coords) (k0_t4 : Fin (k0_t4_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_80 : BitVec 32 := 1#32
  let v172 : BitVec 32 := Scalar.subi v99 c1_i32_80
  let c1_i32_81 : BitVec 32 := 1#32
  let v173 : BitVec 32 := Scalar.subi v172 c1_i32_81
  let c4_i32_82 : BitVec 32 := 4#32
  let c0_i32_56 : BitVec 32 := 0#32
  let c1_i32_58 : BitVec 32 := 1#32
  let arg19 : BitVec 32 := Scf.iv c0_i32_56 c1_i32_58 k0_t4
  let v174 : BitVec 32 := Scalar.muli c4_i32_82 arg19
  let v175 : BitVec 32 := Scalar.subi v173 v174
  let c256_i32_83 : BitVec 32 := 256#32
  let v176 : BitVec 32 := Scalar.muli v175 c256_i32_83
  v176
def k0_mult30 (i : grid0.Coords) (k0_t4 : Fin (k0_t4_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_97 : BitVec 32 := 1#32
  let v216 : BitVec 32 := Scalar.subi v99 c1_i32_97
  let c2_i32 : BitVec 32 := 2#32
  let v217 : BitVec 32 := Scalar.subi v216 c2_i32
  let c4_i32_98 : BitVec 32 := 4#32
  let c0_i32_56 : BitVec 32 := 0#32
  let c1_i32_58 : BitVec 32 := 1#32
  let arg19 : BitVec 32 := Scf.iv c0_i32_56 c1_i32_58 k0_t4
  let v218 : BitVec 32 := Scalar.muli c4_i32_98 arg19
  let v219 : BitVec 32 := Scalar.subi v217 v218
  let c256_i32_99 : BitVec 32 := 256#32
  let v220 : BitVec 32 := Scalar.muli v219 c256_i32_99
  v220
def k0_mult31 (i : grid0.Coords) (k0_t4 : Fin (k0_t4_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_113 : BitVec 32 := 1#32
  let v260 : BitVec 32 := Scalar.subi v99 c1_i32_113
  let c3_i32_114 : BitVec 32 := 3#32
  let v261 : BitVec 32 := Scalar.subi v260 c3_i32_114
  let c4_i32_115 : BitVec 32 := 4#32
  let c0_i32_56 : BitVec 32 := 0#32
  let c1_i32_58 : BitVec 32 := 1#32
  let arg19 : BitVec 32 := Scf.iv c0_i32_56 c1_i32_58 k0_t4
  let v262 : BitVec 32 := Scalar.muli c4_i32_115 arg19
  let v263 : BitVec 32 := Scalar.subi v261 v262
  let c256_i32_116 : BitVec 32 := 256#32
  let v264 : BitVec 32 := Scalar.muli v263 c256_i32_116
  v264
@[reducible] def k0_t5_loop (i : grid0.Coords) : Scf.Loop 32 :=
  let c0_i32_56 : BitVec 32 := 0#32
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c4_i32_49 : BitVec 32 := 4#32
  let c0_i32_52 : BitVec 32 := 0#32
  let v106 : BitVec 1 := Scalar.cmpi .sgt c4_i32_49 c0_i32_52
  let v107 : BitVec 32 := Scalar.extui v106
  let c0_i32_53 : BitVec 32 := 0#32
  let v108 : BitVec 1 := Scalar.cmpi .slt c4_i32_49 c0_i32_53
  let v109 : BitVec 32 := Scalar.extui v108
  let v110 : BitVec 32 := Scalar.subi v107 v109
  let v111 : BitVec 1 := Scalar.cmpi .ne v105 v110
  let v112 : BitVec 32 := Scalar.remsi v99 c4_i32_49
  let c0_i32_54 : BitVec 32 := 0#32
  let v113 : BitVec 1 := Scalar.cmpi .ne v112 c0_i32_54
  let v114 : BitVec 1 := Scalar.andi v111 v113
  let v100 : BitVec 32 := Scalar.divsi v99 c4_i32_49
  let c1_i32_55 : BitVec 32 := 1#32
  let v115 : BitVec 32 := Scalar.subi v100 c1_i32_55
  let v116 : BitVec 32 := Scalar.select v114 v115 v100
  let v117 : BitVec 32 := Scalar.subi v116 c0_i32_56
  let c1_i32_57 : BitVec 32 := 1#32
  let v119 : BitVec 32 := Scalar.divsi v117 c1_i32_57
  let v120 : BitVec 32 := Scalar.muli v119 c1_i32_57
  let v121 : BitVec 32 := Scalar.addi c0_i32_56 v120
  let v118 : BitVec 32 := Scalar.addi c0_i32_56 v117
  let c1_i32_59 : BitVec 32 := 1#32
  ⟨v121, v118, c1_i32_59⟩
def k0_mult32 (i : grid0.Coords) (k0_t5 : Fin (k0_t5_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_63 : BitVec 32 := 1#32
  let v128 : BitVec 32 := Scalar.subi v99 c1_i32_63
  let c0_i32_64 : BitVec 32 := 0#32
  let v129 : BitVec 32 := Scalar.subi v128 c0_i32_64
  let c4_i32_65 : BitVec 32 := 4#32
  let c0_i32_56 : BitVec 32 := 0#32
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c4_i32_49 : BitVec 32 := 4#32
  let c0_i32_52 : BitVec 32 := 0#32
  let v106 : BitVec 1 := Scalar.cmpi .sgt c4_i32_49 c0_i32_52
  let v107 : BitVec 32 := Scalar.extui v106
  let c0_i32_53 : BitVec 32 := 0#32
  let v108 : BitVec 1 := Scalar.cmpi .slt c4_i32_49 c0_i32_53
  let v109 : BitVec 32 := Scalar.extui v108
  let v110 : BitVec 32 := Scalar.subi v107 v109
  let v111 : BitVec 1 := Scalar.cmpi .ne v105 v110
  let v112 : BitVec 32 := Scalar.remsi v99 c4_i32_49
  let c0_i32_54 : BitVec 32 := 0#32
  let v113 : BitVec 1 := Scalar.cmpi .ne v112 c0_i32_54
  let v114 : BitVec 1 := Scalar.andi v111 v113
  let v100 : BitVec 32 := Scalar.divsi v99 c4_i32_49
  let c1_i32_55 : BitVec 32 := 1#32
  let v115 : BitVec 32 := Scalar.subi v100 c1_i32_55
  let v116 : BitVec 32 := Scalar.select v114 v115 v100
  let v117 : BitVec 32 := Scalar.subi v116 c0_i32_56
  let c1_i32_57 : BitVec 32 := 1#32
  let v119 : BitVec 32 := Scalar.divsi v117 c1_i32_57
  let v120 : BitVec 32 := Scalar.muli v119 c1_i32_57
  let v121 : BitVec 32 := Scalar.addi c0_i32_56 v120
  let c1_i32_59 : BitVec 32 := 1#32
  let arg19 : BitVec 32 := Scf.iv v121 c1_i32_59 k0_t5
  let v130 : BitVec 32 := Scalar.muli c4_i32_65 arg19
  let v131 : BitVec 32 := Scalar.subi v129 v130
  let c256_i32_66 : BitVec 32 := 256#32
  let v132 : BitVec 32 := Scalar.muli v131 c256_i32_66
  v132
def k0_off23 (i : grid0.Coords) (k0_t5 : Fin (k0_t5_loop i).trips) (c0_i32_64 : BitVec 32) : Fin 3 → Nat :=
  let c0_67 : Index := 0#32
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_63 : BitVec 32 := 1#32
  let v128 : BitVec 32 := Scalar.subi v99 c1_i32_63
  let v129 : BitVec 32 := Scalar.subi v128 c0_i32_64
  let c4_i32_65 : BitVec 32 := 4#32
  let c0_i32_56 : BitVec 32 := 0#32
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c4_i32_49 : BitVec 32 := 4#32
  let c0_i32_52 : BitVec 32 := 0#32
  let v106 : BitVec 1 := Scalar.cmpi .sgt c4_i32_49 c0_i32_52
  let v107 : BitVec 32 := Scalar.extui v106
  let c0_i32_53 : BitVec 32 := 0#32
  let v108 : BitVec 1 := Scalar.cmpi .slt c4_i32_49 c0_i32_53
  let v109 : BitVec 32 := Scalar.extui v108
  let v110 : BitVec 32 := Scalar.subi v107 v109
  let v111 : BitVec 1 := Scalar.cmpi .ne v105 v110
  let v112 : BitVec 32 := Scalar.remsi v99 c4_i32_49
  let c0_i32_54 : BitVec 32 := 0#32
  let v113 : BitVec 1 := Scalar.cmpi .ne v112 c0_i32_54
  let v114 : BitVec 1 := Scalar.andi v111 v113
  let v100 : BitVec 32 := Scalar.divsi v99 c4_i32_49
  let c1_i32_55 : BitVec 32 := 1#32
  let v115 : BitVec 32 := Scalar.subi v100 c1_i32_55
  let v116 : BitVec 32 := Scalar.select v114 v115 v100
  let v117 : BitVec 32 := Scalar.subi v116 c0_i32_56
  let c1_i32_57 : BitVec 32 := 1#32
  let v119 : BitVec 32 := Scalar.divsi v117 c1_i32_57
  let v120 : BitVec 32 := Scalar.muli v119 c1_i32_57
  let v121 : BitVec 32 := Scalar.addi c0_i32_56 v120
  let c1_i32_59 : BitVec 32 := 1#32
  let arg19 : BitVec 32 := Scf.iv v121 c1_i32_59 k0_t5
  let v130 : BitVec 32 := Scalar.muli c4_i32_65 arg19
  let v131 : BitVec 32 := Scalar.subi v129 v130
  let c256_i32_66 : BitVec 32 := 256#32
  let v132 : BitVec 32 := Scalar.muli v131 c256_i32_66
  let v133 : BitVec 32 := v132
  let v134 : Index := Scalar.indexCast v133
  let c0_68 : Index := 0#32
  ![0, v134.toNat, 0]
def k0_off24 (i : grid0.Coords) (k0_t5 : Fin (k0_t5_loop i).trips) (c0_i32_64 : BitVec 32) : Fin 3 → Nat :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_63 : BitVec 32 := 1#32
  let v128 : BitVec 32 := Scalar.subi v99 c1_i32_63
  let v129 : BitVec 32 := Scalar.subi v128 c0_i32_64
  let c4_i32_65 : BitVec 32 := 4#32
  let c0_i32_56 : BitVec 32 := 0#32
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c4_i32_49 : BitVec 32 := 4#32
  let c0_i32_52 : BitVec 32 := 0#32
  let v106 : BitVec 1 := Scalar.cmpi .sgt c4_i32_49 c0_i32_52
  let v107 : BitVec 32 := Scalar.extui v106
  let c0_i32_53 : BitVec 32 := 0#32
  let v108 : BitVec 1 := Scalar.cmpi .slt c4_i32_49 c0_i32_53
  let v109 : BitVec 32 := Scalar.extui v108
  let v110 : BitVec 32 := Scalar.subi v107 v109
  let v111 : BitVec 1 := Scalar.cmpi .ne v105 v110
  let v112 : BitVec 32 := Scalar.remsi v99 c4_i32_49
  let c0_i32_54 : BitVec 32 := 0#32
  let v113 : BitVec 1 := Scalar.cmpi .ne v112 c0_i32_54
  let v114 : BitVec 1 := Scalar.andi v111 v113
  let v100 : BitVec 32 := Scalar.divsi v99 c4_i32_49
  let c1_i32_55 : BitVec 32 := 1#32
  let v115 : BitVec 32 := Scalar.subi v100 c1_i32_55
  let v116 : BitVec 32 := Scalar.select v114 v115 v100
  let v117 : BitVec 32 := Scalar.subi v116 c0_i32_56
  let c1_i32_57 : BitVec 32 := 1#32
  let v119 : BitVec 32 := Scalar.divsi v117 c1_i32_57
  let v120 : BitVec 32 := Scalar.muli v119 c1_i32_57
  let v121 : BitVec 32 := Scalar.addi c0_i32_56 v120
  let c1_i32_59 : BitVec 32 := 1#32
  let arg19 : BitVec 32 := Scf.iv v121 c1_i32_59 k0_t5
  let v130 : BitVec 32 := Scalar.muli c4_i32_65 arg19
  let v131 : BitVec 32 := Scalar.subi v129 v130
  let v163 : Index := Scalar.indexCast v131
  let c0_77 : Index := 0#32
  let c0_78 : Index := 0#32
  ![v163.toNat, 0, 0]
def k0_mult33 (i : grid0.Coords) (k0_t5 : Fin (k0_t5_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_80 : BitVec 32 := 1#32
  let v172 : BitVec 32 := Scalar.subi v99 c1_i32_80
  let c1_i32_81 : BitVec 32 := 1#32
  let v173 : BitVec 32 := Scalar.subi v172 c1_i32_81
  let c4_i32_82 : BitVec 32 := 4#32
  let c0_i32_56 : BitVec 32 := 0#32
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c4_i32_49 : BitVec 32 := 4#32
  let c0_i32_52 : BitVec 32 := 0#32
  let v106 : BitVec 1 := Scalar.cmpi .sgt c4_i32_49 c0_i32_52
  let v107 : BitVec 32 := Scalar.extui v106
  let c0_i32_53 : BitVec 32 := 0#32
  let v108 : BitVec 1 := Scalar.cmpi .slt c4_i32_49 c0_i32_53
  let v109 : BitVec 32 := Scalar.extui v108
  let v110 : BitVec 32 := Scalar.subi v107 v109
  let v111 : BitVec 1 := Scalar.cmpi .ne v105 v110
  let v112 : BitVec 32 := Scalar.remsi v99 c4_i32_49
  let c0_i32_54 : BitVec 32 := 0#32
  let v113 : BitVec 1 := Scalar.cmpi .ne v112 c0_i32_54
  let v114 : BitVec 1 := Scalar.andi v111 v113
  let v100 : BitVec 32 := Scalar.divsi v99 c4_i32_49
  let c1_i32_55 : BitVec 32 := 1#32
  let v115 : BitVec 32 := Scalar.subi v100 c1_i32_55
  let v116 : BitVec 32 := Scalar.select v114 v115 v100
  let v117 : BitVec 32 := Scalar.subi v116 c0_i32_56
  let c1_i32_57 : BitVec 32 := 1#32
  let v119 : BitVec 32 := Scalar.divsi v117 c1_i32_57
  let v120 : BitVec 32 := Scalar.muli v119 c1_i32_57
  let v121 : BitVec 32 := Scalar.addi c0_i32_56 v120
  let c1_i32_59 : BitVec 32 := 1#32
  let arg19 : BitVec 32 := Scf.iv v121 c1_i32_59 k0_t5
  let v174 : BitVec 32 := Scalar.muli c4_i32_82 arg19
  let v175 : BitVec 32 := Scalar.subi v173 v174
  let c256_i32_83 : BitVec 32 := 256#32
  let v176 : BitVec 32 := Scalar.muli v175 c256_i32_83
  v176
def k0_mult34 (i : grid0.Coords) (k0_t5 : Fin (k0_t5_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_97 : BitVec 32 := 1#32
  let v216 : BitVec 32 := Scalar.subi v99 c1_i32_97
  let c2_i32 : BitVec 32 := 2#32
  let v217 : BitVec 32 := Scalar.subi v216 c2_i32
  let c4_i32_98 : BitVec 32 := 4#32
  let c0_i32_56 : BitVec 32 := 0#32
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c4_i32_49 : BitVec 32 := 4#32
  let c0_i32_52 : BitVec 32 := 0#32
  let v106 : BitVec 1 := Scalar.cmpi .sgt c4_i32_49 c0_i32_52
  let v107 : BitVec 32 := Scalar.extui v106
  let c0_i32_53 : BitVec 32 := 0#32
  let v108 : BitVec 1 := Scalar.cmpi .slt c4_i32_49 c0_i32_53
  let v109 : BitVec 32 := Scalar.extui v108
  let v110 : BitVec 32 := Scalar.subi v107 v109
  let v111 : BitVec 1 := Scalar.cmpi .ne v105 v110
  let v112 : BitVec 32 := Scalar.remsi v99 c4_i32_49
  let c0_i32_54 : BitVec 32 := 0#32
  let v113 : BitVec 1 := Scalar.cmpi .ne v112 c0_i32_54
  let v114 : BitVec 1 := Scalar.andi v111 v113
  let v100 : BitVec 32 := Scalar.divsi v99 c4_i32_49
  let c1_i32_55 : BitVec 32 := 1#32
  let v115 : BitVec 32 := Scalar.subi v100 c1_i32_55
  let v116 : BitVec 32 := Scalar.select v114 v115 v100
  let v117 : BitVec 32 := Scalar.subi v116 c0_i32_56
  let c1_i32_57 : BitVec 32 := 1#32
  let v119 : BitVec 32 := Scalar.divsi v117 c1_i32_57
  let v120 : BitVec 32 := Scalar.muli v119 c1_i32_57
  let v121 : BitVec 32 := Scalar.addi c0_i32_56 v120
  let c1_i32_59 : BitVec 32 := 1#32
  let arg19 : BitVec 32 := Scf.iv v121 c1_i32_59 k0_t5
  let v218 : BitVec 32 := Scalar.muli c4_i32_98 arg19
  let v219 : BitVec 32 := Scalar.subi v217 v218
  let c256_i32_99 : BitVec 32 := 256#32
  let v220 : BitVec 32 := Scalar.muli v219 c256_i32_99
  v220
def k0_mult35 (i : grid0.Coords) (k0_t5 : Fin (k0_t5_loop i).trips) : BitVec 32 :=
  let arg2 : BitVec 32 := BitVec.ofNat 32 (i 2).val
  let c4_i32 : BitVec 32 := 4#32
  let c0_i32_27 : BitVec 32 := 0#32
  let v51 : BitVec 1 := Scalar.cmpi .eq c4_i32 c0_i32_27
  let c1_i32 : BitVec 32 := 1#32
  let v52 : BitVec 32 := Scalar.select v51 c1_i32 c4_i32
  let v53 : BitVec 32 := Scalar.remsi arg2 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v65 : BitVec 32 := Scalar.subi arg2 v60
  let c8_i32_43 : BitVec 32 := 8#32
  let c0_i32_44 : BitVec 32 := 0#32
  let v90 : BitVec 1 := Scalar.cmpi .eq c8_i32_43 c0_i32_44
  let c1_i32_45 : BitVec 32 := 1#32
  let v91 : BitVec 32 := Scalar.select v90 c1_i32_45 c8_i32_43
  let v92 : BitVec 32 := Scalar.remsi v65 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_113 : BitVec 32 := 1#32
  let v260 : BitVec 32 := Scalar.subi v99 c1_i32_113
  let c3_i32_114 : BitVec 32 := 3#32
  let v261 : BitVec 32 := Scalar.subi v260 c3_i32_114
  let c4_i32_115 : BitVec 32 := 4#32
  let c0_i32_56 : BitVec 32 := 0#32
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c4_i32_49 : BitVec 32 := 4#32
  let c0_i32_52 : BitVec 32 := 0#32
  let v106 : BitVec 1 := Scalar.cmpi .sgt c4_i32_49 c0_i32_52
  let v107 : BitVec 32 := Scalar.extui v106
  let c0_i32_53 : BitVec 32 := 0#32
  let v108 : BitVec 1 := Scalar.cmpi .slt c4_i32_49 c0_i32_53
  let v109 : BitVec 32 := Scalar.extui v108
  let v110 : BitVec 32 := Scalar.subi v107 v109
  let v111 : BitVec 1 := Scalar.cmpi .ne v105 v110
  let v112 : BitVec 32 := Scalar.remsi v99 c4_i32_49
  let c0_i32_54 : BitVec 32 := 0#32
  let v113 : BitVec 1 := Scalar.cmpi .ne v112 c0_i32_54
  let v114 : BitVec 1 := Scalar.andi v111 v113
  let v100 : BitVec 32 := Scalar.divsi v99 c4_i32_49
  let c1_i32_55 : BitVec 32 := 1#32
  let v115 : BitVec 32 := Scalar.subi v100 c1_i32_55
  let v116 : BitVec 32 := Scalar.select v114 v115 v100
  let v117 : BitVec 32 := Scalar.subi v116 c0_i32_56
  let c1_i32_57 : BitVec 32 := 1#32
  let v119 : BitVec 32 := Scalar.divsi v117 c1_i32_57
  let v120 : BitVec 32 := Scalar.muli v119 c1_i32_57
  let v121 : BitVec 32 := Scalar.addi c0_i32_56 v120
  let c1_i32_59 : BitVec 32 := 1#32
  let arg19 : BitVec 32 := Scf.iv v121 c1_i32_59 k0_t5
  let v262 : BitVec 32 := Scalar.muli c4_i32_115 arg19
  let v263 : BitVec 32 := Scalar.subi v261 v262
  let c256_i32_116 : BitVec 32 := 256#32
  let v264 : BitVec 32 := Scalar.muli v263 c256_i32_116
  v264
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c4_i32_4 : BitVec 32 := 4#32
  let v21 : BitVec 32 := Scalar.muli arg0 c4_i32_4
  let v22 : BitVec 32 := Scalar.addi v21 arg1
  let c16_i32_5 : BitVec 32 := 16#32
  let v23 : BitVec 32 := Scalar.muli v22 c16_i32_5
  let v24 : BitVec 32 := Scalar.addi v23 arg2
  let c2_i32_6 : BitVec 32 := 2#32
  let c0_i32_7 : BitVec 32 := 0#32
  let v25 : BitVec 1 := Scalar.cmpi .eq c2_i32_6 c0_i32_7
  let c1_i32_8 : BitVec 32 := 1#32
  let v26 : BitVec 32 := Scalar.select v25 c1_i32_8 c2_i32_6
  let v27 : BitVec 32 := Scalar.remsi v24 v26
  let c0_i32_9 : BitVec 32 := 0#32
  let v28 : BitVec 1 := Scalar.cmpi .ne v27 c0_i32_9
  let c0_i32_10 : BitVec 32 := 0#32
  let v29 : BitVec 1 := Scalar.cmpi .slt v27 c0_i32_10
  let c0_i32_11 : BitVec 32 := 0#32
  let v30 : BitVec 1 := Scalar.cmpi .slt v26 c0_i32_11
  let v31 : BitVec 1 := Scalar.xori v29 v30
  let v32 : BitVec 1 := Scalar.andi v31 v28
  let v33 : BitVec 32 := Scalar.addi v27 v26
  let v34 : BitVec 32 := Scalar.select v32 v33 v27
  let c0_i32_12 : BitVec 32 := 0#32
  ![v20.toNat, v34.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c4_i32_5 : BitVec 32 := 4#32
  let v21 : BitVec 32 := Scalar.muli arg0 c4_i32_5
  let v22 : BitVec 32 := Scalar.addi v21 arg1
  let c16_i32_6 : BitVec 32 := 16#32
  let v23 : BitVec 32 := Scalar.muli v22 c16_i32_6
  let v24 : BitVec 32 := Scalar.addi v23 arg2
  let c1_i32_7 : BitVec 32 := 1#32
  let c0_i32_8 : BitVec 32 := 0#32
  let v25 : BitVec 1 := Scalar.cmpi .eq c1_i32_7 c0_i32_8
  let c1_i32_9 : BitVec 32 := 1#32
  let v26 : BitVec 32 := Scalar.select v25 c1_i32_9 c1_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  ![v20.toNat, v34.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c4_i32_5 : BitVec 32 := 4#32
  let v21 : BitVec 32 := Scalar.muli arg0 c4_i32_5
  let v22 : BitVec 32 := Scalar.addi v21 arg1
  let c16_i32_6 : BitVec 32 := 16#32
  let v23 : BitVec 32 := Scalar.muli v22 c16_i32_6
  let v24 : BitVec 32 := Scalar.addi v23 arg2
  let c1_i32_7 : BitVec 32 := 1#32
  let c0_i32_8 : BitVec 32 := 0#32
  let v25 : BitVec 1 := Scalar.cmpi .eq c1_i32_7 c0_i32_8
  let c1_i32_9 : BitVec 32 := 1#32
  let v26 : BitVec 32 := Scalar.select v25 c1_i32_9 c1_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  ![v20.toNat, v34.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c4_i32_5 : BitVec 32 := 4#32
  let v21 : BitVec 32 := Scalar.muli arg0 c4_i32_5
  let v22 : BitVec 32 := Scalar.addi v21 arg1
  let c16_i32_6 : BitVec 32 := 16#32
  let v23 : BitVec 32 := Scalar.muli v22 c16_i32_6
  let v24 : BitVec 32 := Scalar.addi v23 arg2
  let c1_i32_7 : BitVec 32 := 1#32
  let c0_i32_8 : BitVec 32 := 0#32
  let v25 : BitVec 1 := Scalar.cmpi .eq c1_i32_7 c0_i32_8
  let c1_i32_9 : BitVec 32 := 1#32
  let v26 : BitVec 32 := Scalar.select v25 c1_i32_9 c1_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  ![v20.toNat, v34.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let v21 : BitVec 32 := Scalar.muli arg0 c4_i32_5
  let v22 : BitVec 32 := Scalar.addi v21 arg1
  let c16_i32_6 : BitVec 32 := 16#32
  let v23 : BitVec 32 := Scalar.muli v22 c16_i32_6
  let v24 : BitVec 32 := Scalar.addi v23 arg2
  let c4_i32_7 : BitVec 32 := 4#32
  let c0_i32_8 : BitVec 32 := 0#32
  let v25 : BitVec 1 := Scalar.cmpi .eq c4_i32_7 c0_i32_8
  let c1_i32_9 : BitVec 32 := 1#32
  let v26 : BitVec 32 := Scalar.select v25 c1_i32_9 c4_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  ![v20.toNat, v34.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c4_i32_4 : BitVec 32 := 4#32
  let v21 : BitVec 32 := Scalar.muli arg0 c4_i32_4
  let v22 : BitVec 32 := Scalar.addi v21 arg1
  let c16_i32_5 : BitVec 32 := 16#32
  let v23 : BitVec 32 := Scalar.muli v22 c16_i32_5
  let v24 : BitVec 32 := Scalar.addi v23 arg2
  let c2_i32_6 : BitVec 32 := 2#32
  let c0_i32_7 : BitVec 32 := 0#32
  let v25 : BitVec 1 := Scalar.cmpi .eq c2_i32_6 c0_i32_7
  let c1_i32_8 : BitVec 32 := 1#32
  let v26 : BitVec 32 := Scalar.select v25 c1_i32_8 c2_i32_6
  let v27 : BitVec 32 := Scalar.remsi v24 v26
  let c0_i32_9 : BitVec 32 := 0#32
  let v28 : BitVec 1 := Scalar.cmpi .ne v27 c0_i32_9
  let c0_i32_10 : BitVec 32 := 0#32
  let v29 : BitVec 1 := Scalar.cmpi .slt v27 c0_i32_10
  let c0_i32_11 : BitVec 32 := 0#32
  let v30 : BitVec 1 := Scalar.cmpi .slt v26 c0_i32_11
  let v31 : BitVec 1 := Scalar.xori v29 v30
  let v32 : BitVec 1 := Scalar.andi v31 v28
  let v33 : BitVec 32 := Scalar.addi v27 v26
  let v34 : BitVec 32 := Scalar.select v32 v33 v27
  let c0_i32_12 : BitVec 32 := 0#32
  ![v20.toNat, v34.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c4_i32_5 : BitVec 32 := 4#32
  let v21 : BitVec 32 := Scalar.muli arg0 c4_i32_5
  let v22 : BitVec 32 := Scalar.addi v21 arg1
  let c16_i32_6 : BitVec 32 := 16#32
  let v23 : BitVec 32 := Scalar.muli v22 c16_i32_6
  let v24 : BitVec 32 := Scalar.addi v23 arg2
  let c1_i32_7 : BitVec 32 := 1#32
  let c0_i32_8 : BitVec 32 := 0#32
  let v25 : BitVec 1 := Scalar.cmpi .eq c1_i32_7 c0_i32_8
  let c1_i32_9 : BitVec 32 := 1#32
  let v26 : BitVec 32 := Scalar.select v25 c1_i32_9 c1_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  ![v20.toNat, v34.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c4_i32_5 : BitVec 32 := 4#32
  let v21 : BitVec 32 := Scalar.muli arg0 c4_i32_5
  let v22 : BitVec 32 := Scalar.addi v21 arg1
  let c16_i32_6 : BitVec 32 := 16#32
  let v23 : BitVec 32 := Scalar.muli v22 c16_i32_6
  let v24 : BitVec 32 := Scalar.addi v23 arg2
  let c1_i32_7 : BitVec 32 := 1#32
  let c0_i32_8 : BitVec 32 := 0#32
  let v25 : BitVec 1 := Scalar.cmpi .eq c1_i32_7 c0_i32_8
  let c1_i32_9 : BitVec 32 := 1#32
  let v26 : BitVec 32 := Scalar.select v25 c1_i32_9 c1_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  ![v20.toNat, v34.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c4_i32_5 : BitVec 32 := 4#32
  let v21 : BitVec 32 := Scalar.muli arg0 c4_i32_5
  let v22 : BitVec 32 := Scalar.addi v21 arg1
  let c16_i32_6 : BitVec 32 := 16#32
  let v23 : BitVec 32 := Scalar.muli v22 c16_i32_6
  let v24 : BitVec 32 := Scalar.addi v23 arg2
  let c1_i32_7 : BitVec 32 := 1#32
  let c0_i32_8 : BitVec 32 := 0#32
  let v25 : BitVec 1 := Scalar.cmpi .eq c1_i32_7 c0_i32_8
  let c1_i32_9 : BitVec 32 := 1#32
  let v26 : BitVec 32 := Scalar.select v25 c1_i32_9 c1_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  ![v20.toNat, v34.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let v21 : BitVec 32 := Scalar.muli arg0 c4_i32_5
  let v22 : BitVec 32 := Scalar.addi v21 arg1
  let c16_i32_6 : BitVec 32 := 16#32
  let v23 : BitVec 32 := Scalar.muli v22 c16_i32_6
  let v24 : BitVec 32 := Scalar.addi v23 arg2
  let c4_i32_7 : BitVec 32 := 4#32
  let c0_i32_8 : BitVec 32 := 0#32
  let v25 : BitVec 1 := Scalar.cmpi .eq c4_i32_7 c0_i32_8
  let c1_i32_9 : BitVec 32 := 1#32
  let v26 : BitVec 32 := Scalar.select v25 c1_i32_9 c4_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  ![v20.toNat, v34.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S16x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S176x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S16x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S16x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S176x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x4096x16x64 : Shape := ⟨4, ![2, 4096, 16, 64]⟩
abbrev S1024x1024 : Shape := ⟨2, ![1024, 1024]⟩
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S4096 : Shape := ⟨1, ![4096]⟩
abbrev S2x16x4096x4096 : Shape := ⟨4, ![2, 16, 4096, 4096]⟩
abbrev S1x4096 : Shape := ⟨2, ![1, 4096]⟩
abbrev S4096x1 : Shape := ⟨2, ![4096, 1]⟩
abbrev S4096x4096 : Shape := ⟨2, ![4096, 4096]⟩
abbrev S2x16x4096x64 : Shape := ⟨4, ![2, 16, 4096, 64]⟩
abbrev S2x4096x1024 : Shape := ⟨3, ![2, 4096, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2x4096x16x64, .f32⟩
  | .hbm, ⟨1, _⟩ => ⟨S2x4096x16x64, .f32⟩
  | .hbm, ⟨2, _⟩ => ⟨S2x4096x16x64, .f32⟩
  | .hbm, ⟨3, _⟩ => ⟨S1024x1024, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S_, .f32⟩
  | .hbm, ⟨9, _⟩ => ⟨S2x4096x16x64, .f32⟩
  | .hbm, ⟨10, _⟩ => ⟨S2x4096x16x64, .f32⟩
  | .hbm, ⟨11, _⟩ => ⟨S4096, .i32⟩
  | .hbm, ⟨12, _⟩ => ⟨S2x16x4096x4096, .f32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S2x16x4096x4096, .f32⟩
  | .hbm, ⟨19, _⟩ => ⟨S2x16x4096x4096, .f32⟩
  | .hbm, ⟨20, _⟩ => ⟨S_, .f32⟩
  | .hbm, ⟨21, _⟩ => ⟨S2x16x4096x4096, .f32⟩
  | .hbm, ⟨22, _⟩ => ⟨S2x16x4096x4096, .f32⟩
  | .hbm, ⟨23, _⟩ => ⟨S2x16x4096x4096, .f32⟩
  | .hbm, ⟨24, _⟩ => ⟨S2x16x4096x4096, .f32⟩
  | .hbm, ⟨25, _⟩ => ⟨S2x16x4096x4096, .i1⟩
  | .hbm, ⟨26, _⟩ => ⟨S2x16x4096x4096, .f32⟩
  | .hbm, ⟨27, _⟩ => ⟨S2x16x4096x4096, .f32⟩
  | .hbm, ⟨28, _⟩ => ⟨S2x16x4096x4096, .f32⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S_, .f32⟩
  | .hbm, ⟨36, _⟩ => ⟨S_, .f32⟩
  | .hbm, ⟨37, _⟩ => ⟨S2x16x4096x4096, .i1⟩
  | .hbm, ⟨38, _⟩ => ⟨S2x16x4096x4096, .f32⟩
  | .hbm, ⟨39, _⟩ => ⟨S2x16x4096x4096, .f32⟩
  | .hbm, ⟨40, _⟩ => ⟨S_, .f32⟩
  | .hbm, ⟨41, _⟩ => ⟨S_, .f32⟩
  | .hbm, ⟨42, _⟩ => ⟨S2x16x4096x4096, .f32⟩
  | .hbm, ⟨43, _⟩ => ⟨S2x16x4096x4096, .f32⟩
  | .hbm, ⟨44, _⟩ => ⟨S2x16x4096x4096, .f32⟩
  | .hbm, ⟨45, _⟩ => ⟨S_, .f32⟩
  | .hbm, ⟨46, _⟩ => ⟨S2x16x4096x4096, .f32⟩
  | .hbm, ⟨47, _⟩ => ⟨S2x16x4096x4096, .f32⟩
  | .hbm, ⟨48, _⟩ => ⟨S2x16x4096x4096, .f32⟩
  | .hbm, ⟨49, _⟩ => ⟨S2x16x4096x4096, .f32⟩
  | .hbm, ⟨50, _⟩ => ⟨S2x16x4096x4096, .i1⟩
  | .hbm, ⟨51, _⟩ => ⟨S2x16x4096x4096, .f32⟩
  | .hbm, ⟨52, _⟩ => ⟨S2x16x4096x4096, .f32⟩
  | .hbm, ⟨53, _⟩ => ⟨S2x16x4096x4096, .f32⟩
  | .hbm, ⟨54, _⟩ => ⟨S2x16x4096x4096, .f32⟩
  | .hbm, ⟨55, _⟩ => ⟨S2x16x4096x4096, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S_, .f32⟩
  | .hbm, ⟨63, _⟩ => ⟨S_, .f32⟩
  | .hbm, ⟨64, _⟩ => ⟨S2x16x4096x4096, .i1⟩
  | .hbm, ⟨65, _⟩ => ⟨S2x16x4096x4096, .f32⟩
  | .hbm, ⟨66, _⟩ => ⟨S2x16x4096x4096, .f32⟩
  | .hbm, ⟨67, _⟩ => ⟨S2x16x4096x64, .f32⟩
  | .hbm, ⟨68, _⟩ => ⟨S2x4096x16x64, .f32⟩
  | .hbm, ⟨69, _⟩ => ⟨S2x4096x1024, .f32⟩
  | .hbm, ⟨70, _⟩ => ⟨S2x4096x1024, .bf16⟩
  | .hbm, ⟨71, _⟩ => ⟨S1024x1024, .bf16⟩
  | .hbm, ⟨72, _⟩ => ⟨S2048x2048, .bf16⟩
  | .hbm, ⟨73, _⟩ => ⟨S2048x5632, .bf16⟩
  | .hbm, ⟨74, _⟩ => ⟨S2048x5632, .bf16⟩
  | .hbm, ⟨75, _⟩ => ⟨S5632x2048, .bf16⟩
  | _, _ => ⟨S2x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v10 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v11 : Ref sig .tc := ⟨.hbm, 39, rfl⟩
abbrev main_call2_cst : Ref sig .tc := ⟨.hbm, 40, rfl⟩
abbrev main_call2_v0 : Ref sig .tc := ⟨.hbm, 41, rfl⟩
abbrev main_v12 : Ref sig .tc := ⟨.hbm, 42, rfl⟩
abbrev main_v13 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩

abbrev nD : Nat := 1
abbrev τ : Topo := Topo.v7x

variable {F : FTy → Type} [FloatOps F]
-- ==== Kernel2.lean ====
abbrev S2x4096x2048 : Shape := ⟨3, ![2, 4096, 2048]⟩
abbrev S2x12288 : Shape := ⟨2, ![2, 12288]⟩
abbrev S2048x5632 : Shape := ⟨2, ![2048, 5632]⟩
abbrev S5632x2048 : Shape := ⟨2, ![5632, 2048]⟩
abbrev S8192x2048 : Shape := ⟨2, ![8192, 2048]⟩
abbrev S2x6x2048 : Shape := ⟨3, ![2, 6, 2048]⟩
abbrev S1024x2048 : Shape := ⟨2, ![1024, 2048]⟩
abbrev S1x6x2048 : Shape := ⟨3, ![1, 6, 2048]⟩
abbrev S2048x512 : Shape := ⟨2, ![2048, 512]⟩
abbrev S512x2048 : Shape := ⟨2, ![512, 2048]⟩
abbrev S1024x512 : Shape := ⟨2, ![1024, 512]⟩
abbrev S1x1x2048 : Shape := ⟨3, ![1, 1, 2048]⟩
abbrev S1x2048 : Shape := ⟨2, ![1, 2048]⟩

abbrev nBuf : Space → Nat
  | .hbm => 14
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x12288, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S2x6x2048, .f32⟩
  | .hbm, ⟨10, _⟩ => ⟨S2048x5632, .bf16⟩
  | .hbm, ⟨11, _⟩ => ⟨S2048x5632, .bf16⟩
  | .hbm, ⟨12, _⟩ => ⟨S5632x2048, .bf16⟩
  | .hbm, ⟨13, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1024x2048, .f32⟩
  | .local _ .vmem, ⟨12, _⟩ => ⟨S1024x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S2x4096x2048 : Shape := ⟨3, ![2, 4096, 2048]⟩
abbrev S2x12288 : Shape := ⟨2, ![2, 12288]⟩
abbrev S2048x5632 : Shape := ⟨2, ![2048, 5632]⟩
abbrev S5632x2048 : Shape := ⟨2, ![5632, 2048]⟩
abbrev S2x1x12288 : Shape := ⟨3, ![2, 1, 12288]⟩
abbrev S2x1x2048 : Shape := ⟨3, ![2, 1, 2048]⟩
abbrev S2x4096x5632 : Shape := ⟨3, ![2, 4096, 5632]⟩
abbrev S_ : Shape := ⟨0, ![]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x12288, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2x1x12288, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x4096x5632, .f32⟩
  | .hbm, ⟨14, _⟩ => ⟨S2x4096x5632, .f32⟩
  | .hbm, ⟨15, _⟩ => ⟨S2x4096x5632, .f32⟩
  | .hbm, ⟨16, _⟩ => ⟨S_, .f32⟩
  | .hbm, ⟨17, _⟩ => ⟨S2x4096x5632, .f32⟩
  | .hbm, ⟨18, _⟩ => ⟨S2x4096x5632, .f32⟩
  | .hbm, ⟨19, _⟩ => ⟨S_, .f32⟩
  | .hbm, ⟨20, _⟩ => ⟨S2x4096x5632, .f32⟩
  | .hbm, ⟨21, _⟩ => ⟨S2x4096x5632, .f32⟩
  | .hbm, ⟨22, _⟩ => ⟨S2x4096x5632, .f32⟩
  | .hbm, ⟨23, _⟩ => ⟨S2x4096x5632, .f32⟩
  | .hbm, ⟨24, _⟩ => ⟨S2x4096x5632, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Kernel3.lean ====
abbrev S2x4096x2048 : Shape := ⟨3, ![2, 4096, 2048]⟩
abbrev S2x12288 : Shape := ⟨2, ![2, 12288]⟩
abbrev S2048 : Shape := ⟨1, ![2048]⟩
abbrev S2048x4096 : Shape := ⟨2, ![2048, 4096]⟩
abbrev S64 : Shape := ⟨1, ![64]⟩
abbrev S8192x2048 : Shape := ⟨2, ![8192, 2048]⟩
abbrev S2x6x2048 : Shape := ⟨3, ![2, 6, 2048]⟩
abbrev S1x64 : Shape := ⟨2, ![1, 64]⟩
abbrev S1x1x1x64 : Shape := ⟨4, ![1, 1, 1, 64]⟩
abbrev S1x1x16x64 : Shape := ⟨4, ![1, 1, 16, 64]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x2048 : Shape := ⟨2, ![1, 2048]⟩
abbrev S2x16x4x256x256 : Shape := ⟨5, ![2, 16, 4, 256, 256]⟩
abbrev S8192x3072 : Shape := ⟨2, ![8192, 3072]⟩
abbrev S512x2048 : Shape := ⟨2, ![512, 2048]⟩
abbrev S1x6x2048 : Shape := ⟨3, ![1, 6, 2048]⟩
abbrev S1x16x4x32x256 : Shape := ⟨5, ![1, 16, 4, 32, 256]⟩
abbrev S512x3072 : Shape := ⟨2, ![512, 3072]⟩
abbrev S8x256x128 : Shape := ⟨3, ![8, 256, 128]⟩
abbrev S256x2048 : Shape := ⟨2, ![256, 2048]⟩
abbrev S1x1x2048 : Shape := ⟨3, ![1, 1, 2048]⟩
abbrev S2048x1024 : Shape := ⟨2, ![2048, 1024]⟩
abbrev S256x1024 : Shape := ⟨2, ![256, 1024]⟩
abbrev S256x128 : Shape := ⟨2, ![256, 128]⟩
abbrev S1x256x128 : Shape := ⟨3, ![1, 256, 128]⟩
abbrev S1x16x128 : Shape := ⟨3, ![1, 16, 128]⟩
abbrev S16x128 : Shape := ⟨2, ![16, 128]⟩
abbrev S1x1x1x16x128 : Shape := ⟨5, ![1, 1, 1, 16, 128]⟩

abbrev nBuf : Space → Nat
  | .hbm => 45
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S2048, .f32⟩
  | .hbm, ⟨3, _⟩ => ⟨S2048x4096, .f32⟩
  | .hbm, ⟨4, _⟩ => ⟨S64, .f32⟩
  | .hbm, ⟨5, _⟩ => ⟨S64, .f32⟩
  | .hbm, ⟨6, _⟩ => ⟨S8192x2048, .f32⟩
  | .hbm, ⟨7, _⟩ => ⟨S2x6x2048, .f32⟩
  | .hbm, ⟨8, _⟩ => ⟨S2048x4096, .bf16⟩
  | .hbm, ⟨9, _⟩ => ⟨S1x64, .f32⟩
  | .hbm, ⟨10, _⟩ => ⟨S1x1x1x64, .f32⟩
  | .hbm, ⟨11, _⟩ => ⟨S1x1x16x64, .f32⟩
  | .hbm, ⟨12, _⟩ => ⟨S1x1024, .f32⟩
  | .hbm, ⟨13, _⟩ => ⟨S1x64, .f32⟩
  | .hbm, ⟨14, _⟩ => ⟨S1x1x1x64, .f32⟩
  | .hbm, ⟨15, _⟩ => ⟨S1x1x16x64, .f32⟩
  | .hbm, ⟨16, _⟩ => ⟨S1x1024, .f32⟩
  | .hbm, ⟨17, _⟩ => ⟨S256, .i32⟩
  | .hbm, ⟨18, _⟩ => ⟨S_, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S256, .i1⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S256, .i32⟩
  | .hbm, ⟨36, _⟩ => ⟨S256x1, .i32⟩
  | .hbm, ⟨37, _⟩ => ⟨S1x256, .i32⟩
  | .hbm, ⟨38, _⟩ => ⟨S256x256, .i32⟩
  | .hbm, ⟨39, _⟩ => ⟨S256x256, .i32⟩
  | .hbm, ⟨40, _⟩ => ⟨S256x256, .i1⟩
  | .hbm, ⟨41, _⟩ => ⟨S256x256, .bf16⟩
  | .hbm, ⟨42, _⟩ => ⟨S1x2048, .f32⟩
  | .hbm, ⟨43, _⟩ => ⟨S2x16x4x256x256, .bf16⟩
  | .hbm, ⟨44, _⟩ => ⟨S8192x3072, .bf16⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x4096, .bf16⟩
  | .local _ .vmem, ⟨6, _⟩ => ⟨S1x1024, .f32⟩
  | .local _ .vmem, ⟨7, _⟩ => ⟨S1x1024, .f32⟩
  | .local _ .vmem, ⟨8, _⟩ => ⟨S256x256, .bf16⟩
  | .local _ .vmem, ⟨9, _⟩ => ⟨S1x16x4x32x256, .bf16⟩
  | .local _ .vmem, ⟨10, _⟩ => ⟨S1x16x4x32x256, .bf16⟩
  | .local _ .vmem, ⟨11, _⟩ => ⟨S512x3072, .bf16⟩
  | .local _ .vmem, ⟨12, _⟩ => ⟨S512x3072, .bf16⟩
  | .local _ .vmem, ⟨13, _⟩ => ⟨S8x256x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16x4x32x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2x4096x2048 : Shape := ⟨3, ![2, 4096, 2048]⟩
abbrev S2x12288 : Shape := ⟨2, ![2, 12288]⟩
abbrev S2048 : Shape := ⟨1, ![2048]⟩
abbrev S2048x4096 : Shape := ⟨2, ![2048, 4096]⟩
abbrev S64 : Shape := ⟨1, ![64]⟩
abbrev S2x1x12288 : Shape := ⟨3, ![2, 1, 12288]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x4096 : Shape := ⟨3, ![2, 4096, 4096]⟩
abbrev S2x4096x1024 : Shape := ⟨3, ![2, 4096, 1024]⟩
abbrev S2x4096x16x64 : Shape := ⟨4, ![2, 4096, 16, 64]⟩
abbrev S2x4096x16 : Shape := ⟨3, ![2, 4096, 16]⟩
abbrev S2x4096x16x1 : Shape := ⟨4, ![2, 4096, 16, 1]⟩
abbrev S1x1x1x64 : Shape := ⟨4, ![1, 1, 1, 64]⟩
abbrev S8192x1024 : Shape := ⟨2, ![8192, 1024]⟩
abbrev S8192x3072 : Shape := ⟨2, ![8192, 3072]⟩
abbrev S2x256x16x4x256 : Shape := ⟨5, ![2, 256, 16, 4, 256]⟩
abbrev S2x16x4x256x256 : Shape := ⟨5, ![2, 16, 4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S2048, .f32⟩
  | .hbm, ⟨3, _⟩ => ⟨S2048x4096, .f32⟩
  | .hbm, ⟨4, _⟩ => ⟨S64, .f32⟩
  | .hbm, ⟨5, _⟩ => ⟨S64, .f32⟩
  | .hbm, ⟨6, _⟩ => ⟨S2x1x12288, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x4096x2048, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x1x2048, .f32⟩
  | .hbm, ⟨31, _⟩ => ⟨S2x1x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x4096, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x16x64, .f32⟩
  | .hbm, ⟨42, _⟩ => ⟨S2x4096x16x64, .f32⟩
  | .hbm, ⟨43, _⟩ => ⟨S_, .f32⟩
  | .hbm, ⟨44, _⟩ => ⟨S2x4096x16, .f32⟩
  | .hbm, ⟨45, _⟩ => ⟨S2x4096x16x1, .f32⟩
  | .hbm, ⟨46, _⟩ => ⟨S_, .f32⟩
  | .hbm, ⟨47, _⟩ => ⟨S2x4096x16x1, .f32⟩
  | .hbm, ⟨48, _⟩ => ⟨S2x4096x16x1, .f32⟩
  | .hbm, ⟨49, _⟩ => ⟨S_, .f32⟩
  | .hbm, ⟨50, _⟩ => ⟨S2x4096x16x1, .f32⟩
  | .hbm, ⟨51, _⟩ => ⟨S2x4096x16x1, .f32⟩
  | .hbm, ⟨52, _⟩ => ⟨S2x4096x16x1, .f32⟩
  | .hbm, ⟨53, _⟩ => ⟨S2x4096x16x64, .f32⟩
  | .hbm, ⟨54, _⟩ => ⟨S2x4096x16x64, .f32⟩
  | .hbm, ⟨55, _⟩ => ⟨S1x1x1x64, .f32⟩
  | .hbm, ⟨56, _⟩ => ⟨S2x4096x16x64, .f32⟩
  | .hbm, ⟨57, _⟩ => ⟨S2x4096x16x64, .f32⟩
  | .hbm, ⟨58, _⟩ => ⟨S_, .f32⟩
  | .hbm, ⟨59, _⟩ => ⟨S2x4096x16x64, .f32⟩
  | .hbm, ⟨60, _⟩ => ⟨S2x4096x16x64, .f32⟩
  | .hbm, ⟨61, _⟩ => ⟨S2x4096x16x64, .f32⟩
  | .hbm, ⟨62, _⟩ => ⟨S2x4096x16x64, .f32⟩
  | .hbm, ⟨63, _⟩ => ⟨S_, .f32⟩
  | .hbm, ⟨64, _⟩ => ⟨S2x4096x16, .f32⟩
  | .hbm, ⟨65, _⟩ => ⟨S2x4096x16x1, .f32⟩
  | .hbm, ⟨66, _⟩ => ⟨S_, .f32⟩
  | .hbm, ⟨67, _⟩ => ⟨S2x4096x16x1, .f32⟩
  | .hbm, ⟨68, _⟩ => ⟨S2x4096x16x1, .f32⟩
  | .hbm, ⟨69, _⟩ => ⟨S_, .f32⟩
  | .hbm, ⟨70, _⟩ => ⟨S2x4096x16x1, .f32⟩
  | .hbm, ⟨71, _⟩ => ⟨S2x4096x16x1, .f32⟩
  | .hbm, ⟨72, _⟩ => ⟨S2x4096x16x1, .f32⟩
  | .hbm, ⟨73, _⟩ => ⟨S2x4096x16x64, .f32⟩
  | .hbm, ⟨74, _⟩ => ⟨S2x4096x16x64, .f32⟩
  | .hbm, ⟨75, _⟩ => ⟨S1x1x1x64, .f32⟩
  | .hbm, ⟨76, _⟩ => ⟨S2x4096x16x64, .f32⟩
  | .hbm, ⟨77, _⟩ => ⟨S2x4096x16x64, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x3072, .f32⟩
  | .hbm, ⟨82, _⟩ => ⟨S2x256x16x4x256, .f32⟩
  | .hbm, ⟨83, _⟩ => ⟨S2x16x4x256x256, .f32⟩
  | .hbm, ⟨84, _⟩ => ⟨S2x16x4x256x256, .bf16⟩
  | .hbm, ⟨85, _⟩ => ⟨S8192x3072, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel4.lean ====
abbrev S2x4096x1024 : Shape := ⟨3, ![2, 4096, 1024]⟩
abbrev S2x4096x2048 : Shape := ⟨3, ![2, 4096, 2048]⟩
abbrev S2x12288 : Shape := ⟨2, ![2, 12288]⟩
abbrev S1024x1024 : Shape := ⟨2, ![1024, 1024]⟩
abbrev S1024 : Shape := ⟨1, ![1024]⟩
abbrev S2048x2048 : Shape := ⟨2, ![2048, 2048]⟩
abbrev S2048 : Shape := ⟨1, ![2048]⟩
abbrev S2x256x16x4x256 : Shape := ⟨5, ![2, 256, 16, 4, 256]⟩
abbrev S2x16x4x256x256 : Shape := ⟨5, ![2, 16, 4, 256, 256]⟩
abbrev S8192x1024 : Shape := ⟨2, ![8192, 1024]⟩
abbrev S8192x2048 : Shape := ⟨2, ![8192, 2048]⟩
abbrev S2x6x2048 : Shape := ⟨3, ![2, 6, 2048]⟩
abbrev S1x1024 : Shape := ⟨2, ![1, 1024]⟩
abbrev S1x2048 : Shape := ⟨2, ![1, 2048]⟩
abbrev S1x16x4x32x256 : Shape := ⟨5, ![1, 16, 4, 32, 256]⟩
abbrev S512x1024 : Shape := ⟨2, ![512, 1024]⟩
abbrev S512x2048 : Shape := ⟨2, ![512, 2048]⟩
abbrev S1x6x2048 : Shape := ⟨3, ![1, 6, 2048]⟩
abbrev S1024x2048 : Shape := ⟨2, ![1024, 2048]⟩
abbrev S8x256x128 : Shape := ⟨3, ![8, 256, 128]⟩
abbrev S1x1x1x16x128 : Shape := ⟨5, ![1, 1, 1, 16, 128]⟩
abbrev S16x128 : Shape := ⟨2, ![16, 128]⟩
abbrev S1x16x128 : Shape := ⟨3, ![1, 16, 128]⟩
abbrev S1x256x128 : Shape := ⟨3, ![1, 256, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x1x2048 : Shape := ⟨3, ![1, 1, 2048]⟩

abbrev nBuf : Space → Nat
  | .hbm => 23
  | .vmem => 19
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x2048, .f32⟩
  | .hbm, ⟨3, _⟩ => ⟨S2x12288, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S2048x2048, .f32⟩
  | .hbm, ⟨8, _⟩ => ⟨S2048, .f32⟩
  | .hbm, ⟨9, _⟩ => ⟨S2x256x16x4x256, .f32⟩
  | .hbm, ⟨10, _⟩ => ⟨S2x16x4x256x256, .f32⟩
  | .hbm, ⟨11, _⟩ => ⟨S2x16x4x256x256, .bf16⟩
  | .hbm, ⟨12, _⟩ => ⟨S8192x1024, .f32⟩
  | .hbm, ⟨13, _⟩ => ⟨S8192x1024, .bf16⟩
  | .hbm, ⟨14, _⟩ => ⟨S8192x2048, .f32⟩
  | .hbm, ⟨15, _⟩ => ⟨S2x6x2048, .f32⟩
  | .hbm, ⟨16, _⟩ => ⟨S1024x1024, .bf16⟩
  | .hbm, ⟨17, _⟩ => ⟨S2048x2048, .bf16⟩
  | .hbm, ⟨18, _⟩ => ⟨S1x1024, .f32⟩
  | .hbm, ⟨19, _⟩ => ⟨S1x1024, .f32⟩
  | .hbm, ⟨20, _⟩ => ⟨S1x2048, .f32⟩
  | .hbm, ⟨21, _⟩ => ⟨S8192x2048, .f32⟩
  | .hbm, ⟨22, _⟩ => ⟨S8192x2048, .bf16⟩
  | .local _ .vmem, ⟨0, _⟩ => ⟨S1x16x4x32x256, .bf16⟩
  | .local _ .vmem, ⟨1, _⟩ => ⟨S1x16x4x32x256, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x6x2048, .f32⟩
  | .local _ .vmem, ⟨7, _⟩ => ⟨S1x6x2048, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x2048, .bf16⟩
  | .local _ .vmem, ⟨12, _⟩ => ⟨S1024x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S8x256x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16x4x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S2x4096x1024 : Shape := ⟨3, ![2, 4096, 1024]⟩
abbrev S2x4096x2048 : Shape := ⟨3, ![2, 4096, 2048]⟩
abbrev S2x12288 : Shape := ⟨2, ![2, 12288]⟩
abbrev S1024x1024 : Shape := ⟨2, ![1024, 1024]⟩
abbrev S1024 : Shape := ⟨1, ![1024]⟩
abbrev S2048x2048 : Shape := ⟨2, ![2048, 2048]⟩
abbrev S2048 : Shape := ⟨1, ![2048]⟩
abbrev S2x1x12288 : Shape := ⟨3, ![2, 1, 12288]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1x1x2048 : Shape := ⟨3, ![1, 1, 2048]⟩
abbrev S8192x2048 : Shape := ⟨2, ![8192, 2048]⟩

abbrev nBuf : Space → Nat
  | .hbm => 106
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x2048, .f32⟩
  | .hbm, ⟨3, _⟩ => ⟨S2x12288, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S2048x2048, .f32⟩
  | .hbm, ⟨8, _⟩ => ⟨S2048, .f32⟩
  | .hbm, ⟨9, _⟩ => ⟨S2x1x12288, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x4096x1024, .f32⟩
  | .hbm, ⟨17, _⟩ => ⟨S2x4096x1024, .f32⟩
  | .hbm, ⟨18, _⟩ => ⟨S_, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S_, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S_, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S_, .f32⟩
  | .hbm, ⟨37, _⟩ => ⟨S2x4096x1024, .f32⟩
  | .hbm, ⟨38, _⟩ => ⟨S2x4096x1024, .f32⟩
  | .hbm, ⟨39, _⟩ => ⟨S_, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S_, .f32⟩
  | .hbm, ⟨45, _⟩ => ⟨S2x4096, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x1, .f32⟩
  | .hbm, ⟨54, _⟩ => ⟨S2x4096x1024, .f32⟩
  | .hbm, ⟨55, _⟩ => ⟨S2x4096x1024, .f32⟩
  | .hbm, ⟨56, _⟩ => ⟨S1x1x1024, .f32⟩
  | .hbm, ⟨57, _⟩ => ⟨S2x4096x1024, .f32⟩
  | .hbm, ⟨58, _⟩ => ⟨S2x4096x1024, .f32⟩
  | .hbm, ⟨59, _⟩ => ⟨S2x4096x1024, .f32⟩
  | .hbm, ⟨60, _⟩ => ⟨S_, .f32⟩
  | .hbm, ⟨61, _⟩ => ⟨S2x4096, .f32⟩
  | .hbm, ⟨62, _⟩ => ⟨S2x4096x1, .f32⟩
  | .hbm, ⟨63, _⟩ => ⟨S_, .f32⟩
  | .hbm, ⟨64, _⟩ => ⟨S2x4096x1, .f32⟩
  | .hbm, ⟨65, _⟩ => ⟨S2x4096x1, .f32⟩
  | .hbm, ⟨66, _⟩ => ⟨S_, .f32⟩
  | .hbm, ⟨67, _⟩ => ⟨S2x4096x1, .f32⟩
  | .hbm, ⟨68, _⟩ => ⟨S2x4096x1, .f32⟩
  | .hbm, ⟨69, _⟩ => ⟨S2x4096x1, .f32⟩
  | .hbm, ⟨70, _⟩ => ⟨S2x4096x1024, .f32⟩
  | .hbm, ⟨71, _⟩ => ⟨S2x4096x1024, .f32⟩
  | .hbm, ⟨72, _⟩ => ⟨S1x1x1024, .f32⟩
  | .hbm, ⟨73, _⟩ => ⟨S2x4096x1024, .f32⟩
  | .hbm, ⟨74, _⟩ => ⟨S2x4096x1024, .f32⟩
  | .hbm, ⟨75, _⟩ => ⟨S2x4096x2048, .f32⟩
  | .hbm, ⟨76, _⟩ => ⟨S2x4096x2048, .f32⟩
  | .hbm, ⟨77, _⟩ => ⟨S2x4096x2048, .f32⟩
  | .hbm, ⟨78, _⟩ => ⟨S2x4096x2048, .f32⟩
  | .hbm, ⟨79, _⟩ => ⟨S2x4096x2048, .f32⟩
  | .hbm, ⟨80, _⟩ => ⟨S2x4096x2048, .f32⟩
  | .hbm, ⟨81, _⟩ => ⟨S_, .f32⟩
  | .hbm, ⟨82, _⟩ => ⟨S2x4096, .f32⟩
  | .hbm, ⟨83, _⟩ => ⟨S2x4096x1, .f32⟩
  | .hbm, ⟨84, _⟩ => ⟨S_, .f32⟩
  | .hbm, ⟨85, _⟩ => ⟨S2x4096x1, .f32⟩
  | .hbm, ⟨86, _⟩ => ⟨S2x4096x1, .f32⟩
  | .hbm, ⟨87, _⟩ => ⟨S_, .f32⟩
  | .hbm, ⟨88, _⟩ => ⟨S2x4096x1, .f32⟩
  | .hbm, ⟨89, _⟩ => ⟨S2x4096x1, .f32⟩
  | .hbm, ⟨90, _⟩ => ⟨S2x4096x1, .f32⟩
  | .hbm, ⟨91, _⟩ => ⟨S2x4096x2048, .f32⟩
  | .hbm, ⟨92, _⟩ => ⟨S2x4096x2048, .f32⟩
  | .hbm, ⟨93, _⟩ => ⟨S1x1x2048, .f32⟩
  | .hbm, ⟨94, _⟩ => ⟨S2x4096x2048, .f32⟩
  | .hbm, ⟨95, _⟩ => ⟨S2x4096x2048, .f32⟩
  | .hbm, ⟨96, _⟩ => ⟨S_, .f32⟩
  | .hbm, ⟨97, _⟩ => ⟨S2x1x2048, .f32⟩
  | .hbm, ⟨98, _⟩ => ⟨S2x1x2048, .f32⟩
  | .hbm, ⟨99, _⟩ => ⟨S2x4096x2048, .f32⟩
  | .hbm, ⟨100, _⟩ => ⟨S2x4096x2048, .f32⟩
  | .hbm, ⟨101, _⟩ => ⟨S2x4096x2048, .f32⟩
  | .hbm, ⟨102, _⟩ => ⟨S2x4096x2048, .f32⟩
  | .hbm, ⟨103, _⟩ => ⟨S8192x2048, .f32⟩
  | .hbm, ⟨104, _⟩ => ⟨S8192x2048, .f32⟩
  | .hbm, ⟨105, _⟩ => ⟨S8192x2048, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Kernel5.lean ====
abbrev S2x2048 : Shape := ⟨2, ![2, 2048]⟩
abbrev S2048x12288 : Shape := ⟨2, ![2048, 12288]⟩
abbrev S12288 : Shape := ⟨1, ![12288]⟩
abbrev S2x2048x1 : Shape := ⟨3, ![2, 2048, 1]⟩
abbrev S1x12288 : Shape := ⟨2, ![1, 12288]⟩
abbrev S2x12288 : Shape := ⟨2, ![2, 12288]⟩
abbrev S2048x1024 : Shape := ⟨2, ![2048, 1024]⟩
abbrev S1x1024 : Shape := ⟨2, ![1, 1024]⟩
abbrev S2x1024 : Shape := ⟨2, ![2, 1024]⟩
abbrev S8x1024 : Shape := ⟨2, ![8, 1024]⟩
abbrev S1x256x1 : Shape := ⟨3, ![1, 256, 1]⟩
abbrev S256x1 : Shape := ⟨2, ![256, 1]⟩
abbrev S256x1024 : Shape := ⟨2, ![256, 1024]⟩
abbrev S32x8x1024 : Shape := ⟨3, ![32, 8, 1024]⟩
abbrev S1024 : Shape := ⟨1, ![1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048x12288, .f32⟩
  | .hbm, ⟨2, _⟩ => ⟨S12288, .f32⟩
  | .hbm, ⟨3, _⟩ => ⟨S2x2048x1, .f32⟩
  | .hbm, ⟨4, _⟩ => ⟨S1x12288, .f32⟩
  | .hbm, ⟨5, _⟩ => ⟨S2x12288, .f32⟩
  | .local _ .vmem, ⟨0, _⟩ => ⟨S2x2048x1, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x2048 : Shape := ⟨2, ![2, 2048]⟩
abbrev S2048x12288 : Shape := ⟨2, ![2048, 12288]⟩
abbrev S12288 : Shape := ⟨1, ![12288]⟩
abbrev S_ : Shape := ⟨0, ![]⟩
abbrev S2x12288 : Shape := ⟨2, ![2, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048x12288, .f32⟩
  | .hbm, ⟨2, _⟩ => ⟨S12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x12288, .f32⟩
  | .hbm, ⟨13, _⟩ => ⟨S1x12288, .f32⟩
  | .hbm, ⟨14, _⟩ => ⟨S2x12288, .f32⟩
  | .hbm, ⟨15, _⟩ => ⟨S2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Blocks.lean ====
module

public import proofs.«01_k».proof.Proof.Gen.KernelIdeal.Frame
public import proofs.«01_k».proof.Proof.Gen.KernelIdeal.Loops
public import Idealize.ShloMosaic.Lib.Pipeline.Value
public import Idealize.ShloMosaic.Lib.ValueIdxCore

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The pair the walk over the blocks carries: each row's sum of log-weights to the right, and the weighted sum of values. -/
abbrev St (F : FTy → Type) [FloatOps F] := FVec F S1024x1 .f32 × FVec F S256x256 .f32

theorem hz2 : (![0, 0] : Fin 2 → ℕ) = fun _ => 0 := funext fun a => by fin_cases a <;> rfl
theorem hz3 : (![0, 0, 0] : Fin 3 → ℕ) = fun _ => 0 := funext fun a => by fin_cases a <;> rfl

theorem kb_inb (j : ℕ) : ∀ a, (![0, 256 * (j % 16), 0] : Fin 3 → ℕ) a + S1x256x256.size a ≤ S1x4096x256.size a := by
  intro a
  have h : j % 16 < 16 := Nat.mod_lt _ (by norm_num)
  fin_cases a
  · show 0 + 1 ≤ 1; omega
  · show 256 * (j % 16) + 256 ≤ 4096; omega
  · show 0 + 256 ≤ 256; omega

theorem vb_inb (j : ℕ) : ∀ a, (![j % 16, 0, 0] : Fin 3 → ℕ) a + S1x1024x256.size a ≤ S16x1024x256.size a := by
  intro a
  have h : j % 16 < 16 := Nat.mod_lt _ (by norm_num)
  fin_cases a
  · show j % 16 + 1 ≤ 16; omega
  · show 0 + 1024 ≤ 1024; omega
  · show 0 + 256 ≤ 256; omega

/-- Block `j` of the 16 blocks of 256 rows of a group's keys (or values). -/
def kb (K : Vec F S1x4096x256 .bf16) (j : ℕ) : Vec F S1x256x256 .bf16 :=
  View.ld K (Rect.unit ![0, 256 * (j % 16), 0] S1x256x256.size (kb_inb j))

/-- Block `j` of the stacked values. -/
def vb (C : Vec F S16x1024x256 .bf16) (j : ℕ) : Vec F S1x1024x256 .bf16 :=
  View.ld C (Rect.unit ![j % 16, 0, 0] S1x1024x256.size (vb_inb j))

/-- What a load of 256 key rows returns. -/
def kr (a : Memref sig .tc .vmem S1x4096x256 .bf16) (X : BufTy.Contents (Elt F) a.view.ty) (off : Fin 3 → ℕ)
    (h : ∀ x, off x + S1x256x256.size x ≤ S1x4096x256.size x) : Vec F S1x256x256 .bf16 :=
  View.readAt (Elt F) a.view (Rect.unit (s := S1x4096x256) off S1x256x256.size h).toLoadRect X

/-- What a load of one stacked block returns. -/
def vr (a : Memref sig .tc .vmem S16x1024x256 .bf16) (X : BufTy.Contents (Elt F) a.view.ty) (off : Fin 3 → ℕ)
    (h : ∀ x, off x + S1x1024x256.size x ≤ S16x1024x256.size x) : Vec F S1x1024x256 .bf16 :=
  View.readAt (Elt F) a.view (Rect.unit (s := S16x1024x256) off S1x1024x256.size h).toLoadRect X

/-- What the load of the triangle returns. -/
def tb (a : Memref sig .tc .vmem S256x256 .bf16) (X : BufTy.Contents (Elt F) a.view.ty) : Vec F S256x256 .bf16 :=
  View.readAt (Elt F) a.view (Rect.unit (s := S256x256) ![0, 0] S256x256.size inb_S256x256_S256x256_0_0).toLoadRect X

theorem ld_kr {a : Memref sig .tc .vmem S1x4096x256 .bf16} (K : Vec F S1x4096x256 .bf16) (h : a.IsWhole) (j : ℕ) (off : Fin 3 → ℕ) (inb)
    (e : off = ![0, 256 * (j % 16), 0]) : kr a (h.unread K) off inb = kb K j := by
  subst e; unfold kr kb; rw [View.readAt_eq_ld, h.read_unread]

theorem ld_vr {a : Memref sig .tc .vmem S16x1024x256 .bf16} (C : Vec F S16x1024x256 .bf16) (h : a.IsWhole) (j : ℕ) (off : Fin 3 → ℕ) (inb)
    (e : off = ![j % 16, 0, 0]) : vr a (h.unread C) off inb = vb C j := by
  subst e; unfold vr vb; rw [View.readAt_eq_ld, h.read_unread]

theorem ld_tb {a : Memref sig .tc .vmem S256x256 .bf16} (T : Vec F S256x256 .bf16) (h : a.IsWhole) : tb a (h.unread T) = T := by
  unfold tb; rw [View.readAt_eq_ld, h.read_unread]; exact View.ld_unit_zero (S := S256x256) hz2 _ T

/-- One block left of the diagonal: the pair after it, from the pair before it. -/
def stepS (qs : FVec F S1024x256 .bf16) (T : Vec F S256x256 .bf16) (kbl : Vec F S1x256x256 .bf16) (vbl : Vec F S1x1024x256 .bf16) (s : St F) : St F :=
  (k0_pay70 s.1 (k0_pay68 qs kbl T) (k0_pay69 qs kbl), k0_pay67 qs s.1 s.2 kbl T vbl)

/-- The diagonal block: the pair after it. -/
def diagS (qs : FVec F S1024x256 .bf16) (T : Vec F S256x256 .bf16) (kbl : Vec F S1x256x256 .bf16) (vbl : Vec F S1x1024x256 .bf16) : St F :=
  (k0_pay221 k0_pay59 (k0_pay61 qs k0_pay218 kbl) (k0_pay62 qs k0_pay218 kbl T), k0_pay63 qs k0_pay218 kbl T vbl)

def step (qs : FVec F S1024x256 .bf16) (K : Vec F S1x4096x256 .bf16) (T : Vec F S256x256 .bf16) (C : Vec F S16x1024x256 .bf16) (j : ℕ) (s : St F) : St F :=
  stepS qs T (kb K j) (vb C j) s

/-- `n` blocks leftwards, the first of them block `j`. -/
def down (qs : FVec F S1024x256 .bf16) (K : Vec F S1x4096x256 .bf16) (T : Vec F S256x256 .bf16) (C : Vec F S16x1024x256 .bf16) (j : ℕ) : ℕ → St F → St F
  | 0, s => s
  | n + 1, s => step qs K T C (j - n) (down qs K T C j n s)

theorem down_add (qs : FVec F S1024x256 .bf16) (K : Vec F S1x4096x256 .bf16) (T : Vec F S256x256 .bf16) (C : Vec F S16x1024x256 .bf16) (j a : ℕ) (s : St F) :
    ∀ b, down qs K T C j (a + b) s = down qs K T C (j - a) b (down qs K T C j a s)
  | 0 => rfl
  | b + 1 => by
    show step qs K T C (j - (a + b)) (down qs K T C j (a + b) s) = step qs K T C (j - a - b) _
    rw [down_add qs K T C j a s b, Nat.sub_sub]

theorem trips2 : ∀ i : grid0.Coords, (k0_t2_loop i).trips = ((i 2).val - (i 2).val % 4) / 8 := by decide +kernel
theorem trips4 : ∀ i : grid0.Coords, (k0_t4_loop i).trips = (((i 2).val - (i 2).val % 4) % 8) / 4 := by decide +kernel
theorem trips3 : ∀ i : grid0.Coords, (k0_t3_loop i).trips = 0 := by decide +kernel
theorem trips5 : ∀ i : grid0.Coords, (k0_t5_loop i).trips = 0 := by decide +kernel

theorem e17 : ∀ (i : grid0.Coords) (k : Fin (k0_t2_loop i).trips) (r : Fin 8), k0_off17 i k (BitVec.ofNat 32 r.val) = ![0, 256 * (((i 2).val - (i 2).val % 4 - 1 - 8 * k.val - r.val) % 16), 0] := by decide +kernel
theorem e18 : ∀ (i : grid0.Coords) (k : Fin (k0_t2_loop i).trips) (r : Fin 8), k0_off18 i k (BitVec.ofNat 32 r.val) = ![((i 2).val - (i 2).val % 4 - 1 - 8 * k.val - r.val) % 16, 0, 0] := by decide +kernel
theorem e21 : ∀ (i : grid0.Coords) (k : Fin (k0_t4_loop i).trips) (r : Fin 4), k0_off21 i k (BitVec.ofNat 32 r.val) = ![0, 256 * ((((i 2).val - (i 2).val % 4) % 8 - 1 - 4 * k.val - r.val) % 16), 0] := by decide +kernel
theorem e22 : ∀ (i : grid0.Coords) (k : Fin (k0_t4_loop i).trips) (r : Fin 4), k0_off22 i k (BitVec.ofNat 32 r.val) = ![(((i 2).val - (i 2).val % 4) % 8 - 1 - 4 * k.val - r.val) % 16, 0, 0] := by decide +kernel

section Trips

variable (c : Dev nD) (i : grid0.Coords)
  (a3 : Memref sig .tc .vmem S1x256x256 .bf16) (h3 : a3.IsWhole)
  (a4 : Memref sig .tc .vmem S1x4096x256 .bf16) (h4 : a4.IsWhole)
  (a5 : Memref sig .tc .vmem S1x4096x256 .bf16) (h5 : a5.IsWhole)
  (a6 : Memref sig .tc .vmem S256x256 .bf16) (h6 : a6.IsWhole)
  (a7 : Memref sig .tc .vmem S16x512 .f32) (h7 : a7.IsWhole)
  (a8 : Memref sig .tc .vmem S16x2048 .f32) (h8 : a8.IsWhole)
  (a9 : Memref sig .tc .vmem S16x5632 .f32) (h9 : a9.IsWhole)
  (a10 : Memref sig .tc .vmem S16x5632 .f32) (h10 : a10.IsWhole)
  (a11 : Memref sig .tc .vmem S176x512 .f32) (h11 : a11.IsWhole)
  (a12 : Memref sig .tc .vmem S1x256x256 .bf16) (h12 : a12.IsWhole)
  (a13 : Memref sig .tc .vmem S16x512 .bf16) (h13 : a13.IsWhole)
  (a14 : Memref sig .tc .vmem S16x2048 .bf16) (h14 : a14.IsWhole)
  (a15 : Memref sig .tc .vmem S16x5632 .bf16) (h15 : a15.IsWhole)
  (a16 : Memref sig .tc .vmem S16x5632 .bf16) (h16 : a16.IsWhole)
  (a17 : Memref sig .tc .vmem S176x512 .bf16) (h17 : a17.IsWhole)
  (a18 : Memref sig .tc .vmem S16x1024x256 .bf16) (h18 : a18.IsWhole)
  (qs : FVec F S1024x256 .bf16)

theorem trip2_raw (u0 : FVec F S1024x1 .f32) (u1 : FVec F S256x256 .f32) (u2 u3 u4 : BitVec 32) (X4 : BufTy.Contents (Elt F) a4.view.ty) (X6 : BufTy.Contents (Elt F) a6.view.ty) (X18 : BufTy.Contents (Elt F) a18.view.ty) (k : Fin (k0_t2_loop i).trips) (s : St F) :
    tripR_k0_t2 Variants.none c none i a3 h3 a4 h4 a5 h5 a6 h6 a7 h7 a8 h8 a9 h9 a10 h10 a11 h11 a12 h12 a13 h13 a14 h14 a15 h15 a16 h16 a17 h17 a18 h18 qs u0 u1 u2 u3 u4 X4 X6 X18 k s
     = stepS qs (tb a6 X6) (kr a4 X4 _ (k0_off17_inb i k 7)) (vr a18 X18 _ (k0_off18_inb i k 7)) (stepS qs (tb a6 X6) (kr a4 X4 _ (k0_off17_inb i k 6)) (vr a18 X18 _ (k0_off18_inb i k 6)) (stepS qs (tb a6 X6) (kr a4 X4 _ (k0_off17_inb i k 5)) (vr a18 X18 _ (k0_off18_inb i k 5)) (stepS qs (tb a6 X6) (kr a4 X4 _ (k0_off17_inb i k 4)) (vr a18 X18 _ (k0_off18_inb i k 4)) (stepS qs (tb a6 X6) (kr a4 X4 _ (k0_off17_inb i k 3)) (vr a18 X18 _ (k0_off18_inb i k 3)) (stepS qs (tb a6 X6) (kr a4 X4 _ (k0_off17_inb i k 2)) (vr a18 X18 _ (k0_off18_inb i k 2)) (stepS qs (tb a6 X6) (kr a4 X4 _ (k0_off17_inb i k 1)) (vr a18 X18 _ (k0_off18_inb i k 1)) (stepS qs (tb a6 X6) (kr a4 X4 _ (k0_off17_inb i k 0)) (vr a18 X18 _ (k0_off18_inb i k 0)) s))))))) := by
  unfold tripR_k0_t2 trip_k0_t2
  rfl

theorem trip4_raw (v99 : BitVec 32) (X4 : BufTy.Contents (Elt F) a4.view.ty) (X6 : BufTy.Contents (Elt F) a6.view.ty) (X18 : BufTy.Contents (Elt F) a18.view.ty) (k : Fin (k0_t4_loop i).trips) (s : St F) :
    tripR_k0_t4 Variants.none c none i a3 h3 a4 h4 a5 h5 a6 h6 a7 h7 a8 h8 a9 h9 a10 h10 a11 h11 a12 h12 a13 h13 a14 h14 a15 h15 a16 h16 a17 h17 a18 h18 qs v99 X4 X6 X18 k s
     = stepS qs (tb a6 X6) (kr a4 X4 _ (k0_off21_inb i k 3)) (vr a18 X18 _ (k0_off22_inb i k 3)) (stepS qs (tb a6 X6) (kr a4 X4 _ (k0_off21_inb i k 2)) (vr a18 X18 _ (k0_off22_inb i k 2)) (stepS qs (tb a6 X6) (kr a4 X4 _ (k0_off21_inb i k 1)) (vr a18 X18 _ (k0_off22_inb i k 1)) (stepS qs (tb a6 X6) (kr a4 X4 _ (k0_off21_inb i k 0)) (vr a18 X18 _ (k0_off22_inb i k 0)) s))) := by
  unfold tripR_k0_t4 trip_k0_t4
  rfl

theorem st2 (u0 : FVec F S1024x1 .f32) (u1 : FVec F S256x256 .f32) (u2 u3 u4 : BitVec 32) (K : Vec F S1x4096x256 .bf16) (T : Vec F S256x256 .bf16) (C : Vec F S16x1024x256 .bf16) (s : St F) :
    ∀ n : ℕ, n ≤ (k0_t2_loop i).trips →
     st_k0_t2 Variants.none c none i a3 h3 a4 h4 a5 h5 a6 h6 a7 h7 a8 h8 a9 h9 a10 h10 a11 h11 a12 h12 a13 h13 a14 h14 a15 h15 a16 h16 a17 h17 a18 h18 qs u0 u1 u2 u3 u4 (h4.unread K) (h6.unread T) (h18.unread C) s n
      = down qs K T C ((i 2).val - (i 2).val % 4 - 1) (8 * n) s
  | 0, _ => rfl
  | n + 1, hn => by
    rw [show n + 1 = (⟨n, hn⟩ : Fin (k0_t2_loop i).trips).val + 1 from rfl, st_k0_t2_succ, trip2_raw,
      show (⟨n, hn⟩ : Fin (k0_t2_loop i).trips).val = n from rfl, st2 u0 u1 u2 u3 u4 K T C s n (by omega), ld_tb,
      ld_kr K h4 _ _ _ (e17 i ⟨n, hn⟩ 0), ld_vr C h18 _ _ _ (e18 i ⟨n, hn⟩ 0), ld_kr K h4 _ _ _ (e17 i ⟨n, hn⟩ 1), ld_vr C h18 _ _ _ (e18 i ⟨n, hn⟩ 1), ld_kr K h4 _ _ _ (e17 i ⟨n, hn⟩ 2), ld_vr C h18 _ _ _ (e18 i ⟨n, hn⟩ 2), ld_kr K h4 _ _ _ (e17 i ⟨n, hn⟩ 3), ld_vr C h18 _ _ _ (e18 i ⟨n, hn⟩ 3), ld_kr K h4 _ _ _ (e17 i ⟨n, hn⟩ 4), ld_vr C h18 _ _ _ (e18 i ⟨n, hn⟩ 4), ld_kr K h4 _ _ _ (e17 i ⟨n, hn⟩ 5), ld_vr C h18 _ _ _ (e18 i ⟨n, hn⟩ 5), ld_kr K h4 _ _ _ (e17 i ⟨n, hn⟩ 6), ld_vr C h18 _ _ _ (e18 i ⟨n, hn⟩ 6), ld_kr K h4 _ _ _ (e17 i ⟨n, hn⟩ 7), ld_vr C h18 _ _ _ (e18 i ⟨n, hn⟩ 7)]
    rfl

theorem st4 (v99 : BitVec 32) (K : Vec F S1x4096x256 .bf16) (T : Vec F S256x256 .bf16) (C : Vec F S16x1024x256 .bf16) (s : St F) :
    ∀ n : ℕ, n ≤ (k0_t4_loop i).trips →
     st_k0_t4 Variants.none c none i a3 h3 a4 h4 a5 h5 a6 h6 a7 h7 a8 h8 a9 h9 a10 h10 a11 h11 a12 h12 a13 h13 a14 h14 a15 h15 a16 h16 a17 h17 a18 h18 qs v99 (h4.unread K) (h6.unread T) (h18.unread C) s n
      = down qs K T C (((i 2).val - (i 2).val % 4) % 8 - 1) (4 * n) s
  | 0, _ => rfl
  | n + 1, hn => by
    rw [show n + 1 = (⟨n, hn⟩ : Fin (k0_t4_loop i).trips).val + 1 from rfl, st_k0_t4_succ, trip4_raw,
      show (⟨n, hn⟩ : Fin (k0_t4_loop i).trips).val = n from rfl, st4  v99 K T C s n (by omega), ld_tb,
      ld_kr K h4 _ _ _ (e21 i ⟨n, hn⟩ 0), ld_vr C h18 _ _ _ (e22 i ⟨n, hn⟩ 0), ld_kr K h4 _ _ _ (e21 i ⟨n, hn⟩ 1), ld_vr C h18 _ _ _ (e22 i ⟨n, hn⟩ 1), ld_kr K h4 _ _ _ (e21 i ⟨n, hn⟩ 2), ld_vr C h18 _ _ _ (e22 i ⟨n, hn⟩ 2), ld_kr K h4 _ _ _ (e21 i ⟨n, hn⟩ 3), ld_vr C h18 _ _ _ (e22 i ⟨n, hn⟩ 3)]
    rfl

end Trips

end Cert.KernelIdeal.Run

end
-- ==== Proof.Body.lean ====
module

public import proofs.«01_k».proof.Proof.Gen.KernelIdeal.Frame
public import proofs.«01_k».proof.Proof.Gen.KernelIdeal.Loops
public import Idealize.ShloMosaic.Lib.Pipeline.Value
public import Idealize.ShloMosaic.Lib.ValueIdxCore
public import proofs.«01_k».proof.Proof.Blocks

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev at_ (c : Dev nD) {sp : Space} {s : Shape} {e : EltTy} (a : Memref sig .tc sp s e) (X : BufTy.Contents (Elt F) a.view.ty) : sProp 𝕄 :=
  (a.view.loc (c : Thread nD τ) ↦[a.view.set]{fullShare} X)

theorem at_mono (c : Dev nD) {sp : Space} {s : Shape} {e : EltTy} (a : Memref sig .tc sp s e) {X Y : BufTy.Contents (Elt F) a.view.ty} (h : X = Y) :
    at_ c a X ⊢ at_ (F := F) c a Y := by subst h; exact .rfl

/-- The four masked copies of a block of queries, stacked. -/
def qsOf (q : Vec F S1x256x256 .bf16) : FVec F S1024x256 .bf16 :=
  k0_pay217 (k0_pay209 q) (iota .tc S256x256 32 [1] iota_S256x256_d1_w32) k0_pay210 k0_pay211 128#32

/-- The output block of query block `n`. -/
def outB (q : Vec F S1x256x256 .bf16) (K : Vec F S1x4096x256 .bf16) (T : Vec F S256x256 .bf16) (C : Vec F S16x1024x256 .bf16) (n : ℕ) : FVec F S1x256x256 .bf16 :=
  k0_pay5 (down (qsOf q) K T C (n - 1) n (diagS (qsOf q) T (kb K n) (vb C n))).2

/-- A store of a whole buffer leaves the stored vector. -/
theorem stw {sp : Space} {s : Shape} {e : EltTy} {a : Memref sig .tc sp s e} (h : a.IsWhole) (f : BufTy.Contents (Elt F) a.view.ty) (off : Fin s.rank → ℕ) (hz : off = fun _ => 0)
    (inb : ∀ x, off x + s.size x ≤ s.size x) (w w' : s.Idx → Elt F e) (hw : w = w') :
    a.view.writes (Elt F) f [⟨Rect.unit off s.size inb, w⟩] = h.unread w' := by
  subst hw
  refine h.eq_unread ?_
  rw [View.read_writes_eq_canon _ _ _ (fun y => ⟨_, List.mem_singleton_self _, View.mem_set_unit_zero hz inb y⟩), View.canon_unit_zero hz]

/-- A load of a whole buffer returns what it holds. -/
theorem ldw {sp : Space} {s : Shape} {e : EltTy} {a : Memref sig .tc sp s e} (h : a.IsWhole) (w : s.Idx → Elt F e) (off : Fin s.rank → ℕ) (hz : off = fun _ => 0)
    (inb : ∀ x, off x + s.size x ≤ s.size x) : View.readAt (Elt F) a.view (Rect.unit off s.size inb).toLoadRect (h.unread w) = w := by
  rw [View.readAt_eq_ld, h.read_unread]; exact View.ld_unit_zero hz inb w

theorem e15 : ∀ i : grid0.Coords, ¬ k0_cond2 i = 1#1 → k0_off15 i = ![0, 256 * ((i 2).val % 16), 0] := by decide +kernel
theorem e16 : ∀ i : grid0.Coords, ¬ k0_cond2 i = 1#1 → k0_off16 i = ![(i 2).val % 16, 0, 0] := by decide +kernel
theorem e11 : ∀ i : grid0.Coords, k0_off11 i = ![0, 256 * ((i 2).val % 16), 0] := by decide +kernel
theorem e12 : ∀ i : grid0.Coords, k0_off12 i = ![(i 2).val % 16, 0, 0] := by decide +kernel
theorem e7 : ∀ i : grid0.Coords, k0_off7 i = ![0, 256 * ((i 2).val % 16), 0] := by decide +kernel
theorem e8 : ∀ i : grid0.Coords, k0_off8 i = ![(i 2).val % 16, 0, 0] := by decide +kernel
theorem e3 : ∀ i : grid0.Coords, k0_off3 i = ![0, 256 * ((i 2).val % 16), 0] := by decide +kernel
theorem e4 : ∀ i : grid0.Coords, k0_off4 i = ![(i 2).val % 16, 0, 0] := by decide +kernel
theorem e13 : ∀ i : grid0.Coords, k0_cond2 i = 1#1 → k0_off13 i = ![0, 256 * (((i 2).val - 1) % 16), 0] := by decide +kernel
theorem e14 : ∀ i : grid0.Coords, k0_cond2 i = 1#1 → k0_off14 i = ![((i 2).val - 1) % 16, 0, 0] := by decide +kernel
theorem e9 : ∀ i : grid0.Coords, k0_cond2 i = 1#1 → k0_cond3 i = 1#1 → ∀ r : Fin 2, k0_off9 i (BitVec.ofNat 32 r.val) = ![0, 256 * (((i 2).val - 1 - r.val) % 16), 0] := by decide +kernel
theorem e10 : ∀ i : grid0.Coords, k0_cond2 i = 1#1 → k0_cond3 i = 1#1 → ∀ r : Fin 2, k0_off10 i (BitVec.ofNat 32 r.val) = ![((i 2).val - 1 - r.val) % 16, 0, 0] := by decide +kernel
theorem e5 : ∀ i : grid0.Coords, k0_cond2 i = 1#1 → k0_cond3 i = 1#1 → k0_cond4 i = 1#1 → ∀ r : Fin 3, k0_off5 i (BitVec.ofNat 32 r.val) = ![0, 256 * (((i 2).val - 1 - r.val) % 16), 0] := by decide +kernel
theorem e6 : ∀ i : grid0.Coords, k0_cond2 i = 1#1 → k0_cond3 i = 1#1 → k0_cond4 i = 1#1 → ∀ r : Fin 3, k0_off6 i (BitVec.ofNat 32 r.val) = ![((i 2).val - 1 - r.val) % 16, 0, 0] := by decide +kernel
theorem rem0 : ∀ i : grid0.Coords, ¬ k0_cond2 i = 1#1 → (i 2).val % 4 = 0 := by decide +kernel
theorem rem1 : ∀ i : grid0.Coords, k0_cond2 i = 1#1 → ¬ k0_cond3 i = 1#1 → (i 2).val % 4 = 1 := by decide +kernel
theorem rem2 : ∀ i : grid0.Coords, k0_cond2 i = 1#1 → k0_cond3 i = 1#1 → ¬ k0_cond4 i = 1#1 → (i 2).val % 4 = 2 := by decide +kernel
theorem rem3 : ∀ i : grid0.Coords, k0_cond2 i = 1#1 → k0_cond3 i = 1#1 → k0_cond4 i = 1#1 → (i 2).val % 4 = 3 := by decide +kernel

theorem e1 : ∀ k : Fin k0_t1_loop.trips, k0_off1 k = ![0, 256 * (k.val % 16), 0] := by decide +kernel
theorem e2 : ∀ k : Fin k0_t1_loop.trips, k0_off2 k = ![k.val, 0, 0] := by decide +kernel
theorem trips1 : k0_t1_loop.trips = 16 := by decide +kernel

/-- The four masked copies of a block of values, stacked. -/
def fillB (v : Vec F S1x256x256 .bf16) : FVec F S1x1024x256 .bf16 :=
  k0_pay216 (iota .tc S256x256 32 [1] iota_S256x256_d1_w32) k0_pay210 k0_pay211 128#32 v

/-- All sixteen stacked blocks of values. -/
def fillV (V : Vec F S1x4096x256 .bf16) : Vec F S16x1024x256 .bf16 := fun x => fillB (kb V (x 0).val) (ix3 0 (x 1) (x 2))

section Runs

variable (c : Dev nD) (i : grid0.Coords)
  (a3 : Memref sig .tc .vmem S1x256x256 .bf16) (h3 : a3.IsWhole)
  (a4 : Memref sig .tc .vmem S1x4096x256 .bf16) (h4 : a4.IsWhole)
  (a5 : Memref sig .tc .vmem S1x4096x256 .bf16) (h5 : a5.IsWhole)
  (a6 : Memref sig .tc .vmem S256x256 .bf16) (h6 : a6.IsWhole)
  (a7 : Memref sig .tc .vmem S16x512 .f32) (h7 : a7.IsWhole)
  (a8 : Memref sig .tc .vmem S16x2048 .f32) (h8 : a8.IsWhole)
  (a9 : Memref sig .tc .vmem S16x5632 .f32) (h9 : a9.IsWhole)
  (a10 : Memref sig .tc .vmem S16x5632 .f32) (h10 : a10.IsWhole)
  (a11 : Memref sig .tc .vmem S176x512 .f32) (h11 : a11.IsWhole)
  (a12 : Memref sig .tc .vmem S1x256x256 .bf16) (h12 : a12.IsWhole)
  (a13 : Memref sig .tc .vmem S16x512 .bf16) (h13 : a13.IsWhole)
  (a14 : Memref sig .tc .vmem S16x2048 .bf16) (h14 : a14.IsWhole)
  (a15 : Memref sig .tc .vmem S16x5632 .bf16) (h15 : a15.IsWhole)
  (a16 : Memref sig .tc .vmem S16x5632 .bf16) (h16 : a16.IsWhole)
  (a17 : Memref sig .tc .vmem S176x512 .bf16) (h17 : a17.IsWhole)
  (a18 : Memref sig .tc .vmem S16x1024x256 .bf16) (h18 : a18.IsWhole)
  {q : Vec F S1x256x256 .bf16} {K : Vec F S1x4096x256 .bf16} {V : Vec F S1x4096x256 .bf16} {T : Vec F S256x256 .bf16} {W1 : Vec F S16x512 .f32} {W2 : Vec F S16x2048 .f32} {W3 : Vec F S16x5632 .f32} {W4 : Vec F S16x5632 .f32} {W5 : Vec F S176x512 .f32} {C : Vec F S16x1024x256 .bf16}
  {X12 : BufTy.Contents (Elt F) a12.view.ty} {X13 : BufTy.Contents (Elt F) a13.view.ty} {X14 : BufTy.Contents (Elt F) a14.view.ty} {X15 : BufTy.Contents (Elt F) a15.view.ty} {X16 : BufTy.Contents (Elt F) a16.view.ty} {X17 : BufTy.Contents (Elt F) a17.view.ty} {X18 : BufTy.Contents (Elt F) a18.view.ty}

/-- The four loops after the switch walk the remaining blocks, down to block 0. -/
theorem loops (qs : FVec F S1024x256 .bf16) (u0 : FVec F S1024x1 .f32) (u1 : FVec F S256x256 .f32) (u2 u3 u4 u5 v99 v121 : BitVec 32)
    (X18 : BufTy.Contents (Elt F) a18.view.ty) (hX : X18 = h18.unread C) (s : St F) :
    st_k0_t5 Variants.none c none i a3 h3 a4 h4 a5 h5 a6 h6 a7 h7 a8 h8 a9 h9 a10 h10 a11 h11 a12 h12 a13 h13 a14 h14 a15 h15 a16 h16 a17 h17 a18 h18 qs v99 v121 (h4.unread K) (h6.unread T) X18
      (st_k0_t4 Variants.none c none i a3 h3 a4 h4 a5 h5 a6 h6 a7 h7 a8 h8 a9 h9 a10 h10 a11 h11 a12 h12 a13 h13 a14 h14 a15 h15 a16 h16 a17 h17 a18 h18 qs v99 (h4.unread K) (h6.unread T) X18
       (st_k0_t3 Variants.none c none i a3 h3 a4 h4 a5 h5 a6 h6 a7 h7 a8 h8 a9 h9 a10 h10 a11 h11 a12 h12 a13 h13 a14 h14 a15 h15 a16 h16 a17 h17 a18 h18 qs u0 u1 u2 u3 u4 u5 (h4.unread K) (h6.unread T) X18
        (st_k0_t2 Variants.none c none i a3 h3 a4 h4 a5 h5 a6 h6 a7 h7 a8 h8 a9 h9 a10 h10 a11 h11 a12 h12 a13 h13 a14 h14 a15 h15 a16 h16 a17 h17 a18 h18 qs u0 u1 u2 u3 u4 (h4.unread K) (h6.unread T) X18 s (k0_t2_loop i).trips)
        (k0_t3_loop i).trips)
       (k0_t4_loop i).trips)
      (k0_t5_loop i).trips
    = down qs K T C ((i 2).val - (i 2).val % 4 - 1) ((i 2).val - (i 2).val % 4) s := by
  subst hX
  rw [trips3, trips5, st_k0_t5_zero, st_k0_t3_zero, st4 c i a3 h3 a4 h4 a5 h5 a6 h6 a7 h7 a8 h8 a9 h9 a10 h10 a11 h11 a12 h12 a13 h13 a14 h14 a15 h15 a16 h16 a17 h17 a18 h18 qs v99 K T C _ _ le_rfl, st2 c i a3 h3 a4 h4 a5 h5 a6 h6 a7 h7 a8 h8 a9 h9 a10 h10 a11 h11 a12 h12 a13 h13 a14 h14 a15 h15 a16 h16 a17 h17 a18 h18 qs u0 u1 u2 u3 u4 K T C s _ le_rfl, trips2, trips4]
  generalize hL : (i 2).val - (i 2).val % 4 = L
  have h4L : L % 4 = 0 := by omega
  have e : L = 8 * (L / 8) + 4 * (L % 8 / 4) := by omega
  have e' : L - 1 - 8 * (L / 8) = L % 8 - 1 := by omega
  conv_rhs => rw [e, down_add, ← e, e']

theorem join (qs : FVec F S1024x256 .bf16) (n r : ℕ) (hr : n % 4 = r) (s : St F) :
    down qs K T C (n - n % 4 - 1) (n - n % 4) (down qs K T C (n - 1) r s) = down qs K T C (n - 1) n s := by
  have h : r + (n - n % 4) = n := by omega
  have h' : n - n % 4 - 1 = n - 1 - r := by omega
  conv_rhs => rw [← h, down_add, h]
  rw [h']

theorem fin {a3 : Memref sig .tc .vmem S1x256x256 .bf16} {h3 : a3.IsWhole} {q : Vec F S1x256x256 .bf16} {K : Vec F S1x4096x256 .bf16} {T : Vec F S256x256 .bf16} {C : Vec F S16x1024x256 .bf16}
    {qs : FVec F S1024x256 .bf16} {n r : ℕ} (hr : n % 4 = r) {s0 : St F}
    (inb : ∀ x, (![0, 0, 0] : Fin 3 → ℕ) x + S1x256x256.size x ≤ S1x256x256.size x)
    (hq : qs = qsOf (View.readAt (Elt F) a3.view (Rect.unit (s := S1x256x256) ![0, 0, 0] S1x256x256.size inb).toLoadRect (h3.unread q)))
    (hs : s0 = down qs K T C (n - 1) r (diagS qs T (kb K n) (vb C n))) :
    k0_pay5 (down qs K T C (n - n % 4 - 1) (n - n % 4) s0).2 = outB q K T C n := by
  rw [hs, join qs n r hr, hq, ldw h3 q _ hz3]; rfl

set_option maxHeartbeats 4000000 in
theorem run0 (hc1 : ¬ k0_cond1 i = 1#1) :
   iprop(at_ c a3 (h3.unread q) ∗ at_ c a4 (h4.unread K) ∗ at_ c a5 (h5.unread V) ∗ at_ c a6 (h6.unread T) ∗ at_ c a7 (h7.unread W1) ∗ at_ c a8 (h8.unread W2) ∗ at_ c a9 (h9.unread W3) ∗ at_ c a10 (h10.unread W4) ∗ at_ c a11 (h11.unread W5) ∗ at_ c a12 X12 ∗ at_ c a13 X13 ∗ at_ c a14 X14 ∗ at_ c a15 X15 ∗ at_ c a16 X16 ∗ at_ c a17 X17 ∗ at_ c a18 (h18.unread C))
   ⊢ wp frame (wpE (defs₀ (F := F)) Variants.none (c : Thread nD τ) none) Set.univ (cc0_attn (F := F) i a3 h3 a4 h4 a5 h5 a6 h6 a7 h7 a8 h8 a9 h9 a10 h10 a11 h11 a12 h12 a13 h13 a14 h14 a15 h15 a16 h16 a17 h17 a18 h18)
     (fun _ => iprop(at_ c a3 (h3.unread q) ∗ at_ c a4 (h4.unread K) ∗ at_ c a5 (h5.unread V) ∗ at_ c a6 (h6.unread T) ∗ at_ c a7 (h7.unread W1) ∗ at_ c a8 (h8.unread W2) ∗ at_ c a9 (h9.unread W3) ∗ at_ c a10 (h10.unread W4) ∗ at_ c a11 (h11.unread W5) ∗ at_ c a13 (h13.unread (k0_pay204 W1)) ∗ at_ c a14 (h14.unread (k0_pay205 W2)) ∗ at_ c a15 (h15.unread (k0_pay206 W3)) ∗ at_ c a16 (h16.unread (k0_pay207 W4)) ∗ at_ c a17 (h17.unread (k0_pay208 W5)) ∗ at_ c a12 (h12.unread (outB q K T C (i 2).val)) ∗ at_ c a18 (h18.unread C))) := by
  iintro ⟨H3, H4, H5, H6, H7, H8, H9, H10, H11, H12, H13, H14, H15, H16, H17, H18⟩
  rw [show cc0_attn (F := F) = cc0_attn_skel (F := F) from cc0_attn_eq_skeleton]
  unfold cc0_attn_skel
  by_cases hc2 : k0_cond2 i = 1#1
  on_goal 1 => by_cases hc3 : k0_cond3 i = 1#1
  on_goal 1 => by_cases hc4 : k0_cond4 i = 1#1
  all_goals
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H13]; (iapply (at_mono c a13 ?_) $$ H13; exact stw h13 _ _ hz2 _ _ _ (congrArg k0_pay204 (ldw h7 _ _ hz2 _)))
    isplitl [H14]; (iapply (at_mono c a14 ?_) $$ H14; exact stw h14 _ _ hz2 _ _ _ (congrArg k0_pay205 (ldw h8 _ _ hz2 _)))
    isplitl [H15]; (iapply (at_mono c a15 ?_) $$ H15; exact stw h15 _ _ hz2 _ _ _ (congrArg k0_pay206 (ldw h9 _ _ hz2 _)))
    isplitl [H16]; (iapply (at_mono c a16 ?_) $$ H16; exact stw h16 _ _ hz2 _ _ _ (congrArg k0_pay207 (ldw h10 _ _ hz2 _)))
    isplitl [H17]; (iapply (at_mono c a17 ?_) $$ H17; exact stw h17 _ _ hz2 _ _ _ (congrArg k0_pay208 (ldw h11 _ _ hz2 _)))
    isplitr [H18]
    on_goal 2 => iexact H18
    iapply (at_mono c a12 ?_) $$ H12
    refine stw h12 _ _ hz3 _ _ _ ?_
    refine (congrArg (fun s => k0_pay5 s.2) (loops c i a3 h3 a4 h4 a5 h5 a6 h6 a7 h7 a8 h8 a9 h9 a10 h10 a11 h11 a12 h12 a13 h13 a14 h14 a15 h15 a16 h16 a17 h17 a18 h18 (C := C) _ _ _ _ _ _ _ _ _ _ rfl _)).trans ?_
  on_goal 1 =>
    refine fin (h3 := h3) (q := q) (rem3 i hc2 hc3 hc4) _ rfl ((show _ = stepS _ (tb a6 (h6.unread T)) (kr a4 (h4.unread K) _ (k0_off5_inb i hc2 hc3 hc4 2)) (vr a18 (h18.unread C) _ (k0_off6_inb i hc2 hc3 hc4 2)) (stepS _ (tb a6 (h6.unread T)) (kr a4 (h4.unread K) _ (k0_off5_inb i hc2 hc3 hc4 1)) (vr a18 (h18.unread C) _ (k0_off6_inb i hc2 hc3 hc4 1)) (stepS _ (tb a6 (h6.unread T)) (kr a4 (h4.unread K) _ (k0_off5_inb i hc2 hc3 hc4 0)) (vr a18 (h18.unread C) _ (k0_off6_inb i hc2 hc3 hc4 0)) (diagS _ (tb a6 (h6.unread T)) (kr a4 (h4.unread K) _ (k0_off3_inb i hc2 hc3 hc4)) (vr a18 (h18.unread C) _ (k0_off4_inb i hc2 hc3 hc4))))) from rfl).trans ?_)
    rw [ld_tb, ld_kr K h4 _ _ _ (e3 i), ld_vr C h18 _ _ _ (e4 i), ld_kr K h4 _ _ _ (e5 i hc2 hc3 hc4 0), ld_vr C h18 _ _ _ (e6 i hc2 hc3 hc4 0), ld_kr K h4 _ _ _ (e5 i hc2 hc3 hc4 1), ld_vr C h18 _ _ _ (e6 i hc2 hc3 hc4 1), ld_kr K h4 _ _ _ (e5 i hc2 hc3 hc4 2), ld_vr C h18 _ _ _ (e6 i hc2 hc3 hc4 2)]
    rfl
  on_goal 1 =>
    refine fin (h3 := h3) (q := q) (rem2 i hc2 hc3 hc4) _ rfl ((show _ = stepS _ (tb a6 (h6.unread T)) (kr a4 (h4.unread K) _ (k0_off9_inb i hc2 hc3 hc4 1)) (vr a18 (h18.unread C) _ (k0_off10_inb i hc2 hc3 hc4 1)) (stepS _ (tb a6 (h6.unread T)) (kr a4 (h4.unread K) _ (k0_off9_inb i hc2 hc3 hc4 0)) (vr a18 (h18.unread C) _ (k0_off10_inb i hc2 hc3 hc4 0)) (diagS _ (tb a6 (h6.unread T)) (kr a4 (h4.unread K) _ (k0_off7_inb i hc2 hc3 hc4)) (vr a18 (h18.unread C) _ (k0_off8_inb i hc2 hc3 hc4)))) from rfl).trans ?_)
    rw [ld_tb, ld_kr K h4 _ _ _ (e7 i), ld_vr C h18 _ _ _ (e8 i), ld_kr K h4 _ _ _ (e9 i hc2 hc3 0), ld_vr C h18 _ _ _ (e10 i hc2 hc3 0), ld_kr K h4 _ _ _ (e9 i hc2 hc3 1), ld_vr C h18 _ _ _ (e10 i hc2 hc3 1)]
    rfl
  on_goal 1 =>
    refine fin (h3 := h3) (q := q) (rem1 i hc2 hc3) _ rfl ((show _ = stepS _ (tb a6 (h6.unread T)) (kr a4 (h4.unread K) _ (k0_off13_inb i hc2 hc3)) (vr a18 (h18.unread C) _ (k0_off14_inb i hc2 hc3)) (diagS _ (tb a6 (h6.unread T)) (kr a4 (h4.unread K) _ (k0_off11_inb i hc2 hc3)) (vr a18 (h18.unread C) _ (k0_off12_inb i hc2 hc3))) from rfl).trans ?_)
    rw [ld_tb, ld_kr K h4 _ _ _ (e11 i), ld_vr C h18 _ _ _ (e12 i), ld_kr K h4 _ _ _ (e13 i hc2), ld_vr C h18 _ _ _ (e14 i hc2)]
    rfl
  on_goal 1 =>
    refine fin (h3 := h3) (q := q) (rem0 i hc2) _ rfl ((show _ = diagS _ (tb a6 (h6.unread T)) (kr a4 (h4.unread K) _ (k0_off15_inb i hc2)) (vr a18 (h18.unread C) _ (k0_off16_inb i hc2)) from rfl).trans ?_)
    rw [ld_tb, ld_kr K h4 _ _ _ (e15 i hc2), ld_vr C h18 _ _ _ (e16 i hc2)]
    rfl

/-- The stores of the fill loop. -/
def pb (h1 : k0_cond1 i = 1#1) (v16 : FVec F S256x256 .bf16) (b2 : BitVec 32) (n : ℕ) : List (View.Piece (Elt F) S16x1024x256 .bf16) :=
  pb_k0_t1 Variants.none c none i a3 h3 a4 h4 a5 h5 a6 h6 a7 h7 a8 h8 a9 h9 a10 h10 a11 h11 a12 h12 a13 h13 a14 h14 a15 h15 a16 h16 a17 h17 a18 h18 b2 v16 (iota .tc S256x256 32 [1] iota_S256x256_d1_w32) k0_pay210 k0_pay211 128#32 h1 (h5.unread V) n

theorem pb_mem (h1 : k0_cond1 i = 1#1) (v16 : FVec F S256x256 .bf16) (b2 : BitVec 32) : ∀ n ≤ k0_t1_loop.trips, ∀ p : View.Piece (Elt F) S16x1024x256 .bf16,
    (p ∈ pb c i a3 h3 a4 h4 a5 h5 a6 h6 a7 h7 a8 h8 a9 h9 a10 h10 a11 h11 a12 h12 a13 h13 a14 h14 a15 h15 a16 h16 a17 h17 a18 h18 (V := V) h1 v16 b2 n ↔ ∃ k : Fin k0_t1_loop.trips, k.val < n ∧
      p = ⟨Rect.unit (s := S16x1024x256) (k0_off2 k) S1x1024x256.size (k0_off2_inb i k h1), fillB (kb V k.val)⟩)
  | 0, _, p => by simp [pb, pb_k0_t1]
  | n + 1, hn, p => by
    unfold pb
    rw [show n + 1 = (⟨n, hn⟩ : Fin k0_t1_loop.trips).val + 1 from rfl, pb_k0_t1_succ,
      show tripL_k0_t1 Variants.none c none i a3 h3 a4 h4 a5 h5 a6 h6 a7 h7 a8 h8 a9 h9 a10 h10 a11 h11 a12 h12 a13 h13 a14 h14 a15 h15 a16 h16 a17 h17 a18 h18 b2 v16 (iota .tc S256x256 32 [1] iota_S256x256_d1_w32) k0_pay210 k0_pay211 128#32 h1 (h5.unread V) ⟨n, hn⟩
        = [⟨Rect.unit (s := S16x1024x256) (k0_off2 ⟨n, hn⟩) S1x1024x256.size (k0_off2_inb i ⟨n, hn⟩ h1),
            fillB (kr a5 (h5.unread V) (k0_off1 ⟨n, hn⟩) (k0_off1_inb i ⟨n, hn⟩ h1))⟩] from by
          unfold tripL_k0_t1 trip_k0_t1; rfl, ld_kr V h5 _ _ _ (e1 ⟨n, hn⟩), List.mem_append, List.mem_singleton]
    have ih := pb_mem h1 v16 b2 n (by omega) p
    unfold pb at ih
    rw [show (⟨n, hn⟩ : Fin k0_t1_loop.trips).val = n from rfl, ih]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with h' | h'
      · exact .inr ⟨k, h', h⟩
      · obtain rfl : k = ⟨n, hn⟩ := Fin.ext h'
        exact .inl h

theorem fill_eq (h1 : k0_cond1 i = 1#1) (v16 : FVec F S256x256 .bf16) (b2 : BitVec 32) (f : BufTy.Contents (Elt F) a18.view.ty) :
    a18.view.writes (Elt F) f (pb c i a3 h3 a4 h4 a5 h5 a6 h6 a7 h7 a8 h8 a9 h9 a10 h10 a11 h11 a12 h12 a13 h13 a14 h14 a15 h15 a16 h16 a17 h17 a18 h18 (V := V) h1 v16 b2 k0_t1_loop.trips) = h18.unread (fillV V) := by
  refine h18.eq_unread ?_
  have hcov : ∀ y : S16x1024x256.Idx, ∃ p ∈ pb c i a3 h3 a4 h4 a5 h5 a6 h6 a7 h7 a8 h8 a9 h9 a10 h10 a11 h11 a12 h12 a13 h13 a14 h14 a15 h15 a16 h16 a17 h17 a18 h18 (V := V) h1 v16 b2 k0_t1_loop.trips, y ∈ p.1.set := fun y => by
    have hy0 : (y 0).val < k0_t1_loop.trips := by rw [trips1]; exact (y 0).isLt
    refine ⟨_, (pb_mem c i a3 h3 a4 h4 a5 h5 a6 h6 a7 h7 a8 h8 a9 h9 a10 h10 a11 h11 a12 h12 a13 h13 a14 h14 a15 h15 a16 h16 a17 h17 a18 h18 h1 v16 b2 _ le_rfl _).mpr ⟨⟨(y 0).val, hy0⟩, hy0, rfl⟩, ?_⟩
    rw [Rect.mem_set_unit, e2]
    intro a
    fin_cases a
    · exact ⟨le_rfl, Nat.lt_succ_self _⟩
    · exact ⟨Nat.zero_le _, by have := (y 1).isLt; show (y 1).val < 0 + 1024; simpa using this⟩
    · exact ⟨Nat.zero_le _, by have := (y 2).isLt; show (y 2).val < 0 + 256; simpa using this⟩
  rw [View.read_writes_eq_canon _ _ _ hcov]
  funext y
  refine View.canon_apply_of_pieces (fillV V) _ ?_ y (hcov y)
  intro p hp x
  obtain ⟨k, -, rfl⟩ := (pb_mem c i a3 h3 a4 h4 a5 h5 a6 h6 a7 h7 a8 h8 a9 h9 a10 h10 a11 h11 a12 h12 a13 h13 a14 h14 a15 h15 a16 h16 a17 h17 a18 h18 h1 v16 b2 _ le_rfl p).mp hp
  have h0 : ((Rect.unit (s := S16x1024x256) (k0_off2 k) S1x1024x256.size (k0_off2_inb i k h1)).emb x 0).val = k.val := by
    have hx0 : (x 0).val < 1 := (x 0).isLt
    have e := congrFun (e2 k) 0
    show k0_off2 k 0 + 1 * (x 0).val = k.val
    rw [e]
    show k.val + 1 * (x 0).val = k.val
    omega
  have hx : ix3 (0 : Fin 1) ((Rect.unit (s := S16x1024x256) (k0_off2 k) S1x1024x256.size (k0_off2_inb i k h1)).emb x 1)
      ((Rect.unit (s := S16x1024x256) (k0_off2 k) S1x1024x256.size (k0_off2_inb i k h1)).emb x 2) = x := by
    funext a
    fin_cases a
    · have hx0 : (x 0).val < 1 := (x 0).isLt
      refine Fin.ext ?_
      show 0 = (x 0).val
      omega
    · refine Fin.ext ?_
      have e := congrFun (e2 k) 1
      show k0_off2 k 1 + 1 * (x 1).val = (x 1).val
      rw [e]
      show 0 + 1 * (x 1).val = (x 1).val
      omega
    · refine Fin.ext ?_
      have e := congrFun (e2 k) 2
      show k0_off2 k 2 + 1 * (x 2).val = (x 2).val
      rw [e]
      show 0 + 1 * (x 2).val = (x 2).val
      omega
  show _ = fillB (kb V ((Rect.unit (s := S16x1024x256) (k0_off2 k) S1x1024x256.size (k0_off2_inb i k h1)).emb x 0).val) _
  rw [h0]
  exact (congrArg (fillB (kb V k.val)) hx).symm

set_option maxHeartbeats 4000000 in
theorem run1 (hc1 : k0_cond1 i = 1#1) (hc2 : ¬ k0_cond2 i = 1#1) :
   iprop(at_ c a3 (h3.unread q) ∗ at_ c a4 (h4.unread K) ∗ at_ c a5 (h5.unread V) ∗ at_ c a6 (h6.unread T) ∗ at_ c a7 (h7.unread W1) ∗ at_ c a8 (h8.unread W2) ∗ at_ c a9 (h9.unread W3) ∗ at_ c a10 (h10.unread W4) ∗ at_ c a11 (h11.unread W5) ∗ at_ c a12 X12 ∗ at_ c a13 X13 ∗ at_ c a14 X14 ∗ at_ c a15 X15 ∗ at_ c a16 X16 ∗ at_ c a17 X17 ∗ at_ c a18 X18)
   ⊢ wp frame (wpE (defs₀ (F := F)) Variants.none (c : Thread nD τ) none) Set.univ (cc0_attn (F := F) i a3 h3 a4 h4 a5 h5 a6 h6 a7 h7 a8 h8 a9 h9 a10 h10 a11 h11 a12 h12 a13 h13 a14 h14 a15 h15 a16 h16 a17 h17 a18 h18)
     (fun _ => iprop(at_ c a3 (h3.unread q) ∗ at_ c a4 (h4.unread K) ∗ at_ c a5 (h5.unread V) ∗ at_ c a6 (h6.unread T) ∗ at_ c a7 (h7.unread W1) ∗ at_ c a8 (h8.unread W2) ∗ at_ c a9 (h9.unread W3) ∗ at_ c a10 (h10.unread W4) ∗ at_ c a11 (h11.unread W5) ∗ at_ c a13 (h13.unread (k0_pay204 W1)) ∗ at_ c a14 (h14.unread (k0_pay205 W2)) ∗ at_ c a15 (h15.unread (k0_pay206 W3)) ∗ at_ c a16 (h16.unread (k0_pay207 W4)) ∗ at_ c a17 (h17.unread (k0_pay208 W5)) ∗ at_ c a12 (h12.unread (outB q K T (fillV V) (i 2).val)) ∗ at_ c a18 (h18.unread (fillV V)))) := by
  iintro ⟨H3, H4, H5, H6, H7, H8, H9, H10, H11, H12, H13, H14, H15, H16, H17, H18⟩
  rw [show cc0_attn (F := F) = cc0_attn_skel (F := F) from cc0_attn_eq_skeleton]
  unfold cc0_attn_skel
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; (iapply (at_mono c a13 ?_) $$ H13; exact stw h13 _ _ hz2 _ _ _ (congrArg k0_pay204 (ldw h7 _ _ hz2 _)))
  isplitl [H14]; (iapply (at_mono c a14 ?_) $$ H14; exact stw h14 _ _ hz2 _ _ _ (congrArg k0_pay205 (ldw h8 _ _ hz2 _)))
  isplitl [H15]; (iapply (at_mono c a15 ?_) $$ H15; exact stw h15 _ _ hz2 _ _ _ (congrArg k0_pay206 (ldw h9 _ _ hz2 _)))
  isplitl [H16]; (iapply (at_mono c a16 ?_) $$ H16; exact stw h16 _ _ hz2 _ _ _ (congrArg k0_pay207 (ldw h10 _ _ hz2 _)))
  isplitl [H17]; (iapply (at_mono c a17 ?_) $$ H17; exact stw h17 _ _ hz2 _ _ _ (congrArg k0_pay208 (ldw h11 _ _ hz2 _)))
  isplitr [H18]
  on_goal 2 => (iapply (at_mono c a18 ?_) $$ H18; exact fill_eq c i a3 h3 a4 h4 a5 h5 a6 h6 a7 h7 a8 h8 a9 h9 a10 h10 a11 h11 a12 h12 a13 h13 a14 h14 a15 h15 a16 h16 a17 h17 a18 h18 hc1 _ _ _)
  iapply (at_mono c a12 ?_) $$ H12
  refine stw h12 _ _ hz3 _ _ _ ?_
  refine (congrArg (fun s => k0_pay5 s.2) (loops c i a3 h3 a4 h4 a5 h5 a6 h6 a7 h7 a8 h8 a9 h9 a10 h10 a11 h11 a12 h12 a13 h13 a14 h14 a15 h15 a16 h16 a17 h17 a18 h18 (C := fillV V) _ _ _ _ _ _ _ _ _ _ (fill_eq c i a3 h3 a4 h4 a5 h5 a6 h6 a7 h7 a8 h8 a9 h9 a10 h10 a11 h11 a12 h12 a13 h13 a14 h14 a15 h15 a16 h16 a17 h17 a18 h18 hc1 _ _ _) _)).trans ?_
  refine fin (h3 := h3) (q := q) (rem0 i hc2) _ rfl ((show _ = diagS _ (tb a6 (h6.unread T)) (kr a4 (h4.unread K) _ (k0_off15_inb i hc2)) (vr a18 (a18.view.writes (Elt F) X18 (pb c i a3 h3 a4 h4 a5 h5 a6 h6 a7 h7 a8 h8 a9 h9 a10 h10 a11 h11 a12 h12 a13 h13 a14 h14 a15 h15 a16 h16 a17 h17 a18 h18 (V := V) hc1 _ _ k0_t1_loop.trips)) _ (k0_off16_inb i hc2)) from rfl).trans ?_)
  rw [ld_tb, ld_kr K h4 _ _ _ (e15 i hc2), fill_eq, ld_vr (fillV V) h18 _ _ _ (e16 i hc2)]
  rfl

end Runs

end Cert.KernelIdeal.Run

end
-- ==== Proof.Run.lean ====
module

public import proofs.«01_k».proof.Proof.Gen.KernelIdeal.Frame
public import proofs.«01_k».proof.Proof.Gen.KernelIdeal.Loops
public import Idealize.ShloMosaic.Lib.Pipeline.Value
public import Idealize.ShloMosaic.Lib.ValueIdxCore
public import proofs.«01_k».proof.Proof.Body

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.ShloMosaic.Pipeline (Dat Cfg Window)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem c1 : ∀ t : Fin cfg0.N, k0_cond1 (grid0.coords t) = 1#1 ↔ t.val % 16 = 0 := by decide +kernel
theorem c2 : ∀ t : Fin cfg0.N, t.val % 16 = 0 → ¬ k0_cond2 (grid0.coords t) = 1#1 := by decide +kernel
theorem c2' (t : Fin cfg0.N) (h : k0_cond1 (grid0.coords t) = 1#1) : ¬ k0_cond2 (grid0.coords t) = 1#1 := c2 t ((c1 t).mp h)

abbrev scr : Memref sig .tc .vmem S16x1024x256 .bf16 := Memref.whole cc0_scratch0
theorem hscr : scr.IsWhole := Memref.isWhole_whole _

/-- Between two points: the scratch holds the masked copies of the last point's values. -/
def Phi (c : Dev nD) : (n : ℕ) → n ≤ cfg0.N → sProp 𝕄
  | 0, _ => Pipeline.ΦA spec0 c
  | n + 1, h => iprop(at_ c scr (hscr.unread (fillV (iblk m c 2 ⟨n, h⟩))) ∗ ∃ r, prngReg c r)

/-- The attention block a point leaves. -/
def attn (c : Dev nD) (t : Fin cfg0.N) : Vec F S1x256x256 .bf16 :=
  outB (iblk m c 0 t) (iblk m c 1 t) (iblk m c 3 t) (fillV (iblk m c 2 t)) (grid0.coords t 2).val

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => attn m c t
    | ⟨10, _⟩ => k0_pay204 (iblk m c 4 t)
    | ⟨11, _⟩ => k0_pay205 (iblk m c 5 t)
    | ⟨12, _⟩ => k0_pay206 (iblk m c 6 t)
    | ⟨13, _⟩ => k0_pay207 (iblk m c 7 t)
    | ⟨14, _⟩ => k0_pay208 (iblk m c 8 t)
    | ⟨_ + 15, h⟩ => absurd h (Nat.not_lt.2 (Nat.le_add_left _ _))
  Φ t := Phi m c t.val (Nat.le_of_lt_succ t.isLt)
  q := Pipeline.shareOf spec0
  owed _ := 0

theorem A_eq (c : Dev nD) (w : Fin cfg0.W) : (dats m 0 c).A w = V m c (Pipeline.arrRef spec0 w) := by
  dsimp only [dats]
theorem Phi_pre (c : Dev nD) (t : Fin cfg0.N) : (dats m 0 c).Φ t.castSucc = Phi m c t.val (Nat.le_of_lt t.isLt) := by
  dsimp only [dats]; exact Pipeline.Dat.Φ_castSucc (Phi m c) t
theorem Phi_post (c : Dev nD) (t : Fin cfg0.N) : (dats m 0 c).Φ t.succ
    = iprop(at_ c scr (hscr.unread (fillV (iblk m c 2 t))) ∗ ∃ r, prngReg c r) := by
  dsimp only [dats]; rfl

theorem at_scr (c : Dev nD) (X : Buf (Elt F) ((c : Thread nD τ).loc cc0_scratch0)) : (at_ c scr X : sProp 𝕄)
    = (((c : Thread nD τ).loc cc0_scratch0) ↦{fullShare} X) := by
  unfold at_
  simp only [Memref.view_whole, View.set_whole]

/-- The values' block stays while the query block moves. -/
theorem hold2 (c : Dev nD) (t : Fin cfg0.N) (h : t.val % 16 ≠ 0) :
    iblk m c 2 t = iblk m c 2 ⟨t.val - 1, Nat.lt_of_le_of_lt (Nat.sub_le _ _) t.isLt⟩ := by
  have hf : (cfg0.win 2).fetch t = false := by
    rw [← Bool.not_eq_true, fetch0_2]; exact h
  have e := before0_2_of m (dats m 0 c) (A_eq m c 2) (fun _ => rfl) t (iblk m c 2 t)
  rw [(dats m 0 c).before_unfetched_in 2 rfl t hf (fun _ => rfl)] at e
  exact e.symm

theorem Phi_succ (c : Dev nD) (n : ℕ) (h : n + 1 ≤ cfg0.N) : Phi m c (n + 1) h
    = iprop(at_ c scr (hscr.unread (fillV (iblk m c 2 ⟨n, h⟩))) ∗ ∃ r, prngReg c r) := rfl

/-- Before any point the scratch holds something. -/
theorem Phi_any (c : Dev nD) : ∀ (n : ℕ) (h : n ≤ cfg0.N), Phi m c n h ⊢ iprop((∃ X, at_ c scr X) ∗ ∃ r, prngReg c r)
  | 0, _ => by
    unfold Phi Pipeline.ΦA
    rw [scopedRest0_eq]
    simp only [at_scr]
    exact .rfl
  | n + 1, h => by
    rw [Phi_succ]
    iintro ⟨H, R⟩
    isplitl [H]
    · iexists _
      iexact H
    · iexact R

/-- Within a row of query blocks it holds the masked copies of the row's values. -/
theorem Phi_open (c : Dev nD) (t : Fin cfg0.N) : Phi m c t.val (Nat.le_of_lt t.isLt)
    ⊢ iprop(∃ X, ⌜¬ k0_cond1 (grid0.coords t) = 1#1 → X = hscr.unread (fillV (iblk m c 2 t))⌝ ∗ at_ c scr X ∗ ∃ r, prngReg c r) := by
  by_cases h : t.val % 16 = 0
  · iintro H
    ihave H := Phi_any m c t.val (Nat.le_of_lt t.isLt) $$ H
    icases H with ⟨⟨%X, H⟩, R⟩
    iexists X
    isplitr
    · ipureintro
      exact fun hn => absurd ((c1 t).mpr h) hn
    · isplitl [H]
      · iexact H
      · iexact R
  · rw [hold2 m c t h]
    obtain ⟨n, hn⟩ := t
    cases n with
    | zero => exact absurd rfl h
    | succ n =>
      rw [show (⟨n + 1 - 1, Nat.lt_of_le_of_lt (Nat.sub_le _ _) hn⟩ : Fin cfg0.N) = ⟨n, Nat.lt_of_succ_lt hn⟩ from Fin.ext (Nat.add_sub_cancel n 1)]
      rw [Phi_succ]
      iintro ⟨H, R⟩
      iexists _
      isplitr; swap
      · isplitl [H]
        · iexact H
        · iexact R
      · ipureintro
        exact fun _ => rfl

section Point

variable (c : Dev nD) (i : grid0.Coords)
  (a3 : Memref sig .tc .vmem S1x256x256 .bf16) (h3 : a3.IsWhole)
  (a4 : Memref sig .tc .vmem S1x4096x256 .bf16) (h4 : a4.IsWhole)
  (a5 : Memref sig .tc .vmem S1x4096x256 .bf16) (h5 : a5.IsWhole)
  (a6 : Memref sig .tc .vmem S256x256 .bf16) (h6 : a6.IsWhole)
  (a7 : Memref sig .tc .vmem S16x512 .f32) (h7 : a7.IsWhole)
  (a8 : Memref sig .tc .vmem S16x2048 .f32) (h8 : a8.IsWhole)
  (a9 : Memref sig .tc .vmem S16x5632 .f32) (h9 : a9.IsWhole)
  (a10 : Memref sig .tc .vmem S16x5632 .f32) (h10 : a10.IsWhole)
  (a11 : Memref sig .tc .vmem S176x512 .f32) (h11 : a11.IsWhole)
  (a12 : Memref sig .tc .vmem S1x256x256 .bf16) (h12 : a12.IsWhole)
  (a13 : Memref sig .tc .vmem S16x512 .bf16) (h13 : a13.IsWhole)
  (a14 : Memref sig .tc .vmem S16x2048 .bf16) (h14 : a14.IsWhole)
  (a15 : Memref sig .tc .vmem S16x5632 .bf16) (h15 : a15.IsWhole)
  (a16 : Memref sig .tc .vmem S16x5632 .bf16) (h16 : a16.IsWhole)
  (a17 : Memref sig .tc .vmem S176x512 .bf16) (h17 : a17.IsWhole)
  (a18 : Memref sig .tc .vmem S16x1024x256 .bf16) (h18 : a18.IsWhole)
  {q : Vec F S1x256x256 .bf16} {K : Vec F S1x4096x256 .bf16} {V : Vec F S1x4096x256 .bf16} {T : Vec F S256x256 .bf16} {W1 : Vec F S16x512 .f32} {W2 : Vec F S16x2048 .f32} {W3 : Vec F S16x5632 .f32} {W4 : Vec F S16x5632 .f32} {W5 : Vec F S176x512 .f32} {C : Vec F S16x1024x256 .bf16}
  {X12 : BufTy.Contents (Elt F) a12.view.ty} {X13 : BufTy.Contents (Elt F) a13.view.ty} {X14 : BufTy.Contents (Elt F) a14.view.ty} {X15 : BufTy.Contents (Elt F) a15.view.ty} {X16 : BufTy.Contents (Elt F) a16.view.ty} {X17 : BufTy.Contents (Elt F) a17.view.ty} {X18 : BufTy.Contents (Elt F) a18.view.ty}

/-- One point, whichever it is. -/
theorem point (h12' : k0_cond1 i = 1#1 → ¬ k0_cond2 i = 1#1) (hX : ¬ k0_cond1 i = 1#1 → X18 = h18.unread (fillV V)) :
   iprop(at_ c a3 (h3.unread q) ∗ at_ c a4 (h4.unread K) ∗ at_ c a5 (h5.unread V) ∗ at_ c a6 (h6.unread T) ∗ at_ c a7 (h7.unread W1) ∗ at_ c a8 (h8.unread W2) ∗ at_ c a9 (h9.unread W3) ∗ at_ c a10 (h10.unread W4) ∗ at_ c a11 (h11.unread W5) ∗ at_ c a12 X12 ∗ at_ c a13 X13 ∗ at_ c a14 X14 ∗ at_ c a15 X15 ∗ at_ c a16 X16 ∗ at_ c a17 X17 ∗ at_ c a18 X18)
   ⊢ wp frame (wpE (defs₀ (F := F)) Variants.none (c : Thread nD τ) none) Set.univ (cc0_attn (F := F) i a3 h3 a4 h4 a5 h5 a6 h6 a7 h7 a8 h8 a9 h9 a10 h10 a11 h11 a12 h12 a13 h13 a14 h14 a15 h15 a16 h16 a17 h17 a18 h18)
     (fun _ => iprop(at_ c a3 (h3.unread q) ∗ at_ c a4 (h4.unread K) ∗ at_ c a5 (h5.unread V) ∗ at_ c a6 (h6.unread T) ∗ at_ c a7 (h7.unread W1) ∗ at_ c a8 (h8.unread W2) ∗ at_ c a9 (h9.unread W3) ∗ at_ c a10 (h10.unread W4) ∗ at_ c a11 (h11.unread W5) ∗ at_ c a13 (h13.unread (k0_pay204 W1)) ∗ at_ c a14 (h14.unread (k0_pay205 W2)) ∗ at_ c a15 (h15.unread (k0_pay206 W3)) ∗ at_ c a16 (h16.unread (k0_pay207 W4)) ∗ at_ c a17 (h17.unread (k0_pay208 W5)) ∗ at_ c a12 (h12.unread (outB q K T (fillV V) (i 2).val)) ∗ at_ c a18 (h18.unread (fillV V)))) := by
  by_cases hc : k0_cond1 i = 1#1
  · exact run1 c i a3 h3 a4 h4 a5 h5 a6 h6 a7 h7 a8 h8 a9 h9 a10 h10 a11 h11 a12 h12 a13 h13 a14 h14 a15 h15 a16 h16 a17 h17 a18 h18 hc (h12' hc)
  · rw [hX hc]
    exact run0 c i a3 h3 a4 h4 a5 h5 a6 h6 a7 h7 a8 h8 a9 h9 a10 h10 a11 h11 a12 h12 a13 h13 a14 h14 a15 h15 a16 h16 a17 h17 a18 h18 hc

end Point

set_option maxHeartbeats 2000000 in
/-- The body obligation, by the point's own run. -/
theorem body_obligation (c : Dev nD) : Pipeline.BodyObligationLoose (dats m 0 c) (defs₀ (F := F)) Variants.none () Set.univ := fun t => by
  rw [bigSep_W0, bigSep_W0]
  dsimp only
  rw [Phi_pre, Phi_post]
  unfold Dat.owesAt Pipeline.owesWithin
  rw [show (dats m 0 c).owed t.castSucc = 0 from rfl, show (dats m 0 c).owed t.succ = 0 from rfl]
  unfold owns
  iintro ⟨HP, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩⟩
  rw [before0_0_of m (dats m 0 c) (A_eq m c 0) (fun _ => rfl)] at e0
  obtain rfl := (hstage0_0 ((cfg0.slots t 0).cast nbuf0_0)).eq_unread e0
  rw [before0_1_of m (dats m 0 c) (A_eq m c 1) (fun _ => rfl)] at e1
  obtain rfl := (hstage0_1 ((cfg0.slots t 1).cast nbuf0_1)).eq_unread e1
  rw [before0_2_of m (dats m 0 c) (A_eq m c 2) (fun _ => rfl)] at e2
  obtain rfl := (hstage0_2 ((cfg0.slots t 2).cast nbuf0_2)).eq_unread e2
  rw [before0_3_of m (dats m 0 c) (A_eq m c 3) (fun _ => rfl)] at e3
  obtain rfl := (hstage0_3 ((cfg0.slots t 3).cast nbuf0_3)).eq_unread e3
  rw [before0_4_of m (dats m 0 c) (A_eq m c 4) (fun _ => rfl)] at e4
  obtain rfl := (hstage0_4 ((cfg0.slots t 4).cast nbuf0_4)).eq_unread e4
  rw [before0_5_of m (dats m 0 c) (A_eq m c 5) (fun _ => rfl)] at e5
  obtain rfl := (hstage0_5 ((cfg0.slots t 5).cast nbuf0_5)).eq_unread e5
  rw [before0_6_of m (dats m 0 c) (A_eq m c 6) (fun _ => rfl)] at e6
  obtain rfl := (hstage0_6 ((cfg0.slots t 6).cast nbuf0_6)).eq_unread e6
  rw [before0_7_of m (dats m 0 c) (A_eq m c 7) (fun _ => rfl)] at e7
  obtain rfl := (hstage0_7 ((cfg0.slots t 7).cast nbuf0_7)).eq_unread e7
  rw [before0_8_of m (dats m 0 c) (A_eq m c 8) (fun _ => rfl)] at e8
  obtain rfl := (hstage0_8 ((cfg0.slots t 8).cast nbuf0_8)).eq_unread e8
  ihave HP := Phi_open m c t $$ HP
  icases HP with ⟨%X, %hX, H15, R⟩
  iapply (wp_wand_r Idealize.ShloMosaic.frame (wpE (defs₀ (F := F)) Variants.none (c : Thread nD τ) none) Set.univ)
  isplitr [HO R]
  · iapply (point c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) scr hscr (c2' t) hX)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %_ ⟨H0, H1, H2, H3, H4, H5, H6, H7, H8, H10, H11, H12, H13, H14, H9, H15⟩
  isplitl [H15 R]
  · isplitl [H15]
    · iexact H15
    · iexact R
  isplitl [HO]
  · iexists W
    isplitr
    · ipureintro; exact fun _ _ => Or.inl trivial
    · iexact HO
  isplitl [H0]
  · iexists _
    isplitr; swap; (· iexact H0)
    ipureintro
    exact (hstage0_0 ((cfg0.slots t 0).cast nbuf0_0)).read_unread _
  isplitl [H1]
  · iexists _
    isplitr; swap; (· iexact H1)
    ipureintro
    exact (hstage0_1 ((cfg0.slots t 1).cast nbuf0_1)).read_unread _
  isplitl [H2]
  · iexists _
    isplitr; swap; (· iexact H2)
    ipureintro
    exact (hstage0_2 ((cfg0.slots t 2).cast nbuf0_2)).read_unread _
  isplitl [H3]
  · iexists _
    isplitr; swap; (· iexact H3)
    ipureintro
    exact (hstage0_3 ((cfg0.slots t 3).cast nbuf0_3)).read_unread _
  isplitl [H4]
  · iexists _
    isplitr; swap; (· iexact H4)
    ipureintro
    exact (hstage0_4 ((cfg0.slots t 4).cast nbuf0_4)).read_unread _
  isplitl [H5]
  · iexists _
    isplitr; swap; (· iexact H5)
    ipureintro
    exact (hstage0_5 ((cfg0.slots t 5).cast nbuf0_5)).read_unread _
  isplitl [H6]
  · iexists _
    isplitr; swap; (· iexact H6)
    ipureintro
    exact (hstage0_6 ((cfg0.slots t 6).cast nbuf0_6)).read_unread _
  isplitl [H7]
  · iexists _
    isplitr; swap; (· iexact H7)
    ipureintro
    exact (hstage0_7 ((cfg0.slots t 7).cast nbuf0_7)).read_unread _
  isplitl [H8]
  · iexists _
    isplitr; swap; (· iexact H8)
    ipureintro
    exact (hstage0_8 ((cfg0.slots t 8).cast nbuf0_8)).read_unread _
  isplitl [H9]
  · iexists _
    isplitr; swap; (· iexact H9)
    ipureintro
    exact (hstage0_9 ((cfg0.slots t 9).cast nbuf0_9)).read_unread _
  isplitl [H10]
  · iexists _
    isplitr; swap; (· iexact H10)
    ipureintro
    exact (hstage0_10 ((cfg0.slots t 10).cast nbuf0_10)).read_unread _
  isplitl [H11]
  · iexists _
    isplitr; swap; (· iexact H11)
    ipureintro
    exact (hstage0_11 ((cfg0.slots t 11).cast nbuf0_11)).read_unread _
  isplitl [H12]
  · iexists _
    isplitr; swap; (· iexact H12)
    ipureintro
    exact (hstage0_12 ((cfg0.slots t 12).cast nbuf0_12)).read_unread _
  isplitl [H13]
  · iexists _
    isplitr; swap; (· iexact H13)
    ipureintro
    exact (hstage0_13 ((cfg0.slots t 13).cast nbuf0_13)).read_unread _
  iexists _
  isplitr; swap; (· iexact H14)
  ipureintro
  exact (hstage0_14 ((cfg0.slots t 14).cast nbuf0_14)).read_unread _

theorem at_last {α : Sort _} {N : Nat} (S : (n : Nat) → n ≤ N → α) : S (Fin.last N).val (Nat.le_of_lt_succ (Fin.last N).isLt) = S N le_rfl := rfl
theorem Phi_last (c : Dev nD) : (dats m 0 c).Φ (Fin.last cfg0.N) = Phi m c cfg0.N le_rfl := by
  dsimp only [dats]; exact at_last (Phi m c)
theorem Phi_out (c : Dev nD) : (dats m 0 c).Φ (Fin.last cfg0.N) ⊢ Pipeline.ΦA spec0 c := by
  rw [Phi_last]
  refine (Phi_any m c _ _).trans ?_
  unfold Pipeline.ΦA
  rw [scopedRest0_eq]
  simp only [at_scr]
  exact .rfl

/-- The run: every window's array at what the points leave it, every counter at zero. -/
theorem run : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ Variants.none m ρ main (body_obligation m)
    (fun _ _ _ => rfl) (fun _ _ => rfl) (V m) (hmain m Variants.none) (A_eq m)
    (fun _ => .rfl) (Phi_out m) _ (fun _ h => h)

end Cert.KernelIdeal.Run

end
-- ==== Proof.Frames.lean ====
/- The frames of the three programs and the meaning of the named constant. -/
module

public import proofs.«01_k».proof.Defs
public import proofs.«01_k».proof.Proof.Run
public import proofs.«01_k».proof.Proof.KernelRun
public import proofs.«01_k».proof.Proof.Gen.ReferenceIdeal.Run
public import Idealize.ShloMosaic.Lib.Quiescent

@[expose] public section

set_option maxRecDepth 16384

noncomputable section

namespace Cert.Proof.Claims

open Idealize.ShloMosaic Idealize.ShloMosaic.TcCoe
open Idealize.SL.Sem

theorem frame_p : Cert.quiescent_Kernel (hKernel := Cert.Kernel.Gen.facts) := fun m ρ _ =>
  (θ_run Cert.Kernel.defs _ _).mono (fun r h => ⟨fun c => ⟨((h.1 c).2 Cert.Kernel.main_arg0 (Pipeline.mem_restRefs_of Cert.Kernel.main_arg0 (by decide) (by decide))).trans (Cert.Kernel.Gen.V_main_arg0 m c),
      ((h.1 c).2 Cert.Kernel.main_arg1 (Pipeline.mem_restRefs_of Cert.Kernel.main_arg1 (by decide) (by decide))).trans (Cert.Kernel.Gen.V_main_arg1 m c),
      ((h.1 c).2 Cert.Kernel.main_arg2 (Pipeline.mem_restRefs_of Cert.Kernel.main_arg2 (by decide) (by decide))).trans (Cert.Kernel.Gen.V_main_arg2 m c),
      ((h.1 c).1 4).trans (((Cert.Kernel.Run.dats m 0 c).arrAt_in 4 rfl _).trans ((Cert.Kernel.Run.A_eq m c 4).trans (Cert.Kernel.Gen.V_main_arg3 m c))),
      ((h.1 c).1 5).trans (((Cert.Kernel.Run.dats m 0 c).arrAt_in 5 rfl _).trans ((Cert.Kernel.Run.A_eq m c 5).trans (Cert.Kernel.Gen.V_main_arg4 m c))),
      ((h.1 c).1 6).trans (((Cert.Kernel.Run.dats m 0 c).arrAt_in 6 rfl _).trans ((Cert.Kernel.Run.A_eq m c 6).trans (Cert.Kernel.Gen.V_main_arg5 m c))),
      ((h.1 c).1 7).trans (((Cert.Kernel.Run.dats m 0 c).arrAt_in 7 rfl _).trans ((Cert.Kernel.Run.A_eq m c 7).trans (Cert.Kernel.Gen.V_main_arg6 m c))),
      ((h.1 c).1 8).trans (((Cert.Kernel.Run.dats m 0 c).arrAt_in 8 rfl _).trans ((Cert.Kernel.Run.A_eq m c 8).trans (Cert.Kernel.Gen.V_main_arg7 m c)))⟩, h.2⟩)
    (Cert.Kernel.Run.run m ρ)

theorem frame_pi : Cert.quiescent_KernelIdeal (hKernelIdeal := Cert.KernelIdeal.Gen.facts) := fun m ρ _ =>
  (θ_run Cert.KernelIdeal.defs _ _).mono (fun r h => ⟨fun c => ⟨((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).1 4).trans (((Cert.KernelIdeal.Run.dats m 0 c).arrAt_in 4 rfl _).trans ((Cert.KernelIdeal.Run.A_eq m c 4).trans (Cert.KernelIdeal.Gen.V_main_arg3 m c))),
      ((h.1 c).1 5).trans (((Cert.KernelIdeal.Run.dats m 0 c).arrAt_in 5 rfl _).trans ((Cert.KernelIdeal.Run.A_eq m c 5).trans (Cert.KernelIdeal.Gen.V_main_arg4 m c))),
      ((h.1 c).1 6).trans (((Cert.KernelIdeal.Run.dats m 0 c).arrAt_in 6 rfl _).trans ((Cert.KernelIdeal.Run.A_eq m c 6).trans (Cert.KernelIdeal.Gen.V_main_arg5 m c))),
      ((h.1 c).1 7).trans (((Cert.KernelIdeal.Run.dats m 0 c).arrAt_in 7 rfl _).trans ((Cert.KernelIdeal.Run.A_eq m c 7).trans (Cert.KernelIdeal.Gen.V_main_arg6 m c))),
      ((h.1 c).1 8).trans (((Cert.KernelIdeal.Run.dats m 0 c).arrAt_in 8 rfl _).trans ((Cert.KernelIdeal.Run.A_eq m c 8).trans (Cert.KernelIdeal.Gen.V_main_arg7 m c)))⟩, h.2⟩)
    (Cert.KernelIdeal.Run.run m ρ)

theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The named constant is the reciprocal of the natural logarithm of 2. -/
theorem preserves : Cert.preserves_Kernel_KernelIdeal :=
  IdealRules.named_const.statement Cert.KernelIdeal.κ "log2e" .f32 0x3FB8AA3B#32 (((Real.log 2)⁻¹ : ℝ) : EReal) rfl

end Cert.Proof.Claims

end
-- ==== Proof.Pay.lean ====
/- What one block of keys contributes, read off at an index: logits, log-weights, weights, and the two accumulations. -/
module

public import proofs.«01_k».proof.Proof.Body
public import Idealize.ShloMosaic.Lib.Pointwise

@[expose] public section

set_option maxRecDepth 16384
set_option maxHeartbeats 4000000

noncomputable section

namespace Cert.KernelIdeal.Val

open Cert.KernelIdeal Cert.KernelIdeal.Gen Cert.KernelIdeal.Run
open Idealize.ShloMosaic

/-- Row `t` of head `h` among the stacked rows. -/
def row (h : Fin 4) (t : Fin 256) : Fin 1024 := ⟨256 * h.val + t.val, by omega⟩

theorem sum_rows {M : Type} [AddCommMonoid M] (f : Fin 1024 → M) : ∑ x, f x = ∑ h : Fin 4, ∑ s : Fin 256, f (row h s) := by
  rw [← Finset.sum_product', Finset.univ_product_univ]
  refine (Fintype.sum_equiv (finProdFinEquiv (m := 4) (n := 256)) _ _ fun p => ?_).symm
  refine congrArg f (Fin.ext ?_)
  show 256 * p.1.val + p.2.val = p.2.val + 256 * p.1.val
  omega

theorem pick {M : Type} [AddCommMonoid M] (l : Fin 256) (f : Fin 4 → M) :
    (∑ h : Fin 4, if l.val / 64 = h.val then f h else 0) = f ⟨l.val / 64, by omega⟩ := by
  rw [Finset.sum_eq_single (⟨l.val / 64, by omega⟩ : Fin 4)]
  · rw [if_pos rfl]
  · intro b _ hb
    rw [if_neg]
    intro e
    exact hb (Fin.ext e.symm)
  · intro h; exact absurd (Finset.mem_univ _) h

theorem z_apply (qs : FVec Ideal S1024x256 .bf16) (kbl : Vec Ideal S1x256x256 .bf16) (r : Fin 1024) (s : Fin 256) :
    k0_pay64 (F := Ideal) qs kbl (ix2 r s) = ∑ l : Fin 256, qs (ix2 r l) * kbl (ix3 0 s l) := by
  pointwise [k0_pay64]

theorem z_apply' (qs : FVec Ideal S1024x256 .bf16) (kbl : Vec Ideal S1x256x256 .bf16) (r : Fin 1024) (s : Fin 256) :
    k0_pay60 (F := Ideal) qs kbl (ix2 r s) = ∑ l : Fin 256, qs (ix2 r l) * kbl (ix3 0 s l) := by
  pointwise [k0_pay60]

theorem cs_apply (qs : FVec Ideal S1024x256 .bf16) (kbl : Vec Ideal S1x256x256 .bf16) (T : Vec Ideal S256x256 .bf16) (r : Fin 1024) (s : Fin 256) :
    k0_pay66 (F := Ideal) qs kbl T (ix2 r s) = ∑ i : Fin 256, k0_pay65 (F := Ideal) qs kbl (ix2 r i) * T (ix2 i s) := by
  pointwise [k0_pay66]

theorem cs_apply' (qs : FVec Ideal S1024x256 .bf16) (p : IVec S1024x256 1) (kbl : Vec Ideal S1x256x256 .bf16) (T : Vec Ideal S256x256 .bf16) (r : Fin 1024) (s : Fin 256) :
    k0_pay62 (F := Ideal) qs p kbl T (ix2 r s) = ∑ i : Fin 256, k0_pay61 (F := Ideal) qs p kbl (ix2 r i) * T (ix2 i s) := by
  pointwise [k0_pay62]

/-- The kernel's softplus in base two, as it computes it. -/
def soft2 (z : EReal) : EReal := max z 0 + Ideal.log (1 + Ideal.exp2 (0 - max z (-z))) * ((Real.log 2)⁻¹ : ℝ)

theorem log2e : (Named.named κ "log2e" 0x3FB8AA3B#32 : Ideal .f32) = ((Real.log 2)⁻¹ : ℝ) :=
  IdealRules.named_const.ideal_named_scalar _ _ _ _ rfl

theorem sp_apply (qs : FVec Ideal S1024x256 .bf16) (kbl : Vec Ideal S1x256x256 .bf16) (r : Fin 1024) (s : Fin 256) :
    k0_pay65 (F := Ideal) qs kbl (ix2 r s) = soft2 (k0_pay64 (F := Ideal) qs kbl (ix2 r s)) := by
  pointwise [k0_pay65]
  rw [log2e]; rfl

theorem sp_apply' (qs : FVec Ideal S1024x256 .bf16) (p : IVec S1024x256 1) (kbl : Vec Ideal S1x256x256 .bf16) (r : Fin 1024) (s : Fin 256) :
    k0_pay61 (F := Ideal) qs p kbl (ix2 r s) = Scalar.select (p (ix2 r s)) (soft2 (k0_pay60 (F := Ideal) qs kbl (ix2 r s))) 0 := by
  pointwise [k0_pay61]
  rw [log2e]; rfl

theorem carry_apply (c : FVec Ideal S1024x1 .f32) (qs : FVec Ideal S1024x256 .bf16) (kbl : Vec Ideal S1x256x256 .bf16) (T : Vec Ideal S256x256 .bf16) (r : Fin 1024) :
    k0_pay70 (F := Ideal) c (k0_pay68 qs kbl T) (k0_pay69 qs kbl) (ix2 r 0)
      = c (ix2 r 0) + (k0_pay66 (F := Ideal) qs kbl T (ix2 r 0) + k0_pay65 (F := Ideal) qs kbl (ix2 r 0)) := by
  pointwise [k0_pay70, k0_pay68, k0_pay69]

theorem carry_apply' (a b : FVec Ideal S1024x256 .f32) (r : Fin 1024) :
    k0_pay221 (F := Ideal) k0_pay59 a b (ix2 r 0) = b (ix2 r 0) + a (ix2 r 0) := by
  pointwise [k0_pay221, k0_pay59]

/-- The weight of one key in a block wholly in the past. -/
def wt (qs : FVec Ideal S1024x256 .bf16) (c : FVec Ideal S1024x1 .f32) (kbl : Vec Ideal S1x256x256 .bf16) (T : Vec Ideal S256x256 .bf16) (r : Fin 1024) (s : Fin 256) : EReal :=
  Ideal.exp2 (k0_pay64 (F := Ideal) qs kbl (ix2 r s) - k0_pay65 (F := Ideal) qs kbl (ix2 r s) - k0_pay66 (F := Ideal) qs kbl T (ix2 r s) - c (ix2 r 0))

/-- The weight of one key in the block on the diagonal. -/
def wd (qs : FVec Ideal S1024x256 .bf16) (p : IVec S1024x256 1) (kbl : Vec Ideal S1x256x256 .bf16) (T : Vec Ideal S256x256 .bf16) (r : Fin 1024) (s : Fin 256) : EReal :=
  Scalar.select (p (ix2 r s)) (Ideal.exp2 (k0_pay60 (F := Ideal) qs kbl (ix2 r s) - k0_pay61 (F := Ideal) qs p kbl (ix2 r s) - k0_pay62 (F := Ideal) qs p kbl T (ix2 r s) - 0)) 0

theorem row_val (h : Fin 4) (s : Fin 256) : (row h s).val = 256 * h.val + s.val := rfl

theorem sel_bool {α : Type} (p : Prop) [Decidable p] (a b : α) : Scalar.select (BitVec.ofBool (decide p)) a b = if p then a else b := by
  by_cases h : p <;> simp [h, Scalar.select]

theorem lane0 : ∀ l : Fin 256, IntOp.andi (IntOp.cmpi .sge (BitVec.ofNat 32 l.val) 0#32) (IntOp.cmpi .slt (BitVec.ofNat 32 l.val) 64#32) = BitVec.ofBool (decide (l.val / 64 = 0)) := by decide +kernel
theorem lane1 : ∀ l : Fin 256, IntOp.andi (IntOp.cmpi .sge (BitVec.ofNat 32 l.val) 64#32) (IntOp.cmpi .slt (BitVec.ofNat 32 l.val) 128#32) = BitVec.ofBool (decide (l.val / 64 = 1)) := by decide +kernel
theorem lane2 : ∀ l : Fin 256, IntOp.andi (IntOp.cmpi .sge (BitVec.ofNat 32 l.val) 128#32) (IntOp.cmpi .slt (BitVec.ofNat 32 l.val) 192#32) = BitVec.ofBool (decide (l.val / 64 = 2)) := by decide +kernel
theorem lane3 : ∀ l : Fin 256, IntOp.andi (IntOp.cmpi .sge (BitVec.ofNat 32 l.val) 192#32) (IntOp.cmpi .slt (BitVec.ofNat 32 l.val) 256#32) = BitVec.ofBool (decide (l.val / 64 = 3)) := by decide +kernel

/-- The row number of a row of head `h`, head by head. -/
theorem row_cases (h : Fin 4) (t : Fin 256) (r : Fin 1024) (e : r = row h t) :
    (h.val = 0 ∧ r.val = t.val) ∨ (h.val = 1 ∧ r.val = 256 + t.val) ∨ (h.val = 2 ∧ r.val = 512 + t.val) ∨ (h.val = 3 ∧ r.val = 768 + t.val) := by
  subst e
  have := row_val h t
  omega

theorem acc_apply (qs : FVec Ideal S1024x256 .bf16) (c : FVec Ideal S1024x1 .f32) (a : FVec Ideal S256x256 .f32) (kbl : Vec Ideal S1x256x256 .bf16) (T : Vec Ideal S256x256 .bf16)
    (vbl : Vec Ideal S1x1024x256 .bf16) (t : Fin 256) (l : Fin 256) :
    k0_pay67 (F := Ideal) qs c a kbl T vbl (ix2 t l) = a (ix2 t l) + ∑ h : Fin 4, ∑ s : Fin 256, wt qs c kbl T (row h t) s * vbl (ix3 0 (row h s) l) := by
  pointwise [k0_pay67]
  rw [sum_rows]
  refine congrArg (a (ix2 t l) + ·) (Finset.sum_congr rfl fun h _ => Finset.sum_congr rfl fun s _ => congrArg (· * vbl (ix3 0 (row h s) l)) ?_)
  have hs := s.isLt
  have hk : ∀ (r r' : Fin 1024) (i i' : Fin 256), r.val = r'.val → i.val = i'.val → wt qs c kbl T r i = wt qs c kbl T r' i' := fun r r' i i' e1 e2 => by
    rw [Fin.ext e1, Fin.ext e2]
  have hr := row_cases h t (row h t) rfl
  generalize row h t = r at hr ⊢
  have hv := row_cases h s (row h s) rfl
  generalize row h s = x at hv ⊢
  rcases hv with ⟨hh, hv⟩ | ⟨hh, hv⟩ | ⟨hh, hv⟩ | ⟨hh, hv⟩ <;> split_ifs <;> first
    | (exfalso; omega)
    | (exact hk _ _ _ _ (by simp; omega) (by simp; omega))

theorem acc_apply' (qs : FVec Ideal S1024x256 .bf16) (p : IVec S1024x256 1) (kbl : Vec Ideal S1x256x256 .bf16) (T : Vec Ideal S256x256 .bf16)
    (vbl : Vec Ideal S1x1024x256 .bf16) (t : Fin 256) (l : Fin 256) :
    k0_pay63 (F := Ideal) qs p kbl T vbl (ix2 t l) = ∑ h : Fin 4, ∑ s : Fin 256, wd qs p kbl T (row h t) s * vbl (ix3 0 (row h s) l) := by
  pointwise [k0_pay63, k0_pay59]
  rw [sum_rows]
  refine Finset.sum_congr rfl fun h _ => Finset.sum_congr rfl fun s _ => congrArg (· * vbl (ix3 0 (row h s) l)) ?_
  have hs := s.isLt
  have hk : ∀ (r r' : Fin 1024) (i i' : Fin 256), r.val = r'.val → i.val = i'.val → wd qs p kbl T r i = wd qs p kbl T r' i' := fun r r' i i' e1 e2 => by
    rw [Fin.ext e1, Fin.ext e2]
  simp only [wd, sub_zero] at hk ⊢
  have hr := row_cases h t (row h t) rfl
  generalize row h t = r at hr ⊢
  have hv := row_cases h s (row h s) rfl
  generalize row h s = x at hv ⊢
  rcases hv with ⟨hh, hv⟩ | ⟨hh, hv⟩ | ⟨hh, hv⟩ | ⟨hh, hv⟩ <;> split_ifs <;> first
    | (exfalso; omega)
    | (exact hk _ _ _ _ (by simp; omega) (by simp; omega))

theorem qs_apply (q : Vec Ideal S1x256x256 .bf16) (h : Fin 4) (t l : Fin 256) :
    qsOf (F := Ideal) q (ix2 (row h t) l) = if l.val / 64 = h.val then q (ix3 0 t l) else 0 := by
  have ht := t.isLt
  have hv := row_cases h t (row h t) rfl
  generalize row h t = r at hv ⊢
  pointwise [qsOf, k0_pay217, k0_pay209, k0_pay210, k0_pay211, k0_pay212, k0_pay213, k0_pay214, k0_pay215]
  simp only [lane0, lane1, lane2, lane3, sel_bool]
  rcases hv with ⟨hh, hv⟩ | ⟨hh, hv⟩ | ⟨hh, hv⟩ | ⟨hh, hv⟩ <;> rw [hh] <;> split_ifs <;> first
    | rfl
    | (exfalso; omega)
    | (refine congrArg (fun i => q (ix3 0 i l)) (Fin.ext ?_); simp; omega)

theorem fill_apply (v : Vec Ideal S1x256x256 .bf16) (h : Fin 4) (t l : Fin 256) :
    fillB (F := Ideal) v (ix3 0 (row h t) l) = if l.val / 64 = h.val then v (ix3 0 t l) else 0 := by
  have ht := t.isLt
  have hv := row_cases h t (row h t) rfl
  generalize row h t = r at hv ⊢
  pointwise [fillB, k0_pay216, k0_pay210, k0_pay211, k0_pay212, k0_pay213, k0_pay214, k0_pay215]
  simp only [lane0, lane1, lane2, lane3, sel_bool]
  rcases hv with ⟨hh, hv⟩ | ⟨hh, hv⟩ | ⟨hh, hv⟩ | ⟨hh, hv⟩ <;> rw [hh] <;> split_ifs <;> first
    | rfl
    | (exfalso; omega)
    | (refine congrArg (fun i => v (ix3 0 i l)) (Fin.ext ?_); simp; omega)

theorem past_apply (h : Fin 4) (t s : Fin 256) : k0_pay218 (ix2 (row h t) s) = BitVec.ofBool (decide (s.val < t.val)) := by
  have ht := t.isLt
  have hs := s.isLt
  have hv := row_cases h t (row h t) rfl
  generalize row h t = r at hv ⊢
  pointwise [k0_pay218]
  have key : ∀ n, n = t.val → IntOp.cmpi .slt (BitVec.ofNat 32 s.val) (BitVec.ofNat 32 n) = BitVec.ofBool (decide (s.val < t.val)) := fun n e => by
    subst e; exact WordCmp.cmpi_slt_ofNat (by omega) (by omega)
  rcases hv with ⟨hh, hv⟩ | ⟨hh, hv⟩ | ⟨hh, hv⟩ | ⟨hh, hv⟩ <;> split_ifs <;> first
    | (exfalso; omega)
    | exact key _ (by omega)

end Cert.KernelIdeal.Val
-- ==== Proof.Walk.lean ====
/- The walk over the blocks of keys, right to left: after it a query's accumulator holds the weighted sum of all the
   values, every key's weight being two to the power of its logit less the softplus of every key from it up to the query. -/
module

public import proofs.«01_k».proof.Proof.Pay

@[expose] public section

set_option maxRecDepth 16384

noncomputable section

namespace Cert.KernelIdeal.Val

open Cert.KernelIdeal Cert.KernelIdeal.Gen Cert.KernelIdeal.Run
open Idealize.ShloMosaic

/-! ### Sums over blocks -/

section Sums

variable {M : Type} [AddCommMonoid M] (f : ℕ → M)

theorem sum_block (j : ℕ) : ∑ s : Fin 256, f (256 * j + s.val) = ∑ S ∈ Finset.Ico (256 * j) (256 * (j + 1)), f S := by
  rw [Finset.sum_Ico_eq_sum_range, show 256 * (j + 1) - 256 * j = 256 by omega, Finset.sum_range]

theorem sum_split (j : ℕ) (hj : j < 16) :
    ∑ S ∈ Finset.Ico (256 * j) 4096, f S = ∑ s : Fin 256, f (256 * j + s.val) + ∑ S ∈ Finset.Ico (256 * (j + 1)) 4096, f S := by
  rw [sum_block, Finset.sum_Ico_consecutive _ (by omega) (by omega)]

theorem sum_tail (j : ℕ) (s : Fin 256) :
    (∑ i : Fin 256, if s.val < i.val then f (256 * j + i.val) else 0) = ∑ S ∈ Finset.Ico (256 * j + s.val + 1) (256 * (j + 1)), f S := by
  have e : ∀ i : Fin 256, (if s.val < i.val then f (256 * j + i.val) else 0) = (fun S => if 256 * j + s.val < S then f S else 0) (256 * j + i.val) := fun i => by
    by_cases h : s.val < i.val
    · rw [if_pos h]; exact (if_pos (by omega)).symm
    · rw [if_neg h]; exact (if_neg (by omega)).symm
  rw [Finset.sum_congr rfl fun i _ => e i, sum_block (fun S => if 256 * j + s.val < S then f S else 0), ← Finset.sum_filter]
  refine Finset.sum_congr (Finset.ext fun x => ?_) fun _ _ => rfl
  simp only [Finset.mem_filter, Finset.mem_Ico]
  omega

end Sums

/-! ### Weights -/

/-- The exponential of a negated magnitude, in base two. -/
theorem exp2_abs (z : EReal) : ∃ e : ℝ, 0 ≤ e ∧ Ideal.exp2 (0 - max z (-z)) = (e : EReal) := by
  induction z using EReal.rec with
  | bot => exact ⟨0, le_refl _, by simp⟩
  | top => exact ⟨0, le_refl _, by simp⟩
  | coe x =>
    refine ⟨Real.rpow 2 (0 - max x (-x)), Real.rpow_nonneg (by norm_num) _, ?_⟩
    have h : (0 : EReal) - max (x : EReal) (-(x : EReal)) = ((0 - max x (-x) : ℝ) : EReal) := by
      rw [EReal.coe_sub, EReal.coe_zero, ← EReal.coe_neg, EReal.coe_strictMono.monotone.map_max]
    rw [h, Ideal.exp2_coe]

theorem log_one_add (e : ℝ) (h : 0 ≤ e) : Ideal.log (1 + (e : EReal)) = ((Real.log (1 + e) : ℝ) : EReal) := by
  rw [← EReal.coe_one, ← EReal.coe_add, Ideal.log_coe, if_neg (by linarith)]
  try simp

theorem soft2_nonneg (z : EReal) : 0 ≤ soft2 z := by
  obtain ⟨e, he, h⟩ := exp2_abs z
  unfold soft2
  rw [h, log_one_add e he]
  refine add_nonneg (le_max_right _ _) ?_
  exact mul_nonneg (EReal.coe_nonneg.2 (Real.log_nonneg (by linarith))) (EReal.coe_nonneg.2 (inv_nonneg.2 (Real.log_nonneg (by norm_num))))

theorem sub_sub_nonneg (a b c : EReal) (hb : 0 ≤ b) (hc : 0 ≤ c) : a - b - c = a - (b + c) := by
  have h1 : b ≠ ⊥ := fun h => by simp [h] at hb
  have h2 : c ≠ ⊥ := fun h => by simp [h] at hc
  rw [sub_eq_add_neg, sub_eq_add_neg, sub_eq_add_neg, EReal.neg_add (Or.inl h1) (Or.inr h2), sub_eq_add_neg, add_assoc]

/-- The softplus of key `S`, if it is in the query's past. -/
def gk (Z : ℕ → EReal) (Q S : ℕ) : EReal := if S < Q then soft2 (Z S) else 0

/-- The sum of the softplus of the keys after `S`. -/
def rest (Z : ℕ → EReal) (Q S : ℕ) : EReal := ∑ j ∈ Finset.Ico (S + 1) 4096, gk Z Q j

/-- The weight of key `S`. -/
def wk (Z : ℕ → EReal) (Q S : ℕ) : EReal := if S < Q then Ideal.exp2 (Z S - soft2 (Z S) - rest Z Q S) else 0

theorem gk_nonneg (Z : ℕ → EReal) (Q S : ℕ) : 0 ≤ gk Z Q S := by
  unfold gk; split
  · exact soft2_nonneg _
  · exact le_refl _

/-- Row `S` of a group's keys or values. -/
def kAt (K : Vec Ideal S1x4096x256 .bf16) (S : ℕ) (l : Fin 256) : EReal := K (ix3 0 ⟨S % 4096, Nat.mod_lt _ (by norm_num)⟩ l)

/-- The logit of key `S` for row `t` of the block of queries, in head `h`. -/
def logit (q : Vec Ideal S1x256x256 .bf16) (K : Vec Ideal S1x4096x256 .bf16) (h : ℕ) (t : Fin 256) (S : ℕ) : EReal :=
  ∑ l : Fin 256, (if l.val / 64 = h then q (ix3 0 t l) else 0) * kAt K S l

theorem kb_apply (K : Vec Ideal S1x4096x256 .bf16) (j : ℕ) (hj : j < 16) (s l : Fin 256) : kb (F := Ideal) K j (ix3 0 s l) = kAt K (256 * j + s.val) l := by
  pointwise [kb]
  unfold kAt
  refine congrArg (fun i => K (ix3 0 i l)) (Fin.ext ?_)
  show 256 * (j % 16) + s.val = (256 * j + s.val) % 4096
  omega

theorem vb_apply (V : Vec Ideal S1x4096x256 .bf16) (j : ℕ) (hj : j < 16) (h : Fin 4) (s l : Fin 256) :
    vb (F := Ideal) (fillV V) j (ix3 0 (row h s) l) = if l.val / 64 = h.val then kAt V (256 * j + s.val) l else 0 := by
  rw [← kb_apply V j hj, ← fill_apply]
  pointwise [vb]
  exact congrArg (fun n => fillB (kb V n) (ix3 0 (row h s) l)) (Nat.mod_eq_of_lt hj)

section Walk

variable (q : Vec Ideal S1x256x256 .bf16) (K V : Vec Ideal S1x4096x256 .bf16) (T : Vec Ideal S256x256 .bf16)
  (hT : ∀ i s : Fin 256, T (ix2 i s) = if s.val < i.val then 1 else 0)

/-- What the walk holds once the blocks from `j` on are done. -/
structure Inv (n j : ℕ) (s : St Ideal) : Prop where
  carry : ∀ (h : Fin 4) (t : Fin 256), s.1 (ix2 (row h t) 0) = ∑ S ∈ Finset.Ico (256 * j) 4096, gk (logit q K h.val t) (256 * n + t.val) S
  acc : ∀ t l : Fin 256, s.2 (ix2 t l) = ∑ S ∈ Finset.Ico (256 * j) 4096, wk (logit q K (l.val / 64) t) (256 * n + t.val) S * kAt V S l

theorem z_at (j : ℕ) (hj : j < 16) (h : Fin 4) (t s : Fin 256) :
    k0_pay64 (F := Ideal) (qsOf q) (kb K j) (ix2 (row h t) s) = logit q K h.val t (256 * j + s.val) := by
  rw [z_apply]
  exact Finset.sum_congr rfl fun l _ => by rw [qs_apply, kb_apply K j hj]

theorem z_at' (j : ℕ) (hj : j < 16) (h : Fin 4) (t s : Fin 256) :
    k0_pay60 (F := Ideal) (qsOf q) (kb K j) (ix2 (row h t) s) = logit q K h.val t (256 * j + s.val) := by
  rw [z_apply']
  exact Finset.sum_congr rfl fun l _ => by rw [qs_apply, kb_apply K j hj]

theorem sp_at (n j : ℕ) (hj : j < 16) (hn : j < n) (h : Fin 4) (t s : Fin 256) :
    k0_pay65 (F := Ideal) (qsOf q) (kb K j) (ix2 (row h t) s) = gk (logit q K h.val t) (256 * n + t.val) (256 * j + s.val) := by
  rw [sp_apply, z_at q K j hj, gk, if_pos (by omega)]

theorem sp_at' (n : ℕ) (hn : n < 16) (h : Fin 4) (t s : Fin 256) :
    k0_pay61 (F := Ideal) (qsOf q) k0_pay218 (kb K n) (ix2 (row h t) s) = gk (logit q K h.val t) (256 * n + t.val) (256 * n + s.val) := by
  rw [sp_apply', z_at' q K n hn, past_apply, sel_bool, gk]
  exact if_congr (by omega) rfl rfl

include hT in
theorem cs_at (n j : ℕ) (hj : j < 16) (hn : j < n) (h : Fin 4) (t s : Fin 256) :
    k0_pay66 (F := Ideal) (qsOf q) (kb K j) T (ix2 (row h t) s) = ∑ S ∈ Finset.Ico (256 * j + s.val + 1) (256 * (j + 1)), gk (logit q K h.val t) (256 * n + t.val) S := by
  rw [cs_apply, ← sum_tail]
  refine Finset.sum_congr rfl fun i _ => ?_
  rw [sp_at q K n j hj hn, hT]
  split
  · exact mul_one _
  · exact mul_zero _

include hT in
theorem cs_at' (n : ℕ) (hn : n < 16) (h : Fin 4) (t s : Fin 256) :
    k0_pay62 (F := Ideal) (qsOf q) k0_pay218 (kb K n) T (ix2 (row h t) s) = ∑ S ∈ Finset.Ico (256 * n + s.val + 1) (256 * (n + 1)), gk (logit q K h.val t) (256 * n + t.val) S := by
  rw [cs_apply', ← sum_tail]
  refine Finset.sum_congr rfl fun i _ => ?_
  rw [sp_at' q K n hn, hT]
  split
  · exact mul_one _
  · exact mul_zero _

theorem after_block (Z : ℕ → EReal) (Q n j : ℕ) (hj : j < 16) (hQ : Q ≤ 4096) (s : Fin 256) (c : EReal)
    (hc : c = ∑ S ∈ Finset.Ico (256 * (j + 1)) 4096, gk Z Q S) (x : EReal) (hx : x = ∑ S ∈ Finset.Ico (256 * j + s.val + 1) (256 * (j + 1)), gk Z Q S) (a : EReal) :
    a - x - c = a - rest Z Q (256 * j + s.val) := by
  have hs := s.isLt
  rw [sub_sub_nonneg _ _ _ (hx ▸ Finset.sum_nonneg fun _ _ => gk_nonneg _ _ _) (hc ▸ Finset.sum_nonneg fun _ _ => gk_nonneg _ _ _), hx, hc, rest,
    Finset.sum_Ico_consecutive _ (by omega) (by omega)]

theorem first_of_block (Z : ℕ → EReal) (Q j : ℕ) (hj : j < 16) :
    ∑ S ∈ Finset.Ico (256 * (j + 1)) 4096, gk Z Q S + (∑ S ∈ Finset.Ico (256 * j + (0 : Fin 256).val + 1) (256 * (j + 1)), gk Z Q S + gk Z Q (256 * j + (0 : Fin 256).val))
      = ∑ S ∈ Finset.Ico (256 * j) 4096, gk Z Q S := by
  show _ + (∑ S ∈ Finset.Ico (256 * j + 1) _, _ + gk Z Q (256 * j)) = _
  rw [add_comm (∑ S ∈ Finset.Ico (256 * j + 1) _, _), ← Finset.sum_eq_sum_Ico_succ_bot (by omega), add_comm, Finset.sum_Ico_consecutive _ (by omega) (by omega)]

theorem none_after (Z : ℕ → EReal) (n : ℕ) (t : Fin 256) : ∑ S ∈ Finset.Ico (256 * (n + 1)) 4096, gk Z (256 * n + t.val) S = 0 :=
  Finset.sum_eq_zero fun S hS => by
    have := (Finset.mem_Ico.1 hS).1
    rw [gk, if_neg (by omega)]

include hT in
theorem inv_step (n j : ℕ) (hn : n < 16) (hj : j < n) (s : St Ideal) (hs : Inv q K V n (j + 1) s) :
    Inv q K V n j (step (qsOf q) K T (fillV V) j s) where
  carry h t := by
    show k0_pay70 (F := Ideal) s.1 _ _ _ = _
    rw [carry_apply, hs.carry, cs_at q K T hT n j (by omega) hj, sp_at q K n j (by omega) hj]
    exact first_of_block _ _ _ (by omega)
  acc t l := by
    show k0_pay67 (F := Ideal) _ _ _ _ _ _ _ = _
    rw [acc_apply, hs.acc, sum_split _ j (by omega), add_comm]
    refine congrArg (· + _) ?_
    have e : ∀ h : Fin 4, (∑ x : Fin 256, wt (qsOf q) s.1 (kb K j) T (row h t) x * vb (fillV V) j (ix3 0 (row h x) l))
        = if l.val / 64 = h.val then ∑ x : Fin 256, wt (qsOf q) s.1 (kb K j) T (row h t) x * kAt V (256 * j + x.val) l else 0 := fun h => by
      split
      · next hh => exact Finset.sum_congr rfl fun x _ => by rw [vb_apply V j (by omega), if_pos hh]
      · next hh => exact Finset.sum_eq_zero fun x _ => by rw [vb_apply V j (by omega), if_neg hh, mul_zero]
    rw [Finset.sum_congr rfl fun h _ => e h, pick]
    refine Finset.sum_congr rfl fun x _ => congrArg (· * _) ?_
    rw [wt, z_at q K j (by omega), sp_at q K n j (by omega) hj, wk, if_pos (by omega), gk, if_pos (by omega),
      after_block _ (256 * n + t.val) n j (by omega) (by omega) x _ (hs.carry _ _) _ (cs_at q K T hT n j (by omega) hj _ _ _)]

include hT in
theorem inv_diag (n : ℕ) (hn : n < 16) : Inv q K V n n (diagS (qsOf q) T (kb K n) (vb (fillV V) n)) where
  carry h t := by
    show k0_pay221 (F := Ideal) _ _ _ _ = _
    rw [carry_apply', cs_at' q K T hT n hn, sp_at' q K n hn, ← first_of_block _ _ _ hn, none_after, zero_add]
  acc t l := by
    show k0_pay63 (F := Ideal) _ _ _ _ _ _ = _
    rw [acc_apply', sum_split _ n hn, Finset.sum_eq_zero (s := Finset.Ico (256 * (n + 1)) 4096), add_zero]
    · have e : ∀ h : Fin 4, (∑ x : Fin 256, wd (qsOf q) k0_pay218 (kb K n) T (row h t) x * vb (fillV V) n (ix3 0 (row h x) l))
          = if l.val / 64 = h.val then ∑ x : Fin 256, wd (qsOf q) k0_pay218 (kb K n) T (row h t) x * kAt V (256 * n + x.val) l else 0 := fun h => by
        split
        · next hh => exact Finset.sum_congr rfl fun x _ => by rw [vb_apply V n hn, if_pos hh]
        · next hh => exact Finset.sum_eq_zero fun x _ => by rw [vb_apply V n hn, if_neg hh, mul_zero]
      rw [Finset.sum_congr rfl fun h _ => e h, pick]
      refine Finset.sum_congr rfl fun x _ => congrArg (· * _) ?_
      rw [wd, past_apply, sel_bool, wk]
      by_cases hx : x.val < t.val
      · rw [if_pos hx, if_pos (by omega), z_at' q K n hn, sp_at' q K n hn, gk, if_pos (by omega),
          after_block _ (256 * n + t.val) n n hn (by omega) x _ (none_after _ n t).symm _ (cs_at' q K T hT n hn _ _ _)]
      · rw [if_neg hx, if_neg (by omega)]
    · intro S hS
      have := (Finset.mem_Ico.1 hS).1
      rw [wk, if_neg (by omega), zero_mul]

include hT in
theorem inv_down (n : ℕ) (hn : n < 16) (s : St Ideal) (hs : Inv q K V n n s) : ∀ m, m ≤ n → Inv q K V n (n - m) (down (qsOf q) K T (fillV V) (n - 1) m s)
  | 0, _ => hs
  | m + 1, h => by
    have e := inv_down n hn s hs m (by omega)
    show Inv q K V n (n - (m + 1)) (step _ _ _ _ (n - 1 - m) _)
    rw [show n - 1 - m = n - (m + 1) by omega]
    exact inv_step q K V T hT n _ hn (by omega) _ (by rw [show n - (m + 1) + 1 = n - m by omega]; exact e)

include hT in
/-- A block of the output: each row the weighted sum of the values. -/
theorem outB_apply (n : ℕ) (hn : n < 16) (t l : Fin 256) :
    outB (F := Ideal) q K T (fillV V) n (ix3 0 t l) = ∑ S ∈ Finset.Ico 0 4096, wk (logit q K (l.val / 64) t) (256 * n + t.val) S * kAt V S l := by
  have e := (inv_down q K V T hT n hn _ (inv_diag q K V T hT n hn) n (le_refl _)).acc t l
  rw [Nat.sub_self] at e
  rw [← e]
  pointwise [outB, k0_pay5]

end Walk

end Cert.KernelIdeal.Val
-- ==== Proof.Scores.lean ====
/- The weights in base two and in base e: a key's weight as the kernel computes it is its weight as the definition of
   stick-breaking attention gives it, whatever the logits are, infinite ones included. -/
module

public import proofs.«01_k».proof.Proof.Walk

@[expose] public section

noncomputable section

namespace Cert.KernelIdeal.Val

open Idealize.ShloMosaic

/-- Natural softplus as the reference computes it. -/
def softE (u : EReal) : EReal := max u 0 + Ideal.log1p (Ideal.exp (-(max u (-u))))

theorem log2_pos : 0 < Real.log 2 := Real.log_pos (by norm_num)

theorem max_coe (a b : ℝ) : max (a : EReal) (b : EReal) = ((max a b : ℝ) : EReal) := (EReal.coe_strictMono.monotone.map_max).symm

theorem softE_coe (x : ℝ) : softE x = ((max x 0 + Real.log (1 + Real.exp (-max x (-x))) : ℝ) : EReal) := by
  unfold softE Ideal.log1p
  rw [← EReal.coe_neg, max_coe, ← EReal.coe_neg, Ideal.exp_coe, log_one_add _ (Real.exp_pos _).le, ← EReal.coe_zero, max_coe, EReal.coe_add]

theorem two_rpow (y : ℝ) : Real.rpow 2 y = Real.exp (Real.log 2 * y) := Real.rpow_def_of_pos (by norm_num) y

theorem soft2_coe (z : ℝ) : soft2 z = ((max z 0 + Real.log (1 + Real.exp (-(max z (-z) * Real.log 2))) * (Real.log 2)⁻¹ : ℝ) : EReal) := by
  unfold soft2
  rw [← EReal.coe_neg, max_coe, ← EReal.coe_zero, ← EReal.coe_sub, Ideal.exp2_coe, two_rpow, log_one_add _ (Real.exp_pos _).le, max_coe, ← EReal.coe_mul, ← EReal.coe_add,
    show Real.log 2 * (0 - max z (-z)) = -(max z (-z) * Real.log 2) by ring]

theorem soft2_top : soft2 ⊤ = ⊤ := by
  obtain ⟨e, he, h⟩ := exp2_abs ⊤
  unfold soft2
  rw [h, log_one_add e he, ← EReal.coe_mul, max_eq_left le_top, EReal.top_add_coe]

theorem soft2_bot : soft2 ⊥ = 0 := by
  unfold soft2
  rw [EReal.neg_bot, max_eq_right (show (⊥ : EReal) ≤ ⊤ from bot_le), max_eq_right bot_le, sub_eq_add_neg, EReal.neg_top, EReal.add_bot, Ideal.exp2_bot, ← EReal.coe_zero,
    log_one_add 0 (le_refl _), add_zero, Real.log_one, EReal.coe_zero, zero_mul, add_zero]

theorem softE_top : softE ⊤ = ⊤ := by
  unfold softE Ideal.log1p
  rw [max_eq_left (show -(⊤ : EReal) ≤ ⊤ from le_top), EReal.neg_top, Ideal.exp_bot, ← EReal.coe_zero, log_one_add 0 (le_refl _), max_eq_left le_top, EReal.top_add_coe]

theorem softE_bot : softE ⊥ = 0 := by
  unfold softE Ideal.log1p
  rw [EReal.neg_bot, max_eq_right (show (⊥ : EReal) ≤ ⊤ from bot_le), max_eq_right bot_le, EReal.neg_top, Ideal.exp_bot, ← EReal.coe_zero,
    log_one_add 0 (le_refl _), add_zero, Real.log_one, EReal.coe_zero, add_zero]

/-- The one softplus is the other in the other base. -/
theorem softE_mul (z : EReal) : softE (z * ((Real.log 2 : ℝ) : EReal)) = soft2 z * ((Real.log 2 : ℝ) : EReal) := by
  induction z using EReal.rec with
  | bot => rw [EReal.bot_mul_coe_of_pos log2_pos, softE_bot, soft2_bot, zero_mul]
  | top => rw [EReal.top_mul_coe_of_pos log2_pos, softE_top, soft2_top, EReal.top_mul_coe_of_pos log2_pos]
  | coe z =>
    rw [← EReal.coe_mul, softE_coe, soft2_coe, ← EReal.coe_mul]
    have h1 : max (z * Real.log 2) 0 = max z 0 * Real.log 2 := by rw [max_mul_of_nonneg _ _ log2_pos.le, zero_mul]
    have h2 : max (z * Real.log 2) (-(z * Real.log 2)) = max z (-z) * Real.log 2 := by rw [max_mul_of_nonneg _ _ log2_pos.le, neg_mul]
    rw [h1, h2, add_mul, inv_mul_cancel_right₀ log2_pos.ne']

/-- A key's weight, from the kernel's logit and the softplus of the keys after it, in either base. -/
theorem weight_eq (z R : EReal) (hR : 0 ≤ R) :
    Ideal.exp (-softE (-(z * ((Real.log 2 : ℝ) : EReal))) + ((-(soft2 z * ((Real.log 2 : ℝ) : EReal)) + -(R * ((Real.log 2 : ℝ) : EReal))) - -(soft2 z * ((Real.log 2 : ℝ) : EReal))))
      = Ideal.exp2 (z - soft2 z - R) := by
  induction z using EReal.rec with
  | bot => rw [EReal.bot_mul_coe_of_pos log2_pos, EReal.neg_bot, softE_top, EReal.neg_top, EReal.bot_add, Ideal.exp_bot, sub_eq_add_neg, sub_eq_add_neg, EReal.bot_add, EReal.bot_add, Ideal.exp2_bot]
  | top =>
    rw [soft2_top, EReal.top_mul_coe_of_pos log2_pos, EReal.neg_top, EReal.bot_add, sub_eq_add_neg ⊥, EReal.bot_add, EReal.add_bot, Ideal.exp_bot, sub_eq_add_neg, sub_eq_add_neg,
      EReal.neg_top, EReal.add_bot, EReal.bot_add, Ideal.exp2_bot]
  | coe z =>
    induction R using EReal.rec with
    | bot => exact absurd hR (by simp)
    | top =>
      rw [EReal.top_mul_coe_of_pos log2_pos, EReal.neg_top, EReal.add_bot, sub_eq_add_neg ⊥, EReal.bot_add, EReal.add_bot, Ideal.exp_bot, sub_eq_add_neg, EReal.neg_top, EReal.add_bot, Ideal.exp2_bot]
    | coe r =>
      rw [← softE_mul, ← EReal.coe_mul, ← EReal.coe_mul, ← EReal.coe_neg, softE_coe, softE_coe, soft2_coe]
      simp only [← EReal.coe_neg, ← EReal.coe_add, ← EReal.coe_sub]
      rw [Ideal.exp_coe, Ideal.exp2_coe, two_rpow]
      have h1 : max (z * Real.log 2) 0 = max z 0 * Real.log 2 := by rw [max_mul_of_nonneg _ _ log2_pos.le, zero_mul]
      have h2 : max (z * Real.log 2) (-(z * Real.log 2)) = max z (-z) * Real.log 2 := by rw [max_mul_of_nonneg _ _ log2_pos.le, neg_mul]
      have h3 : max (-(z * Real.log 2)) (- -(z * Real.log 2)) = max z (-z) * Real.log 2 := by rw [neg_neg, max_comm, h2]
      have h4 : max (-(z * Real.log 2)) 0 = max (z * Real.log 2) 0 - z * Real.log 2 := by
        rcases le_total 0 (z * Real.log 2) with h | h
        · rw [max_eq_right (by linarith), max_eq_left h, sub_self]
        · rw [max_eq_left (by linarith), max_eq_right h, zero_sub]
      rw [h3, h4, h1]
      congr 2
      field_simp
      ring

/-- A sum of nonnegative terms, each times a positive number and negated. -/
theorem neg_sum_mul {ι : Type} (s : Finset ι) (f : ι → EReal) (hf : ∀ i, 0 ≤ f i) (L : ℝ) (hL : 0 < L) :
    ∑ i ∈ s, -(f i * (L : EReal)) = -((∑ i ∈ s, f i) * (L : EReal)) := by
  classical
  induction s using Finset.induction_on with
  | empty => simp
  | insert a s ha ih =>
    have hs : 0 ≤ ∑ i ∈ s, f i := Finset.sum_nonneg fun i _ => hf i
    rw [Finset.sum_insert ha, Finset.sum_insert ha, ih, EReal.right_distrib_of_nonneg (hf a) hs]
    have h1 : f a * (L : EReal) ≠ ⊥ := fun h => by
      have := mul_nonneg (hf a) (EReal.coe_nonneg.2 hL.le); rw [h] at this; simp at this
    have h2 : (∑ i ∈ s, f i) * (L : EReal) ≠ ⊥ := fun h => by
      have := mul_nonneg hs (EReal.coe_nonneg.2 hL.le); rw [h] at this; simp at this
    rw [EReal.neg_add (Or.inl h1) (Or.inr h2), sub_eq_add_neg]

/-- A sum times a positive number. -/
theorem sum_mul_pos {ι : Type} (s : Finset ι) (f : ι → EReal) (L : ℝ) (hL : 0 < L) :
    (∑ i ∈ s, f i) * (L : EReal) = ∑ i ∈ s, f i * (L : EReal) := by
  classical
  induction s using Finset.induction_on with
  | empty => simp
  | insert a s ha ih =>
    rw [Finset.sum_insert ha, Finset.sum_insert ha, ← ih, mul_comm, EReal.left_distrib_of_nonneg_of_ne_top (EReal.coe_nonneg.2 hL.le) (EReal.coe_ne_top _), mul_comm, mul_comm (L : EReal)]

end Cert.KernelIdeal.Val
-- ==== Proof.Ref.lean ====
/- The reference's attention read off at an index. -/
module

public import proofs.«01_k».proof.Proof.Scores
public import proofs.«01_k».proof.Proof.Gen.ReferenceIdeal.Run

@[expose] public section

set_option maxRecDepth 16384

noncomputable section

namespace Cert.ReferenceIdeal.Val

open Cert.ReferenceIdeal Cert.ReferenceIdeal.Gen
open Cert.KernelIdeal.Val (softE soft2 gk wk rest gk_nonneg weight_eq neg_sum_mul softE_mul log2_pos sel_bool)
open Idealize.ShloMosaic

abbrev Big := FVec Ideal S2x16x4096x4096 .f32

def zeros : Big := broadcastInDim S2x16x4096x4096 ![] bcast_S_S2x16x4096x4096 (constant S_ .f32 0x00000000#32)

/-- The logits. -/
def zR (q k : FVec Ideal S2x4096x16x64 .f32) : Big :=
  Host.dotGeneral dot_S2x4096x16x64_S2x4096x16x64_S2x16x4096x4096_3_3_1_1_02_02 none (mulf q (broadcastInDim S2x4096x16x64 ![] bcast_S_S2x4096x16x64 (constant S_ .f32 0x3E000000#32))) k

def spR (x : Big) : Big :=
  select (cmpf .une (subf x zeros) (subf x zeros)) (addf x zeros) (addf (maximumf x zeros) (Host.log1p (Host.exp (Host.negf (Host.absf (subf x zeros))))))

/-- The logarithm of the logistic function. -/
def lsR (x : Big) : Big := Host.negf (spR (Host.negf x))

def pastR : IVec S2x16x4096x4096 1 :=
  broadcastInDim S2x16x4096x4096 ![2, 3] bcast_S4096x4096_S2x16x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

def keepR (x : Big) : Big := select pastR (lsR (Host.negf x)) zeros

def cumR (x : Big) : Big :=
  Host.reduceWindowAdd ![1, 1, 1, 4096] ![1, 1, 1, 1] ![0, 0, 0, 0] ![0, 0, 0, 4095] x (broadcastInDim S_ ![] bcast_S_S_ (constant S_ .f32 0x00000000#32)) reduceWindows_S2x16x4096x4096_S2x16x4096x4096_w1s1p0_0_w1s1p0_0_w1s1p0_0_w4096s1p0_4095 h_S_

def wR (x : Big) : Big := select pastR (Host.exp (addf (lsR x) (subf (cumR (keepR x)) (keepR x)))) zeros

def attR (q k v : FVec Ideal S2x4096x16x64 .f32) : FVec Ideal S2x4096x1024 .bf16 :=
  truncf .bf16 (shapeCast S2x4096x1024 (transpose S2x4096x16x64 [0, 2, 1, 3] (Host.dotGeneral dot_S2x16x4096x4096_S2x4096x16x64_S2x16x4096x64_3_1_2_3_01_02 none (wR (zR q k)) v) transposes_S2x16x4096x64_S2x4096x16x64_0_2_1_3) shapeCasts_S2x4096x16x64_S2x4096x1024) bitsLt_bf16_f32

theorem res_eq (m : (ℓ : Loc nD τ sig) → Buf (Elt Ideal) ℓ) (c : Dev nD) :
    Value.res_main_v21 (F := Ideal) m c = attR (m ((c.tc : Thread nD τ).loc main_arg0)) (m ((c.tc : Thread nD τ).loc main_arg1)) (m ((c.tc : Thread nD τ).loc main_arg2)) := rfl

theorem zR_apply (q k : FVec Ideal S2x4096x16x64 .f32) (b : Fin 2) (h : Fin 16) (T S : Fin 4096) :
    zR q k (ix4 b h T S) = ∑ d : Fin 64, q (ix4 b T h d) * Ideal.ofBits .f32 0x3E000000#32 * k (ix4 b S h d) := by
  pointwise [zR]

theorem spR_apply (x : Big) (i : S2x16x4096x4096.Idx) : spR x i = softE (x i) := by
  pointwise [spR, zeros]
  rw [if_neg (by simp)]
  rfl

theorem pastR_apply (b : Fin 2) (h : Fin 16) (T S : Fin 4096) : pastR (ix4 b h T S) = BitVec.ofBool (decide (S.val < T.val)) := by
  pointwise [pastR]
  exact WordCmp.cmpi_slt_ofNat (by omega) (by omega)

theorem attR_apply (q k v : FVec Ideal S2x4096x16x64 .f32) (b : Fin 2) (h : Fin 16) (T : Fin 4096) (d : Fin 64) (x : Fin 1024) (hx : x.val = 64 * h.val + d.val) :
    attR q k v (ix3 b T x) = ∑ S : Fin 4096, wR (zR q k) (ix4 b h T S) * v (ix4 b S h d) := by
  have e1 : (⟨x.val / 64, by omega⟩ : Fin 16) = h := Fin.ext (by show x.val / 64 = h.val; omega)
  have e2 : (⟨x.val % 64, by omega⟩ : Fin 64) = d := Fin.ext (by show x.val % 64 = d.val; omega)
  pointwise [attR]
  rw [e1, e2]

theorem lsR_apply (x : Big) (i : S2x16x4096x4096.Idx) : lsR x i = -softE (-x i) := by
  pointwise [lsR]
  rw [spR_apply]
  pointwise []

theorem keepR_apply (x : Big) (b : Fin 2) (h : Fin 16) (T S : Fin 4096) :
    keepR x (ix4 b h T S) = if S.val < T.val then -softE (x (ix4 b h T S)) else 0 := by
  pointwise [keepR, zeros]
  rw [pastR_apply, sel_bool, lsR_apply]
  pointwise []
  rw [neg_neg]

theorem foldl_sum (n : ℕ) (g : Fin n → EReal) : (List.finRange n).foldl (fun r i => r + g i) 0 = ∑ i, g i := by
  rw [Fin.sum_univ_def, List.sum_eq_foldl, List.foldl_map]

theorem sum_from (f : ℕ → EReal) (S : ℕ) : ∑ e : Fin 4096, (if S + e.val < 4096 then f (S + e.val) else 0) = ∑ j ∈ Finset.Ico S 4096, f j := by
  rw [Fin.sum_univ_eq_sum_range (fun e => if S + e < 4096 then f (S + e) else 0) 4096, ← Finset.sum_filter, Finset.sum_Ico_eq_sum_range]
  refine Finset.sum_congr (Finset.ext fun e => ?_) fun _ _ => rfl
  simp only [Finset.mem_filter, Finset.mem_range]
  omega

/-- A window sum from zero is the sum over the window of what lies in the operand. -/
theorem window_sum {s t u : Shape} (window strides lo hi : Fin s.rank → Nat) (x : s.Idx → EReal) (init : u.Idx → EReal)
    (h : s.ReduceWindows window strides lo hi t) (hu : 0 < u.numel) (h0 : init (Shape.Idx.first hu) = 0) (j : t.Idx) :
    Host.reduceWindow (· + ·) window strides lo hi x init h hu j = ∑ w : (⟨s.rank, window⟩ : Shape).Idx,
      if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else 0 := by
  unfold Host.reduceWindow
  dsimp only
  rw [h0, foldl_sum]
  convert Equiv.sum_comp (Shape.rowMajor (⟨s.rank, window⟩ : Shape)).symm (fun w : (⟨s.rank, window⟩ : Shape).Idx =>
      if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else 0)

theorem add_window {s t u : Shape} (window strides lo hi : Fin s.rank → Nat) (x : FVec Ideal s .f32) (init : FVec Ideal u .f32)
    (h : s.ReduceWindows window strides lo hi t) (hu : 0 < u.numel) (h0 : init (Shape.Idx.first hu) = 0) (j : t.Idx) :
    Host.reduceWindowAdd window strides lo hi x init h hu j = ∑ w : (⟨s.rank, window⟩ : Shape).Idx,
      if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else 0 := by
  rw [← window_sum window strides lo hi x init h hu h0 j]
  rfl

/-- The suffix sum, as the window sum computes it. -/
theorem cumR_apply (x : Big) (b : Fin 2) (h : Fin 16) (T S : Fin 4096) :
    cumR x (ix4 b h T S) = ∑ j ∈ Finset.Ico S.val 4096, x (ix4 b h T ⟨j % 4096, Nat.mod_lt _ (by norm_num)⟩) := by
  rw [← sum_from (fun j => x (ix4 b h T ⟨j % 4096, Nat.mod_lt _ (by norm_num)⟩))]
  have hv : (broadcastInDim S_ ![] bcast_S_S_ (constant (F := Ideal) S_ .f32 0x00000000#32) : FVec Ideal S_ .f32) (Shape.Idx.first h_S_) = 0 := by
    pointwise []
  unfold cumR
  rw [add_window _ _ _ _ _ _ _ _ hv]
  refine (sum_idx4 (n0 := 1) (n1 := 1) (n2 := 1) (n3 := 4096) _).trans ?_
  simp only [Fin.sum_univ_one]
  refine Finset.sum_congr rfl fun e _ => ?_
  have hb := b.isLt
  have hh := h.isLt
  have hT := T.isLt
  by_cases hS : S.val + e.val < 4096
  · rw [if_pos hS, dif_pos]
    · congr 1
      funext a
      apply Fin.ext
      match a with
      | ⟨0, _⟩ => show b.val * 1 + 0 - 0 = b.val; omega
      | ⟨1, _⟩ => show h.val * 1 + 0 - 0 = h.val; omega
      | ⟨2, _⟩ => show T.val * 1 + 0 - 0 = T.val; omega
      | ⟨3, _⟩ => show S.val * 1 + e.val - 0 = (S.val + e.val) % 4096; omega
    · intro a
      match a with
      | ⟨0, _⟩ => show 0 ≤ b.val * 1 + 0 ∧ b.val * 1 + 0 - 0 < 2; omega
      | ⟨1, _⟩ => show 0 ≤ h.val * 1 + 0 ∧ h.val * 1 + 0 - 0 < 16; omega
      | ⟨2, _⟩ => show 0 ≤ T.val * 1 + 0 ∧ T.val * 1 + 0 - 0 < 4096; omega
      | ⟨3, _⟩ => show 0 ≤ S.val * 1 + e.val ∧ S.val * 1 + e.val - 0 < 4096; omega
  · rw [if_neg hS, dif_neg]
    intro hin
    have h3 : 0 ≤ S.val * 1 + e.val ∧ S.val * 1 + e.val - 0 < 4096 := hin 3
    omega

/-- A weight of the reference is the kernel's weight, when its logits are the kernel's in the other base. -/
theorem wR_apply (x : Big) (b : Fin 2) (h : Fin 16) (T S : Fin 4096) (Z : ℕ → EReal)
    (hZ : ∀ S : Fin 4096, x (ix4 b h T S) = Z S.val * ((Real.log 2 : ℝ) : EReal)) : wR x (ix4 b h T S) = wk Z T.val S.val := by
  have hk : ∀ j : Fin 4096, keepR x (ix4 b h T j) = -(gk Z T.val j.val * ((Real.log 2 : ℝ) : EReal)) := fun j => by
    rw [keepR_apply, hZ, softE_mul]
    unfold gk
    split_ifs
    · rfl
    · rw [zero_mul, neg_zero]
  pointwise [wR, zeros]
  rw [pastR_apply, sel_bool, lsR_apply, cumR_apply, hk, hZ]
  pointwise []
  unfold wk
  split_ifs with hS
  · rw [← weight_eq _ (rest Z T.val S.val) (Finset.sum_nonneg fun j _ => gk_nonneg Z T.val j)]
    have hg : gk Z T.val S.val = soft2 (Z S.val) := if_pos hS
    rw [hg, rest, ← neg_sum_mul _ _ (fun j => gk_nonneg Z T.val j) _ log2_pos, Finset.sum_eq_sum_Ico_succ_bot S.isLt]
    have hj : ∀ j ∈ Finset.Ico (S.val + 1) 4096, keepR x (ix4 b h T ⟨j % 4096, Nat.mod_lt _ (by norm_num)⟩) = -(gk Z T.val j * ((Real.log 2 : ℝ) : EReal)) := fun j hj => by
      rw [hk]
      show -(gk Z T.val (j % 4096) * _) = _
      rw [Nat.mod_eq_of_lt (Finset.mem_Ico.1 hj).2]
    rw [Finset.sum_congr rfl hj, hk]
    have e : (⟨S.val % 4096, Nat.mod_lt _ (by norm_num)⟩ : Fin 4096) = S := Fin.ext (Nat.mod_eq_of_lt S.isLt)
    rw [e, hg]
  · pointwise []

end Cert.ReferenceIdeal.Val
-- ==== Proof.Host.lean ====
/- What the host hands the kernel, read off at an index. -/
module

public import proofs.«01_k».proof.Proof.Scores
public import proofs.«01_k».proof.Proof.Gen.KernelIdeal.Frame
public import Idealize.ShloMosaic.Lib.Claim

@[expose] public section

set_option maxRecDepth 16384

noncomputable section

namespace Cert.KernelIdeal.Val

open Cert.KernelIdeal Cert.KernelIdeal.Gen
open Idealize.ShloMosaic Idealize.ShloMosaic.TcCoe Idealize.ShloMosaic.StableHlo Idealize.ShloMosaic.Tactic

variable (m : (ℓ : Loc nD τ sig) → Buf (Elt Ideal) ℓ) (c : Dev nD)

def triV : FVec Ideal S256x256 .bf16 :=
  uitofp .bf16 (cmpi .sgt (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0))))

theorem V_tri : V m c main_v15 = triV := by
  unfold_abbrev_sides
  after_results
  rfl

/-- The strictly lower triangular ones. -/
theorem triV_apply (i s : Fin 256) : triV (ix2 i s) = if s.val < i.val then 1 else 0 := by
  pointwise [triV]
  rw [WordCmp.cmpi_sgt_ofNat (by omega) (by omega)]
  by_cases h : s.val < i.val
  · rw [if_pos h, decide_eq_true h]
    show (((1#1 : BitVec 1).toNat : ℝ) : EReal) = 1
    simp
  · rw [if_neg h, decide_eq_false h]
    show (((0#1 : BitVec 1).toNat : ℝ) : EReal) = 0
    simp

def catV (q k v : FVec Ideal S2x4096x16x64 .f32) : FVec Ideal S2x4096x3072 .bf16 :=
  truncf .bf16 (concatenate S2x4096x3072 2 [⟨S2x4096x1024, mulf (shapeCast S2x4096x1024 q shapeCasts_S2x4096x16x64_S2x4096x1024) (broadcastInDim S2x4096x1024 ![] bcast_S_S2x4096x1024 (Host.divf (constant S_ .f32 0x3E000000#32) (Host.log (constant S_ .f32 0x40000000#32))))⟩,
    ⟨S2x4096x1024, shapeCast S2x4096x1024 k shapeCasts_S2x4096x16x64_S2x4096x1024⟩, ⟨S2x4096x1024, shapeCast S2x4096x1024 v shapeCasts_S2x4096x16x64_S2x4096x1024⟩] concatenates_S2x4096x1024_S2x4096x1024_S2x4096x1024_S2x4096x3072_d2) bitsLt_bf16_f32

theorem V_cat : V m c main_v8 = catV (m ((c : Thread nD τ).loc main_arg0)) (m ((c : Thread nD τ).loc main_arg1)) (m ((c : Thread nD τ).loc main_arg2)) := by
  unfold_abbrev_sides
  after_results
  rfl

theorem bits_eighth : Ideal.ofBits .f32 0x3E000000#32 = ((1 / 8 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem scale_eq : Ideal.div (Ideal.ofBits .f32 0x3E000000#32) (Ideal.log (Ideal.ofBits .f32 0x40000000#32)) = ((1 / 8 / Real.log 2 : ℝ) : EReal) := by
  rw [bits_eighth, bits_two, Ideal.log_coe, if_neg (by norm_num), Ideal.div_coe log2_pos.ne', ← EReal.coe_mul, mul_one_div]

theorem cat_q (q k v : FVec Ideal S2x4096x16x64 .f32) (b : Fin 2) (T : Fin 4096) (h : Fin 16) (d : Fin 64) (x : Fin 3072) (hx : x.val = 64 * h.val + d.val) :
    catV q k v (ix3 b T x) = q (ix4 b T h d) * ((1 / 8 / Real.log 2 : ℝ) : EReal) := by
  have e1 : (⟨x.val / 64, by omega⟩ : Fin 16) = h := Fin.ext (by show x.val / 64 = h.val; omega)
  have e2 : (⟨x.val % 64, by omega⟩ : Fin 64) = d := Fin.ext (by show x.val % 64 = d.val; omega)
  pointwise [catV]
  rw [dif_pos (by omega), e1, e2, scale_eq]

theorem cat_k (q k v : FVec Ideal S2x4096x16x64 .f32) (b : Fin 2) (T : Fin 4096) (h : Fin 16) (d : Fin 64) (x : Fin 3072) (hx : x.val = 1024 + (64 * h.val + d.val)) :
    catV q k v (ix3 b T x) = k (ix4 b T h d) := by
  have e1 : (⟨(x.val - 1024) / 64, by omega⟩ : Fin 16) = h := Fin.ext (by show (x.val - 1024) / 64 = h.val; omega)
  have e2 : (⟨(x.val - 1024) % 64, by omega⟩ : Fin 64) = d := Fin.ext (by show (x.val - 1024) % 64 = d.val; omega)
  pointwise [catV]
  rw [dif_neg (by omega), dif_pos (by omega), e1, e2]

theorem cat_v (q k v : FVec Ideal S2x4096x16x64 .f32) (b : Fin 2) (T : Fin 4096) (h : Fin 16) (d : Fin 64) (x : Fin 3072) (hx : x.val = 2048 + (64 * h.val + d.val)) :
    catV q k v (ix3 b T x) = v (ix4 b T h d) := by
  have e1 : (⟨(x.val - 1024 - 1024) / 64, by omega⟩ : Fin 16) = h := Fin.ext (by show (x.val - 1024 - 1024) / 64 = h.val; omega)
  have e2 : (⟨(x.val - 1024 - 1024) % 64, by omega⟩ : Fin 64) = d := Fin.ext (by show (x.val - 1024 - 1024) % 64 = d.val; omega)
  pointwise [catV]
  rw [dif_neg (by omega), dif_neg (by omega), e1, e2]

end Cert.KernelIdeal.Val
-- ==== Proof.Value.lean ====
/- The arrays the kernel leaves are the reference's results. -/
module

public import proofs.«01_k».proof.Proof.Ref
public import proofs.«01_k».proof.Proof.Host
public import proofs.«01_k».proof.Proof.Run
public import Idealize.ShloMosaic.Lib.Pipeline.ValueKit

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.ShloMosaic.Tactic

/-- A head's lanes of a masked product are the head's own product. -/
theorem head_sum (f g : Fin 256 → EReal) (h : Fin 4) :
    ∑ l : Fin 256, (if l.val / 64 = h.val then f l else 0) * g l
      = ∑ d : Fin 64, f ⟨64 * h.val + d.val, by omega⟩ * g ⟨64 * h.val + d.val, by omega⟩ := by
  rw [← Equiv.sum_comp (finProdFinEquiv : Fin 4 × Fin 64 ≃ Fin 256), Fintype.sum_prod_type, Finset.sum_eq_single h]
  · refine Finset.sum_congr rfl fun d _ => ?_
    have e : (finProdFinEquiv (h, d) : Fin 256) = ⟨64 * h.val + d.val, by omega⟩ := Fin.ext (by show d.val + 64 * h.val = 64 * h.val + d.val; omega)
    rw [e, if_pos (by show (64 * h.val + d.val) / 64 = h.val; omega)]
  · intro a _ ha
    refine Finset.sum_eq_zero fun d _ => ?_
    rw [if_neg, zero_mul]
    show ¬ (d.val + 64 * a.val) / 64 = h.val
    intro hh
    exact ha (Fin.ext (by omega))
  · intro hh
    exact absurd (Finset.mem_univ h) hh

/-- The kernel's logits are the reference's in base two. -/
theorem logit_eq (K : Vec Ideal S1x4096x256 .bf16) (q k : FVec Ideal S2x4096x16x64 .f32) (q0 : Vec Ideal S1x256x256 .bf16) (b : Fin 2) (T : Fin 4096) (g : Fin 4) (h : Fin 4) (r : Fin 256) (H : Fin 16) (hH : H.val = 4 * g.val + h.val)
    (hq : ∀ d : Fin 64, q0 (ix3 0 r ⟨64 * h.val + d.val, by omega⟩) = q (ix4 b T H d) * ((1 / 8 / Real.log 2 : ℝ) : EReal))
    (hk : ∀ (S : Fin 4096) (d : Fin 64), K (ix3 0 S ⟨64 * h.val + d.val, by omega⟩) = k (ix4 b S H d)) (S : Fin 4096) :
    ReferenceIdeal.Val.zR q k (ix4 b H T S) = logit q0 K h.val r S.val * ((Real.log 2 : ℝ) : EReal) := by
  unfold logit
  rw [head_sum (fun l => q0 (ix3 0 r l)) (fun l => kAt K S.val l), sum_mul_pos _ _ _ log2_pos, ReferenceIdeal.Val.zR_apply]
  refine Finset.sum_congr rfl fun d _ => ?_
  unfold kAt
  have e : (⟨S.val % 4096, Nat.mod_lt _ (by norm_num)⟩ : Fin 4096) = S := Fin.ext (Nat.mod_eq_of_lt S.isLt)
  rw [e, hq, hk, bits_eighth, mul_right_comm (q (ix4 b T H d) * _) (k (ix4 b S H d)) _, mul_assoc (q (ix4 b T H d)) (_ : EReal) (((Real.log 2 : ℝ)) : EReal), ← EReal.coe_mul, div_mul_cancel₀ _ log2_pos.ne']

variable (m : (ℓ : Loc nD τ sig) → Buf (Elt Ideal) ℓ) (c : Dev nD)

theorem e0 : ∀ t : Fin cfg0.N, win0_0.index t = ![(grid0.coords t 0).val, (grid0.coords t 2).val, (grid0.coords t 1).val] := (by decide +kernel : ∀ t : Fin grid0.N, _)
theorem e1 : ∀ t : Fin cfg0.N, win0_1.index t = ![(grid0.coords t 0).val, 0, 4 + (grid0.coords t 1).val] := (by decide +kernel : ∀ t : Fin grid0.N, _)
theorem e2 : ∀ t : Fin cfg0.N, win0_2.index t = ![(grid0.coords t 0).val, 0, 8 + (grid0.coords t 1).val] := (by decide +kernel : ∀ t : Fin grid0.N, _)
theorem e3 : ∀ t : Fin cfg0.N, win0_3.index t = ![0, 0] := (by decide +kernel : ∀ t : Fin grid0.N, _)
theorem e9 : ∀ t : Fin cfg0.N, win0_9.index t = ![(grid0.coords t 0).val, (grid0.coords t 2).val, (grid0.coords t 1).val] := (by decide +kernel : ∀ t : Fin grid0.N, _)

def cb (t : Fin cfg0.N) : Fin 2 := ⟨(grid0.coords t 0).val, (grid0.coords t 0).isLt⟩
def cg (t : Fin cfg0.N) : Fin 4 := ⟨(grid0.coords t 1).val, (grid0.coords t 1).isLt⟩
def ci (t : Fin cfg0.N) : Fin 16 := ⟨(grid0.coords t 2).val, (grid0.coords t 2).isLt⟩

theorem iblk0_apply (t : Fin cfg0.N) (r l : Fin 256) : (iblk m c 0 t : Vec Ideal S1x256x256 .bf16) (ix3 0 r l)
    = (V m c main_v8 : FVec Ideal S2x4096x3072 .bf16) (ix3 (cb t) ⟨256 * (ci t).val + r.val, by omega⟩ ⟨256 * (cg t).val + l.val, by omega⟩) := by
  unfold iblk
  rw [View.read_apply]
  show V m c main_v8 _ = V m c main_v8 _
  congr 1
  blk_ext [e0, cb, ci, cg]

theorem iblk1_apply (t : Fin cfg0.N) (r : Fin 4096) (l : Fin 256) : (iblk m c 1 t : Vec Ideal S1x4096x256 .bf16) (ix3 0 r l)
    = (V m c main_v8 : FVec Ideal S2x4096x3072 .bf16) (ix3 (cb t) r ⟨1024 + (256 * (cg t).val + l.val), by omega⟩) := by
  unfold iblk
  rw [View.read_apply]
  show V m c main_v8 _ = V m c main_v8 _
  congr 1
  blk_ext [e1, cb, ci, cg]

theorem iblk2_apply (t : Fin cfg0.N) (r : Fin 4096) (l : Fin 256) : (iblk m c 2 t : Vec Ideal S1x4096x256 .bf16) (ix3 0 r l)
    = (V m c main_v8 : FVec Ideal S2x4096x3072 .bf16) (ix3 (cb t) r ⟨2048 + (256 * (cg t).val + l.val), by omega⟩) := by
  unfold iblk
  rw [View.read_apply]
  show V m c main_v8 _ = V m c main_v8 _
  congr 1
  blk_ext [e2, cb, ci, cg]

theorem iblk3_apply (t : Fin cfg0.N) (i s : Fin 256) : (iblk m c 3 t : Vec Ideal S256x256 .bf16) (ix2 i s) = if s.val < i.val then (1 : EReal) else 0 := by
  rw [← triV_apply, ← V_tri m c]
  unfold iblk
  rw [View.read_apply]
  show V m c main_v15 _ = V m c main_v15 _
  congr 1
  blk_ext [e3]

/-- A block of the attention is the reference's. -/
theorem attn_apply (t : Fin cfg0.N) (r l : Fin 256) : attn m c t (ix3 0 r l)
    = ReferenceIdeal.Val.attR (m ((c : Thread nD τ).loc main_arg0)) (m ((c : Thread nD τ).loc main_arg1)) (m ((c : Thread nD τ).loc main_arg2))
      (ix3 (cb t) ⟨256 * (ci t).val + r.val, by omega⟩ ⟨256 * (cg t).val + l.val, by omega⟩) := by
  unfold attn
  refine (outB_apply _ _ _ _ (iblk3_apply m c t) (ci t).val (ci t).isLt r l).trans ?_
  rw [ReferenceIdeal.Val.attR_apply _ _ _ (cb t) ⟨4 * (cg t).val + l.val / 64, by omega⟩ _ ⟨l.val % 64, by omega⟩ _ (by show 256 * (cg t).val + l.val = 64 * (4 * (cg t).val + l.val / 64) + l.val % 64; omega)]
  rw [Nat.Ico_zero_eq_range, Finset.sum_range]
  refine Finset.sum_congr rfl fun S _ => ?_
  have e : (⟨S.val % 4096, Nat.mod_lt _ (by norm_num)⟩ : Fin 4096) = S := Fin.ext (Nat.mod_eq_of_lt S.isLt)
  congr 1
  · refine (ReferenceIdeal.Val.wR_apply _ _ _ ⟨256 * (ci t).val + r.val, by omega⟩ S _ (logit_eq (iblk m c 1 t) _ _ (iblk m c 0 t) (cb t) _ (cg t) ⟨l.val / 64, by omega⟩ r _ rfl ?_ ?_)).symm
    · intro d
      rw [iblk0_apply, V_cat]
      exact cat_q _ _ _ _ _ _ _ _ (by show 256 * (cg t).val + (64 * (l.val / 64) + d.val) = 64 * (4 * (cg t).val + l.val / 64) + d.val; omega)
    · intro S d
      rw [iblk1_apply, V_cat]
      exact cat_k _ _ _ _ _ _ _ _ (by show 1024 + (256 * (cg t).val + (64 * (l.val / 64) + d.val)) = 1024 + (64 * (4 * (cg t).val + l.val / 64) + d.val); omega)
  · unfold kAt
    rw [e, iblk2_apply, V_cat]
    exact cat_v _ _ _ _ _ _ _ _ (by show 2048 + (256 * (cg t).val + l.val) = 2048 + (64 * (4 * (cg t).val + l.val / 64) + l.val % 64); omega)

theorem final9 : (dats m 0 c).arrAt 9 cfg0.N
    = ReferenceIdeal.Val.attR (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  revert y
  change ∀ y : S1x256x256.Idx, attn m c t y = _
  intro y
  idx_vars y
  obtain rfl : y0 = 0 := Subsingleton.elim _ _
  rw [attn_apply]
  congr 1
  funext a
  apply Fin.ext
  match a with
  | ⟨0, _⟩ => blk_simp [e9]; exact (Nat.add_zero _).symm
  | ⟨1, _⟩ => blk_simp [e9]; show 256 * (grid0.coords t 2).val + y1.val = (grid0.coords t 2).val * 256 + y1.val; rw [Nat.mul_comm]
  | ⟨2, _⟩ => blk_simp [e9]; show 256 * (grid0.coords t 1).val + y2.val = (grid0.coords t 1).val * 256 + y2.val; rw [Nat.mul_comm]

theorem e10 : ∀ t : Fin cfg0.N, win0_10.index t = win0_4.index t := (by decide +kernel : ∀ t : Fin grid0.N, _)

theorem final10 : (dats m 0 c).arrAt 10 cfg0.N = truncf (F := Ideal) .bf16 (m ((c : Thread nD τ).loc main_arg3)) bitsLt_bf16_f32 := by
  refine (dats m 0 c).arrAt_eq_of_covers 10 _ (by decide +kernel) fun t hf y => ?_
  blk_simp
  rw [← V_main_arg3 m c]
  show V m c main_arg3 _ = V m c main_arg3 _
  congr 1
  blk_ext [e10]

theorem e11 : ∀ t : Fin cfg0.N, win0_11.index t = win0_5.index t := (by decide +kernel : ∀ t : Fin grid0.N, _)

theorem final11 : (dats m 0 c).arrAt 11 cfg0.N = truncf (F := Ideal) .bf16 (m ((c : Thread nD τ).loc main_arg4)) bitsLt_bf16_f32 := by
  refine (dats m 0 c).arrAt_eq_of_covers 11 _ (by decide +kernel) fun t hf y => ?_
  blk_simp
  rw [← V_main_arg4 m c]
  show V m c main_arg4 _ = V m c main_arg4 _
  congr 1
  blk_ext [e11]

theorem e12 : ∀ t : Fin cfg0.N, win0_12.index t = win0_6.index t := (by decide +kernel : ∀ t : Fin grid0.N, _)

theorem final12 : (dats m 0 c).arrAt 12 cfg0.N = truncf (F := Ideal) .bf16 (m ((c : Thread nD τ).loc main_arg5)) bitsLt_bf16_f32 := by
  refine (dats m 0 c).arrAt_eq_of_covers 12 _ (by decide +kernel) fun t hf y => ?_
  blk_simp
  rw [← V_main_arg5 m c]
  show V m c main_arg5 _ = V m c main_arg5 _
  congr 1
  blk_ext [e12]

theorem e13 : ∀ t : Fin cfg0.N, win0_13.index t = win0_7.index t := (by decide +kernel : ∀ t : Fin grid0.N, _)

theorem final13 : (dats m 0 c).arrAt 13 cfg0.N = truncf (F := Ideal) .bf16 (m ((c : Thread nD τ).loc main_arg6)) bitsLt_bf16_f32 := by
  refine (dats m 0 c).arrAt_eq_of_covers 13 _ (by decide +kernel) fun t hf y => ?_
  blk_simp
  rw [← V_main_arg6 m c]
  show V m c main_arg6 _ = V m c main_arg6 _
  congr 1
  blk_ext [e13]

theorem e14 : ∀ t : Fin cfg0.N, win0_14.index t = win0_8.index t := (by decide +kernel : ∀ t : Fin grid0.N, _)

theorem final14 : (dats m 0 c).arrAt 14 cfg0.N = truncf (F := Ideal) .bf16 (m ((c : Thread nD τ).loc main_arg7)) bitsLt_bf16_f32 := by
  refine (dats m 0 c).arrAt_eq_of_covers 14 _ (by decide +kernel) fun t hf y => ?_
  blk_simp
  rw [← V_main_arg7 m c]
  show V m c main_arg7 _ = V m c main_arg7 _
  congr 1
  blk_ext [e14]

end Cert.KernelIdeal.Val
-- ==== Proof.Algebraic.lean ====
/- The kernel's results are the reference's, at the extended reals. -/
module

public import proofs.«01_k».proof.Defs
public import proofs.«01_k».proof.Proof.Value

@[expose] public section

set_option maxRecDepth 16384

noncomputable section

namespace Cert.Proof.Claims

open Idealize.ShloMosaic Idealize.ShloMosaic.TcCoe
open Idealize.SL.Sem
open Cert.KernelIdeal Cert.KernelIdeal.Gen Cert.KernelIdeal.Run Cert.KernelIdeal.Val

theorem att_congr {q q' k k' v v' : FVec Ideal S2x4096x16x64 .f32} (hq : q = q') (hk : k = k') (hv : v = v') :
    Cert.ReferenceIdeal.Val.attR q k v = Cert.ReferenceIdeal.Val.attR q' k' v' := by rw [hq, hk, hv]

theorem cast_congr {s : Shape} {x x' : FVec Ideal s .f32} (h : x = x') : truncf (F := Ideal) .bf16 x bitsLt_bf16_f32 = truncf (F := Ideal) .bf16 x' bitsLt_bf16_f32 := by rw [h]

set_option maxHeartbeats 1000000 in
theorem algebraic : Cert.algebraic_KernelIdeal_ReferenceIdeal (hKernelIdeal := Cert.KernelIdeal.Gen.facts) (hReferenceIdeal := Cert.ReferenceIdeal.Gen.facts) :=
  fun m ρ m' ρ' _ harg => by
  refine ⟨fun c => Cert.ReferenceIdeal.Val.attR (m ((c : Thread nD τ).loc main_arg0)) (m ((c : Thread nD τ).loc main_arg1)) (m ((c : Thread nD τ).loc main_arg2)),
    fun c => truncf (F := Ideal) .bf16 (m ((c : Thread nD τ).loc main_arg3)) bitsLt_bf16_f32,
    fun c => truncf (F := Ideal) .bf16 (m ((c : Thread nD τ).loc main_arg4)) bitsLt_bf16_f32,
    fun c => truncf (F := Ideal) .bf16 (m ((c : Thread nD τ).loc main_arg5)) bitsLt_bf16_f32,
    fun c => truncf (F := Ideal) .bf16 (m ((c : Thread nD τ).loc main_arg6)) bitsLt_bf16_f32,
    fun c => truncf (F := Ideal) .bf16 (m ((c : Thread nD τ).loc main_arg7)) bitsLt_bf16_f32, ?_, ?_⟩
  · refine (θ_run Cert.KernelIdeal.defs _ _).mono (fun r h c => ?_) (Run.run m ρ)
    exact ⟨((h.1 c).1 9).trans (final9 m c),
      ((h.1 c).1 10).trans (final10 m c),
      ((h.1 c).1 11).trans (final11 m c),
      ((h.1 c).1 12).trans (final12 m c),
      ((h.1 c).1 13).trans (final13 m c),
      ((h.1 c).1 14).trans (final14 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 4).trans (((dats m 0 c).arrAt_in 4 rfl _).trans ((A_eq m c 4).trans (V_main_arg3 m c))),
      ((h.1 c).1 5).trans (((dats m 0 c).arrAt_in 5 rfl _).trans ((A_eq m c 5).trans (V_main_arg4 m c))),
      ((h.1 c).1 6).trans (((dats m 0 c).arrAt_in 6 rfl _).trans ((A_eq m c 6).trans (V_main_arg5 m c))),
      ((h.1 c).1 7).trans (((dats m 0 c).arrAt_in 7 rfl _).trans ((A_eq m c 7).trans (V_main_arg6 m c))),
      ((h.1 c).1 8).trans (((dats m 0 c).arrAt_in 8 rfl _).trans ((A_eq m c 8).trans (V_main_arg7 m c)))⟩
  · refine (θ_run Cert.ReferenceIdeal.defs _ _).mono (fun r h c => ?_) (Cert.ReferenceIdeal.Value.run (F := Ideal) m' ρ')
    obtain ⟨a0, a1, a2, a3, a4, a5, a6, a7⟩ := harg c
    obtain ⟨r0, r1, r2, r3, r4, r5, hk⟩ := h c
    refine ⟨r0.trans ((Cert.ReferenceIdeal.Val.res_eq m' c).trans ?_), r1.trans ?_, r2.trans ?_, r3.trans ?_, r4.trans ?_, r5.trans ?_, hk⟩
    · exact att_congr a0 a1 a2
    · exact cast_congr a3
    · exact cast_congr a4
    · exact cast_congr a5
    · exact cast_congr a6
    · exact cast_congr a7

end Cert.Proof.Claims

end
-- ==== Proof.FfnFrames.lean ====
/- The frames of the feed-forward's programs. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Lib.Quiescent

@[expose] public section

set_option maxRecDepth 16384

noncomputable section

namespace Cert.Proof.Claims

open Idealize.ShloMosaic Idealize.ShloMosaic.TcCoe
open Idealize.SL.Sem

theorem frame_p2 : Cert.quiescent_Kernel2 (hKernel2 := Cert.Kernel2.Gen.facts) := fun m ρ _ => Cert.Kernel2.Gen.frame m ρ

theorem frame_pi2 : Cert.quiescent_Kernel2Ideal (hKernel2Ideal := Cert.Kernel2Ideal.Gen.facts) := fun m ρ _ => Cert.Kernel2Ideal.Gen.frame m ρ

theorem frame_ri2 : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- Nothing was rewritten. -/
theorem preserves2 : Cert.preserves_Kernel2_Kernel2Ideal := trivial

end Cert.Proof.Claims

end
-- ==== Proof.FfnPay.lean ====
/- What one grid point of the feed-forward computes, read off at an index. -/
module

public import proofs.«01_k».proof.Proof.Gen.Kernel2Ideal.Skeleton
public import Idealize.ShloMosaic.Lib.Pointwise

@[expose] public section

set_option maxRecDepth 16384

noncomputable section

namespace Cert.Kernel2Ideal.Val

open Cert.Kernel2Ideal Cert.Kernel2Ideal.Gen
open Idealize.ShloMosaic

/-- A unit's gated activation times its weight: the gate `g` through silu, times `u`, times `w`. -/
def unit (g u w : EReal) : EReal := g * Ideal.logistic g * u * w

/-- A point's partial result: the sum over its 512 units. -/
theorem pay1_apply (x : FVec Ideal S1024x2048 .bf16) (wg wu : FVec Ideal S2048x512 .bf16) (wd : FVec Ideal S512x2048 .bf16) (r : Fin 1024) (d : Fin 2048) :
    k0_pay1 (F := Ideal) x wg wu wd (ix2 r d) = ∑ l : Fin 512, unit (∑ k : Fin 2048, x (ix2 r k) * wg (ix2 k l)) (∑ k : Fin 2048, x (ix2 r k) * wu (ix2 k l)) (wd (ix2 l d)) := by
  pointwise [k0_pay1]
  rfl

/-- A middle point adds its partial result to what it finds. -/
theorem pay2_apply (o : FVec Ideal S1024x2048 .f32) (x : FVec Ideal S1024x2048 .bf16) (wg wu : FVec Ideal S2048x512 .bf16) (wd : FVec Ideal S512x2048 .bf16) (r : Fin 1024) (d : Fin 2048) :
    k0_pay2 (F := Ideal) o x wg wu wd (ix2 r d) = o (ix2 r d) + k0_pay1 (F := Ideal) x wg wu wd (ix2 r d) := by
  rw [pay1_apply]
  pointwise [k0_pay2]
  rfl

/-- The last point adds its partial result, scales by the gate and adds the residual. -/
theorem pay3_apply (h : FVec Ideal S1024x2048 .f32) (g : FVec Ideal S1x1x2048 .f32) (o : FVec Ideal S1024x2048 .f32) (x : FVec Ideal S1024x2048 .bf16) (wg wu : FVec Ideal S2048x512 .bf16) (wd : FVec Ideal S512x2048 .bf16) (r : Fin 1024) (d : Fin 2048) :
    k0_pay3 (F := Ideal) h g o x wg wu wd (ix2 r d) = h (ix2 r d) + g (ix3 0 0 d) * (o (ix2 r d) + k0_pay1 (F := Ideal) x wg wu wd (ix2 r d)) := by
  rw [pay1_apply]
  pointwise [k0_pay3]
  rfl

end Cert.Kernel2Ideal.Val
-- ==== Proof.FfnRef.lean ====
/- The reference's feed-forward read off at an index. -/
module

public import proofs.«01_k».proof.Proof.FfnPay
public import proofs.«01_k».proof.Proof.Gen.Reference2Ideal.Run

@[expose] public section

set_option maxRecDepth 16384

noncomputable section

namespace Cert.Reference2Ideal.Val

open Cert.Reference2Ideal Cert.Reference2Ideal.Gen
open Idealize.ShloMosaic

abbrev Rows := FVec Ideal S2x4096x2048 .f32
abbrev Hidden := FVec Ideal S2x4096x5632 .f32

def projR (x : Rows) (w : FVec Ideal S2048x5632 .f32) : Hidden :=
  Host.dotGeneral dot_S2x4096x2048_S2048x5632_S2x4096x5632_2_0_01_1_n_n none x w

def onesR : Hidden := broadcastInDim S2x4096x5632 ![] bcast_S_S2x4096x5632 (constant S_ .f32 0x3F800000#32)

def siluR (z : Hidden) : Hidden := mulf z (Host.divf onesR (addf onesR (Host.exp (Host.negf z))))

def gateR (mod : FVec Ideal S2x12288 .f32) : Rows :=
  broadcastInDim S2x4096x2048 ![0, 1, 2] bcast_S2x1x2048_S2x4096x2048_0_1_2 (extractStridedSlice S2x1x2048 ![0, 0, 10240] (broadcastInDim S2x1x12288 ![0, 2] bcast_S2x12288_S2x1x12288_0_2 mod) slices_S2x1x12288_S2x1x2048_0_0_10240)

/-- The whole feed-forward. -/
def ffnR (x h : Rows) (mod : FVec Ideal S2x12288 .f32) (wg wu : FVec Ideal S2048x5632 .f32) (wd : FVec Ideal S5632x2048 .f32) : FVec Ideal S8192x2048 .f32 :=
  shapeCast S8192x2048 (addf h (mulf (gateR mod) (Host.dotGeneral dot_S2x4096x5632_S5632x2048_S2x4096x2048_2_0_01_1_n_n none (mulf (siluR (projR x wg)) (projR x wu)) wd))) shapeCasts_S2x4096x2048_S8192x2048

theorem projR_apply (x : Rows) (w : FVec Ideal S2048x5632 .f32) (b : Fin 2) (t : Fin 4096) (f : Fin 5632) :
    projR x w (ix3 b t f) = ∑ k : Fin 2048, x (ix3 b t k) * w (ix2 k f) := by
  pointwise [projR]

theorem siluR_apply (z : Hidden) (i : S2x4096x5632.Idx) : siluR z i = z i * Ideal.logistic (z i) := by
  pointwise [siluR, onesR]
  rfl

theorem gateR_apply (mod : FVec Ideal S2x12288 .f32) (b : Fin 2) (t : Fin 4096) (d : Fin 2048) : gateR mod (ix3 b t d) = mod (ix2 b ⟨10240 + d.val, by omega⟩) := by
  pointwise [gateR]

/-- What the hidden unit `f` adds to the row `t` of the sequence `b` at the feature `d`. -/
def unitR (x : Rows) (wg wu : FVec Ideal S2048x5632 .f32) (wd : FVec Ideal S5632x2048 .f32) (b : Fin 2) (t : Fin 4096) (d : Fin 2048) (f : Fin 5632) : EReal :=
  Kernel2Ideal.Val.unit (∑ k : Fin 2048, x (ix3 b t k) * wg (ix2 k f)) (∑ k : Fin 2048, x (ix3 b t k) * wu (ix2 k f)) (wd (ix2 f d))

/-- The result of the row `t` of the sequence `b` at the feature `d`. -/
theorem ffnR_apply (x h : Rows) (mod : FVec Ideal S2x12288 .f32) (wg wu : FVec Ideal S2048x5632 .f32) (wd : FVec Ideal S5632x2048 .f32) (b : Fin 2) (t : Fin 4096) (r : Fin 8192) (hr : r.val = 4096 * b.val + t.val) (d : Fin 2048) :
    ffnR x h mod wg wu wd (ix2 r d) = h (ix3 b t d) + mod (ix2 b ⟨10240 + d.val, by omega⟩) * ∑ f : Fin 5632, unitR x wg wu wd b t d f := by
  have e1 : (⟨r.val / 4096, by omega⟩ : Fin 2) = b := Fin.ext (by show r.val / 4096 = b.val; omega)
  have e2 : (⟨r.val % 4096, by omega⟩ : Fin 4096) = t := Fin.ext (by show r.val % 4096 = t.val; omega)
  pointwise [ffnR]
  rw [e1, e2, gateR_apply]
  simp only [siluR_apply, projR_apply]
  rfl

end Cert.Reference2Ideal.Val
-- ==== Proof.FfnHost.lean ====
/- What the host hands the feed-forward, and a window's block of it, read off at an index. -/
module

public import proofs.«01_k».proof.Proof.FfnPay
public import proofs.«01_k».proof.Proof.Gen.Kernel2Ideal.Frame
public import Idealize.ShloMosaic.Lib.Claim
public import Idealize.ShloMosaic.Lib.Pipeline.ValueKit

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.StableHlo Idealize.ShloMosaic.Tactic

variable (m : (ℓ : Loc nD τ sig) → Buf (Elt Ideal) ℓ) (c : Dev nD)

/-- The rows of both sequences in one. -/
def rowsV (x : FVec Ideal S2x4096x2048 .f32) : FVec Ideal S8192x2048 .f32 := shapeCast S8192x2048 x shapeCasts_S2x4096x2048_S8192x2048

/-- The modulation, cut in six rows. -/
def modV (x : FVec Ideal S2x12288 .f32) : FVec Ideal S2x6x2048 .f32 := shapeCast S2x6x2048 x shapeCasts_S2x12288_S2x6x2048

theorem V_x : V m c main_v1 = truncf (F := Ideal) .bf16 (rowsV (m ((c : Thread nD τ).loc main_arg0))) bitsLt_bf16_f32 := by
  unfold_abbrev_sides
  after_results
  rfl

theorem V_h : V m c main_v2 = rowsV (m ((c : Thread nD τ).loc main_arg1)) := by
  unfold_abbrev_sides
  after_results
  rfl

theorem V_mod : V m c main_v3 = modV (m ((c : Thread nD τ).loc main_arg2)) := by
  unfold_abbrev_sides
  after_results
  rfl

theorem V_wg : V m c main_v4 = truncf (F := Ideal) .bf16 (m ((c : Thread nD τ).loc main_arg3)) bitsLt_bf16_f32 := by
  unfold_abbrev_sides
  after_results

theorem V_wu : V m c main_v5 = truncf (F := Ideal) .bf16 (m ((c : Thread nD τ).loc main_arg4)) bitsLt_bf16_f32 := by
  unfold_abbrev_sides
  after_results

theorem V_wd : V m c main_v6 = truncf (F := Ideal) .bf16 (m ((c : Thread nD τ).loc main_arg5)) bitsLt_bf16_f32 := by
  unfold_abbrev_sides
  after_results

theorem rowsV_apply (x : FVec Ideal S2x4096x2048 .f32) (b : Fin 2) (t : Fin 4096) (r : Fin 8192) (hr : r.val = 4096 * b.val + t.val) (d : Fin 2048) :
    rowsV x (ix2 r d) = x (ix3 b t d) := by
  have e1 : (⟨r.val / 4096, by omega⟩ : Fin 2) = b := Fin.ext (by show r.val / 4096 = b.val; omega)
  have e2 : (⟨r.val % 4096, by omega⟩ : Fin 4096) = t := Fin.ext (by show r.val % 4096 = t.val; omega)
  pointwise [rowsV]
  rw [e1, e2]

theorem modV_apply (x : FVec Ideal S2x12288 .f32) (b : Fin 2) (d : Fin 2048) : modV x (ix3 b 5 d) = x (ix2 b ⟨10240 + d.val, by omega⟩) := by
  pointwise [modV]

theorem lt_points (t : Fin cfg0.N) : t.val < 88 := lt_of_lt_of_eq t.isLt (show cfg0.N = 88 from N_0)

theorem e0 : ∀ t : Fin cfg0.N, win0_0.index t = ![t.val / 11, 0] := (by decide +kernel : ∀ t : Fin grid0.N, _)
theorem e1 : ∀ t : Fin cfg0.N, win0_1.index t = ![t.val / 11, 0] := (by decide +kernel : ∀ t : Fin grid0.N, _)
theorem e2 : ∀ t : Fin cfg0.N, win0_2.index t = ![t.val / 44, 0, 0] := (by decide +kernel : ∀ t : Fin grid0.N, _)
theorem e3 : ∀ t : Fin cfg0.N, win0_3.index t = ![0, t.val % 11] := (by decide +kernel : ∀ t : Fin grid0.N, _)
theorem e4 : ∀ t : Fin cfg0.N, win0_4.index t = ![0, t.val % 11] := (by decide +kernel : ∀ t : Fin grid0.N, _)
theorem e5 : ∀ t : Fin cfg0.N, win0_5.index t = ![t.val % 11, 0] := (by decide +kernel : ∀ t : Fin grid0.N, _)
theorem e6 : ∀ t : Fin cfg0.N, win0_6.index t = ![t.val / 11, 0] := (by decide +kernel : ∀ t : Fin grid0.N, _)

/-- The sequence, the row in it and the row of the array that a row of a point's block is. -/
def sq (t : Fin cfg0.N) : Fin 2 := ⟨t.val / 44, by have := lt_points t; omega⟩
def seqRow (t : Fin cfg0.N) (r : Fin 1024) : Fin 4096 := ⟨1024 * (t.val / 11 % 4) + r.val, by omega⟩
def row (t : Fin cfg0.N) (r : Fin 1024) : Fin 8192 := ⟨1024 * (t.val / 11) + r.val, by have := lt_points t; omega⟩
def hid (t : Fin cfg0.N) (l : Fin 512) : Fin 5632 := ⟨512 * (t.val % 11) + l.val, by omega⟩

theorem row_val (t : Fin cfg0.N) (r : Fin 1024) : (row t r).val = 4096 * (sq t).val + (seqRow t r).val := by
  show 1024 * (t.val / 11) + r.val = 4096 * (t.val / 44) + (1024 * (t.val / 11 % 4) + r.val)
  omega

theorem iblk0_apply (t : Fin cfg0.N) (r : Fin 1024) (k : Fin 2048) : (iblk m c 0 t : Vec Ideal S1024x2048 .bf16) (ix2 r k)
    = (m ((c : Thread nD τ).loc main_arg0) : FVec Ideal S2x4096x2048 .f32) (ix3 (sq t) (seqRow t r) k) := by
  refine Eq.trans ?_ ((congrFun (V_x m c) (ix2 (row t r) k)).trans (rowsV_apply _ (sq t) (seqRow t r) (row t r) (row_val t r) k))
  unfold iblk
  rw [View.read_apply]
  show V m c main_v1 _ = V m c main_v1 _
  congr 1
  blk_ext [e0, row]

theorem iblk1_apply (t : Fin cfg0.N) (r : Fin 1024) (k : Fin 2048) : (iblk m c 1 t : Vec Ideal S1024x2048 .f32) (ix2 r k)
    = (m ((c : Thread nD τ).loc main_arg1) : FVec Ideal S2x4096x2048 .f32) (ix3 (sq t) (seqRow t r) k) := by
  refine Eq.trans ?_ ((congrFun (V_h m c) (ix2 (row t r) k)).trans (rowsV_apply _ (sq t) (seqRow t r) (row t r) (row_val t r) k))
  unfold iblk
  rw [View.read_apply]
  show V m c main_v2 _ = V m c main_v2 _
  congr 1
  blk_ext [e1, row]

theorem iblk2_apply (t : Fin cfg0.N) (d : Fin 2048) : (iblk m c 2 t : Vec Ideal S1x6x2048 .f32) (ix3 0 5 d)
    = (m ((c : Thread nD τ).loc main_arg2) : FVec Ideal S2x12288 .f32) (ix2 (sq t) ⟨10240 + d.val, by omega⟩) := by
  refine Eq.trans ?_ ((congrFun (V_mod m c) (ix3 (sq t) 5 d)).trans (modV_apply _ (sq t) d))
  unfold iblk
  rw [View.read_apply]
  show V m c main_v3 _ = V m c main_v3 _
  congr 1
  blk_ext [e2, sq]

theorem iblk3_apply (t : Fin cfg0.N) (k : Fin 2048) (l : Fin 512) : (iblk m c 3 t : Vec Ideal S2048x512 .bf16) (ix2 k l)
    = (m ((c : Thread nD τ).loc main_arg3) : FVec Ideal S2048x5632 .f32) (ix2 k (hid t l)) := by
  refine Eq.trans ?_ (congrFun (V_wg m c) (ix2 k (hid t l)))
  unfold iblk
  rw [View.read_apply]
  show V m c main_v4 _ = V m c main_v4 _
  congr 1
  blk_ext [e3, hid]

theorem iblk4_apply (t : Fin cfg0.N) (k : Fin 2048) (l : Fin 512) : (iblk m c 4 t : Vec Ideal S2048x512 .bf16) (ix2 k l)
    = (m ((c : Thread nD τ).loc main_arg4) : FVec Ideal S2048x5632 .f32) (ix2 k (hid t l)) := by
  refine Eq.trans ?_ (congrFun (V_wu m c) (ix2 k (hid t l)))
  unfold iblk
  rw [View.read_apply]
  show V m c main_v5 _ = V m c main_v5 _
  congr 1
  blk_ext [e4, hid]

theorem iblk5_apply (t : Fin cfg0.N) (l : Fin 512) (d : Fin 2048) : (iblk m c 5 t : Vec Ideal S512x2048 .bf16) (ix2 l d)
    = (m ((c : Thread nD τ).loc main_arg5) : FVec Ideal S5632x2048 .f32) (ix2 (hid t l) d) := by
  refine Eq.trans ?_ (congrFun (V_wd m c) (ix2 (hid t l) d))
  unfold iblk
  rw [View.read_apply]
  show V m c main_v6 _ = V m c main_v6 _
  congr 1
  blk_ext [e5, hid]

end Cert.Kernel2Ideal.Val
-- ==== Proof.FfnValue.lean ====
/- The array the feed-forward's kernel leaves is the reference's result. -/
module

public import proofs.«01_k».proof.Proof.FfnRef
public import proofs.«01_k».proof.Proof.FfnHost
public import proofs.«01_k».proof.Proof.Gen.Kernel2Ideal.Value

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-- What the hidden unit `f` adds to the row `t` of the sequence `b` at the feature `d`. -/
def unitAt (b : Fin 2) (t : Fin 4096) (d : Fin 2048) (f : Fin 5632) : EReal :=
  Reference2Ideal.Val.unitR (m ((c : Thread nD τ).loc main_arg0)) (m ((c : Thread nD τ).loc main_arg3)) (m ((c : Thread nD τ).loc main_arg4)) (m ((c : Thread nD τ).loc main_arg5)) b t d f

/-- The sum over the first `n` hidden units. -/
def upTo (b : Fin 2) (t : Fin 4096) (d : Fin 2048) (n : ℕ) : EReal :=
  ∑ f ∈ Finset.range n, unitAt m c b t d ⟨f % 5632, Nat.mod_lt _ (by norm_num)⟩

/-- A point's partial result. -/
abbrev part (t : Fin cfg0.N) : FVec Ideal S1024x2048 .f32 := k0_pay1 (F := Ideal) (iblk m c 0 t) (iblk m c 3 t) (iblk m c 4 t) (iblk m c 5 t)

theorem part_apply (t : Fin cfg0.N) (r : Fin 1024) (d : Fin 2048) :
    part m c t (ix2 r d) = ∑ l : Fin 512, unitAt m c (sq t) (seqRow t r) d (hid t l) := by
  refine (pay1_apply _ _ _ _ r d).trans ?_
  refine Finset.sum_congr rfl fun l _ => ?_
  unfold unitAt Reference2Ideal.Val.unitR
  simp only [iblk0_apply, iblk3_apply, iblk4_apply, iblk5_apply]

/-- A point's partial result carries the sum over the units before its own over its own. -/
theorem upTo_step (t : Fin cfg0.N) (r : Fin 1024) (d : Fin 2048) :
    upTo m c (sq t) (seqRow t r) d (512 * (t.val % 11)) + part m c t (ix2 r d) = upTo m c (sq t) (seqRow t r) d (512 * (t.val % 11 + 1)) := by
  rw [part_apply]
  unfold upTo
  rw [Nat.mul_add, Nat.mul_one, Finset.sum_range_add, ← Fin.sum_univ_eq_sum_range (fun l => unitAt m c (sq t) (seqRow t r) d ⟨(512 * (t.val % 11) + l) % 5632, Nat.mod_lt _ (by norm_num)⟩)]
  congr 1
  refine Finset.sum_congr rfl fun l _ => ?_
  congr 1
  exact Fin.ext (Nat.mod_eq_of_lt (by omega)).symm

theorem upTo_all (b : Fin 2) (t : Fin 4096) (d : Fin 2048) : upTo m c b t d 5632 = ∑ f : Fin 5632, unitAt m c b t d f := by
  unfold upTo
  rw [← Fin.sum_univ_eq_sum_range (fun f => unitAt m c b t d ⟨f % 5632, Nat.mod_lt _ (by norm_num)⟩)]
  refine Finset.sum_congr rfl fun f _ => ?_
  congr 1
  exact Fin.ext (Nat.mod_eq_of_lt f.isLt)

theorem out_A (t : Fin cfg0.N) (h0 : t.val % 11 = 0) : outsAt0 m c t.val t.isLt = part m c t := by
  rw [outsAt0_A m c t h0 (by omega) (by omega)]
  frame_out

theorem out_B (t : Fin cfg0.N) (h1 : 1 ≤ t.val % 11 ∧ t.val % 11 ≤ 9) :
    outsAt0 m c t.val t.isLt = k0_pay2 (F := Ideal) (outsAt0 m c (t.val - 1) (Nat.lt_of_le_of_lt (Nat.sub_le _ _) t.isLt)) (iblk m c 0 t) (iblk m c 3 t) (iblk m c 4 t) (iblk m c 5 t) := by
  rw [outsAt0_B m c t (by omega) h1 (by omega)]
  frame_out

/-- The sixth row of the modulation's block. -/
abbrev gate (t : Fin cfg0.N) : FVec Ideal S1x1x2048 .f32 := View.ld (iblk m c 2 t : Vec Ideal S1x6x2048 .f32) (Rect.unit ![0, 5, 0] ![1, 1, 2048] inb_S1x6x2048_S1x1x2048_0_5_0)

theorem gate_apply (t : Fin cfg0.N) (d : Fin 2048) : gate m c t (ix3 0 0 d) = (m ((c : Thread nD τ).loc main_arg2) : FVec Ideal S2x12288 .f32) (ix2 (sq t) ⟨10240 + d.val, by omega⟩) := by
  refine Eq.trans ?_ (iblk2_apply m c t d)
  show (iblk m c 2 t : Vec Ideal S1x6x2048 .f32) _ = (iblk m c 2 t : Vec Ideal S1x6x2048 .f32) _
  congr 1
  funext a
  apply Fin.ext
  match a with
  | ⟨0, _⟩ => rfl
  | ⟨1, _⟩ => rfl
  | ⟨2, _⟩ => show 0 + 1 * d.val = d.val; omega

theorem out_C (t : Fin cfg0.N) (h2 : t.val % 11 = 10) :
    outsAt0 m c t.val t.isLt = k0_pay3 (F := Ideal) (iblk m c 1 t) (gate m c t) (outsAt0 m c (t.val - 1) (Nat.lt_of_le_of_lt (Nat.sub_le _ _) t.isLt)) (iblk m c 0 t) (iblk m c 3 t) (iblk m c 4 t) (iblk m c 5 t) := by
  rw [outsAt0_C m c t (by omega) (by omega) h2]
  frame_out
  rfl

theorem sq_pred (t s : Fin cfg0.N) (h : s.val / 11 = t.val / 11) : sq s = sq t := Fin.ext (by show s.val / 44 = t.val / 44; omega)

theorem seqRow_pred (t s : Fin cfg0.N) (h : s.val / 11 = t.val / 11) (r : Fin 1024) : seqRow s r = seqRow t r := Fin.ext (by show 1024 * (s.val / 11 % 4) + r.val = 1024 * (t.val / 11 % 4) + r.val; rw [h])

/-- What the block holds after every point of a row block but the last: the sum over the units so far. -/
theorem outs_apply (r : Fin 1024) (d : Fin 2048) : ∀ (n : ℕ) (h : n < cfg0.N), n % 11 ≤ 9 →
    outsAt0 m c n h (ix2 r d) = upTo m c (sq ⟨n, h⟩) (seqRow ⟨n, h⟩ r) d (512 * (n % 11 + 1)) := by
  intro n
  induction n with
  | zero =>
    intro h _
    refine (congrFun (out_A m c ⟨0, h⟩ rfl) (ix2 r d)).trans ?_
    rw [← upTo_step m c ⟨0, h⟩ r d]
    exact (zero_add _).symm
  | succ n ih =>
    intro h h9
    by_cases h0 : (n + 1) % 11 = 0
    · refine (congrFun (out_A m c ⟨n + 1, h⟩ h0) (ix2 r d)).trans ?_
      refine Eq.trans ?_ (upTo_step m c ⟨n + 1, h⟩ r d)
      rw [show (⟨n + 1, h⟩ : Fin cfg0.N).val % 11 = 0 from h0]
      exact (zero_add _).symm
    · refine (congrFun (out_B m c ⟨n + 1, h⟩ (by show 1 ≤ (n + 1) % 11 ∧ (n + 1) % 11 ≤ 9; omega)) (ix2 r d)).trans ?_
      refine (pay2_apply _ _ _ _ _ r d).trans ?_
      refine Eq.trans ?_ (upTo_step m c ⟨n + 1, h⟩ r d)
      refine congrArg (· + part m c ⟨n + 1, h⟩ (ix2 r d)) ?_
      refine (ih (Nat.lt_of_succ_lt h) (by omega)).trans ?_
      rw [sq_pred ⟨n + 1, h⟩ ⟨n, Nat.lt_of_succ_lt h⟩ (by show n / 11 = (n + 1) / 11; omega), seqRow_pred ⟨n + 1, h⟩ ⟨n, Nat.lt_of_succ_lt h⟩ (by show n / 11 = (n + 1) / 11; omega)]
      congr 2
      show n % 11 + 1 = (n + 1) % 11
      omega

/-- What the block holds when it is written back: the reference's rows. -/
theorem last_apply (t : Fin cfg0.N) (h2 : t.val % 11 = 10) (r : Fin 1024) (d : Fin 2048) : outsAt0 m c t.val t.isLt (ix2 r d)
    = Reference2Ideal.Val.ffnR (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (ix2 (row t r) d) := by
  refine (congrFun (out_C m c t h2) (ix2 r d)).trans ?_
  refine (pay3_apply _ _ _ _ _ _ _ r d).trans ?_
  refine Eq.trans ?_ (Reference2Ideal.Val.ffnR_apply _ _ _ _ _ _ (sq t) (seqRow t r) (row t r) (row_val t r) d).symm
  rw [iblk1_apply, gate_apply]
  congr 2
  refine Eq.trans ?_ (upTo_all m c (sq t) (seqRow t r) d)
  have hs := upTo_step m c t r d
  rw [h2] at hs
  refine Eq.trans ?_ hs
  refine congrArg (· + part m c t (ix2 r d)) ?_
  have hp := outs_apply m c r d (t.val - 1) (Nat.lt_of_le_of_lt (Nat.sub_le _ _) t.isLt) (by omega)
  rw [sq_pred t ⟨t.val - 1, _⟩ (by show (t.val - 1) / 11 = t.val / 11; omega), seqRow_pred t ⟨t.val - 1, _⟩ (by show (t.val - 1) / 11 = t.val / 11; omega),
    show (t.val - 1) % 11 = 9 by omega] at hp
  exact hp

theorem final6 : (dats m 0 c).arrAt 6 cfg0.N
    = Reference2Ideal.Val.ffnR (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 6 _ (by decide +kernel) fun t hf y => ?_
  have h2 : t.val % 11 = 10 := (flush0_6 t).mp hf
  rw [after0_6]
  blk_simp
  revert y
  change ∀ y : S1024x2048.Idx, outsAt0 m c t.val t.isLt y = _
  intro y
  idx_vars y
  rw [last_apply m c t h2]
  congr 1
  blk_ext [e6, row]

end Cert.Kernel2Ideal.Val
-- ==== Proof.FfnAlgebraic.lean ====
/- The feed-forward kernel's result is the reference's, at the extended reals. -/
module

public import proofs.«01_k».proof.Defs
public import proofs.«01_k».proof.Proof.FfnValue

@[expose] public section

set_option maxRecDepth 16384

noncomputable section

namespace Cert.Proof.Claims

open Idealize.ShloMosaic Idealize.ShloMosaic.TcCoe
open Idealize.SL.Sem

theorem ffn_congr {x x' h h' : FVec Ideal Cert.Reference2Ideal.S2x4096x2048 .f32} {mod mod' : FVec Ideal Cert.Reference2Ideal.S2x12288 .f32} {wg wg' wu wu' : FVec Ideal Cert.Reference2Ideal.S2048x5632 .f32}
    {wd wd' : FVec Ideal Cert.Reference2Ideal.S5632x2048 .f32} (e0 : x = x') (e1 : h = h') (e2 : mod = mod') (e3 : wg = wg') (e4 : wu = wu') (e5 : wd = wd') :
    Cert.Reference2Ideal.Val.ffnR x h mod wg wu wd = Cert.Reference2Ideal.Val.ffnR x' h' mod' wg' wu' wd' := by rw [e0, e1, e2, e3, e4, e5]

set_option maxHeartbeats 1000000 in
theorem algebraic2 : Cert.algebraic_Kernel2Ideal_Reference2Ideal (hKernel2Ideal := Cert.Kernel2Ideal.Gen.facts) (hReference2Ideal := Cert.Reference2Ideal.Gen.facts) :=
  fun m ρ m' ρ' _ harg => by
  refine ⟨fun c => Cert.Reference2Ideal.Val.ffnR (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1))
    (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3))
    (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)), ?_, ?_⟩
  · refine (θ_run Cert.Kernel2Ideal.defs _ _).mono (fun r h c => ?_) (Cert.Kernel2Ideal.Value.run_blocks (F := Ideal) m ρ)
    exact ⟨(h c).1.trans (Cert.Kernel2Ideal.Val.final6 m c), (h c).2⟩
  · refine (θ_run Cert.Reference2Ideal.defs _ _).mono (fun r h c => ?_) (Cert.Reference2Ideal.Value.run (F := Ideal) m' ρ')
    obtain ⟨a0, a1, a2, a3, a4, a5⟩ := harg c
    obtain ⟨r0, hk⟩ := h c
    exact ⟨r0.trans (ffn_congr a0 a1 a2 a3 a4 a5), hk⟩

end Cert.Proof.Claims

end
-- ==== Proof.InFrames.lean ====
/- The frames of the projection in's programs. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import Idealize.ShloMosaic.Lib.Quiescent

@[expose] public section

set_option maxRecDepth 16384

noncomputable section

namespace Cert.Proof.Claims

open Idealize.ShloMosaic Idealize.ShloMosaic.TcCoe
open Idealize.SL.Sem

theorem frame_p3 : Cert.quiescent_Kernel3 (hKernel3 := Cert.Kernel3.Gen.facts) := fun m ρ _ => Cert.Kernel3.Gen.frame m ρ

theorem frame_pi3 : Cert.quiescent_Kernel3Ideal (hKernel3Ideal := Cert.Kernel3Ideal.Gen.facts) := fun m ρ _ => Cert.Kernel3Ideal.Gen.frame m ρ

theorem frame_ri3 : Cert.quiescent_Reference3Ideal (hReference3Ideal := Cert.Reference3Ideal.Gen.facts) := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- Nothing was rewritten. -/
theorem preserves3 : Cert.preserves_Kernel3_Kernel3Ideal := trivial

end Cert.Proof.Claims

end
-- ==== Proof.InPay.lean ====
/- What one grid point of the projection in computes, read off at an index. -/
module

public import proofs.«01_k».proof.Proof.Gen.Kernel3Ideal.Skeleton
public import Idealize.ShloMosaic.Lib.Pointwise

@[expose] public section

set_option maxRecDepth 16384

noncomputable section

namespace Cert.Kernel3Ideal.Val

open Cert.Kernel3Ideal Cert.Kernel3Ideal.Gen
open Idealize.ShloMosaic

/-- What is added to a mean of squares. -/
abbrev eps : EReal := Ideal.ofBits .f32 0x358637BD#32

/-- An entry of a row through the norm: times the inverse root of the mean of the row's squares. -/
def nrm (f : Fin 2048 → EReal) (k : Fin 2048) : EReal :=
  f k * Ideal.rsqrt (Ideal.div (∑ j : Fin 2048, f j * f j) (Ideal.ofBits .f32 0x45000000#32) + eps)

/-- The modulated row: the norm times the gain, scaled and shifted. -/
def xmv (f g sc sh : Fin 2048 → EReal) (k : Fin 2048) : EReal := nrm f k * g k * (1 + sc k) + sh k

/-- An entry of a row of sixteen heads through its own head's norm. -/
def head (p : Fin 1024 → EReal) (n : Fin 1024) : EReal :=
  p n * Ideal.rsqrt (Ideal.div (∑ d : Fin 64, p ⟨n.val / 64 * 64 + d.val, by omega⟩ * p ⟨n.val / 64 * 64 + d.val, by omega⟩) (Ideal.ofBits .f32 0x42800000#32) + eps)

/-- The same as the kernel takes it: a group of four heads times a table of which lanes are of one head. -/
def headK (p : Fin 1024 → EReal) (o : Fin 256 → Fin 256 → EReal) (s : Fin 4) (l : Fin 256) : EReal :=
  p ⟨256 * s.val + l.val, by omega⟩ * Ideal.rsqrt ((∑ j : Fin 256, p ⟨256 * s.val + j.val, by omega⟩ * p ⟨256 * s.val + j.val, by omega⟩ * o j l) * Ideal.ofBits .f32 0x3C800000#32 + eps)

/-- A sum over a group of four heads, the lanes of one head counted and the others not, is the sum over that head. -/
theorem sum_group (f : Fin 256 → EReal) (l : Fin 256) :
    (∑ j : Fin 256, f j * (if j.val / 64 = l.val / 64 then (1 : EReal) else 0)) = ∑ d : Fin 64, f ⟨l.val / 64 * 64 + d.val, by omega⟩ := by
  simp only [mul_ite, mul_one, mul_zero]
  rw [← Finset.sum_filter]
  refine Finset.sum_nbij' (fun j => ⟨j.val % 64, Nat.mod_lt _ (by norm_num)⟩) (fun d => ⟨l.val / 64 * 64 + d.val, by omega⟩) ?_ ?_ ?_ ?_ ?_
  · intro j _
    exact Finset.mem_univ _
  · intro d _
    simp only [Finset.mem_filter, Finset.mem_univ, true_and]
    omega
  · intro j hj
    simp only [Finset.mem_filter, Finset.mem_univ, true_and] at hj
    apply Fin.ext
    show l.val / 64 * 64 + j.val % 64 = j.val
    omega
  · intro d _
    apply Fin.ext
    show (l.val / 64 * 64 + d.val) % 64 = d.val
    omega
  · intro j hj
    simp only [Finset.mem_filter, Finset.mem_univ, true_and] at hj
    congr 1
    apply Fin.ext
    show j.val = l.val / 64 * 64 + j.val % 64
    omega

/-- A sixty-fourth as a factor is a division by sixty-four. -/
theorem mul_sixtyFourth (x : EReal) : x * Ideal.ofBits .f32 0x3C800000#32 = Ideal.div x (Ideal.ofBits .f32 0x42800000#32) := by
  have h64 : Ideal.ofBits .f32 0x42800000#32 = ((64 : ℝ) : EReal) := by
    simp [Ideal.ofBits, Ideal.ieee, -EReal.coe_mul]; norm_num
  have h1 : Ideal.ofBits .f32 0x3C800000#32 = ((1 / 64 : ℝ) : EReal) := by
    simp [Ideal.ofBits, Ideal.ieee, -EReal.coe_mul]; norm_num
  rw [h64, h1, Ideal.div_coe (by norm_num)]

theorem headK_eq (p : Fin 1024 → EReal) (o : Fin 256 → Fin 256 → EReal) (ho : ∀ j l, o j l = if j.val / 64 = l.val / 64 then 1 else 0) (s : Fin 4) (l : Fin 256) :
    headK p o s l = head p ⟨256 * s.val + l.val, by omega⟩ := by
  unfold headK head
  rw [mul_sixtyFourth]
  simp only [ho]
  rw [sum_group (fun j => p ⟨256 * s.val + j.val, by omega⟩ * p ⟨256 * s.val + j.val, by omega⟩) l]
  congr 4
  refine Finset.sum_congr rfl fun d _ => ?_
  have e : (⟨256 * s.val + (l.val / 64 * 64 + d.val), by omega⟩ : Fin 1024) = ⟨(256 * s.val + l.val) / 64 * 64 + d.val, by omega⟩ :=
    Fin.ext (by show 256 * s.val + (l.val / 64 * 64 + d.val) = (256 * s.val + l.val) / 64 * 64 + d.val; omega)
  show p ⟨256 * s.val + (l.val / 64 * 64 + d.val), _⟩ * p ⟨256 * s.val + (l.val / 64 * 64 + d.val), _⟩ = _
  rw [e]

theorem pay2_apply (x : FVec Ideal S256x2048 .f32) (g : FVec Ideal S1x2048 .f32) (sc sh : FVec Ideal S1x1x2048 .f32) (r : Fin 256) (k : Fin 2048) :
    k0_pay2 (F := Ideal) x g sc sh (ix2 r k) = xmv (fun j => x (ix2 r j)) (fun j => g (ix2 0 j)) (fun j => sc (ix3 0 0 j)) (fun j => sh (ix3 0 0 j)) k := by
  pointwise [k0_pay2]
  rfl

/-- A block of rows times a block of the weights. -/
def prod (X : FVec Ideal S256x2048 .bf16) (W : FVec Ideal S2048x1024 .bf16) : FVec Ideal S256x1024 .bf16 := k0_pay188 (F := Ideal) X W

theorem prod_apply (X : FVec Ideal S256x2048 .bf16) (W : FVec Ideal S2048x1024 .bf16) (r : Fin 256) (n : Fin 1024) :
    prod X W (ix2 r n) = ∑ k : Fin 2048, X (ix2 r k) * W (ix2 k n) := by
  pointwise [prod, k0_pay188]

theorem pay3_apply (x : FVec Ideal S256x2048 .f32) (g : FVec Ideal S1x2048 .f32) (sc sh : FVec Ideal S1x1x2048 .f32) (w : FVec Ideal S2048x1024 .bf16) (r : Fin 256) (n : Fin 1024) :
    k0_pay3 (F := Ideal) x g sc sh w (ix2 r n) = ∑ k : Fin 2048, k0_pay2 (F := Ideal) x g sc sh (ix2 r k) * w (ix2 k n) := by
  pointwise [k0_pay3]

theorem pay173_apply (X : FVec Ideal S256x2048 .bf16) (W : FVec Ideal S2048x1024 .bf16) (r : Fin 256) (n : Fin 1024) :
    k0_pay173 (F := Ideal) X W (ix2 r n) = ∑ k : Fin 2048, X (ix2 r k) * W (ix2 k n) := by
  pointwise [k0_pay173]

theorem pay183_apply (X : FVec Ideal S256x2048 .bf16) (W : FVec Ideal S2048x1024 .bf16) (r : Fin 256) (n : Fin 1024) :
    k0_pay183 (F := Ideal) X W (ix2 r n) = ∑ k : Fin 2048, X (ix2 r k) * W (ix2 k n) := by
  pointwise [k0_pay183]

/-- The queries of a block of rows. -/
def qK (X : FVec Ideal S256x2048 .bf16) (W : FVec Ideal S2048x1024 .bf16) (o : FVec Ideal S256x256 .bf16) (g : FVec Ideal S1x1024 .f32) : FVec Ideal S256x1024 .bf16 :=
  k0_pay182 (F := Ideal) (k0_pay176 (k0_pay174 X W) (k0_pay175 X W) o) (k0_pay177 (k0_pay173 X W) o) (k0_pay178 (k0_pay173 X W) o) (k0_pay179 (k0_pay173 X W)) (k0_pay180 (k0_pay173 X W) o) k0_pay181 g

/-- The keys of a block of rows. -/
def kK (X : FVec Ideal S256x2048 .bf16) (W : FVec Ideal S2048x1024 .bf16) (o : FVec Ideal S256x256 .bf16) (g : FVec Ideal S1x1024 .f32) : FVec Ideal S256x1024 .bf16 :=
  k0_pay187 (F := Ideal) (k0_pay183 X W) (k0_pay184 X W o) (k0_pay185 X W) (k0_pay186 X W o) o o g

theorem qK_apply (X : FVec Ideal S256x2048 .bf16) (W : FVec Ideal S2048x1024 .bf16) (o : FVec Ideal S256x256 .bf16) (g : FVec Ideal S1x1024 .f32) (r : Fin 256) (s : Fin 4) (l : Fin 256) :
    qK X W o g (ix2 r ⟨256 * s.val + l.val, by omega⟩)
      = headK (fun n => k0_pay173 (F := Ideal) X W (ix2 r n)) (fun j l => o (ix2 j l)) s l * g (ix2 0 ⟨256 * s.val + l.val, by omega⟩) * Ideal.ofBits .f32 0x3E38AA3B#32 := by
  match s with
  | ⟨0, _⟩ => show qK X W o g (ix2 r ⟨0 + l.val, by omega⟩) = _; pointwise [qK, k0_pay182, k0_pay176, k0_pay174, k0_pay175, k0_pay177, k0_pay178, k0_pay179, k0_pay180, k0_pay181, headK]
  | ⟨1, _⟩ => show qK X W o g (ix2 r ⟨256 + l.val, by omega⟩) = _; pointwise [qK, k0_pay182, k0_pay176, k0_pay174, k0_pay175, k0_pay177, k0_pay178, k0_pay179, k0_pay180, k0_pay181, headK]
  | ⟨2, _⟩ => show qK X W o g (ix2 r ⟨512 + l.val, by omega⟩) = _; pointwise [qK, k0_pay182, k0_pay176, k0_pay174, k0_pay175, k0_pay177, k0_pay178, k0_pay179, k0_pay180, k0_pay181, headK]; rw [dif_neg (by omega), dif_neg (by omega), dif_pos (by omega)]; simp only [show 512 + l.val - 256 - 256 = l.val by omega]
  | ⟨3, _⟩ => show qK X W o g (ix2 r ⟨768 + l.val, by omega⟩) = _; pointwise [qK, k0_pay182, k0_pay176, k0_pay174, k0_pay175, k0_pay177, k0_pay178, k0_pay179, k0_pay180, k0_pay181, headK]; rw [dif_neg (by omega), dif_neg (by omega), dif_neg (by omega)]; simp only [show 768 + l.val - 256 - 256 - 256 = l.val by omega]

theorem kK_apply (X : FVec Ideal S256x2048 .bf16) (W : FVec Ideal S2048x1024 .bf16) (o : FVec Ideal S256x256 .bf16) (g : FVec Ideal S1x1024 .f32) (r : Fin 256) (s : Fin 4) (l : Fin 256) :
    kK X W o g (ix2 r ⟨256 * s.val + l.val, by omega⟩)
      = headK (fun n => k0_pay183 (F := Ideal) X W (ix2 r n)) (fun j l => o (ix2 j l)) s l * g (ix2 0 ⟨256 * s.val + l.val, by omega⟩) := by
  match s with
  | ⟨0, _⟩ => show kK X W o g (ix2 r ⟨0 + l.val, by omega⟩) = _; pointwise [kK, k0_pay187, k0_pay184, k0_pay185, k0_pay186, headK]
  | ⟨1, _⟩ => show kK X W o g (ix2 r ⟨256 + l.val, by omega⟩) = _; pointwise [kK, k0_pay187, k0_pay184, k0_pay185, k0_pay186, headK]
  | ⟨2, _⟩ => show kK X W o g (ix2 r ⟨512 + l.val, by omega⟩) = _; pointwise [kK, k0_pay187, k0_pay184, k0_pay185, k0_pay186, headK]; rw [dif_neg (by omega), dif_neg (by omega), dif_pos (by omega)]; simp only [show 512 + l.val - 256 - 256 = l.val by omega]
  | ⟨3, _⟩ => show kK X W o g (ix2 r ⟨768 + l.val, by omega⟩) = _; pointwise [kK, k0_pay187, k0_pay184, k0_pay185, k0_pay186, headK]; rw [dif_neg (by omega), dif_neg (by omega), dif_neg (by omega)]; simp only [show 768 + l.val - 256 - 256 - 256 = l.val by omega]

end Cert.Kernel3Ideal.Val
-- ==== Proof.InRef.lean ====
/- The reference's projection in, read off at an index. -/
module

public import proofs.«01_k».proof.Proof.InPay
public import proofs.«01_k».proof.Proof.Gen.Reference3Ideal.Run
public import Idealize.ShloMosaic.Lib.Pointwise

@[expose] public section

set_option maxRecDepth 16384

noncomputable section

namespace Cert.Reference3Ideal.Val

open Cert.Reference3Ideal Cert.Reference3Ideal.Gen
open Idealize.ShloMosaic
open Cert.Kernel3Ideal.Val (eps nrm xmv head)

abbrev Rows := FVec Ideal S2x4096x2048 .f32
abbrev Mod := FVec Ideal S2x12288 .f32
abbrev Heads := FVec Ideal S2x4096x16x64 .f32

/-- A row through the norm: each entry times the inverse root of the mean of the squares. -/
def rmsR (x : Rows) : Rows :=
  mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))

def gainR (g : FVec Ideal S2048 .f32) : Rows :=
  broadcastInDim S2x4096x2048 ![0, 1, 2] bcast_S1x1x2048_S2x4096x2048_0_1_2 (broadcastInDim S1x1x2048 ![2] bcast_S2048_S1x1x2048_2 g)

def modR (mod : Mod) : FVec Ideal S2x1x12288 .f32 := broadcastInDim S2x1x12288 ![0, 2] bcast_S2x12288_S2x1x12288_0_2 mod

def scaleR (mod : Mod) : Rows :=
  broadcastInDim S2x4096x2048 ![0, 1, 2] bcast_S2x1x2048_S2x4096x2048_0_1_2 (addf (broadcastInDim S2x1x2048 ![] bcast_S_S2x1x2048 (constant S_ .f32 0x3F800000#32)) (extractStridedSlice S2x1x2048 ![0, 0, 2048] (modR mod) slices_S2x1x12288_S2x1x2048_0_0_2048))

def shiftR (mod : Mod) : Rows :=
  broadcastInDim S2x4096x2048 ![0, 1, 2] bcast_S2x1x2048_S2x4096x2048_0_1_2 (extractStridedSlice S2x1x2048 ![0, 0, 0] (modR mod) slices_S2x1x12288_S2x1x2048_0_0_0)

/-- The modulated rows. -/
def xmR (x : Rows) (mod : Mod) (g : FVec Ideal S2048 .f32) : Rows := addf (mulf (mulf (rmsR x) (gainR g)) (scaleR mod)) (shiftR mod)

def projR (x : Rows) (mod : Mod) (g : FVec Ideal S2048 .f32) (w : FVec Ideal S2048x4096 .f32) : FVec Ideal S2x4096x4096 .f32 :=
  Host.dotGeneral dot_S2x4096x2048_S2048x4096_S2x4096x4096_2_0_01_1_n_n none (xmR x mod g) w

/-- A head through the norm, times its gain. -/
def headR (z : Heads) (g : FVec Ideal S64 .f32) : Heads :=
  mulf (mulf z (broadcastInDim S2x4096x16x64 ![0, 1, 2, 3] bcast_S2x4096x16x1_S2x4096x16x64_0_1_2_3 (Host.rsqrt (addf (Host.divf (broadcastInDim S2x4096x16x1 ![0, 1, 2] bcast_S2x4096x16_S2x4096x16x1_0_1_2 (Host.reduceAdd (mulf z z) (constant S_ .f32 0x00000000#32) reducesTo_S2x4096x16x64_S2x4096x16_d3 h_S_)) (broadcastInDim S2x4096x16x1 ![] bcast_S_S2x4096x16x1 (constant S_ .f32 0x42800000#32))) (broadcastInDim S2x4096x16x1 ![] bcast_S_S2x4096x16x1 (constant S_ .f32 0x358637BD#32))))))
    (broadcastInDim S2x4096x16x64 ![0, 1, 2, 3] bcast_S1x1x1x64_S2x4096x16x64_0_1_2_3 (broadcastInDim S1x1x1x64 ![3] bcast_S64_S1x1x1x64_3 g))

def scaledR (z : Heads) : Heads := mulf z (broadcastInDim S2x4096x16x64 ![] bcast_S_S2x4096x16x64 (constant S_ .f32 0x3E38AA3B#32))

def qR (p : FVec Ideal S2x4096x4096 .f32) : Heads := shapeCast S2x4096x16x64 (extractStridedSlice S2x4096x1024 ![0, 0, 1024] p slices_S2x4096x4096_S2x4096x1024_0_0_1024) shapeCasts_S2x4096x1024_S2x4096x16x64
def kR (p : FVec Ideal S2x4096x4096 .f32) : Heads := shapeCast S2x4096x16x64 (extractStridedSlice S2x4096x1024 ![0, 0, 2048] p slices_S2x4096x4096_S2x4096x1024_0_0_2048) shapeCasts_S2x4096x1024_S2x4096x16x64

/-- Queries, keys and values beside each other. -/
def qkvR (p : FVec Ideal S2x4096x4096 .f32) (qg kg : FVec Ideal S64 .f32) : FVec Ideal S8192x3072 .bf16 :=
  truncf .bf16 (concatenate S8192x3072 1
    [⟨S8192x1024, shapeCast S8192x1024 (scaledR (headR (qR p) qg)) shapeCasts_S2x4096x16x64_S8192x1024⟩,
     ⟨S8192x1024, shapeCast S8192x1024 (headR (kR p) kg) shapeCasts_S2x4096x16x64_S8192x1024⟩,
     ⟨S8192x1024, shapeCast S8192x1024 (extractStridedSlice S2x4096x1024 ![0, 0, 3072] p slices_S2x4096x4096_S2x4096x1024_0_0_3072) shapeCasts_S2x4096x1024_S8192x1024⟩]
    concatenates_S8192x1024_S8192x1024_S8192x1024_S8192x3072_d1) bitsLt_bf16_f32

/-- The recurrence's input, a chunk's places first. -/
def uR (p : FVec Ideal S2x4096x4096 .f32) : FVec Ideal S2x16x4x256x256 .bf16 :=
  truncf .bf16 (transpose S2x16x4x256x256 [0, 2, 3, 1, 4] (shapeCast S2x256x16x4x256 (extractStridedSlice S2x4096x1024 ![0, 0, 0] p slices_S2x4096x4096_S2x4096x1024_0_0_0) shapeCasts_S2x4096x1024_S2x256x16x4x256) transposes_S2x256x16x4x256_S2x16x4x256x256_0_2_3_1_4) bitsLt_bf16_f32

theorem rmsR_apply (x : Rows) (b : Fin 2) (t : Fin 4096) (k : Fin 2048) :
    rmsR x (ix3 b t k) = nrm (fun j => x (ix3 b t j)) k := by
  pointwise [rmsR]
  rfl

theorem xmR_apply (x : Rows) (mod : Mod) (g : FVec Ideal S2048 .f32) (b : Fin 2) (t : Fin 4096) (k : Fin 2048) :
    xmR x mod g (ix3 b t k)
      = xmv (fun j => x (ix3 b t j)) (fun j => g (ix1 j)) (fun j => mod (ix2 b ⟨2048 + j.val, by omega⟩)) (fun j => mod (ix2 b ⟨j.val, by omega⟩)) k := by
  pointwise [xmR, gainR, scaleR, shiftR, modR]
  rw [rmsR_apply]
  rfl

/-- A modulated row against a column of the weights. -/
def projAt (x : Rows) (mod : Mod) (g : FVec Ideal S2048 .f32) (w : FVec Ideal S2048x4096 .f32) (b : Fin 2) (t : Fin 4096) (n : Fin 4096) : EReal :=
  ∑ k : Fin 2048, xmv (fun j => x (ix3 b t j)) (fun j => g (ix1 j)) (fun j => mod (ix2 b ⟨2048 + j.val, by omega⟩)) (fun j => mod (ix2 b ⟨j.val, by omega⟩)) k * w (ix2 k n)

theorem projR_apply (x : Rows) (mod : Mod) (g : FVec Ideal S2048 .f32) (w : FVec Ideal S2048x4096 .f32) (b : Fin 2) (t : Fin 4096) (n : Fin 4096) :
    projR x mod g w (ix3 b t n) = projAt x mod g w b t n := by
  pointwise [projR]
  refine Finset.sum_congr rfl fun k _ => ?_
  rw [xmR_apply]

/-- Sixteen heads beside each other, each through the norm, times the gain of a lane. -/
theorem headR_apply (z : Heads) (g : FVec Ideal S64 .f32) (b : Fin 2) (t : Fin 4096) (n : Fin 1024) :
    headR z g (ix4 b t ⟨n.val / 64, by omega⟩ ⟨n.val % 64, by omega⟩)
      = head (fun j => z (ix4 b t ⟨j.val / 64, by omega⟩ ⟨j.val % 64, by omega⟩)) n * g (ix1 ⟨n.val % 64, by omega⟩) := by
  have e : ∀ d : Fin 64, z (ix4 b t ⟨(n.val / 64 * 64 + d.val) / 64, by omega⟩ ⟨(n.val / 64 * 64 + d.val) % 64, by omega⟩) = z (ix4 b t ⟨n.val / 64, by omega⟩ d) := fun d => by
    congr 2
    · exact Fin.ext (by show (n.val / 64 * 64 + d.val) / 64 = n.val / 64; omega)
    · exact Fin.ext (by show (n.val / 64 * 64 + d.val) % 64 = d.val; omega)
  pointwise [headR]
  unfold head
  simp only [e]

theorem qR_apply (p : FVec Ideal S2x4096x4096 .f32) (b : Fin 2) (t : Fin 4096) (n : Fin 1024) :
    qR p (ix4 b t ⟨n.val / 64, by omega⟩ ⟨n.val % 64, by omega⟩) = p (ix3 b t ⟨1024 + n.val, by omega⟩) := by
  pointwise [qR]

theorem kR_apply (p : FVec Ideal S2x4096x4096 .f32) (b : Fin 2) (t : Fin 4096) (n : Fin 1024) :
    kR p (ix4 b t ⟨n.val / 64, by omega⟩ ⟨n.val % 64, by omega⟩) = p (ix3 b t ⟨2048 + n.val, by omega⟩) := by
  pointwise [kR]

theorem qkvR_q (p : FVec Ideal S2x4096x4096 .f32) (qg kg : FVec Ideal S64 .f32) (b : Fin 2) (t : Fin 4096) (r : Fin 8192) (hr : r.val = 4096 * b.val + t.val) (n : Fin 1024) :
    qkvR p qg kg (ix2 r ⟨n.val, by omega⟩)
      = head (fun j => p (ix3 b t ⟨1024 + j.val, by omega⟩)) n * qg (ix1 ⟨n.val % 64, by omega⟩) * Ideal.ofBits .f32 0x3E38AA3B#32 := by
  have e1 : (⟨r.val / 4096, by omega⟩ : Fin 2) = b := Fin.ext (by show r.val / 4096 = b.val; omega)
  have e2 : (⟨r.val % 4096, by omega⟩ : Fin 4096) = t := Fin.ext (by show r.val % 4096 = t.val; omega)
  pointwise [qkvR, scaledR]
  rw [e1, e2, headR_apply]
  simp only [qR_apply]

theorem qkvR_k (p : FVec Ideal S2x4096x4096 .f32) (qg kg : FVec Ideal S64 .f32) (b : Fin 2) (t : Fin 4096) (r : Fin 8192) (hr : r.val = 4096 * b.val + t.val) (n : Fin 1024) :
    qkvR p qg kg (ix2 r ⟨1024 + n.val, by omega⟩)
      = head (fun j => p (ix3 b t ⟨2048 + j.val, by omega⟩)) n * kg (ix1 ⟨n.val % 64, by omega⟩) := by
  have e1 : (⟨r.val / 4096, by omega⟩ : Fin 2) = b := Fin.ext (by show r.val / 4096 = b.val; omega)
  have e2 : (⟨r.val % 4096, by omega⟩ : Fin 4096) = t := Fin.ext (by show r.val % 4096 = t.val; omega)
  pointwise [qkvR]
  rw [e1, e2, headR_apply]
  simp only [kR_apply]

theorem qkvR_v (p : FVec Ideal S2x4096x4096 .f32) (qg kg : FVec Ideal S64 .f32) (b : Fin 2) (t : Fin 4096) (r : Fin 8192) (hr : r.val = 4096 * b.val + t.val) (n : Fin 1024) :
    qkvR p qg kg (ix2 r ⟨2048 + n.val, by omega⟩) = p (ix3 b t ⟨3072 + n.val, by omega⟩) := by
  have e1 : (⟨r.val / 4096, by omega⟩ : Fin 2) = b := Fin.ext (by show r.val / 4096 = b.val; omega)
  have e2 : (⟨r.val % 4096, by omega⟩ : Fin 4096) = t := Fin.ext (by show r.val % 4096 = t.val; omega)
  pointwise [qkvR]
  rw [dif_neg (by omega), dif_neg (by omega)]
  simp only [show 2048 + n.val - 1024 - 1024 = n.val by omega]
  rw [e1, e2]

theorem uR_apply (p : FVec Ideal S2x4096x4096 .f32) (b : Fin 2) (s : Fin 16) (k : Fin 4) (c : Fin 256) (l : Fin 256) :
    uR p (ix5 b s k c l) = p (ix3 b ⟨16 * c.val + s.val, by omega⟩ ⟨256 * k.val + l.val, by omega⟩) := by
  pointwise [uR]
  congr 2
  · exact Fin.ext (by show c.val * 16 + s.val = 16 * c.val + s.val; omega)
  · exact Fin.ext (by show k.val * 256 + l.val = 256 * k.val + l.val; omega)

end Cert.Reference3Ideal.Val
-- ==== Proof.InHost.lean ====
/- What the host hands the projection in, and a window's block of it, read off at an index. -/
module

public import proofs.«01_k».proof.Proof.InPay
public import proofs.«01_k».proof.Proof.Gen.Kernel3Ideal.Frame
public import Idealize.ShloMosaic.Lib.Claim
public import Idealize.ShloMosaic.Lib.Pipeline.ValueKit

@[expose] public section

set_option maxRecDepth 16384

noncomputable section

namespace Cert.Kernel3Ideal.Val

open Cert.Kernel3Ideal Cert.Kernel3Ideal.Gen
open Idealize.ShloMosaic Idealize.ShloMosaic.TcCoe Idealize.ShloMosaic.StableHlo Idealize.ShloMosaic.Tactic

variable (m : (ℓ : Loc nD τ sig) → Buf (Elt Ideal) ℓ) (c : Dev nD)

/-- The rows of both sequences in one. -/
def rowsV (x : FVec Ideal S2x4096x2048 .f32) : FVec Ideal S8192x2048 .f32 := shapeCast S8192x2048 x shapeCasts_S2x4096x2048_S8192x2048

/-- The modulation, cut in six rows. -/
def modV (x : FVec Ideal S2x12288 .f32) : FVec Ideal S2x6x2048 .f32 := shapeCast S2x6x2048 x shapeCasts_S2x12288_S2x6x2048

def gainV (x : FVec Ideal S2048 .f32) : FVec Ideal S1x2048 .f32 := shapeCast S1x2048 x shapeCasts_S2048_S1x2048

/-- A head's gain, once for each of the sixteen heads. -/
def tileV (x : FVec Ideal S64 .f32) : FVec Ideal S1x1024 .f32 :=
  shapeCast S1x1024 (broadcastInDim S1x1x16x64 ![0, 1, 2, 3] bcast_S1x1x1x64_S1x1x16x64_0_1_2_3 (shapeCast S1x1x1x64 (shapeCast S1x64 x shapeCasts_S64_S1x64) shapeCasts_S1x64_S1x1x1x64)) shapeCasts_S1x1x16x64_S1x1024

/-- A lane's head: the lane over sixty-four, rounded down, as the host computes it. -/
def quoV : IVec S256 32 := Host.divsi (iotaInDim S256 32 0) (broadcastInDim S256 ![] bcast_S_S256 (constantI S_ 32 64#32))

def headV : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi quoV (broadcastInDim S256 ![] bcast_S_S256 (constantI S_ 32 1#32))) quoV

/-- Which lanes are of one head. -/
def sameV : FVec Ideal S256x256 .bf16 :=
  uitofp (F := Ideal) .bf16 (cmpi .eq (broadcastInDim S256x256 ![0, 1] bcast_S256x1_S256x256_0_1 (broadcastInDim S256x1 ![0] bcast_S256_S256x1_0 headV))
    (broadcastInDim S256x256 ![0, 1] bcast_S1x256_S256x256_0_1 (broadcastInDim S1x256 ![1] bcast_S256_S1x256_1 headV)))

theorem V_x : V m c main_v0 = rowsV (m ((c : Thread nD τ).loc main_arg0)) := by
  unfold_abbrev_sides
  simp only [List.flatten_cons, List.flatten_nil, hostOps0, hostOps0_1, hostOps0_2, List.cons_append, List.nil_append, List.append_nil]
  after_results
  rfl

theorem V_mod : V m c main_v1 = modV (m ((c : Thread nD τ).loc main_arg1)) := by
  unfold_abbrev_sides
  simp only [List.flatten_cons, List.flatten_nil, hostOps0, hostOps0_1, hostOps0_2, List.cons_append, List.nil_append, List.append_nil]
  after_results
  rfl

theorem V_g : V m c main_v19 = gainV (m ((c : Thread nD τ).loc main_arg2)) := by
  unfold_abbrev_sides
  simp only [List.flatten_cons, List.flatten_nil, hostOps0, hostOps0_1, hostOps0_2, List.cons_append, List.nil_append, List.append_nil]
  after_results
  rfl

theorem V_w : V m c main_v2 = truncf (F := Ideal) .bf16 (m ((c : Thread nD τ).loc main_arg3)) bitsLt_bf16_f32 := by
  unfold_abbrev_sides
  simp only [List.flatten_cons, List.flatten_nil, hostOps0, hostOps0_1, hostOps0_2, List.cons_append, List.nil_append, List.append_nil]
  after_results

theorem V_qg : V m c main_v6 = tileV (m ((c : Thread nD τ).loc main_arg4)) := by
  unfold_abbrev_sides
  simp only [List.flatten_cons, List.flatten_nil, hostOps0, hostOps0_1, hostOps0_2, List.cons_append, List.nil_append, List.append_nil]
  after_results
  rfl

theorem V_kg : V m c main_v10 = tileV (m ((c : Thread nD τ).loc main_arg5)) := by
  unfold_abbrev_sides
  simp only [List.flatten_cons, List.flatten_nil, hostOps0, hostOps0_1, hostOps0_2, List.cons_append, List.nil_append, List.append_nil]
  after_results
  rfl

theorem V_same : V m c main_v18 = sameV := by
  unfold_abbrev_sides
  simp only [List.flatten_cons, List.flatten_nil, hostOps0, hostOps0_1, hostOps0_2, List.cons_append, List.nil_append, List.append_nil]
  after_results
  rfl

theorem rowsV_apply (x : FVec Ideal S2x4096x2048 .f32) (b : Fin 2) (t : Fin 4096) (r : Fin 8192) (hr : r.val = 4096 * b.val + t.val) (d : Fin 2048) :
    rowsV x (ix2 r d) = x (ix3 b t d) := by
  have e1 : (⟨r.val / 4096, by omega⟩ : Fin 2) = b := Fin.ext (by show r.val / 4096 = b.val; omega)
  have e2 : (⟨r.val % 4096, by omega⟩ : Fin 4096) = t := Fin.ext (by show r.val % 4096 = t.val; omega)
  pointwise [rowsV]
  rw [e1, e2]

theorem modV_shift (x : FVec Ideal S2x12288 .f32) (b : Fin 2) (d : Fin 2048) : modV x (ix3 b 0 d) = x (ix2 b ⟨d.val, by omega⟩) := by
  pointwise [modV]

theorem modV_scale (x : FVec Ideal S2x12288 .f32) (b : Fin 2) (d : Fin 2048) : modV x (ix3 b 1 d) = x (ix2 b ⟨2048 + d.val, by omega⟩) := by
  pointwise [modV]

theorem gainV_apply (x : FVec Ideal S2048 .f32) (d : Fin 2048) : gainV x (ix2 0 d) = x (ix1 d) := by
  pointwise [gainV]

theorem tileV_apply (x : FVec Ideal S64 .f32) (n : Fin 1024) : tileV x (ix2 0 n) = x (ix1 ⟨n.val % 64, Nat.mod_lt _ (by norm_num)⟩) := by
  pointwise [tileV]

theorem headV_apply (j : Fin 256) : headV (ix1 j) = BitVec.ofNat 32 (j.val / 64) := by
  revert j
  decide +kernel

theorem sameV_apply (j l : Fin 256) : sameV (ix2 j l) = if j.val / 64 = l.val / 64 then 1 else 0 := by
  pointwise [sameV]
  rw [headV_apply, headV_apply]
  show (((IntOp.cmpi .eq (BitVec.ofNat 32 (j.val / 64)) (BitVec.ofNat 32 (l.val / 64))).toNat : ℝ) : EReal) = _
  have key : ∀ a b : Fin 4, IntOp.cmpi .eq (BitVec.ofNat 32 a.val) (BitVec.ofNat 32 b.val) = if a.val = b.val then 1#1 else 0#1 := by decide
  rw [key ⟨j.val / 64, by omega⟩ ⟨l.val / 64, by omega⟩]
  by_cases h : j.val / 64 = l.val / 64
  · simp [h]
  · simp [h]

theorem lt_points (t : Fin cfg0.N) : t.val < 16 := lt_of_lt_of_eq t.isLt (show cfg0.N = 16 from N_0)

theorem e0 : ∀ t : Fin cfg0.N, win0_0.index t = ![t.val, 0] := (by decide +kernel : ∀ t : Fin grid0.N, _)
theorem e1 : ∀ t : Fin cfg0.N, win0_1.index t = ![t.val / 8, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val / 8, 0, 0, t.val % 8, 0] := (by decide +kernel : ∀ t : Fin grid0.N, _)
theorem e8 : ∀ t : Fin cfg0.N, win0_8.index t = ![t.val, 0] := (by decide +kernel : ∀ t : Fin grid0.N, _)

/-- The sequence, the row in it and the row of the array that a row of a point's block is. -/
def sq (t : Fin cfg0.N) : Fin 2 := ⟨t.val / 8, by have := lt_points t; omega⟩
def seqRow (t : Fin cfg0.N) (r : Fin 512) : Fin 4096 := ⟨512 * (t.val % 8) + r.val, by omega⟩
def row (t : Fin cfg0.N) (r : Fin 512) : Fin 8192 := ⟨512 * t.val + r.val, by have := lt_points t; omega⟩

theorem row_val (t : Fin cfg0.N) (r : Fin 512) : (row t r).val = 4096 * (sq t).val + (seqRow t r).val := by
  show 512 * t.val + r.val = 4096 * (t.val / 8) + (512 * (t.val % 8) + r.val)
  omega

theorem iblk0_apply (t : Fin cfg0.N) (r : Fin 512) (k : Fin 2048) : (iblk m c 0 t : Vec Ideal S512x2048 .f32) (ix2 r k)
    = (m ((c : Thread nD τ).loc main_arg0) : FVec Ideal S2x4096x2048 .f32) (ix3 (sq t) (seqRow t r) k) := by
  refine Eq.trans ?_ ((congrFun (V_x m c) (ix2 (row t r) k)).trans (rowsV_apply _ (sq t) (seqRow t r) (row t r) (row_val t r) k))
  unfold iblk
  rw [View.read_apply]
  show V m c main_v0 _ = V m c main_v0 _
  congr 1
  blk_ext [e0, row]

theorem iblk1_shift (t : Fin cfg0.N) (d : Fin 2048) : (iblk m c 1 t : Vec Ideal S1x6x2048 .f32) (ix3 0 0 d)
    = (m ((c : Thread nD τ).loc main_arg1) : FVec Ideal S2x12288 .f32) (ix2 (sq t) ⟨d.val, by omega⟩) := by
  refine Eq.trans ?_ ((congrFun (V_mod m c) (ix3 (sq t) 0 d)).trans (modV_shift _ (sq t) d))
  unfold iblk
  rw [View.read_apply]
  show V m c main_v1 _ = V m c main_v1 _
  congr 1
  blk_ext [e1, sq]

theorem iblk1_scale (t : Fin cfg0.N) (d : Fin 2048) : (iblk m c 1 t : Vec Ideal S1x6x2048 .f32) (ix3 0 1 d)
    = (m ((c : Thread nD τ).loc main_arg1) : FVec Ideal S2x12288 .f32) (ix2 (sq t) ⟨2048 + d.val, by omega⟩) := by
  refine Eq.trans ?_ ((congrFun (V_mod m c) (ix3 (sq t) 1 d)).trans (modV_scale _ (sq t) d))
  unfold iblk
  rw [View.read_apply]
  show V m c main_v1 _ = V m c main_v1 _
  congr 1
  blk_ext [e1, sq]

theorem iblk2_apply (t : Fin cfg0.N) (k : Fin 2048) : (iblk m c 2 t : Vec Ideal S1x2048 .f32) (ix2 0 k)
    = (m ((c : Thread nD τ).loc main_arg2) : FVec Ideal S2048 .f32) (ix1 k) := by
  refine Eq.trans ?_ ((congrFun (V_g m c) (ix2 0 k)).trans (gainV_apply _ k))
  unfold iblk
  rw [View.read_apply]
  show V m c main_v19 _ = V m c main_v19 _
  congr 1
  blk_ext [e2]

theorem iblk3_apply (t : Fin cfg0.N) (k : Fin 2048) (l : Fin 4096) : (iblk m c 3 t : Vec Ideal S2048x4096 .bf16) (ix2 k l)
    = (m ((c : Thread nD τ).loc main_arg3) : FVec Ideal S2048x4096 .f32) (ix2 k l) := by
  refine Eq.trans ?_ (congrFun (V_w m c) (ix2 k l))
  unfold iblk
  rw [View.read_apply]
  show V m c main_v2 _ = V m c main_v2 _
  congr 1
  blk_ext [e3]

theorem iblk4_apply (t : Fin cfg0.N) (n : Fin 1024) : (iblk m c 4 t : Vec Ideal S1x1024 .f32) (ix2 0 n)
    = (m ((c : Thread nD τ).loc main_arg4) : FVec Ideal S64 .f32) (ix1 ⟨n.val % 64, Nat.mod_lt _ (by norm_num)⟩) := by
  refine Eq.trans ?_ ((congrFun (V_qg m c) (ix2 0 n)).trans (tileV_apply _ n))
  unfold iblk
  rw [View.read_apply]
  show V m c main_v6 _ = V m c main_v6 _
  congr 1
  blk_ext [e4]

theorem iblk5_apply (t : Fin cfg0.N) (n : Fin 1024) : (iblk m c 5 t : Vec Ideal S1x1024 .f32) (ix2 0 n)
    = (m ((c : Thread nD τ).loc main_arg5) : FVec Ideal S64 .f32) (ix1 ⟨n.val % 64, Nat.mod_lt _ (by norm_num)⟩) := by
  refine Eq.trans ?_ ((congrFun (V_kg m c) (ix2 0 n)).trans (tileV_apply _ n))
  unfold iblk
  rw [View.read_apply]
  show V m c main_v10 _ = V m c main_v10 _
  congr 1
  blk_ext [e5]

theorem iblk6_apply (t : Fin cfg0.N) (j l : Fin 256) : (iblk m c 6 t : Vec Ideal S256x256 .bf16) (ix2 j l)
    = (if j.val / 64 = l.val / 64 then 1 else 0 : EReal) := by
  refine Eq.trans ?_ ((congrFun (V_same m c) (ix2 j l)).trans (sameV_apply j l))
  unfold iblk
  rw [View.read_apply]
  show V m c main_v18 _ = V m c main_v18 _
  congr 1
  blk_ext [e6]

end Cert.Kernel3Ideal.Val
-- ==== Proof.InBlock.lean ====
/- A block of rows through the projection, and the queries, keys and values a grid point leaves. -/
module

public import proofs.«01_k».proof.Proof.InRef
public import proofs.«01_k».proof.Proof.InHost
public import proofs.«01_k».proof.Proof.Gen.Kernel3Ideal.Value
public import Idealize.ShloMosaic.Lib.Pipeline.ReadBack

@[expose] public section

set_option maxRecDepth 16384
set_option maxHeartbeats 1000000

noncomputable section

namespace Cert.Kernel3Ideal.Val

open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD)

/-- The reference's projection, its results, and its gains on the arguments the kernel is called with. -/
abbrev projM : FVec Ideal Reference3Ideal.S2x4096x4096 .f32 :=
  Reference3Ideal.Val.projR (m ((c : Thread nD τ).loc main_arg0)) (m ((c : Thread nD τ).loc main_arg1)) (m ((c : Thread nD τ).loc main_arg2)) (m ((c : Thread nD τ).loc main_arg3))
abbrev qkvM : FVec Ideal Reference3Ideal.S8192x3072 .bf16 :=
  Reference3Ideal.Val.qkvR (projM m c) (m ((c : Thread nD τ).loc main_arg4)) (m ((c : Thread nD τ).loc main_arg5))
abbrev uM : FVec Ideal Reference3Ideal.S2x16x4x256x256 .bf16 := Reference3Ideal.Val.uR (projM m c)

/-- A row of the scale, a row of the shift: the second and the first of the modulation's block. -/
abbrev scaleB (t : Fin cfg0.N) : FVec Ideal S1x1x2048 .f32 := View.ld (iblk m c 1 t : Vec Ideal S1x6x2048 .f32) (Rect.unit ![0, 1, 0] ![1, 1, 2048] inb_S1x6x2048_S1x1x2048_0_1_0)
abbrev shiftB (t : Fin cfg0.N) : FVec Ideal S1x1x2048 .f32 := View.ld (iblk m c 1 t : Vec Ideal S1x6x2048 .f32) (Rect.unit ![0, 0, 0] ![1, 1, 2048] inb_S1x6x2048_S1x1x2048_0_0_0)

/-- Half of a point's rows, the first at `h`. -/
abbrev rowsB (t : Fin cfg0.N) (h : ℕ) (i : ∀ a, (![h, 0] : Fin 2 → ℕ) a + (![256, 2048] : Fin 2 → ℕ) a ≤ S512x2048.size a) : FVec Ideal S256x2048 .f32 :=
  View.ld (iblk m c 0 t : Vec Ideal S512x2048 .f32) (Rect.unit ![h, 0] ![256, 2048] i)

/-- A block of the weights, the first column at `n`. -/
abbrev colsB (t : Fin cfg0.N) (n : ℕ) (i : ∀ a, (![0, n] : Fin 2 → ℕ) a + (![2048, 1024] : Fin 2 → ℕ) a ≤ S2048x4096.size a) : FVec Ideal S2048x1024 .bf16 :=
  View.ld (iblk m c 3 t : Vec Ideal S2048x4096 .bf16) (Rect.unit ![0, n] ![2048, 1024] i)

theorem scaleB_apply (t : Fin cfg0.N) (d : Fin 2048) : scaleB m c t (ix3 0 0 d) = (m ((c : Thread nD τ).loc main_arg1) : FVec Ideal S2x12288 .f32) (ix2 (sq t) ⟨2048 + d.val, by omega⟩) := by
  refine Eq.trans ?_ (iblk1_scale m c t d)
  show (iblk m c 1 t : Vec Ideal S1x6x2048 .f32) _ = (iblk m c 1 t : Vec Ideal S1x6x2048 .f32) _
  congr 1
  funext a
  apply Fin.ext
  match a with
  | ⟨0, _⟩ => rfl
  | ⟨1, _⟩ => rfl
  | ⟨2, _⟩ => show 0 + 1 * d.val = d.val; omega

theorem shiftB_apply (t : Fin cfg0.N) (d : Fin 2048) : shiftB m c t (ix3 0 0 d) = (m ((c : Thread nD τ).loc main_arg1) : FVec Ideal S2x12288 .f32) (ix2 (sq t) ⟨d.val, by omega⟩) := by
  refine Eq.trans ?_ (iblk1_shift m c t d)
  show (iblk m c 1 t : Vec Ideal S1x6x2048 .f32) _ = (iblk m c 1 t : Vec Ideal S1x6x2048 .f32) _
  congr 1
  funext a
  apply Fin.ext
  match a with
  | ⟨0, _⟩ => rfl
  | ⟨1, _⟩ => rfl
  | ⟨2, _⟩ => show 0 + 1 * d.val = d.val; omega

theorem rowsB_apply (t : Fin cfg0.N) (h : ℕ) (i) (hh : h ≤ 256) (r : Fin 256) (k : Fin 2048) :
    rowsB m c t h i (ix2 r k) = (m ((c : Thread nD τ).loc main_arg0) : FVec Ideal S2x4096x2048 .f32) (ix3 (sq t) (seqRow t ⟨h + r.val, by omega⟩) k) := by
  refine Eq.trans ?_ (iblk0_apply m c t ⟨h + r.val, by omega⟩ k)
  show (iblk m c 0 t : Vec Ideal S512x2048 .f32) _ = (iblk m c 0 t : Vec Ideal S512x2048 .f32) _
  congr 1
  funext a
  apply Fin.ext
  match a with
  | ⟨0, _⟩ => show h + 1 * r.val = h + r.val; omega
  | ⟨1, _⟩ => show 0 + 1 * k.val = k.val; omega

theorem colsB_apply (t : Fin cfg0.N) (n : ℕ) (i) (hn : n ≤ 3072) (k : Fin 2048) (l : Fin 1024) :
    colsB m c t n i (ix2 k l) = (m ((c : Thread nD τ).loc main_arg3) : FVec Ideal S2048x4096 .f32) (ix2 k ⟨n + l.val, by omega⟩) := by
  refine Eq.trans ?_ (iblk3_apply m c t k ⟨n + l.val, by omega⟩)
  show (iblk m c 3 t : Vec Ideal S2048x4096 .bf16) _ = (iblk m c 3 t : Vec Ideal S2048x4096 .bf16) _
  congr 1
  funext a
  apply Fin.ext
  match a with
  | ⟨0, _⟩ => show 0 + 1 * k.val = k.val; omega
  | ⟨1, _⟩ => show n + 1 * l.val = n + l.val; omega

/-- The modulated rows of half a block. -/
abbrev modB (t : Fin cfg0.N) (h : ℕ) (i : ∀ a, (![h, 0] : Fin 2 → ℕ) a + (![256, 2048] : Fin 2 → ℕ) a ≤ S512x2048.size a) : FVec Ideal S256x2048 .bf16 :=
  k0_pay2 (F := Ideal) (rowsB m c t h i) (iblk m c 2 t) (scaleB m c t) (shiftB m c t)

/-- Half a block against a block of the weights: entries of the reference's projection. -/
theorem sum_apply (t : Fin cfg0.N) (h : ℕ) (i) (hh : h ≤ 256) (n : ℕ) (j) (hn : n ≤ 3072) (r : Fin 256) (l : Fin 1024) :
    (∑ k : Fin 2048, modB m c t h i (ix2 r k) * colsB m c t n j (ix2 k l)) = projM m c (ix3 (sq t) (seqRow t ⟨h + r.val, by omega⟩) ⟨n + l.val, by omega⟩) := by
  refine Eq.trans ?_ (Reference3Ideal.Val.projR_apply _ _ _ _ (sq t) (seqRow t ⟨h + r.val, by omega⟩) ⟨n + l.val, by omega⟩).symm
  unfold Reference3Ideal.Val.projAt
  refine Finset.sum_congr rfl fun k _ => ?_
  rw [colsB_apply m c t n j hn]
  refine congrArg (· * _) ((pay2_apply _ _ _ _ r k).trans ?_)
  simp only [rowsB_apply m c t h i hh, iblk2_apply, scaleB_apply, shiftB_apply]

/-- The results' entries that a point's block holds. -/
def qkvB (t : Fin cfg0.N) (y : S512x3072.Idx) : EReal := qkvM m c (ix2 (row t (y 0)) (y 1))

theorem q_apply (t : Fin cfg0.N) (h : ℕ) (i) (hh : h ≤ 256) (j) (r : Fin 256) (n : Fin 1024) :
    qK (modB m c t h i) (colsB m c t 1024 j) (iblk m c 6 t) (iblk m c 4 t) (ix2 r n) = qkvM m c (ix2 (row t ⟨h + r.val, by omega⟩) ⟨n.val, by omega⟩) := by
  refine Eq.trans ?_ (Reference3Ideal.Val.qkvR_q _ _ _ (sq t) (seqRow t ⟨h + r.val, by omega⟩) (row t ⟨h + r.val, by omega⟩) (row_val t _) n).symm
  have en : n = ⟨256 * (n.val / 256) + n.val % 256, by omega⟩ := Fin.ext (by show n.val = 256 * (n.val / 256) + n.val % 256; omega)
  refine (congrArg (fun n => qK (modB m c t h i) (colsB m c t 1024 j) (iblk m c 6 t) (iblk m c 4 t) (ix2 r n)) en).trans ?_
  refine (qK_apply _ _ _ _ r ⟨n.val / 256, by omega⟩ ⟨n.val % 256, by omega⟩).trans ?_
  rw [headK_eq _ _ (fun j l => iblk6_apply m c t j l)]
  simp only [pay173_apply, sum_apply m c t h i hh 1024 j (by norm_num)]
  rw [← en, iblk4_apply]

theorem k_apply (t : Fin cfg0.N) (h : ℕ) (i) (hh : h ≤ 256) (j) (r : Fin 256) (n : Fin 1024) :
    kK (modB m c t h i) (colsB m c t 2048 j) (iblk m c 6 t) (iblk m c 5 t) (ix2 r n) = qkvM m c (ix2 (row t ⟨h + r.val, by omega⟩) ⟨1024 + n.val, by omega⟩) := by
  refine Eq.trans ?_ (Reference3Ideal.Val.qkvR_k _ _ _ (sq t) (seqRow t ⟨h + r.val, by omega⟩) (row t ⟨h + r.val, by omega⟩) (row_val t _) n).symm
  have en : n = ⟨256 * (n.val / 256) + n.val % 256, by omega⟩ := Fin.ext (by show n.val = 256 * (n.val / 256) + n.val % 256; omega)
  refine (congrArg (fun n => kK (modB m c t h i) (colsB m c t 2048 j) (iblk m c 6 t) (iblk m c 5 t) (ix2 r n)) en).trans ?_
  refine (kK_apply _ _ _ _ r ⟨n.val / 256, by omega⟩ ⟨n.val % 256, by omega⟩).trans ?_
  rw [headK_eq _ _ (fun j l => iblk6_apply m c t j l)]
  simp only [pay183_apply, sum_apply m c t h i hh 2048 j (by norm_num)]
  rw [← en, iblk5_apply]

theorem v_apply (t : Fin cfg0.N) (h : ℕ) (i) (hh : h ≤ 256) (j) (r : Fin 256) (n : Fin 1024) :
    prod (modB m c t h i) (colsB m c t 3072 j) (ix2 r n) = qkvM m c (ix2 (row t ⟨h + r.val, by omega⟩) ⟨2048 + n.val, by omega⟩) := by
  refine Eq.trans ?_ (Reference3Ideal.Val.qkvR_v _ _ _ (sq t) (seqRow t ⟨h + r.val, by omega⟩) (row t ⟨h + r.val, by omega⟩) (row_val t _) n).symm
  exact (prod_apply _ _ r n).trans (sum_apply m c t h i hh 3072 j (by norm_num) r n)

/-- A piece of a point's block: its entries are the results' at the rows and columns it is stored at. -/
theorem piece8 (t : Fin cfg0.N) (h n : ℕ) (hh : h ≤ 256) (hn : n ≤ 2048) (b : ∀ a, (![h, n] : Fin 2 → ℕ) a + (![256, 1024] : Fin 2 → ℕ) a ≤ S512x3072.size a) (U : FVec Ideal S256x1024 .bf16)
    (hU : ∀ (r : Fin 256) (l : Fin 1024), U (ix2 r l) = qkvM m c (ix2 (row t ⟨h + r.val, by omega⟩) ⟨n + l.val, by omega⟩)) (x : S256x1024.Idx) :
    U x = qkvB m c t ((Rect.unit (s := S512x3072) ![h, n] ![256, 1024] b).emb x) := by
  revert x
  change ∀ x : S256x1024.Idx, _
  intro x
  idx_vars x
  rw [hU]
  unfold qkvB
  congr 2
  · exact congrArg (row t) (Fin.ext (by show h + x0.val = h + 1 * x0.val; omega))
  · exact Fin.ext (by show n + x1.val = n + 1 * x1.val; omega)

theorem out8 (t : Fin cfg0.N) : (outsAt0 m c t).2 = qkvB m c t := by
  unfold outsAt0
  dsimp only
  frame_out
  funext y
  refine View.canon_apply_of_pieces (Val := Elt Ideal) (e := .bf16) (qkvB m c t) _ (View.PiecesOf.mem ?_) y ?_
  swap
  · exact View.cover_of_tiledL (s := S512x3072) _ S256x1024.size (by sl_kernel_rfl) y
  refine ⟨?_, ?_, ?_, ?_, ?_, ?_, trivial⟩
  · exact piece8 m c t 256 2048 (by norm_num) (by norm_num) inb_S512x3072_S256x1024_256_2048 _ (v_apply m c t 256 inb_S512x2048_S256x2048_256_0 (by norm_num) inb_S2048x4096_S2048x1024_0_3072)
  · exact piece8 m c t 256 1024 (by norm_num) (by norm_num) inb_S512x3072_S256x1024_256_1024 _ (k_apply m c t 256 inb_S512x2048_S256x2048_256_0 (by norm_num) inb_S2048x4096_S2048x1024_0_2048)
  · exact piece8 m c t 256 0 (by norm_num) (by norm_num) inb_S512x3072_S256x1024_256_0 _ (fun r l => (q_apply m c t 256 inb_S512x2048_S256x2048_256_0 (by norm_num) inb_S2048x4096_S2048x1024_0_1024 r l).trans (by simp only [Nat.zero_add]))
  · exact piece8 m c t 0 2048 (by norm_num) (by norm_num) inb_S512x3072_S256x1024_0_2048 _ (v_apply m c t 0 inb_S512x2048_S256x2048_0_0 (by norm_num) inb_S2048x4096_S2048x1024_0_3072)
  · exact piece8 m c t 0 1024 (by norm_num) (by norm_num) inb_S512x3072_S256x1024_0_1024 _ (k_apply m c t 0 inb_S512x2048_S256x2048_0_0 (by norm_num) inb_S2048x4096_S2048x1024_0_2048)
  · exact piece8 m c t 0 0 (by norm_num) (by norm_num) inb_S512x3072_S256x1024_0_0 _ (fun r l => (q_apply m c t 0 inb_S512x2048_S256x2048_0_0 (by norm_num) inb_S2048x4096_S2048x1024_0_1024 r l).trans (by simp only [Nat.zero_add]))

theorem final8 : (dats m 0 c).arrAt 8 cfg0.N = qkvM m c := by
  refine (dats m 0 c).arrAt_eq_of_covers 8 _ (by decide +kernel) fun t hf y => ?_
  rw [after0_8]
  blk_simp
  revert y
  change ∀ y : S512x3072.Idx, (outsAt0 m c t).2 y = _
  intro y
  rw [out8]
  unfold qkvB
  idx_vars y
  congr 1
  blk_ext [e8, row]

end Cert.Kernel3Ideal.Val
-- ==== Proof.InCells.lean ====
/- The projection's first columns through the scratch buffer: eight tiles are stored, and sixteenths of a tile's rows read back. -/
module

public import proofs.«01_k».proof.Proof.InBlock

@[expose] public section

set_option maxRecDepth 16384
set_option maxHeartbeats 1000000

noncomputable section

namespace Cert.Kernel3Ideal.Val

open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD)

/-- The eight stores of a block's 1024 columns, 128 a tile. -/
def tiles (P : FVec Ideal S256x1024 .f32) : List (View.Piece (Elt Ideal) S8x256x128 .f32) :=
  [⟨Rect.unit (s := S8x256x128) ![7, 0, 0] ![1, 256, 128] inb_S8x256x128_S1x256x128_7_0_0, shapeCast S1x256x128 (extractStridedSlice S256x128 ![0, 896] P slices_S256x1024_o0_896_S256x128) shapeCasts_S256x128_S1x256x128⟩,
   ⟨Rect.unit (s := S8x256x128) ![6, 0, 0] ![1, 256, 128] inb_S8x256x128_S1x256x128_6_0_0, shapeCast S1x256x128 (extractStridedSlice S256x128 ![0, 768] P slices_S256x1024_o0_768_S256x128) shapeCasts_S256x128_S1x256x128⟩,
   ⟨Rect.unit (s := S8x256x128) ![5, 0, 0] ![1, 256, 128] inb_S8x256x128_S1x256x128_5_0_0, shapeCast S1x256x128 (extractStridedSlice S256x128 ![0, 640] P slices_S256x1024_o0_640_S256x128) shapeCasts_S256x128_S1x256x128⟩,
   ⟨Rect.unit (s := S8x256x128) ![4, 0, 0] ![1, 256, 128] inb_S8x256x128_S1x256x128_4_0_0, shapeCast S1x256x128 (extractStridedSlice S256x128 ![0, 512] P slices_S256x1024_o0_512_S256x128) shapeCasts_S256x128_S1x256x128⟩,
   ⟨Rect.unit (s := S8x256x128) ![3, 0, 0] ![1, 256, 128] inb_S8x256x128_S1x256x128_3_0_0, shapeCast S1x256x128 (extractStridedSlice S256x128 ![0, 384] P slices_S256x1024_o0_384_S256x128) shapeCasts_S256x128_S1x256x128⟩,
   ⟨Rect.unit (s := S8x256x128) ![2, 0, 0] ![1, 256, 128] inb_S8x256x128_S1x256x128_2_0_0, shapeCast S1x256x128 (extractStridedSlice S256x128 ![0, 256] P slices_S256x1024_o0_256_S256x128) shapeCasts_S256x128_S1x256x128⟩,
   ⟨Rect.unit (s := S8x256x128) ![1, 0, 0] ![1, 256, 128] inb_S8x256x128_S1x256x128_1_0_0, shapeCast S1x256x128 (extractStridedSlice S256x128 ![0, 128] P slices_S256x1024_o0_128_S256x128) shapeCasts_S256x128_S1x256x128⟩,
   ⟨Rect.unit (s := S8x256x128) ![0, 0, 0] ![1, 256, 128] inb_S8x256x128_S1x256x128_0_0_0, shapeCast S1x256x128 (extractStridedSlice S256x128 ![0, 0] P slices_S256x1024_o0_0_S256x128) shapeCasts_S256x128_S1x256x128⟩]

/-- What the tiles hold: the tile, the row, and the column in the tile. -/
def tileG (P : FVec Ideal S256x1024 .f32) (y : S8x256x128.Idx) : EReal :=
  P (ix2 (y 1) ⟨128 * (y 0).val + (y 2).val, by have h0 : (y 0).val < 8 := (y 0).isLt; have h2 : (y 2).val < 128 := (y 2).isLt; omega⟩)

theorem tile_piece (k : ℕ) (hk : k ≤ 7) (P : FVec Ideal S256x1024 .f32) (b : ∀ a, (![k, 0, 0] : Fin 3 → ℕ) a + (![1, 256, 128] : Fin 3 → ℕ) a ≤ S8x256x128.size a)
    (h : S256x1024.Slices ![0, 128 * k] S256x128) (x : S1x256x128.Idx) :
    shapeCast S1x256x128 (extractStridedSlice S256x128 ![0, 128 * k] P h) shapeCasts_S256x128_S1x256x128 x = tileG P ((Rect.unit (s := S8x256x128) ![k, 0, 0] ![1, 256, 128] b).emb x) := by
  revert x
  change ∀ x : S1x256x128.Idx, _
  intro x
  idx_vars x
  unfold tileG
  pointwise
  congr 2
  · exact Fin.ext (by show x1.val = 0 + 1 * x1.val; omega)
  · exact Fin.ext (by show 128 * k + x2.val = 128 * (k + 1 * x0.val) + (0 + 1 * x2.val); omega)

theorem tiles_apply (P : FVec Ideal S256x1024 .f32) (L : List (View.Piece (Elt Ideal) S8x256x128 .f32)) (y : S8x256x128.Idx) : View.canon (tiles P ++ L) y = tileG P y := by
  refine View.canon_append_of_piecesOf (Val := Elt Ideal) (e := .f32) (tileG P) L (tiles P) ?_ y ?_
  swap
  · exact View.cover_of_tiledL (s := S8x256x128) (tiles P) S1x256x128.size (by sl_kernel_rfl) y
  unfold tiles
  refine ⟨?_, ?_, ?_, ?_, ?_, ?_, ?_, ?_, trivial⟩
  · exact tile_piece 7 (by norm_num) P inb_S8x256x128_S1x256x128_7_0_0 slices_S256x1024_o0_896_S256x128
  · exact tile_piece 6 (by norm_num) P inb_S8x256x128_S1x256x128_6_0_0 slices_S256x1024_o0_768_S256x128
  · exact tile_piece 5 (by norm_num) P inb_S8x256x128_S1x256x128_5_0_0 slices_S256x1024_o0_640_S256x128
  · exact tile_piece 4 (by norm_num) P inb_S8x256x128_S1x256x128_4_0_0 slices_S256x1024_o0_512_S256x128
  · exact tile_piece 3 (by norm_num) P inb_S8x256x128_S1x256x128_3_0_0 slices_S256x1024_o0_384_S256x128
  · exact tile_piece 2 (by norm_num) P inb_S8x256x128_S1x256x128_2_0_0 slices_S256x1024_o0_256_S256x128
  · exact tile_piece 1 (by norm_num) P inb_S8x256x128_S1x256x128_1_0_0 slices_S256x1024_o0_128_S256x128
  · exact tile_piece 0 (by norm_num) P inb_S8x256x128_S1x256x128_0_0_0 slices_S256x1024_o0_0_S256x128

/-- Rows read back, as they are stored in a result's block. -/
def cellK (v : FVec Ideal S1x16x128 .f32) : FVec Ideal S1x1x1x16x128 .bf16 :=
  shapeCast S1x1x1x16x128 (truncf (F := Ideal) .bf16 (shapeCast S16x128 v shapeCasts_S1x16x128_S16x128) bitsLt_bf16_f32) shapeCasts_S16x128_S1x1x1x16x128

theorem cellK_apply (v : FVec Ideal S1x16x128 .f32) (a b d : Fin 1) (r : Fin 16) (l : Fin 128) : cellK v (ix5 a b d r l) = v (ix3 0 r l) := by
  pointwise [cellK]

/-- The recurrence's input that a point's block holds. -/
def uB (t : Fin cfg0.N) (y : S1x16x4x32x256.Idx) : EReal :=
  uM m c (ix5 (sq t) (y 1) (y 2) ⟨32 * (t.val % 8) + (y 3).val, by have h3 : (y 3).val < 32 := (y 3).isLt; omega⟩ (y 4))

/-- A block of rows against the weights' first columns. -/
abbrev projB (t : Fin cfg0.N) (h : ℕ) (i : ∀ a, (![h, 0] : Fin 2 → ℕ) a + (![256, 2048] : Fin 2 → ℕ) a ≤ S512x2048.size a) : FVec Ideal S256x1024 .f32 :=
  k0_pay3 (F := Ideal) (rowsB m c t h i) (iblk m c 2 t) (scaleB m c t) (shiftB m c t) (colsB m c t 0 inb_S2048x4096_S2048x1024_0_0)

theorem projB_apply (t : Fin cfg0.N) (h : ℕ) (i) (hh : h ≤ 256) (r : Fin 256) (n : Fin 1024) :
    projB m c t h i (ix2 r n) = projM m c (ix3 (sq t) (seqRow t ⟨h + r.val, by omega⟩) ⟨n.val, by omega⟩) := by
  refine (pay3_apply _ _ _ _ _ r n).trans ((sum_apply m c t h i hh 0 inb_S2048x4096_S2048x1024_0_0 (by norm_num) r n).trans ?_)
  simp only [Nat.zero_add]

/-- A piece of a point's block of the recurrence's input: place `s` of sixteen rows of the tile `k`. -/
theorem cell (t : Fin cfg0.N) (h : ℕ) (i) (hh : h ≤ 256) (h16 : h % 16 = 0) (L : List (View.Piece (Elt Ideal) S8x256x128 .f32)) (k s q l c0 : ℕ) (hk : k ≤ 7) (hs : s ≤ 15) (hq : 128 * k = 256 * q + l) (hl : l ≤ 128) (hc : 16 * c0 = h)
    (b : ∀ a, (![0, s, q, c0, l] : Fin 5 → ℕ) a + (![1, 1, 1, 16, 128] : Fin 5 → ℕ) a ≤ S1x16x4x32x256.size a) (hb) (x : S1x1x1x16x128.Idx) :
    cellK ((View.whole cc0_scratch0).readCov (tiles (projB m c t h i) ++ L) (⟨![k, s, 0], ![1, 16, 128], ![1, 16, 1], hb⟩ : LoadRect S8x256x128)) x
      = uB m c t ((Rect.unit (s := S1x16x4x32x256) ![0, s, q, c0, l] ![1, 1, 1, 16, 128] b).emb x) := by
  revert x
  change ∀ x : S1x1x1x16x128.Idx, _
  intro x
  idx_vars x
  rw [cellK_apply, View.readCov_eq_canon']
  refine (tiles_apply _ _ _).trans ?_
  unfold tileG uB
  refine Eq.trans ?_ (Reference3Ideal.Val.uR_apply _ (sq t) _ _ _ _).symm
  refine (projB_apply m c t h i hh _ _).trans ?_
  congr 2
  · exact Fin.ext (by show 512 * (t.val % 8) + (h + (s + 16 * x3.val)) = 16 * (32 * (t.val % 8) + (c0 + 1 * x3.val)) + (s + 1 * x1.val); omega)
  · exact Fin.ext (by show 128 * (k + 1 * 0) + (0 + 1 * x4.val) = 256 * (q + 1 * x2.val) + (l + 1 * x4.val); omega)

end Cert.Kernel3Ideal.Val
-- ==== Proof.InU.lean ====
/- The block of the recurrence's input that a grid point leaves, and the array. -/
module

public import proofs.«01_k».proof.Proof.InCells

@[expose] public section

set_option maxRecDepth 16384
set_option maxHeartbeats 4000000

noncomputable section

namespace Cert.Kernel3Ideal.Val

open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD)

theorem cellA (t : Fin cfg0.N) (k s q l : ℕ) (hk : k ≤ 7) (hs : s ≤ 15) (hq : 128 * k = 256 * q + l) (hl : l ≤ 128)
    (b : ∀ a, (![0, s, q, 0, l] : Fin 5 → ℕ) a + (![1, 1, 1, 16, 128] : Fin 5 → ℕ) a ≤ S1x16x4x32x256.size a) (hb) (x : S1x1x1x16x128.Idx) :
    cellK ((View.whole cc0_scratch0).readCov (tiles (projB m c t 0 inb_S512x2048_S256x2048_0_0)) (⟨![k, s, 0], ![1, 16, 128], ![1, 16, 1], hb⟩ : LoadRect S8x256x128)) x
      = uB m c t ((Rect.unit (s := S1x16x4x32x256) ![0, s, q, 0, l] ![1, 1, 1, 16, 128] b).emb x) := by
  have h := cell m c t 0 inb_S512x2048_S256x2048_0_0 (by norm_num) (by norm_num) [] k s q l 0 hk hs hq hl (by norm_num) b hb x
  rw [List.append_nil] at h
  exact h

theorem cellB (t : Fin cfg0.N) (k s q l : ℕ) (hk : k ≤ 7) (hs : s ≤ 15) (hq : 128 * k = 256 * q + l) (hl : l ≤ 128)
    (b : ∀ a, (![0, s, q, 16, l] : Fin 5 → ℕ) a + (![1, 1, 1, 16, 128] : Fin 5 → ℕ) a ≤ S1x16x4x32x256.size a) (hb) (x : S1x1x1x16x128.Idx) :
    cellK ((View.whole cc0_scratch0).readCov (tiles (projB m c t 256 inb_S512x2048_S256x2048_256_0) ++ tiles (projB m c t 0 inb_S512x2048_S256x2048_0_0)) (⟨![k, s, 0], ![1, 16, 128], ![1, 16, 1], hb⟩ : LoadRect S8x256x128)) x
      = uB m c t ((Rect.unit (s := S1x16x4x32x256) ![0, s, q, 16, l] ![1, 1, 1, 16, 128] b).emb x) :=
  cell m c t 256 inb_S512x2048_S256x2048_256_0 (by norm_num) (by norm_num) _ k s q l 16 hk hs hq hl (by norm_num) b hb x

theorem out7 (t : Fin cfg0.N) : (outsAt0 m c t).1 = uB m c t := by
  unfold outsAt0
  dsimp only
  frame_out
  funext y
  refine View.canon_apply_of_pieces (Val := Elt Ideal) (e := .bf16) (uB m c t) _ (View.PiecesOf.mem ?_) y ?_
  swap
  · exact View.cover_of_tiledL (s := S1x16x4x32x256) _ S1x1x1x16x128.size (by sl_kernel_rfl) y
  refine ⟨fun x => by dsimp only; exact cellB m c t 7 15 3 128 (by decide) (by decide) (by decide) (by decide) inb_S1x16x4x32x256_S1x1x1x16x128_0_15_3_16_128 inb_S8x256x128_S1x16x128_7_15_0_s_1_16_1 x, ?_⟩
  refine ⟨fun x => by dsimp only; exact cellB m c t 6 15 3 0 (by decide) (by decide) (by decide) (by decide) inb_S1x16x4x32x256_S1x1x1x16x128_0_15_3_16_0 inb_S8x256x128_S1x16x128_6_15_0_s_1_16_1 x, ?_⟩
  refine ⟨fun x => by dsimp only; exact cellB m c t 5 15 2 128 (by decide) (by decide) (by decide) (by decide) inb_S1x16x4x32x256_S1x1x1x16x128_0_15_2_16_128 inb_S8x256x128_S1x16x128_5_15_0_s_1_16_1 x, ?_⟩
  refine ⟨fun x => by dsimp only; exact cellB m c t 4 15 2 0 (by decide) (by decide) (by decide) (by decide) inb_S1x16x4x32x256_S1x1x1x16x128_0_15_2_16_0 inb_S8x256x128_S1x16x128_4_15_0_s_1_16_1 x, ?_⟩
  refine ⟨fun x => by dsimp only; exact cellB m c t 3 15 1 128 (by decide) (by decide) (by decide) (by decide) inb_S1x16x4x32x256_S1x1x1x16x128_0_15_1_16_128 inb_S8x256x128_S1x16x128_3_15_0_s_1_16_1 x, ?_⟩
  refine ⟨fun x => by dsimp only; exact cellB m c t 2 15 1 0 (by decide) (by decide) (by decide) (by decide) inb_S1x16x4x32x256_S1x1x1x16x128_0_15_1_16_0 inb_S8x256x128_S1x16x128_2_15_0_s_1_16_1 x, ?_⟩
  refine ⟨fun x => by dsimp only; exact cellB m c t 1 15 0 128 (by decide) (by decide) (by decide) (by decide) inb_S1x16x4x32x256_S1x1x1x16x128_0_15_0_16_128 inb_S8x256x128_S1x16x128_1_15_0_s_1_16_1 x, ?_⟩
  refine ⟨fun x => by dsimp only; exact cellB m c t 0 15 0 0 (by decide) (by decide) (by decide) (by decide) inb_S1x16x4x32x256_S1x1x1x16x128_0_15_0_16_0 inb_S8x256x128_S1x16x128_0_15_0_s_1_16_1 x, ?_⟩
  refine ⟨fun x => by dsimp only; exact cellB m c t 7 14 3 128 (by decide) (by decide) (by decide) (by decide) inb_S1x16x4x32x256_S1x1x1x16x128_0_14_3_16_128 inb_S8x256x128_S1x16x128_7_14_0_s_1_16_1 x, ?_⟩
  refine ⟨fun x => by dsimp only; exact cellB m c t 6 14 3 0 (by decide) (by decide) (by decide) (by decide) inb_S1x16x4x32x256_S1x1x1x16x128_0_14_3_16_0 inb_S8x256x128_S1x16x128_6_14_0_s_1_16_1 x, ?_⟩
  refine ⟨fun x => by dsimp only; exact cellB m c t 5 14 2 128 (by decide) (by decide) (by decide) (by decide) inb_S1x16x4x32x256_S1x1x1x16x128_0_14_2_16_128 inb_S8x256x128_S1x16x128_5_14_0_s_1_16_1 x, ?_⟩
  refine ⟨fun x => by dsimp only; exact cellB m c t 4 14 2 0 (by decide) (by decide) (by decide) (by decide) inb_S1x16x4x32x256_S1x1x1x16x128_0_14_2_16_0 inb_S8x256x128_S1x16x128_4_14_0_s_1_16_1 x, ?_⟩
  refine ⟨fun x => by dsimp only; exact cellB m c t 3 14 1 128 (by decide) (by decide) (by decide) (by decide) inb_S1x16x4x32x256_S1x1x1x16x128_0_14_1_16_128 inb_S8x256x128_S1x16x128_3_14_0_s_1_16_1 x, ?_⟩
  refine ⟨fun x => by dsimp only; exact cellB m c t 2 14 1 0 (by decide) (by decide) (by decide) (by decide) inb_S1x16x4x32x256_S1x1x1x16x128_0_14_1_16_0 inb_S8x256x128_S1x16x128_2_14_0_s_1_16_1 x, ?_⟩
  refine ⟨fun x => by dsimp only; exact cellB m c t 1 14 0 128 (by decide) (by decide) (by decide) (by decide) inb_S1x16x4x32x256_S1x1x1x16x128_0_14_0_16_128 inb_S8x256x128_S1x16x128_1_14_0_s_1_16_1 x, ?_⟩
  refine ⟨fun x => by dsimp only; exact cellB m c t 0 14 0 0 (by decide) (by decide) (by decide) (by decide) inb_S1x16x4x32x256_S1x1x1x16x128_0_14_0_16_0 inb_S8x256x128_S1x16x128_0_14_0_s_1_16_1 x, ?_⟩
  refine ⟨fun x => by dsimp only; exact cellB m c t 7 13 3 128 (by decide) (by decide) (by decide) (by decide) inb_S1x16x4x32x256_S1x1x1x16x128_0_13_3_16_128 inb_S8x256x128_S1x16x128_7_13_0_s_1_16_1 x, ?_⟩
  refine ⟨fun x => by dsimp only; exact cellB m c t 6 13 3 0 (by decide) (by decide) (by decide) (by decide) inb_S1x16x4x32x256_S1x1x1x16x128_0_13_3_16_0 inb_S8x256x128_S1x16x128_6_13_0_s_1_16_1 x, ?_⟩
  refine ⟨fun x => by dsimp only; exact cellB m c t 5 13 2 128 (by decide) (by decide) (by decide) (by decide) inb_S1x16x4x32x256_S1x1x1x16x128_0_13_2_16_128 inb_S8x256x128_S1x16x128_5_13_0_s_1_16_1 x, ?_⟩
  refine ⟨fun x => by dsimp only; exact cellB m c t 4 13 2 0 (by decide) (by decide) (by decide) (by decide) inb_S1x16x4x32x256_S1x1x1x16x128_0_13_2_16_0 inb_S8x256x128_S1x16x128_4_13_0_s_1_16_1 x, ?_⟩
  refine ⟨fun x => by dsimp only; exact cellB m c t 3 13 1 128 (by decide) (by decide) (by decide) (by decide) inb_S1x16x4x32x256_S1x1x1x16x128_0_13_1_16_128 inb_S8x256x128_S1x16x128_3_13_0_s_1_16_1 x, ?_⟩
  refine ⟨fun x => by dsimp only; exact cellB m c t 2 13 1 0 (by decide) (by decide) (by decide) (by decide) inb_S1x16x4x32x256_S1x1x1x16x128_0_13_1_16_0 inb_S8x256x128_S1x16x128_2_13_0_s_1_16_1 x, ?_⟩
  refine ⟨fun x => by dsimp only; exact cellB m c t 1 13 0 128 (by decide) (by decide) (by decide) (by decide) inb_S1x16x4x32x256_S1x1x1x16x128_0_13_0_16_128 inb_S8x256x128_S1x16x128_1_13_0_s_1_16_1 x, ?_⟩
  refine ⟨fun x => by dsimp only; exact cellB m c t 0 13 0 0 (by decide) (by decide) (by decide) (by decide) inb_S1x16x4x32x256_S1x1x1x16x128_0_13_0_16_0 inb_S8x256x128_S1x16x128_0_13_0_s_1_16_1 x, ?_⟩
  refine ⟨fun x => by dsimp only; exact cellB m c t 7 12 3 128 (by decide) (by decide) (by decide) (by decide) inb_S1x16x4x32x256_S1x1x1x16x128_0_12_3_16_128 inb_S8x256x128_S1x16x128_7_12_0_s_1_16_1 x, ?_⟩
  refine ⟨fun x => by dsimp only; exact cellB m c t 6 12 3 0 (by decide) (by decide) (by decide) (by decide) inb_S1x16x4x32x256_S1x1x1x16x128_0_12_3_16_0 inb_S8x256x128_S1x16x128_6_12_0_s_1_16_1 x, ?_⟩
  refine ⟨fun x => by dsimp only; exact cellB m c t 5 12 2 128 (by decide) (by decide) (by decide) (by decide) inb_S1x16x4x32x256_S1x1x1x16x128_0_12_2_16_128 inb_S8x256x128_S1x16x128_5_12_0_s_1_16_1 x, ?_⟩
  refine ⟨fun x => by dsimp only; exact cellB m c t 4 12 2 0 (by decide) (by decide) (by decide) (by decide) inb_S1x16x4x32x256_S1x1x1x16x128_0_12_2_16_0 inb_S8x256x128_S1x16x128_4_12_0_s_1_16_1 x, ?_⟩
  refine ⟨fun x => by dsimp only; exact cellB m c t 3 12 1 128 (by decide) (by decide) (by decide) (by decide) inb_S1x16x4x32x256_S1x1x1x16x128_0_12_1_16_128 inb_S8x256x128_S1x16x128_3_12_0_s_1_16_1 x, ?_⟩
  refine ⟨fun x => by dsimp only; exact cellB m c t 2 12 1 0 (by decide) (by decide) (by decide) (by decide) inb_S1x16x4x32x256_S1x1x1x16x128_0_12_1_16_0 inb_S8x256x128_S1x16x128_2_12_0_s_1_16_1 x, ?_⟩
  refine ⟨fun x => by dsimp only; exact cellB m c t 1 12 0 128 (by decide) (by decide) (by decide) (by decide) inb_S1x16x4x32x256_S1x1x1x16x128_0_12_0_16_128 inb_S8x256x128_S1x16x128_1_12_0_s_1_16_1 x, ?_⟩
  refine ⟨fun x => by dsimp only; exact cellB m c t 0 12 0 0 (by decide) (by decide) (by decide) (by decide) inb_S1x16x4x32x256_S1x1x1x16x128_0_12_0_16_0 inb_S8x256x128_S1x16x128_0_12_0_s_1_16_1 x, ?_⟩
  refine ⟨fun x => by dsimp only; exact cellB m c t 7 11 3 128 (by decide) (by decide) (by decide) (by decide) inb_S1x16x4x32x256_S1x1x1x16x128_0_11_3_16_128 inb_S8x256x128_S1x16x128_7_11_0_s_1_16_1 x, ?_⟩
  refine ⟨fun x => by dsimp only; exact cellB m c t 6 11 3 0 (by decide) (by decide) (by decide) (by decide) inb_S1x16x4x32x256_S1x1x1x16x128_0_11_3_16_0 inb_S8x256x128_S1x16x128_6_11_0_s_1_16_1 x, ?_⟩
  refine ⟨fun x => by dsimp only; exact cellB m c t 5 11 2 128 (by decide) (by decide) (by decide) (by decide) inb_S1x16x4x32x256_S1x1x1x16x128_0_11_2_16_128 inb_S8x256x128_S1x16x128_5_11_0_s_1_16_1 x, ?_⟩
  refine ⟨fun x => by dsimp only; exact cellB m c t 4 11 2 0 (by decide) (by decide) (by decide) (by decide) inb_S1x16x4x32x256_S1x1x1x16x128_0_11_2_16_0 inb_S8x256x128_S1x16x128_4_11_0_s_1_16_1 x, ?_⟩
  refine ⟨fun x => by dsimp only; exact cellB m c t 3 11 1 128 (by decide) (by decide) (by decide) (by decide) inb_S1x16x4x32x256_S1x1x1x16x128_0_11_1_16_128 inb_S8x256x128_S1x16x128_3_11_0_s_1_16_1 x, ?_⟩
  refine ⟨fun x => by dsimp only; exact cellB m c t 2 11 1 0 (by decide) (by decide) (by decide) (by decide) inb_S1x16x4x32x256_S1x1x1x16x128_0_11_1_16_0 inb_S8x256x128_S1x16x128_2_11_0_s_1_16_1 x, ?_⟩
  refine ⟨fun x => by dsimp only; exact cellB m c t 1 11 0 128 (by decide) (by decide) (by decide) (by decide) inb_S1x16x4x32x256_S1x1x1x16x128_0_11_0_16_128 inb_S8x256x128_S1x16x128_1_11_0_s_1_16_1 x, ?_⟩
  refine ⟨fun x => by dsimp only; exact cellB m c t 0 11 0 0 (by decide) (by decide) (by decide) (by decide) inb_S1x16x4x32x256_S1x1x1x16x128_0_11_0_16_0 inb_S8x256x128_S1x16x128_0_11_0_s_1_16_1 x, ?_⟩
  refine ⟨fun x => by dsimp only; exact cellB m c t 7 10 3 128 (by decide) (by decide) (by decide) (by decide) inb_S1x16x4x32x256_S1x1x1x16x128_0_10_3_16_128 inb_S8x256x128_S1x16x128_7_10_0_s_1_16_1 x, ?_⟩
  refine ⟨fun x => by dsimp only; exact cellB m c t 6 10 3 0 (by decide) (by decide) (by decide) (by decide) inb_S1x16x4x32x256_S1x1x1x16x128_0_10_3_16_0 inb_S8x256x128_S1x16x128_6_10_0_s_1_16_1 x, ?_⟩
  refine ⟨fun x => by dsimp only; exact cellB m c t 5 10 2 128 (by decide) (by decide) (by decide) (by decide) inb_S1x16x4x32x256_S1x1x1x16x128_0_10_2_16_128 inb_S8x256x128_S1x16x128_5_10_0_s_1_16_1 x, ?_⟩
  refine ⟨fun x => by dsimp only; exact cellB m c t 4 10 2 0 (by decide) (by decide) (by decide) (by decide) inb_S1x16x4x32x256_S1x1x1x16x128_0_10_2_16_0 inb_S8x256x128_S1x16x128_4_10_0_s_1_16_1 x, ?_⟩
  refine ⟨fun x => by dsimp only; exact cellB m c t 3 10 1 128 (by decide) (by decide) (by decide) (by decide) inb_S1x16x4x32x256_S1x1x1x16x128_0_10_1_16_128 inb_S8x256x128_S1x16x128_3_10_0_s_1_16_1 x, ?_⟩
  refine ⟨fun x => by dsimp only; exact cellB m c t 2 10 1 0 (by decide) (by decide) (by decide) (by decide) inb_S1x16x4x32x256_S1x1x1x16x128_0_10_1_16_0 inb_S8x256x128_S1x16x128_2_10_0_s_1_16_1 x, ?_⟩
  refine ⟨fun x => by dsimp only; exact cellB m c t 1 10 0 128 (by decide) (by decide) (by decide) (by decide) inb_S1x16x4x32x256_S1x1x1x16x128_0_10_0_16_128 inb_S8x256x128_S1x16x128_1_10_0_s_1_16_1 x, ?_⟩
  refine ⟨fun x => by dsimp only; exact cellB m c t 0 10 0 0 (by decide) (by decide) (by decide) (by decide) inb_S1x16x4x32x256_S1x1x1x16x128_0_10_0_16_0 inb_S8x256x128_S1x16x128_0_10_0_s_1_16_1 x, ?_⟩
  refine ⟨fun x => by dsimp only; exact cellB m c t 7 9 3 128 (by decide) (by decide) (by decide) (by decide) inb_S1x16x4x32x256_S1x1x1x16x128_0_9_3_16_128 inb_S8x256x128_S1x16x128_7_9_0_s_1_16_1 x, ?_⟩
  refine ⟨fun x => by dsimp only; exact cellB m c t 6 9 3 0 (by decide) (by decide) (by decide) (by decide) inb_S1x16x4x32x256_S1x1x1x16x128_0_9_3_16_0 inb_S8x256x128_S1x16x128_6_9_0_s_1_16_1 x, ?_⟩
  refine ⟨fun x => by dsimp only; exact cellB m c t 5 9 2 128 (by decide) (by decide) (by decide) (by decide) inb_S1x16x4x32x256_S1x1x1x16x128_0_9_2_16_128 inb_S8x256x128_S1x16x128_5_9_0_s_1_16_1 x, ?_⟩
  refine ⟨fun x => by dsimp only; exact cellB m c t 4 9 2 0 (by decide) (by decide) (by decide) (by decide) inb_S1x16x4x32x256_S1x1x1x16x128_0_9_2_16_0 inb_S8x256x128_S1x16x128_4_9_0_s_1_16_1 x, ?_⟩
  refine ⟨fun x => by dsimp only; exact cellB m c t 3 9 1 128 (by decide) (by decide) (by decide) (by decide) inb_S1x16x4x32x256_S1x1x1x16x128_0_9_1_16_128 inb_S8x256x128_S1x16x128_3_9_0_s_1_16_1 x, ?_⟩
  refine ⟨fun x => by dsimp only; exact cellB m c t 2 9 1 0 (by decide) (by decide) (by decide) (by decide) inb_S1x16x4x32x256_S1x1x1x16x128_0_9_1_16_0 inb_S8x256x128_S1x16x128_2_9_0_s_1_16_1 x, ?_⟩
  refine ⟨fun x => by dsimp only; exact cellB m c t 1 9 0 128 (by decide) (by decide) (by decide) (by decide) inb_S1x16x4x32x256_S1x1x1x16x128_0_9_0_16_128 inb_S8x256x128_S1x16x128_1_9_0_s_1_16_1 x, ?_⟩
  refine ⟨fun x => by dsimp only; exact cellB m c t 0 9 0 0 (by decide) (by decide) (by decide) (by decide) inb_S1x16x4x32x256_S1x1x1x16x128_0_9_0_16_0 inb_S8x256x128_S1x16x128_0_9_0_s_1_16_1 x, ?_⟩
  refine ⟨fun x => by dsimp only; exact cellB m c t 7 8 3 128 (by decide) (by decide) (by decide) (by decide) inb_S1x16x4x32x256_S1x1x1x16x128_0_8_3_16_128 inb_S8x256x128_S1x16x128_7_8_0_s_1_16_1 x, ?_⟩
  refine ⟨fun x => by dsimp only; exact cellB m c t 6 8 3 0 (by decide) (by decide) (by decide) (by decide) inb_S1x16x4x32x256_S1x1x1x16x128_0_8_3_16_0 inb_S8x256x128_S1x16x128_6_8_0_s_1_16_1 x, ?_⟩
  refine ⟨fun x => by dsimp only; exact cellB m c t 5 8 2 128 (by decide) (by decide) (by decide) (by decide) inb_S1x16x4x32x256_S1x1x1x16x128_0_8_2_16_128 inb_S8x256x128_S1x16x128_5_8_0_s_1_16_1 x, ?_⟩
  refine ⟨fun x => by dsimp only; exact cellB m c t 4 8 2 0 (by decide) (by decide) (by decide) (by decide) inb_S1x16x4x32x256_S1x1x1x16x128_0_8_2_16_0 inb_S8x256x128_S1x16x128_4_8_0_s_1_16_1 x, ?_⟩
  refine ⟨fun x => by dsimp only; exact cellB m c t 3 8 1 128 (by decide) (by decide) (by decide) (by decide) inb_S1x16x4x32x256_S1x1x1x16x128_0_8_1_16_128 inb_S8x256x128_S1x16x128_3_8_0_s_1_16_1 x, ?_⟩
  refine ⟨fun x => by dsimp only; exact cellB m c t 2 8 1 0 (by decide) (by decide) (by decide) (by decide) inb_S1x16x4x32x256_S1x1x1x16x128_0_8_1_16_0 inb_S8x256x128_S1x16x128_2_8_0_s_1_16_1 x, ?_⟩
  refine ⟨fun x => by dsimp only; exact cellB m c t 1 8 0 128 (by decide) (by decide) (by decide) (by decide) inb_S1x16x4x32x256_S1x1x1x16x128_0_8_0_16_128 inb_S8x256x128_S1x16x128_1_8_0_s_1_16_1 x, ?_⟩
  refine ⟨fun x => by dsimp only; exact cellB m c t 0 8 0 0 (by decide) (by decide) (by decide) (by decide) inb_S1x16x4x32x256_S1x1x1x16x128_0_8_0_16_0 inb_S8x256x128_S1x16x128_0_8_0_s_1_16_1 x, ?_⟩
  refine ⟨fun x => by dsimp only; exact cellB m c t 7 7 3 128 (by decide) (by decide) (by decide) (by decide) inb_S1x16x4x32x256_S1x1x1x16x128_0_7_3_16_128 inb_S8x256x128_S1x16x128_7_7_0_s_1_16_1 x, ?_⟩
  refine ⟨fun x => by dsimp only; exact cellB m c t 6 7 3 0 (by decide) (by decide) (by decide) (by decide) inb_S1x16x4x32x256_S1x1x1x16x128_0_7_3_16_0 inb_S8x256x128_S1x16x128_6_7_0_s_1_16_1 x, ?_⟩
  refine ⟨fun x => by dsimp only; exact cellB m c t 5 7 2 128 (by decide) (by decide) (by decide) (by decide) inb_S1x16x4x32x256_S1x1x1x16x128_0_7_2_16_128 inb_S8x256x128_S1x16x128_5_7_0_s_1_16_1 x, ?_⟩
  refine ⟨fun x => by dsimp only; exact cellB m c t 4 7 2 0 (by decide) (by decide) (by decide) (by decide) inb_S1x16x4x32x256_S1x1x1x16x128_0_7_2_16_0 inb_S8x256x128_S1x16x128_4_7_0_s_1_16_1 x, ?_⟩
  refine ⟨fun x => by dsimp only; exact cellB m c t 3 7 1 128 (by decide) (by decide) (by decide) (by decide) inb_S1x16x4x32x256_S1x1x1x16x128_0_7_1_16_128 inb_S8x256x128_S1x16x128_3_7_0_s_1_16_1 x, ?_⟩
  refine ⟨fun x => by dsimp only; exact cellB m c t 2 7 1 0 (by decide) (by decide) (by decide) (by decide) inb_S1x16x4x32x256_S1x1x1x16x128_0_7_1_16_0 inb_S8x256x128_S1x16x128_2_7_0_s_1_16_1 x, ?_⟩
  refine ⟨fun x => by dsimp only; exact cellB m c t 1 7 0 128 (by decide) (by decide) (by decide) (by decide) inb_S1x16x4x32x256_S1x1x1x16x128_0_7_0_16_128 inb_S8x256x128_S1x16x128_1_7_0_s_1_16_1 x, ?_⟩
  refine ⟨fun x => by dsimp only; exact cellB m c t 0 7 0 0 (by decide) (by decide) (by decide) (by decide) inb_S1x16x4x32x256_S1x1x1x16x128_0_7_0_16_0 inb_S8x256x128_S1x16x128_0_7_0_s_1_16_1 x, ?_⟩
  refine ⟨fun x => by dsimp only; exact cellB m c t 7 6 3 128 (by decide) (by decide) (by decide) (by decide) inb_S1x16x4x32x256_S1x1x1x16x128_0_6_3_16_128 inb_S8x256x128_S1x16x128_7_6_0_s_1_16_1 x, ?_⟩
  refine ⟨fun x => by dsimp only; exact cellB m c t 6 6 3 0 (by decide) (by decide) (by decide) (by decide) inb_S1x16x4x32x256_S1x1x1x16x128_0_6_3_16_0 inb_S8x256x128_S1x16x128_6_6_0_s_1_16_1 x, ?_⟩
  refine ⟨fun x => by dsimp only; exact cellB m c t 5 6 2 128 (by decide) (by decide) (by decide) (by decide) inb_S1x16x4x32x256_S1x1x1x16x128_0_6_2_16_128 inb_S8x256x128_S1x16x128_5_6_0_s_1_16_1 x, ?_⟩
  refine ⟨fun x => by dsimp only; exact cellB m c t 4 6 2 0 (by decide) (by decide) (by decide) (by decide) inb_S1x16x4x32x256_S1x1x1x16x128_0_6_2_16_0 inb_S8x256x128_S1x16x128_4_6_0_s_1_16_1 x, ?_⟩
  refine ⟨fun x => by dsimp only; exact cellB m c t 3 6 1 128 (by decide) (by decide) (by decide) (by decide) inb_S1x16x4x32x256_S1x1x1x16x128_0_6_1_16_128 inb_S8x256x128_S1x16x128_3_6_0_s_1_16_1 x, ?_⟩
  refine ⟨fun x => by dsimp only; exact cellB m c t 2 6 1 0 (by decide) (by decide) (by decide) (by decide) inb_S1x16x4x32x256_S1x1x1x16x128_0_6_1_16_0 inb_S8x256x128_S1x16x128_2_6_0_s_1_16_1 x, ?_⟩
  refine ⟨fun x => by dsimp only; exact cellB m c t 1 6 0 128 (by decide) (by decide) (by decide) (by decide) inb_S1x16x4x32x256_S1x1x1x16x128_0_6_0_16_128 inb_S8x256x128_S1x16x128_1_6_0_s_1_16_1 x, ?_⟩
  refine ⟨fun x => by dsimp only; exact cellB m c t 0 6 0 0 (by decide) (by decide) (by decide) (by decide) inb_S1x16x4x32x256_S1x1x1x16x128_0_6_0_16_0 inb_S8x256x128_S1x16x128_0_6_0_s_1_16_1 x, ?_⟩
  refine ⟨fun x => by dsimp only; exact cellB m c t 7 5 3 128 (by decide) (by decide) (by decide) (by decide) inb_S1x16x4x32x256_S1x1x1x16x128_0_5_3_16_128 inb_S8x256x128_S1x16x128_7_5_0_s_1_16_1 x, ?_⟩
  refine ⟨fun x => by dsimp only; exact cellB m c t 6 5 3 0 (by decide) (by decide) (by decide) (by decide) inb_S1x16x4x32x256_S1x1x1x16x128_0_5_3_16_0 inb_S8x256x128_S1x16x128_6_5_0_s_1_16_1 x, ?_⟩
  refine ⟨fun x => by dsimp only; exact cellB m c t 5 5 2 128 (by decide) (by decide) (by decide) (by decide) inb_S1x16x4x32x256_S1x1x1x16x128_0_5_2_16_128 inb_S8x256x128_S1x16x128_5_5_0_s_1_16_1 x, ?_⟩
  refine ⟨fun x => by dsimp only; exact cellB m c t 4 5 2 0 (by decide) (by decide) (by decide) (by decide) inb_S1x16x4x32x256_S1x1x1x16x128_0_5_2_16_0 inb_S8x256x128_S1x16x128_4_5_0_s_1_16_1 x, ?_⟩
  refine ⟨fun x => by dsimp only; exact cellB m c t 3 5 1 128 (by decide) (by decide) (by decide) (by decide) inb_S1x16x4x32x256_S1x1x1x16x128_0_5_1_16_128 inb_S8x256x128_S1x16x128_3_5_0_s_1_16_1 x, ?_⟩
  refine ⟨fun x => by dsimp only; exact cellB m c t 2 5 1 0 (by decide) (by decide) (by decide) (by decide) inb_S1x16x4x32x256_S1x1x1x16x128_0_5_1_16_0 inb_S8x256x128_S1x16x128_2_5_0_s_1_16_1 x, ?_⟩
  refine ⟨fun x => by dsimp only; exact cellB m c t 1 5 0 128 (by decide) (by decide) (by decide) (by decide) inb_S1x16x4x32x256_S1x1x1x16x128_0_5_0_16_128 inb_S8x256x128_S1x16x128_1_5_0_s_1_16_1 x, ?_⟩
  refine ⟨fun x => by dsimp only; exact cellB m c t 0 5 0 0 (by decide) (by decide) (by decide) (by decide) inb_S1x16x4x32x256_S1x1x1x16x128_0_5_0_16_0 inb_S8x256x128_S1x16x128_0_5_0_s_1_16_1 x, ?_⟩
  refine ⟨fun x => by dsimp only; exact cellB m c t 7 4 3 128 (by decide) (by decide) (by decide) (by decide) inb_S1x16x4x32x256_S1x1x1x16x128_0_4_3_16_128 inb_S8x256x128_S1x16x128_7_4_0_s_1_16_1 x, ?_⟩
  refine ⟨fun x => by dsimp only; exact cellB m c t 6 4 3 0 (by decide) (by decide) (by decide) (by decide) inb_S1x16x4x32x256_S1x1x1x16x128_0_4_3_16_0 inb_S8x256x128_S1x16x128_6_4_0_s_1_16_1 x, ?_⟩
  refine ⟨fun x => by dsimp only; exact cellB m c t 5 4 2 128 (by decide) (by decide) (by decide) (by decide) inb_S1x16x4x32x256_S1x1x1x16x128_0_4_2_16_128 inb_S8x256x128_S1x16x128_5_4_0_s_1_16_1 x, ?_⟩
  refine ⟨fun x => by dsimp only; exact cellB m c t 4 4 2 0 (by decide) (by decide) (by decide) (by decide) inb_S1x16x4x32x256_S1x1x1x16x128_0_4_2_16_0 inb_S8x256x128_S1x16x128_4_4_0_s_1_16_1 x, ?_⟩
  refine ⟨fun x => by dsimp only; exact cellB m c t 3 4 1 128 (by decide) (by decide) (by decide) (by decide) inb_S1x16x4x32x256_S1x1x1x16x128_0_4_1_16_128 inb_S8x256x128_S1x16x128_3_4_0_s_1_16_1 x, ?_⟩
  refine ⟨fun x => by dsimp only; exact cellB m c t 2 4 1 0 (by decide) (by decide) (by decide) (by decide) inb_S1x16x4x32x256_S1x1x1x16x128_0_4_1_16_0 inb_S8x256x128_S1x16x128_2_4_0_s_1_16_1 x, ?_⟩
  refine ⟨fun x => by dsimp only; exact cellB m c t 1 4 0 128 (by decide) (by decide) (by decide) (by decide) inb_S1x16x4x32x256_S1x1x1x16x128_0_4_0_16_128 inb_S8x256x128_S1x16x128_1_4_0_s_1_16_1 x, ?_⟩
  refine ⟨fun x => by dsimp only; exact cellB m c t 0 4 0 0 (by decide) (by decide) (by decide) (by decide) inb_S1x16x4x32x256_S1x1x1x16x128_0_4_0_16_0 inb_S8x256x128_S1x16x128_0_4_0_s_1_16_1 x, ?_⟩
  refine ⟨fun x => by dsimp only; exact cellB m c t 7 3 3 128 (by decide) (by decide) (by decide) (by decide) inb_S1x16x4x32x256_S1x1x1x16x128_0_3_3_16_128 inb_S8x256x128_S1x16x128_7_3_0_s_1_16_1 x, ?_⟩
  refine ⟨fun x => by dsimp only; exact cellB m c t 6 3 3 0 (by decide) (by decide) (by decide) (by decide) inb_S1x16x4x32x256_S1x1x1x16x128_0_3_3_16_0 inb_S8x256x128_S1x16x128_6_3_0_s_1_16_1 x, ?_⟩
  refine ⟨fun x => by dsimp only; exact cellB m c t 5 3 2 128 (by decide) (by decide) (by decide) (by decide) inb_S1x16x4x32x256_S1x1x1x16x128_0_3_2_16_128 inb_S8x256x128_S1x16x128_5_3_0_s_1_16_1 x, ?_⟩
  refine ⟨fun x => by dsimp only; exact cellB m c t 4 3 2 0 (by decide) (by decide) (by decide) (by decide) inb_S1x16x4x32x256_S1x1x1x16x128_0_3_2_16_0 inb_S8x256x128_S1x16x128_4_3_0_s_1_16_1 x, ?_⟩
  refine ⟨fun x => by dsimp only; exact cellB m c t 3 3 1 128 (by decide) (by decide) (by decide) (by decide) inb_S1x16x4x32x256_S1x1x1x16x128_0_3_1_16_128 inb_S8x256x128_S1x16x128_3_3_0_s_1_16_1 x, ?_⟩
  refine ⟨fun x => by dsimp only; exact cellB m c t 2 3 1 0 (by decide) (by decide) (by decide) (by decide) inb_S1x16x4x32x256_S1x1x1x16x128_0_3_1_16_0 inb_S8x256x128_S1x16x128_2_3_0_s_1_16_1 x, ?_⟩
  refine ⟨fun x => by dsimp only; exact cellB m c t 1 3 0 128 (by decide) (by decide) (by decide) (by decide) inb_S1x16x4x32x256_S1x1x1x16x128_0_3_0_16_128 inb_S8x256x128_S1x16x128_1_3_0_s_1_16_1 x, ?_⟩
  refine ⟨fun x => by dsimp only; exact cellB m c t 0 3 0 0 (by decide) (by decide) (by decide) (by decide) inb_S1x16x4x32x256_S1x1x1x16x128_0_3_0_16_0 inb_S8x256x128_S1x16x128_0_3_0_s_1_16_1 x, ?_⟩
  refine ⟨fun x => by dsimp only; exact cellB m c t 7 2 3 128 (by decide) (by decide) (by decide) (by decide) inb_S1x16x4x32x256_S1x1x1x16x128_0_2_3_16_128 inb_S8x256x128_S1x16x128_7_2_0_s_1_16_1 x, ?_⟩
  refine ⟨fun x => by dsimp only; exact cellB m c t 6 2 3 0 (by decide) (by decide) (by decide) (by decide) inb_S1x16x4x32x256_S1x1x1x16x128_0_2_3_16_0 inb_S8x256x128_S1x16x128_6_2_0_s_1_16_1 x, ?_⟩
  refine ⟨fun x => by dsimp only; exact cellB m c t 5 2 2 128 (by decide) (by decide) (by decide) (by decide) inb_S1x16x4x32x256_S1x1x1x16x128_0_2_2_16_128 inb_S8x256x128_S1x16x128_5_2_0_s_1_16_1 x, ?_⟩
  refine ⟨fun x => by dsimp only; exact cellB m c t 4 2 2 0 (by decide) (by decide) (by decide) (by decide) inb_S1x16x4x32x256_S1x1x1x16x128_0_2_2_16_0 inb_S8x256x128_S1x16x128_4_2_0_s_1_16_1 x, ?_⟩
  refine ⟨fun x => by dsimp only; exact cellB m c t 3 2 1 128 (by decide) (by decide) (by decide) (by decide) inb_S1x16x4x32x256_S1x1x1x16x128_0_2_1_16_128 inb_S8x256x128_S1x16x128_3_2_0_s_1_16_1 x, ?_⟩
  refine ⟨fun x => by dsimp only; exact cellB m c t 2 2 1 0 (by decide) (by decide) (by decide) (by decide) inb_S1x16x4x32x256_S1x1x1x16x128_0_2_1_16_0 inb_S8x256x128_S1x16x128_2_2_0_s_1_16_1 x, ?_⟩
  refine ⟨fun x => by dsimp only; exact cellB m c t 1 2 0 128 (by decide) (by decide) (by decide) (by decide) inb_S1x16x4x32x256_S1x1x1x16x128_0_2_0_16_128 inb_S8x256x128_S1x16x128_1_2_0_s_1_16_1 x, ?_⟩
  refine ⟨fun x => by dsimp only; exact cellB m c t 0 2 0 0 (by decide) (by decide) (by decide) (by decide) inb_S1x16x4x32x256_S1x1x1x16x128_0_2_0_16_0 inb_S8x256x128_S1x16x128_0_2_0_s_1_16_1 x, ?_⟩
  refine ⟨fun x => by dsimp only; exact cellB m c t 7 1 3 128 (by decide) (by decide) (by decide) (by decide) inb_S1x16x4x32x256_S1x1x1x16x128_0_1_3_16_128 inb_S8x256x128_S1x16x128_7_1_0_s_1_16_1 x, ?_⟩
  refine ⟨fun x => by dsimp only; exact cellB m c t 6 1 3 0 (by decide) (by decide) (by decide) (by decide) inb_S1x16x4x32x256_S1x1x1x16x128_0_1_3_16_0 inb_S8x256x128_S1x16x128_6_1_0_s_1_16_1 x, ?_⟩
  refine ⟨fun x => by dsimp only; exact cellB m c t 5 1 2 128 (by decide) (by decide) (by decide) (by decide) inb_S1x16x4x32x256_S1x1x1x16x128_0_1_2_16_128 inb_S8x256x128_S1x16x128_5_1_0_s_1_16_1 x, ?_⟩
  refine ⟨fun x => by dsimp only; exact cellB m c t 4 1 2 0 (by decide) (by decide) (by decide) (by decide) inb_S1x16x4x32x256_S1x1x1x16x128_0_1_2_16_0 inb_S8x256x128_S1x16x128_4_1_0_s_1_16_1 x, ?_⟩
  refine ⟨fun x => by dsimp only; exact cellB m c t 3 1 1 128 (by decide) (by decide) (by decide) (by decide) inb_S1x16x4x32x256_S1x1x1x16x128_0_1_1_16_128 inb_S8x256x128_S1x16x128_3_1_0_s_1_16_1 x, ?_⟩
  refine ⟨fun x => by dsimp only; exact cellB m c t 2 1 1 0 (by decide) (by decide) (by decide) (by decide) inb_S1x16x4x32x256_S1x1x1x16x128_0_1_1_16_0 inb_S8x256x128_S1x16x128_2_1_0_s_1_16_1 x, ?_⟩
  refine ⟨fun x => by dsimp only; exact cellB m c t 1 1 0 128 (by decide) (by decide) (by decide) (by decide) inb_S1x16x4x32x256_S1x1x1x16x128_0_1_0_16_128 inb_S8x256x128_S1x16x128_1_1_0_s_1_16_1 x, ?_⟩
  refine ⟨fun x => by dsimp only; exact cellB m c t 0 1 0 0 (by decide) (by decide) (by decide) (by decide) inb_S1x16x4x32x256_S1x1x1x16x128_0_1_0_16_0 inb_S8x256x128_S1x16x128_0_1_0_s_1_16_1 x, ?_⟩
  refine ⟨fun x => by dsimp only; exact cellB m c t 7 0 3 128 (by decide) (by decide) (by decide) (by decide) inb_S1x16x4x32x256_S1x1x1x16x128_0_0_3_16_128 inb_S8x256x128_S1x16x128_7_0_0_s_1_16_1 x, ?_⟩
  refine ⟨fun x => by dsimp only; exact cellB m c t 6 0 3 0 (by decide) (by decide) (by decide) (by decide) inb_S1x16x4x32x256_S1x1x1x16x128_0_0_3_16_0 inb_S8x256x128_S1x16x128_6_0_0_s_1_16_1 x, ?_⟩
  refine ⟨fun x => by dsimp only; exact cellB m c t 5 0 2 128 (by decide) (by decide) (by decide) (by decide) inb_S1x16x4x32x256_S1x1x1x16x128_0_0_2_16_128 inb_S8x256x128_S1x16x128_5_0_0_s_1_16_1 x, ?_⟩
  refine ⟨fun x => by dsimp only; exact cellB m c t 4 0 2 0 (by decide) (by decide) (by decide) (by decide) inb_S1x16x4x32x256_S1x1x1x16x128_0_0_2_16_0 inb_S8x256x128_S1x16x128_4_0_0_s_1_16_1 x, ?_⟩
  refine ⟨fun x => by dsimp only; exact cellB m c t 3 0 1 128 (by decide) (by decide) (by decide) (by decide) inb_S1x16x4x32x256_S1x1x1x16x128_0_0_1_16_128 inb_S8x256x128_S1x16x128_3_0_0_s_1_16_1 x, ?_⟩
  refine ⟨fun x => by dsimp only; exact cellB m c t 2 0 1 0 (by decide) (by decide) (by decide) (by decide) inb_S1x16x4x32x256_S1x1x1x16x128_0_0_1_16_0 inb_S8x256x128_S1x16x128_2_0_0_s_1_16_1 x, ?_⟩
  refine ⟨fun x => by dsimp only; exact cellB m c t 1 0 0 128 (by decide) (by decide) (by decide) (by decide) inb_S1x16x4x32x256_S1x1x1x16x128_0_0_0_16_128 inb_S8x256x128_S1x16x128_1_0_0_s_1_16_1 x, ?_⟩
  refine ⟨fun x => by dsimp only; exact cellB m c t 0 0 0 0 (by decide) (by decide) (by decide) (by decide) inb_S1x16x4x32x256_S1x1x1x16x128_0_0_0_16_0 inb_S8x256x128_S1x16x128_0_0_0_s_1_16_1 x, ?_⟩
  refine ⟨fun x => by dsimp only; exact cellA m c t 7 15 3 128 (by decide) (by decide) (by decide) (by decide) inb_S1x16x4x32x256_S1x1x1x16x128_0_15_3_0_128 inb_S8x256x128_S1x16x128_7_15_0_s_1_16_1 x, ?_⟩
  refine ⟨fun x => by dsimp only; exact cellA m c t 6 15 3 0 (by decide) (by decide) (by decide) (by decide) inb_S1x16x4x32x256_S1x1x1x16x128_0_15_3_0_0 inb_S8x256x128_S1x16x128_6_15_0_s_1_16_1 x, ?_⟩
  refine ⟨fun x => by dsimp only; exact cellA m c t 5 15 2 128 (by decide) (by decide) (by decide) (by decide) inb_S1x16x4x32x256_S1x1x1x16x128_0_15_2_0_128 inb_S8x256x128_S1x16x128_5_15_0_s_1_16_1 x, ?_⟩
  refine ⟨fun x => by dsimp only; exact cellA m c t 4 15 2 0 (by decide) (by decide) (by decide) (by decide) inb_S1x16x4x32x256_S1x1x1x16x128_0_15_2_0_0 inb_S8x256x128_S1x16x128_4_15_0_s_1_16_1 x, ?_⟩
  refine ⟨fun x => by dsimp only; exact cellA m c t 3 15 1 128 (by decide) (by decide) (by decide) (by decide) inb_S1x16x4x32x256_S1x1x1x16x128_0_15_1_0_128 inb_S8x256x128_S1x16x128_3_15_0_s_1_16_1 x, ?_⟩
  refine ⟨fun x => by dsimp only; exact cellA m c t 2 15 1 0 (by decide) (by decide) (by decide) (by decide) inb_S1x16x4x32x256_S1x1x1x16x128_0_15_1_0_0 inb_S8x256x128_S1x16x128_2_15_0_s_1_16_1 x, ?_⟩
  refine ⟨fun x => by dsimp only; exact cellA m c t 1 15 0 128 (by decide) (by decide) (by decide) (by decide) inb_S1x16x4x32x256_S1x1x1x16x128_0_15_0_0_128 inb_S8x256x128_S1x16x128_1_15_0_s_1_16_1 x, ?_⟩
  refine ⟨fun x => by dsimp only; exact cellA m c t 0 15 0 0 (by decide) (by decide) (by decide) (by decide) inb_S1x16x4x32x256_S1x1x1x16x128_0_15_0_0_0 inb_S8x256x128_S1x16x128_0_15_0_s_1_16_1 x, ?_⟩
  refine ⟨fun x => by dsimp only; exact cellA m c t 7 14 3 128 (by decide) (by decide) (by decide) (by decide) inb_S1x16x4x32x256_S1x1x1x16x128_0_14_3_0_128 inb_S8x256x128_S1x16x128_7_14_0_s_1_16_1 x, ?_⟩
  refine ⟨fun x => by dsimp only; exact cellA m c t 6 14 3 0 (by decide) (by decide) (by decide) (by decide) inb_S1x16x4x32x256_S1x1x1x16x128_0_14_3_0_0 inb_S8x256x128_S1x16x128_6_14_0_s_1_16_1 x, ?_⟩
  refine ⟨fun x => by dsimp only; exact cellA m c t 5 14 2 128 (by decide) (by decide) (by decide) (by decide) inb_S1x16x4x32x256_S1x1x1x16x128_0_14_2_0_128 inb_S8x256x128_S1x16x128_5_14_0_s_1_16_1 x, ?_⟩
  refine ⟨fun x => by dsimp only; exact cellA m c t 4 14 2 0 (by decide) (by decide) (by decide) (by decide) inb_S1x16x4x32x256_S1x1x1x16x128_0_14_2_0_0 inb_S8x256x128_S1x16x128_4_14_0_s_1_16_1 x, ?_⟩
  refine ⟨fun x => by dsimp only; exact cellA m c t 3 14 1 128 (by decide) (by decide) (by decide) (by decide) inb_S1x16x4x32x256_S1x1x1x16x128_0_14_1_0_128 inb_S8x256x128_S1x16x128_3_14_0_s_1_16_1 x, ?_⟩
  refine ⟨fun x => by dsimp only; exact cellA m c t 2 14 1 0 (by decide) (by decide) (by decide) (by decide) inb_S1x16x4x32x256_S1x1x1x16x128_0_14_1_0_0 inb_S8x256x128_S1x16x128_2_14_0_s_1_16_1 x, ?_⟩
  refine ⟨fun x => by dsimp only; exact cellA m c t 1 14 0 128 (by decide) (by decide) (by decide) (by decide) inb_S1x16x4x32x256_S1x1x1x16x128_0_14_0_0_128 inb_S8x256x128_S1x16x128_1_14_0_s_1_16_1 x, ?_⟩
  refine ⟨fun x => by dsimp only; exact cellA m c t 0 14 0 0 (by decide) (by decide) (by decide) (by decide) inb_S1x16x4x32x256_S1x1x1x16x128_0_14_0_0_0 inb_S8x256x128_S1x16x128_0_14_0_s_1_16_1 x, ?_⟩
  refine ⟨fun x => by dsimp only; exact cellA m c t 7 13 3 128 (by decide) (by decide) (by decide) (by decide) inb_S1x16x4x32x256_S1x1x1x16x128_0_13_3_0_128 inb_S8x256x128_S1x16x128_7_13_0_s_1_16_1 x, ?_⟩
  refine ⟨fun x => by dsimp only; exact cellA m c t 6 13 3 0 (by decide) (by decide) (by decide) (by decide) inb_S1x16x4x32x256_S1x1x1x16x128_0_13_3_0_0 inb_S8x256x128_S1x16x128_6_13_0_s_1_16_1 x, ?_⟩
  refine ⟨fun x => by dsimp only; exact cellA m c t 5 13 2 128 (by decide) (by decide) (by decide) (by decide) inb_S1x16x4x32x256_S1x1x1x16x128_0_13_2_0_128 inb_S8x256x128_S1x16x128_5_13_0_s_1_16_1 x, ?_⟩
  refine ⟨fun x => by dsimp only; exact cellA m c t 4 13 2 0 (by decide) (by decide) (by decide) (by decide) inb_S1x16x4x32x256_S1x1x1x16x128_0_13_2_0_0 inb_S8x256x128_S1x16x128_4_13_0_s_1_16_1 x, ?_⟩
  refine ⟨fun x => by dsimp only; exact cellA m c t 3 13 1 128 (by decide) (by decide) (by decide) (by decide) inb_S1x16x4x32x256_S1x1x1x16x128_0_13_1_0_128 inb_S8x256x128_S1x16x128_3_13_0_s_1_16_1 x, ?_⟩
  refine ⟨fun x => by dsimp only; exact cellA m c t 2 13 1 0 (by decide) (by decide) (by decide) (by decide) inb_S1x16x4x32x256_S1x1x1x16x128_0_13_1_0_0 inb_S8x256x128_S1x16x128_2_13_0_s_1_16_1 x, ?_⟩
  refine ⟨fun x => by dsimp only; exact cellA m c t 1 13 0 128 (by decide) (by decide) (by decide) (by decide) inb_S1x16x4x32x256_S1x1x1x16x128_0_13_0_0_128 inb_S8x256x128_S1x16x128_1_13_0_s_1_16_1 x, ?_⟩
  refine ⟨fun x => by dsimp only; exact cellA m c t 0 13 0 0 (by decide) (by decide) (by decide) (by decide) inb_S1x16x4x32x256_S1x1x1x16x128_0_13_0_0_0 inb_S8x256x128_S1x16x128_0_13_0_s_1_16_1 x, ?_⟩
  refine ⟨fun x => by dsimp only; exact cellA m c t 7 12 3 128 (by decide) (by decide) (by decide) (by decide) inb_S1x16x4x32x256_S1x1x1x16x128_0_12_3_0_128 inb_S8x256x128_S1x16x128_7_12_0_s_1_16_1 x, ?_⟩
  refine ⟨fun x => by dsimp only; exact cellA m c t 6 12 3 0 (by decide) (by decide) (by decide) (by decide) inb_S1x16x4x32x256_S1x1x1x16x128_0_12_3_0_0 inb_S8x256x128_S1x16x128_6_12_0_s_1_16_1 x, ?_⟩
  refine ⟨fun x => by dsimp only; exact cellA m c t 5 12 2 128 (by decide) (by decide) (by decide) (by decide) inb_S1x16x4x32x256_S1x1x1x16x128_0_12_2_0_128 inb_S8x256x128_S1x16x128_5_12_0_s_1_16_1 x, ?_⟩
  refine ⟨fun x => by dsimp only; exact cellA m c t 4 12 2 0 (by decide) (by decide) (by decide) (by decide) inb_S1x16x4x32x256_S1x1x1x16x128_0_12_2_0_0 inb_S8x256x128_S1x16x128_4_12_0_s_1_16_1 x, ?_⟩
  refine ⟨fun x => by dsimp only; exact cellA m c t 3 12 1 128 (by decide) (by decide) (by decide) (by decide) inb_S1x16x4x32x256_S1x1x1x16x128_0_12_1_0_128 inb_S8x256x128_S1x16x128_3_12_0_s_1_16_1 x, ?_⟩
  refine ⟨fun x => by dsimp only; exact cellA m c t 2 12 1 0 (by decide) (by decide) (by decide) (by decide) inb_S1x16x4x32x256_S1x1x1x16x128_0_12_1_0_0 inb_S8x256x128_S1x16x128_2_12_0_s_1_16_1 x, ?_⟩
  refine ⟨fun x => by dsimp only; exact cellA m c t 1 12 0 128 (by decide) (by decide) (by decide) (by decide) inb_S1x16x4x32x256_S1x1x1x16x128_0_12_0_0_128 inb_S8x256x128_S1x16x128_1_12_0_s_1_16_1 x, ?_⟩
  refine ⟨fun x => by dsimp only; exact cellA m c t 0 12 0 0 (by decide) (by decide) (by decide) (by decide) inb_S1x16x4x32x256_S1x1x1x16x128_0_12_0_0_0 inb_S8x256x128_S1x16x128_0_12_0_s_1_16_1 x, ?_⟩
  refine ⟨fun x => by dsimp only; exact cellA m c t 7 11 3 128 (by decide) (by decide) (by decide) (by decide) inb_S1x16x4x32x256_S1x1x1x16x128_0_11_3_0_128 inb_S8x256x128_S1x16x128_7_11_0_s_1_16_1 x, ?_⟩
  refine ⟨fun x => by dsimp only; exact cellA m c t 6 11 3 0 (by decide) (by decide) (by decide) (by decide) inb_S1x16x4x32x256_S1x1x1x16x128_0_11_3_0_0 inb_S8x256x128_S1x16x128_6_11_0_s_1_16_1 x, ?_⟩
  refine ⟨fun x => by dsimp only; exact cellA m c t 5 11 2 128 (by decide) (by decide) (by decide) (by decide) inb_S1x16x4x32x256_S1x1x1x16x128_0_11_2_0_128 inb_S8x256x128_S1x16x128_5_11_0_s_1_16_1 x, ?_⟩
  refine ⟨fun x => by dsimp only; exact cellA m c t 4 11 2 0 (by decide) (by decide) (by decide) (by decide) inb_S1x16x4x32x256_S1x1x1x16x128_0_11_2_0_0 inb_S8x256x128_S1x16x128_4_11_0_s_1_16_1 x, ?_⟩
  refine ⟨fun x => by dsimp only; exact cellA m c t 3 11 1 128 (by decide) (by decide) (by decide) (by decide) inb_S1x16x4x32x256_S1x1x1x16x128_0_11_1_0_128 inb_S8x256x128_S1x16x128_3_11_0_s_1_16_1 x, ?_⟩
  refine ⟨fun x => by dsimp only; exact cellA m c t 2 11 1 0 (by decide) (by decide) (by decide) (by decide) inb_S1x16x4x32x256_S1x1x1x16x128_0_11_1_0_0 inb_S8x256x128_S1x16x128_2_11_0_s_1_16_1 x, ?_⟩
  refine ⟨fun x => by dsimp only; exact cellA m c t 1 11 0 128 (by decide) (by decide) (by decide) (by decide) inb_S1x16x4x32x256_S1x1x1x16x128_0_11_0_0_128 inb_S8x256x128_S1x16x128_1_11_0_s_1_16_1 x, ?_⟩
  refine ⟨fun x => by dsimp only; exact cellA m c t 0 11 0 0 (by decide) (by decide) (by decide) (by decide) inb_S1x16x4x32x256_S1x1x1x16x128_0_11_0_0_0 inb_S8x256x128_S1x16x128_0_11_0_s_1_16_1 x, ?_⟩
  refine ⟨fun x => by dsimp only; exact cellA m c t 7 10 3 128 (by decide) (by decide) (by decide) (by decide) inb_S1x16x4x32x256_S1x1x1x16x128_0_10_3_0_128 inb_S8x256x128_S1x16x128_7_10_0_s_1_16_1 x, ?_⟩
  refine ⟨fun x => by dsimp only; exact cellA m c t 6 10 3 0 (by decide) (by decide) (by decide) (by decide) inb_S1x16x4x32x256_S1x1x1x16x128_0_10_3_0_0 inb_S8x256x128_S1x16x128_6_10_0_s_1_16_1 x, ?_⟩
  refine ⟨fun x => by dsimp only; exact cellA m c t 5 10 2 128 (by decide) (by decide) (by decide) (by decide) inb_S1x16x4x32x256_S1x1x1x16x128_0_10_2_0_128 inb_S8x256x128_S1x16x128_5_10_0_s_1_16_1 x, ?_⟩
  refine ⟨fun x => by dsimp only; exact cellA m c t 4 10 2 0 (by decide) (by decide) (by decide) (by decide) inb_S1x16x4x32x256_S1x1x1x16x128_0_10_2_0_0 inb_S8x256x128_S1x16x128_4_10_0_s_1_16_1 x, ?_⟩
  refine ⟨fun x => by dsimp only; exact cellA m c t 3 10 1 128 (by decide) (by decide) (by decide) (by decide) inb_S1x16x4x32x256_S1x1x1x16x128_0_10_1_0_128 inb_S8x256x128_S1x16x128_3_10_0_s_1_16_1 x, ?_⟩
  refine ⟨fun x => by dsimp only; exact cellA m c t 2 10 1 0 (by decide) (by decide) (by decide) (by decide) inb_S1x16x4x32x256_S1x1x1x16x128_0_10_1_0_0 inb_S8x256x128_S1x16x128_2_10_0_s_1_16_1 x, ?_⟩
  refine ⟨fun x => by dsimp only; exact cellA m c t 1 10 0 128 (by decide) (by decide) (by decide) (by decide) inb_S1x16x4x32x256_S1x1x1x16x128_0_10_0_0_128 inb_S8x256x128_S1x16x128_1_10_0_s_1_16_1 x, ?_⟩
  refine ⟨fun x => by dsimp only; exact cellA m c t 0 10 0 0 (by decide) (by decide) (by decide) (by decide) inb_S1x16x4x32x256_S1x1x1x16x128_0_10_0_0_0 inb_S8x256x128_S1x16x128_0_10_0_s_1_16_1 x, ?_⟩
  refine ⟨fun x => by dsimp only; exact cellA m c t 7 9 3 128 (by decide) (by decide) (by decide) (by decide) inb_S1x16x4x32x256_S1x1x1x16x128_0_9_3_0_128 inb_S8x256x128_S1x16x128_7_9_0_s_1_16_1 x, ?_⟩
  refine ⟨fun x => by dsimp only; exact cellA m c t 6 9 3 0 (by decide) (by decide) (by decide) (by decide) inb_S1x16x4x32x256_S1x1x1x16x128_0_9_3_0_0 inb_S8x256x128_S1x16x128_6_9_0_s_1_16_1 x, ?_⟩
  refine ⟨fun x => by dsimp only; exact cellA m c t 5 9 2 128 (by decide) (by decide) (by decide) (by decide) inb_S1x16x4x32x256_S1x1x1x16x128_0_9_2_0_128 inb_S8x256x128_S1x16x128_5_9_0_s_1_16_1 x, ?_⟩
  refine ⟨fun x => by dsimp only; exact cellA m c t 4 9 2 0 (by decide) (by decide) (by decide) (by decide) inb_S1x16x4x32x256_S1x1x1x16x128_0_9_2_0_0 inb_S8x256x128_S1x16x128_4_9_0_s_1_16_1 x, ?_⟩
  refine ⟨fun x => by dsimp only; exact cellA m c t 3 9 1 128 (by decide) (by decide) (by decide) (by decide) inb_S1x16x4x32x256_S1x1x1x16x128_0_9_1_0_128 inb_S8x256x128_S1x16x128_3_9_0_s_1_16_1 x, ?_⟩
  refine ⟨fun x => by dsimp only; exact cellA m c t 2 9 1 0 (by decide) (by decide) (by decide) (by decide) inb_S1x16x4x32x256_S1x1x1x16x128_0_9_1_0_0 inb_S8x256x128_S1x16x128_2_9_0_s_1_16_1 x, ?_⟩
  refine ⟨fun x => by dsimp only; exact cellA m c t 1 9 0 128 (by decide) (by decide) (by decide) (by decide) inb_S1x16x4x32x256_S1x1x1x16x128_0_9_0_0_128 inb_S8x256x128_S1x16x128_1_9_0_s_1_16_1 x, ?_⟩
  refine ⟨fun x => by dsimp only; exact cellA m c t 0 9 0 0 (by decide) (by decide) (by decide) (by decide) inb_S1x16x4x32x256_S1x1x1x16x128_0_9_0_0_0 inb_S8x256x128_S1x16x128_0_9_0_s_1_16_1 x, ?_⟩
  refine ⟨fun x => by dsimp only; exact cellA m c t 7 8 3 128 (by decide) (by decide) (by decide) (by decide) inb_S1x16x4x32x256_S1x1x1x16x128_0_8_3_0_128 inb_S8x256x128_S1x16x128_7_8_0_s_1_16_1 x, ?_⟩
  refine ⟨fun x => by dsimp only; exact cellA m c t 6 8 3 0 (by decide) (by decide) (by decide) (by decide) inb_S1x16x4x32x256_S1x1x1x16x128_0_8_3_0_0 inb_S8x256x128_S1x16x128_6_8_0_s_1_16_1 x, ?_⟩
  refine ⟨fun x => by dsimp only; exact cellA m c t 5 8 2 128 (by decide) (by decide) (by decide) (by decide) inb_S1x16x4x32x256_S1x1x1x16x128_0_8_2_0_128 inb_S8x256x128_S1x16x128_5_8_0_s_1_16_1 x, ?_⟩
  refine ⟨fun x => by dsimp only; exact cellA m c t 4 8 2 0 (by decide) (by decide) (by decide) (by decide) inb_S1x16x4x32x256_S1x1x1x16x128_0_8_2_0_0 inb_S8x256x128_S1x16x128_4_8_0_s_1_16_1 x, ?_⟩
  refine ⟨fun x => by dsimp only; exact cellA m c t 3 8 1 128 (by decide) (by decide) (by decide) (by decide) inb_S1x16x4x32x256_S1x1x1x16x128_0_8_1_0_128 inb_S8x256x128_S1x16x128_3_8_0_s_1_16_1 x, ?_⟩
  refine ⟨fun x => by dsimp only; exact cellA m c t 2 8 1 0 (by decide) (by decide) (by decide) (by decide) inb_S1x16x4x32x256_S1x1x1x16x128_0_8_1_0_0 inb_S8x256x128_S1x16x128_2_8_0_s_1_16_1 x, ?_⟩
  refine ⟨fun x => by dsimp only; exact cellA m c t 1 8 0 128 (by decide) (by decide) (by decide) (by decide) inb_S1x16x4x32x256_S1x1x1x16x128_0_8_0_0_128 inb_S8x256x128_S1x16x128_1_8_0_s_1_16_1 x, ?_⟩
  refine ⟨fun x => by dsimp only; exact cellA m c t 0 8 0 0 (by decide) (by decide) (by decide) (by decide) inb_S1x16x4x32x256_S1x1x1x16x128_0_8_0_0_0 inb_S8x256x128_S1x16x128_0_8_0_s_1_16_1 x, ?_⟩
  refine ⟨fun x => by dsimp only; exact cellA m c t 7 7 3 128 (by decide) (by decide) (by decide) (by decide) inb_S1x16x4x32x256_S1x1x1x16x128_0_7_3_0_128 inb_S8x256x128_S1x16x128_7_7_0_s_1_16_1 x, ?_⟩
  refine ⟨fun x => by dsimp only; exact cellA m c t 6 7 3 0 (by decide) (by decide) (by decide) (by decide) inb_S1x16x4x32x256_S1x1x1x16x128_0_7_3_0_0 inb_S8x256x128_S1x16x128_6_7_0_s_1_16_1 x, ?_⟩
  refine ⟨fun x => by dsimp only; exact cellA m c t 5 7 2 128 (by decide) (by decide) (by decide) (by decide) inb_S1x16x4x32x256_S1x1x1x16x128_0_7_2_0_128 inb_S8x256x128_S1x16x128_5_7_0_s_1_16_1 x, ?_⟩
  refine ⟨fun x => by dsimp only; exact cellA m c t 4 7 2 0 (by decide) (by decide) (by decide) (by decide) inb_S1x16x4x32x256_S1x1x1x16x128_0_7_2_0_0 inb_S8x256x128_S1x16x128_4_7_0_s_1_16_1 x, ?_⟩
  refine ⟨fun x => by dsimp only; exact cellA m c t 3 7 1 128 (by decide) (by decide) (by decide) (by decide) inb_S1x16x4x32x256_S1x1x1x16x128_0_7_1_0_128 inb_S8x256x128_S1x16x128_3_7_0_s_1_16_1 x, ?_⟩
  refine ⟨fun x => by dsimp only; exact cellA m c t 2 7 1 0 (by decide) (by decide) (by decide) (by decide) inb_S1x16x4x32x256_S1x1x1x16x128_0_7_1_0_0 inb_S8x256x128_S1x16x128_2_7_0_s_1_16_1 x, ?_⟩
  refine ⟨fun x => by dsimp only; exact cellA m c t 1 7 0 128 (by decide) (by decide) (by decide) (by decide) inb_S1x16x4x32x256_S1x1x1x16x128_0_7_0_0_128 inb_S8x256x128_S1x16x128_1_7_0_s_1_16_1 x, ?_⟩
  refine ⟨fun x => by dsimp only; exact cellA m c t 0 7 0 0 (by decide) (by decide) (by decide) (by decide) inb_S1x16x4x32x256_S1x1x1x16x128_0_7_0_0_0 inb_S8x256x128_S1x16x128_0_7_0_s_1_16_1 x, ?_⟩
  refine ⟨fun x => by dsimp only; exact cellA m c t 7 6 3 128 (by decide) (by decide) (by decide) (by decide) inb_S1x16x4x32x256_S1x1x1x16x128_0_6_3_0_128 inb_S8x256x128_S1x16x128_7_6_0_s_1_16_1 x, ?_⟩
  refine ⟨fun x => by dsimp only; exact cellA m c t 6 6 3 0 (by decide) (by decide) (by decide) (by decide) inb_S1x16x4x32x256_S1x1x1x16x128_0_6_3_0_0 inb_S8x256x128_S1x16x128_6_6_0_s_1_16_1 x, ?_⟩
  refine ⟨fun x => by dsimp only; exact cellA m c t 5 6 2 128 (by decide) (by decide) (by decide) (by decide) inb_S1x16x4x32x256_S1x1x1x16x128_0_6_2_0_128 inb_S8x256x128_S1x16x128_5_6_0_s_1_16_1 x, ?_⟩
  refine ⟨fun x => by dsimp only; exact cellA m c t 4 6 2 0 (by decide) (by decide) (by decide) (by decide) inb_S1x16x4x32x256_S1x1x1x16x128_0_6_2_0_0 inb_S8x256x128_S1x16x128_4_6_0_s_1_16_1 x, ?_⟩
  refine ⟨fun x => by dsimp only; exact cellA m c t 3 6 1 128 (by decide) (by decide) (by decide) (by decide) inb_S1x16x4x32x256_S1x1x1x16x128_0_6_1_0_128 inb_S8x256x128_S1x16x128_3_6_0_s_1_16_1 x, ?_⟩
  refine ⟨fun x => by dsimp only; exact cellA m c t 2 6 1 0 (by decide) (by decide) (by decide) (by decide) inb_S1x16x4x32x256_S1x1x1x16x128_0_6_1_0_0 inb_S8x256x128_S1x16x128_2_6_0_s_1_16_1 x, ?_⟩
  refine ⟨fun x => by dsimp only; exact cellA m c t 1 6 0 128 (by decide) (by decide) (by decide) (by decide) inb_S1x16x4x32x256_S1x1x1x16x128_0_6_0_0_128 inb_S8x256x128_S1x16x128_1_6_0_s_1_16_1 x, ?_⟩
  refine ⟨fun x => by dsimp only; exact cellA m c t 0 6 0 0 (by decide) (by decide) (by decide) (by decide) inb_S1x16x4x32x256_S1x1x1x16x128_0_6_0_0_0 inb_S8x256x128_S1x16x128_0_6_0_s_1_16_1 x, ?_⟩
  refine ⟨fun x => by dsimp only; exact cellA m c t 7 5 3 128 (by decide) (by decide) (by decide) (by decide) inb_S1x16x4x32x256_S1x1x1x16x128_0_5_3_0_128 inb_S8x256x128_S1x16x128_7_5_0_s_1_16_1 x, ?_⟩
  refine ⟨fun x => by dsimp only; exact cellA m c t 6 5 3 0 (by decide) (by decide) (by decide) (by decide) inb_S1x16x4x32x256_S1x1x1x16x128_0_5_3_0_0 inb_S8x256x128_S1x16x128_6_5_0_s_1_16_1 x, ?_⟩
  refine ⟨fun x => by dsimp only; exact cellA m c t 5 5 2 128 (by decide) (by decide) (by decide) (by decide) inb_S1x16x4x32x256_S1x1x1x16x128_0_5_2_0_128 inb_S8x256x128_S1x16x128_5_5_0_s_1_16_1 x, ?_⟩
  refine ⟨fun x => by dsimp only; exact cellA m c t 4 5 2 0 (by decide) (by decide) (by decide) (by decide) inb_S1x16x4x32x256_S1x1x1x16x128_0_5_2_0_0 inb_S8x256x128_S1x16x128_4_5_0_s_1_16_1 x, ?_⟩
  refine ⟨fun x => by dsimp only; exact cellA m c t 3 5 1 128 (by decide) (by decide) (by decide) (by decide) inb_S1x16x4x32x256_S1x1x1x16x128_0_5_1_0_128 inb_S8x256x128_S1x16x128_3_5_0_s_1_16_1 x, ?_⟩
  refine ⟨fun x => by dsimp only; exact cellA m c t 2 5 1 0 (by decide) (by decide) (by decide) (by decide) inb_S1x16x4x32x256_S1x1x1x16x128_0_5_1_0_0 inb_S8x256x128_S1x16x128_2_5_0_s_1_16_1 x, ?_⟩
  refine ⟨fun x => by dsimp only; exact cellA m c t 1 5 0 128 (by decide) (by decide) (by decide) (by decide) inb_S1x16x4x32x256_S1x1x1x16x128_0_5_0_0_128 inb_S8x256x128_S1x16x128_1_5_0_s_1_16_1 x, ?_⟩
  refine ⟨fun x => by dsimp only; exact cellA m c t 0 5 0 0 (by decide) (by decide) (by decide) (by decide) inb_S1x16x4x32x256_S1x1x1x16x128_0_5_0_0_0 inb_S8x256x128_S1x16x128_0_5_0_s_1_16_1 x, ?_⟩
  refine ⟨fun x => by dsimp only; exact cellA m c t 7 4 3 128 (by decide) (by decide) (by decide) (by decide) inb_S1x16x4x32x256_S1x1x1x16x128_0_4_3_0_128 inb_S8x256x128_S1x16x128_7_4_0_s_1_16_1 x, ?_⟩
  refine ⟨fun x => by dsimp only; exact cellA m c t 6 4 3 0 (by decide) (by decide) (by decide) (by decide) inb_S1x16x4x32x256_S1x1x1x16x128_0_4_3_0_0 inb_S8x256x128_S1x16x128_6_4_0_s_1_16_1 x, ?_⟩
  refine ⟨fun x => by dsimp only; exact cellA m c t 5 4 2 128 (by decide) (by decide) (by decide) (by decide) inb_S1x16x4x32x256_S1x1x1x16x128_0_4_2_0_128 inb_S8x256x128_S1x16x128_5_4_0_s_1_16_1 x, ?_⟩
  refine ⟨fun x => by dsimp only; exact cellA m c t 4 4 2 0 (by decide) (by decide) (by decide) (by decide) inb_S1x16x4x32x256_S1x1x1x16x128_0_4_2_0_0 inb_S8x256x128_S1x16x128_4_4_0_s_1_16_1 x, ?_⟩
  refine ⟨fun x => by dsimp only; exact cellA m c t 3 4 1 128 (by decide) (by decide) (by decide) (by decide) inb_S1x16x4x32x256_S1x1x1x16x128_0_4_1_0_128 inb_S8x256x128_S1x16x128_3_4_0_s_1_16_1 x, ?_⟩
  refine ⟨fun x => by dsimp only; exact cellA m c t 2 4 1 0 (by decide) (by decide) (by decide) (by decide) inb_S1x16x4x32x256_S1x1x1x16x128_0_4_1_0_0 inb_S8x256x128_S1x16x128_2_4_0_s_1_16_1 x, ?_⟩
  refine ⟨fun x => by dsimp only; exact cellA m c t 1 4 0 128 (by decide) (by decide) (by decide) (by decide) inb_S1x16x4x32x256_S1x1x1x16x128_0_4_0_0_128 inb_S8x256x128_S1x16x128_1_4_0_s_1_16_1 x, ?_⟩
  refine ⟨fun x => by dsimp only; exact cellA m c t 0 4 0 0 (by decide) (by decide) (by decide) (by decide) inb_S1x16x4x32x256_S1x1x1x16x128_0_4_0_0_0 inb_S8x256x128_S1x16x128_0_4_0_s_1_16_1 x, ?_⟩
  refine ⟨fun x => by dsimp only; exact cellA m c t 7 3 3 128 (by decide) (by decide) (by decide) (by decide) inb_S1x16x4x32x256_S1x1x1x16x128_0_3_3_0_128 inb_S8x256x128_S1x16x128_7_3_0_s_1_16_1 x, ?_⟩
  refine ⟨fun x => by dsimp only; exact cellA m c t 6 3 3 0 (by decide) (by decide) (by decide) (by decide) inb_S1x16x4x32x256_S1x1x1x16x128_0_3_3_0_0 inb_S8x256x128_S1x16x128_6_3_0_s_1_16_1 x, ?_⟩
  refine ⟨fun x => by dsimp only; exact cellA m c t 5 3 2 128 (by decide) (by decide) (by decide) (by decide) inb_S1x16x4x32x256_S1x1x1x16x128_0_3_2_0_128 inb_S8x256x128_S1x16x128_5_3_0_s_1_16_1 x, ?_⟩
  refine ⟨fun x => by dsimp only; exact cellA m c t 4 3 2 0 (by decide) (by decide) (by decide) (by decide) inb_S1x16x4x32x256_S1x1x1x16x128_0_3_2_0_0 inb_S8x256x128_S1x16x128_4_3_0_s_1_16_1 x, ?_⟩
  refine ⟨fun x => by dsimp only; exact cellA m c t 3 3 1 128 (by decide) (by decide) (by decide) (by decide) inb_S1x16x4x32x256_S1x1x1x16x128_0_3_1_0_128 inb_S8x256x128_S1x16x128_3_3_0_s_1_16_1 x, ?_⟩
  refine ⟨fun x => by dsimp only; exact cellA m c t 2 3 1 0 (by decide) (by decide) (by decide) (by decide) inb_S1x16x4x32x256_S1x1x1x16x128_0_3_1_0_0 inb_S8x256x128_S1x16x128_2_3_0_s_1_16_1 x, ?_⟩
  refine ⟨fun x => by dsimp only; exact cellA m c t 1 3 0 128 (by decide) (by decide) (by decide) (by decide) inb_S1x16x4x32x256_S1x1x1x16x128_0_3_0_0_128 inb_S8x256x128_S1x16x128_1_3_0_s_1_16_1 x, ?_⟩
  refine ⟨fun x => by dsimp only; exact cellA m c t 0 3 0 0 (by decide) (by decide) (by decide) (by decide) inb_S1x16x4x32x256_S1x1x1x16x128_0_3_0_0_0 inb_S8x256x128_S1x16x128_0_3_0_s_1_16_1 x, ?_⟩
  refine ⟨fun x => by dsimp only; exact cellA m c t 7 2 3 128 (by decide) (by decide) (by decide) (by decide) inb_S1x16x4x32x256_S1x1x1x16x128_0_2_3_0_128 inb_S8x256x128_S1x16x128_7_2_0_s_1_16_1 x, ?_⟩
  refine ⟨fun x => by dsimp only; exact cellA m c t 6 2 3 0 (by decide) (by decide) (by decide) (by decide) inb_S1x16x4x32x256_S1x1x1x16x128_0_2_3_0_0 inb_S8x256x128_S1x16x128_6_2_0_s_1_16_1 x, ?_⟩
  refine ⟨fun x => by dsimp only; exact cellA m c t 5 2 2 128 (by decide) (by decide) (by decide) (by decide) inb_S1x16x4x32x256_S1x1x1x16x128_0_2_2_0_128 inb_S8x256x128_S1x16x128_5_2_0_s_1_16_1 x, ?_⟩
  refine ⟨fun x => by dsimp only; exact cellA m c t 4 2 2 0 (by decide) (by decide) (by decide) (by decide) inb_S1x16x4x32x256_S1x1x1x16x128_0_2_2_0_0 inb_S8x256x128_S1x16x128_4_2_0_s_1_16_1 x, ?_⟩
  refine ⟨fun x => by dsimp only; exact cellA m c t 3 2 1 128 (by decide) (by decide) (by decide) (by decide) inb_S1x16x4x32x256_S1x1x1x16x128_0_2_1_0_128 inb_S8x256x128_S1x16x128_3_2_0_s_1_16_1 x, ?_⟩
  refine ⟨fun x => by dsimp only; exact cellA m c t 2 2 1 0 (by decide) (by decide) (by decide) (by decide) inb_S1x16x4x32x256_S1x1x1x16x128_0_2_1_0_0 inb_S8x256x128_S1x16x128_2_2_0_s_1_16_1 x, ?_⟩
  refine ⟨fun x => by dsimp only; exact cellA m c t 1 2 0 128 (by decide) (by decide) (by decide) (by decide) inb_S1x16x4x32x256_S1x1x1x16x128_0_2_0_0_128 inb_S8x256x128_S1x16x128_1_2_0_s_1_16_1 x, ?_⟩
  refine ⟨fun x => by dsimp only; exact cellA m c t 0 2 0 0 (by decide) (by decide) (by decide) (by decide) inb_S1x16x4x32x256_S1x1x1x16x128_0_2_0_0_0 inb_S8x256x128_S1x16x128_0_2_0_s_1_16_1 x, ?_⟩
  refine ⟨fun x => by dsimp only; exact cellA m c t 7 1 3 128 (by decide) (by decide) (by decide) (by decide) inb_S1x16x4x32x256_S1x1x1x16x128_0_1_3_0_128 inb_S8x256x128_S1x16x128_7_1_0_s_1_16_1 x, ?_⟩
  refine ⟨fun x => by dsimp only; exact cellA m c t 6 1 3 0 (by decide) (by decide) (by decide) (by decide) inb_S1x16x4x32x256_S1x1x1x16x128_0_1_3_0_0 inb_S8x256x128_S1x16x128_6_1_0_s_1_16_1 x, ?_⟩
  refine ⟨fun x => by dsimp only; exact cellA m c t 5 1 2 128 (by decide) (by decide) (by decide) (by decide) inb_S1x16x4x32x256_S1x1x1x16x128_0_1_2_0_128 inb_S8x256x128_S1x16x128_5_1_0_s_1_16_1 x, ?_⟩
  refine ⟨fun x => by dsimp only; exact cellA m c t 4 1 2 0 (by decide) (by decide) (by decide) (by decide) inb_S1x16x4x32x256_S1x1x1x16x128_0_1_2_0_0 inb_S8x256x128_S1x16x128_4_1_0_s_1_16_1 x, ?_⟩
  refine ⟨fun x => by dsimp only; exact cellA m c t 3 1 1 128 (by decide) (by decide) (by decide) (by decide) inb_S1x16x4x32x256_S1x1x1x16x128_0_1_1_0_128 inb_S8x256x128_S1x16x128_3_1_0_s_1_16_1 x, ?_⟩
  refine ⟨fun x => by dsimp only; exact cellA m c t 2 1 1 0 (by decide) (by decide) (by decide) (by decide) inb_S1x16x4x32x256_S1x1x1x16x128_0_1_1_0_0 inb_S8x256x128_S1x16x128_2_1_0_s_1_16_1 x, ?_⟩
  refine ⟨fun x => by dsimp only; exact cellA m c t 1 1 0 128 (by decide) (by decide) (by decide) (by decide) inb_S1x16x4x32x256_S1x1x1x16x128_0_1_0_0_128 inb_S8x256x128_S1x16x128_1_1_0_s_1_16_1 x, ?_⟩
  refine ⟨fun x => by dsimp only; exact cellA m c t 0 1 0 0 (by decide) (by decide) (by decide) (by decide) inb_S1x16x4x32x256_S1x1x1x16x128_0_1_0_0_0 inb_S8x256x128_S1x16x128_0_1_0_s_1_16_1 x, ?_⟩
  refine ⟨fun x => by dsimp only; exact cellA m c t 7 0 3 128 (by decide) (by decide) (by decide) (by decide) inb_S1x16x4x32x256_S1x1x1x16x128_0_0_3_0_128 inb_S8x256x128_S1x16x128_7_0_0_s_1_16_1 x, ?_⟩
  refine ⟨fun x => by dsimp only; exact cellA m c t 6 0 3 0 (by decide) (by decide) (by decide) (by decide) inb_S1x16x4x32x256_S1x1x1x16x128_0_0_3_0_0 inb_S8x256x128_S1x16x128_6_0_0_s_1_16_1 x, ?_⟩
  refine ⟨fun x => by dsimp only; exact cellA m c t 5 0 2 128 (by decide) (by decide) (by decide) (by decide) inb_S1x16x4x32x256_S1x1x1x16x128_0_0_2_0_128 inb_S8x256x128_S1x16x128_5_0_0_s_1_16_1 x, ?_⟩
  refine ⟨fun x => by dsimp only; exact cellA m c t 4 0 2 0 (by decide) (by decide) (by decide) (by decide) inb_S1x16x4x32x256_S1x1x1x16x128_0_0_2_0_0 inb_S8x256x128_S1x16x128_4_0_0_s_1_16_1 x, ?_⟩
  refine ⟨fun x => by dsimp only; exact cellA m c t 3 0 1 128 (by decide) (by decide) (by decide) (by decide) inb_S1x16x4x32x256_S1x1x1x16x128_0_0_1_0_128 inb_S8x256x128_S1x16x128_3_0_0_s_1_16_1 x, ?_⟩
  refine ⟨fun x => by dsimp only; exact cellA m c t 2 0 1 0 (by decide) (by decide) (by decide) (by decide) inb_S1x16x4x32x256_S1x1x1x16x128_0_0_1_0_0 inb_S8x256x128_S1x16x128_2_0_0_s_1_16_1 x, ?_⟩
  refine ⟨fun x => by dsimp only; exact cellA m c t 1 0 0 128 (by decide) (by decide) (by decide) (by decide) inb_S1x16x4x32x256_S1x1x1x16x128_0_0_0_0_128 inb_S8x256x128_S1x16x128_1_0_0_s_1_16_1 x, ?_⟩
  refine ⟨fun x => by dsimp only; exact cellA m c t 0 0 0 0 (by decide) (by decide) (by decide) (by decide) inb_S1x16x4x32x256_S1x1x1x16x128_0_0_0_0_0 inb_S8x256x128_S1x16x128_0_0_0_s_1_16_1 x, ?_⟩
  trivial

theorem final7 : (dats m 0 c).arrAt 7 cfg0.N = uM m c := by
  refine (dats m 0 c).arrAt_eq_of_covers 7 _ (by decide +kernel) fun t hf y => ?_
  rw [after0_7]
  blk_simp
  revert y
  change ∀ y : S1x16x4x32x256.Idx, (outsAt0 m c t).1 y = _
  intro y
  rw [out7]
  unfold uB
  idx_vars y
  congr 1
  blk_ext [e7, sq]

end Cert.Kernel3Ideal.Val
-- ==== Proof.InAlgebraic.lean ====
/- The projection in: the kernel's two results are the reference's, at the extended reals. -/
module

public import proofs.«01_k».proof.Defs
public import proofs.«01_k».proof.Proof.InU

@[expose] public section

set_option maxRecDepth 16384

noncomputable section

namespace Cert.Proof.Claims

open Idealize.ShloMosaic Idealize.ShloMosaic.TcCoe
open Idealize.SL.Sem

theorem proj_congr {x x' : Cert.Reference3Ideal.Val.Rows} {mod mod' : Cert.Reference3Ideal.Val.Mod} {g g' : FVec Ideal Cert.Reference3Ideal.S2048 .f32} {w w' : FVec Ideal Cert.Reference3Ideal.S2048x4096 .f32}
    (e0 : x = x') (e1 : mod = mod') (e2 : g = g') (e3 : w = w') : Cert.Reference3Ideal.Val.projR x mod g w = Cert.Reference3Ideal.Val.projR x' mod' g' w' := by rw [e0, e1, e2, e3]

theorem qkv_congr {p p' : FVec Ideal Cert.Reference3Ideal.S2x4096x4096 .f32} {qg qg' kg kg' : FVec Ideal Cert.Reference3Ideal.S64 .f32} (e0 : p = p') (e1 : qg = qg') (e2 : kg = kg') :
    Cert.Reference3Ideal.Val.qkvR p qg kg = Cert.Reference3Ideal.Val.qkvR p' qg' kg' := by rw [e0, e1, e2]

set_option maxHeartbeats 1000000 in
theorem algebraic3 : Cert.algebraic_Kernel3Ideal_Reference3Ideal (hKernel3Ideal := Cert.Kernel3Ideal.Gen.facts) (hReference3Ideal := Cert.Reference3Ideal.Gen.facts) :=
  fun m ρ m' ρ' _ harg => by
  refine ⟨fun c => Cert.Reference3Ideal.Val.uR (Cert.Reference3Ideal.Val.projR (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3))),
    fun c => Cert.Reference3Ideal.Val.qkvR (Cert.Reference3Ideal.Val.projR (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3))) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)), ?_, ?_⟩
  · refine (θ_run Cert.Kernel3Ideal.defs _ _).mono (fun r h c => ?_) (Cert.Kernel3Ideal.Value.run_blocks (F := Ideal) m ρ)
    obtain ⟨r0, r1, hk⟩ := h c
    exact ⟨r0.trans (Cert.Kernel3Ideal.Val.final7 m c), r1.trans (Cert.Kernel3Ideal.Val.final8 m c), hk⟩
  · refine (θ_run Cert.Reference3Ideal.defs _ _).mono (fun r h c => ?_) (Cert.Reference3Ideal.Value.run (F := Ideal) m' ρ')
    obtain ⟨a0, a1, a2, a3, a4, a5⟩ := harg c
    obtain ⟨r0, r1, hk⟩ := h c
    have ep := proj_congr a0 a1 a2 a3
    exact ⟨r0.trans (congrArg Cert.Reference3Ideal.Val.uR ep), r1.trans (qkv_congr ep a4 a5), hk⟩

end Cert.Proof.Claims

end
-- ==== Proof.OutFrames.lean ====
/- The frames of the projection out's programs. -/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import Idealize.ShloMosaic.Lib.Quiescent

@[expose] public section

set_option maxRecDepth 16384

noncomputable section

namespace Cert.Proof.Claims

open Idealize.ShloMosaic Idealize.ShloMosaic.TcCoe
open Idealize.SL.Sem

theorem frame_p4 : Cert.quiescent_Kernel4 (hKernel4 := Cert.Kernel4.Gen.facts) := fun m ρ _ => Cert.Kernel4.Gen.frame m ρ

theorem frame_pi4 : Cert.quiescent_Kernel4Ideal (hKernel4Ideal := Cert.Kernel4Ideal.Gen.facts) := fun m ρ _ => Cert.Kernel4Ideal.Gen.frame m ρ

theorem frame_ri4 : Cert.quiescent_Reference4Ideal (hReference4Ideal := Cert.Reference4Ideal.Gen.facts) := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- Nothing was rewritten. -/
theorem preserves4 : Cert.preserves_Kernel4_Kernel4Ideal := trivial

end Cert.Proof.Claims

end
-- ==== Proof.OutPay.lean ====
/- What one grid point of the projection out computes, read off at an index. -/
module

public import proofs.«01_k».proof.Proof.Gen.Kernel4Ideal.Skeleton
public import Idealize.ShloMosaic.Lib.Pointwise

@[expose] public section

set_option maxRecDepth 16384

noncomputable section

namespace Cert.Kernel4Ideal.Val

open Cert.Kernel4Ideal Cert.Kernel4Ideal.Gen
open Idealize.ShloMosaic

/-- What is added to a mean of squares. -/
abbrev eps : EReal := Ideal.ofBits .f32 0x358637BD#32

/-- The gate of the recurrence's result: the approximation of the Gaussian one by a hyperbolic tangent. -/
def gelu (y : EReal) : EReal :=
  y * (Ideal.ofBits .f32 0x3F000000#32 * (1 + Ideal.tanh (Ideal.ofBits .f32 0x3F4C422A#32 * (y + Ideal.ofBits .f32 0x3D372713#32 * (y * (y * y))))))

/-- An entry of a row of 1024 through the norm, and of a row of 2048. -/
def nrm1 (f : Fin 1024 → EReal) (k : Fin 1024) : EReal :=
  f k * Ideal.rsqrt (Ideal.div (∑ j : Fin 1024, f j * f j) (Ideal.ofBits .f32 0x44800000#32) + eps)
def nrm2 (f : Fin 2048 → EReal) (k : Fin 2048) : EReal :=
  f k * Ideal.rsqrt (Ideal.div (∑ j : Fin 2048, f j * f j) (Ideal.ofBits .f32 0x45000000#32) + eps)

/-- A row of the recurrence's result through both gates. -/
def gated (y : Fin 1024 → EReal) (w : Fin 1024 → Fin 1024 → EReal) (n : Fin 1024) : EReal :=
  gelu (y n) * Ideal.logistic (∑ j : Fin 1024, gelu (y j) * w j n)

/-- A row of the residual: the layer's input plus the gate times both groups, normalised, against the weights. -/
def hv (y a : Fin 1024 → EReal) (w : Fin 1024 → Fin 1024 → EReal) (gs ga : Fin 1024 → EReal) (w0 w1 : Fin 1024 → Fin 2048 → EReal) (x gm : Fin 2048 → EReal) (d : Fin 2048) : EReal :=
  x d + gm d * ((∑ k : Fin 1024, nrm1 (gated y w) k * gs k * w0 k d) + ∑ k : Fin 1024, nrm1 a k * ga k * w1 k d)

/-- A row of the feed-forward's input: the residual through the norm, scaled and shifted. -/
def xfv (h g sc sh : Fin 2048 → EReal) (d : Fin 2048) : EReal := nrm2 h d * g d * (1 + sc d) + sh d

/-- Eight tiles beside each other. -/
theorem pay296_apply (T0 T1 T2 T3 T4 T5 T6 T7 : FVec Ideal S1x256x128 .f32) (G : Fin 256 → Fin 1024 → EReal)
    (h0 : ∀ (r : Fin 256) (l : Fin 128), T0 (ix3 0 r l) = G r ⟨0 + l.val, by omega⟩) (h1 : ∀ (r : Fin 256) (l : Fin 128), T1 (ix3 0 r l) = G r ⟨128 + l.val, by omega⟩)
    (h2 : ∀ (r : Fin 256) (l : Fin 128), T2 (ix3 0 r l) = G r ⟨256 + l.val, by omega⟩) (h3 : ∀ (r : Fin 256) (l : Fin 128), T3 (ix3 0 r l) = G r ⟨384 + l.val, by omega⟩)
    (h4 : ∀ (r : Fin 256) (l : Fin 128), T4 (ix3 0 r l) = G r ⟨512 + l.val, by omega⟩) (h5 : ∀ (r : Fin 256) (l : Fin 128), T5 (ix3 0 r l) = G r ⟨640 + l.val, by omega⟩)
    (h6 : ∀ (r : Fin 256) (l : Fin 128), T6 (ix3 0 r l) = G r ⟨768 + l.val, by omega⟩) (h7 : ∀ (r : Fin 256) (l : Fin 128), T7 (ix3 0 r l) = G r ⟨896 + l.val, by omega⟩)
    (r : Fin 256) (n : Fin 1024) : k0_pay296 (F := Ideal) T0 T1 T2 T3 T4 T5 T6 T7 (ix2 r n) = G r n := by
  pointwise [k0_pay296]
  repeat' split
  all_goals first
    | exact (h0 _ _).trans (congrArg (G r) (Fin.ext (by dsimp only; omega)))
    | exact (h1 _ _).trans (congrArg (G r) (Fin.ext (by dsimp only; omega)))
    | exact (h2 _ _).trans (congrArg (G r) (Fin.ext (by dsimp only; omega)))
    | exact (h3 _ _).trans (congrArg (G r) (Fin.ext (by dsimp only; omega)))
    | exact (h4 _ _).trans (congrArg (G r) (Fin.ext (by dsimp only; omega)))
    | exact (h5 _ _).trans (congrArg (G r) (Fin.ext (by dsimp only; omega)))
    | exact (h6 _ _).trans (congrArg (G r) (Fin.ext (by dsimp only; omega)))
    | exact (h7 _ _).trans (congrArg (G r) (Fin.ext (by dsimp only; omega)))

/-- The gate of a block of rows. -/
def geluK (V : FVec Ideal S256x1024 .f32) : FVec Ideal S256x1024 .f32 :=
  mulf V (mulf (broadcast S256x1024 (Scalar.ofBits .f32 0x3F000000#32)) (addf (broadcast S256x1024 (Scalar.ofBits .f32 0x3F800000#32)) (tanh (mulf (broadcast S256x1024 (Scalar.ofBits .f32 0x3F4C422A#32)) (addf V (mulf (broadcast S256x1024 (Scalar.ofBits .f32 0x3D372713#32)) (mulf V (mulf V V))))))))

theorem geluK_apply (V : FVec Ideal S256x1024 .f32) (r : Fin 256) (n : Fin 1024) : geluK V (ix2 r n) = gelu (V (ix2 r n)) := by
  pointwise [geluK]
  rfl

theorem pay133_apply (P : FVec Ideal S256x1024 .f32) (Q : FVec Ideal S256x1024 .bf16) (W : FVec Ideal S1024x1024 .bf16) (g : FVec Ideal S1x1024 .f32) (w0 : FVec Ideal S1024x2048 .bf16) (r : Fin 256) (d : Fin 2048) :
    k0_pay133 (F := Ideal) P Q W g w0 (ix2 r d)
      = ∑ k : Fin 1024, nrm1 (fun n => P (ix2 r n) * Ideal.logistic (∑ j : Fin 1024, Q (ix2 r j) * W (ix2 j n))) k * g (ix2 0 k) * w0 (ix2 k d) := by
  pointwise [k0_pay133]
  rfl

theorem pay132_apply (a : FVec Ideal S256x1024 .bf16) (g : FVec Ideal S1x1024 .f32) (r : Fin 256) (k : Fin 1024) :
    k0_pay132 (F := Ideal) a g (ix2 r k) = nrm1 (fun n => a (ix2 r n)) k * g (ix2 0 k) := by
  pointwise [k0_pay132]
  rfl

theorem pay134_apply (A : FVec Ideal S256x1024 .bf16) (O : FVec Ideal S256x2048 .f32) (w1 : FVec Ideal S1024x2048 .bf16) (x : FVec Ideal S256x2048 .f32) (gm : FVec Ideal S1x1x2048 .f32) (r : Fin 256) (d : Fin 2048) :
    k0_pay134 (F := Ideal) A O w1 x gm (ix2 r d) = x (ix2 r d) + gm (ix3 0 0 d) * (O (ix2 r d) + ∑ k : Fin 1024, A (ix2 r k) * w1 (ix2 k d)) := by
  pointwise [k0_pay134]

theorem pay135_apply (A : FVec Ideal S256x1024 .bf16) (O : FVec Ideal S256x2048 .f32) (w1 : FVec Ideal S1024x2048 .bf16) (x : FVec Ideal S256x2048 .f32) (gm : FVec Ideal S1x1x2048 .f32)
    (g : FVec Ideal S1x2048 .f32) (sc sh : FVec Ideal S1x1x2048 .f32) (r : Fin 256) (d : Fin 2048) :
    k0_pay135 (F := Ideal) A O w1 x gm g sc sh (ix2 r d)
      = xfv (fun j => k0_pay134 (F := Ideal) A O w1 x gm (ix2 r j)) (fun j => g (ix2 0 j)) (fun j => sc (ix3 0 0 j)) (fun j => sh (ix3 0 0 j)) d := by
  pointwise [k0_pay135]
  rfl

section Halves

variable (T0 T1 T2 T3 T4 T5 T6 T7 : FVec Ideal S1x256x128 .f32) (a : FVec Ideal S256x1024 .bf16) (W : FVec Ideal S1024x1024 .bf16) (gs ga : FVec Ideal S1x1024 .f32) (w0 w1 : FVec Ideal S1024x2048 .bf16)
  (x : FVec Ideal S256x2048 .f32) (gm : FVec Ideal S1x1x2048 .f32) (gf : FVec Ideal S1x2048 .f32) (sc sh : FVec Ideal S1x1x2048 .f32)

/-- What each half of a point's rows becomes: the residual, and the feed-forward's input. -/
def hK : FVec Ideal S256x2048 .f32 :=
  k0_pay134 (F := Ideal) (k0_pay132 a ga) (k0_pay133 (k0_pay130 T0 T1 T2 T3 T4 T5 T6 T7) (k0_pay131 T0 T1 T2 T3 T4 T5 T6 T7) W gs w0) w1 x gm
def xK : FVec Ideal S256x2048 .bf16 :=
  k0_pay135 (F := Ideal) (k0_pay132 a ga) (k0_pay133 (k0_pay130 T0 T1 T2 T3 T4 T5 T6 T7) (k0_pay131 T0 T1 T2 T3 T4 T5 T6 T7) W gs w0) w1 x gm gf sc sh
def hK' : FVec Ideal S256x2048 .f32 :=
  k0_pay301 (F := Ideal) (k0_pay298 (k0_pay296 T0 T1 T2 T3 T4 T5 T6 T7) (k0_pay297 T0 T1 T2 T3 T4 T5 T6 T7) W gs) (k0_pay299 a ga) (k0_pay300 w0) (constant S256x2048 .f32 0x00000000#32) w1 x gm
def xK' : FVec Ideal S256x2048 .bf16 :=
  k0_pay1 (k0_pay302 (F := Ideal) (k0_pay298 (k0_pay296 T0 T1 T2 T3 T4 T5 T6 T7) (k0_pay297 T0 T1 T2 T3 T4 T5 T6 T7) W gs) (k0_pay299 a ga) (k0_pay300 w0) (constant S256x2048 .f32 0x00000000#32) w1 x gm gf sc sh)

variable {T0 T1 T2 T3 T4 T5 T6 T7 a W gs ga w0 w1 x gm gf sc sh}
  {Y A : Fin 256 → Fin 1024 → EReal} {X : Fin 256 → Fin 2048 → EReal} {Gm Gf Sc Sh : Fin 2048 → EReal} {Wf : Fin 1024 → Fin 1024 → EReal} {Gs Ga : Fin 1024 → EReal} {W0 W1 : Fin 1024 → Fin 2048 → EReal}

theorem pay130_apply (hY : ∀ r n, k0_pay296 (F := Ideal) T0 T1 T2 T3 T4 T5 T6 T7 (ix2 r n) = Y r n) (r : Fin 256) (n : Fin 1024) :
    k0_pay130 (F := Ideal) T0 T1 T2 T3 T4 T5 T6 T7 (ix2 r n) = gelu (Y r n) :=
  (show k0_pay130 (F := Ideal) T0 T1 T2 T3 T4 T5 T6 T7 (ix2 r n) = geluK (k0_pay296 (F := Ideal) T0 T1 T2 T3 T4 T5 T6 T7) (ix2 r n) from rfl).trans
    ((geluK_apply _ r n).trans (congrArg gelu (hY r n)))

theorem hK_apply (hY : ∀ r n, k0_pay296 (F := Ideal) T0 T1 T2 T3 T4 T5 T6 T7 (ix2 r n) = Y r n) (hA : ∀ r n, a (ix2 r n) = A r n) (hW : ∀ j n, W (ix2 j n) = Wf j n)
    (hgs : ∀ k, gs (ix2 0 k) = Gs k) (hga : ∀ k, ga (ix2 0 k) = Ga k) (h0 : ∀ k d, w0 (ix2 k d) = W0 k d) (h1 : ∀ k d, w1 (ix2 k d) = W1 k d) (hx : ∀ r d, x (ix2 r d) = X r d) (hgm : ∀ d, gm (ix3 0 0 d) = Gm d)
    (r : Fin 256) (d : Fin 2048) :
    hK T0 T1 T2 T3 T4 T5 T6 T7 a W gs ga w0 w1 x gm (ix2 r d) = hv (Y r) (A r) Wf Gs Ga W0 W1 (X r) Gm d := by
  have e (j : Fin 1024) : k0_pay131 (F := Ideal) T0 T1 T2 T3 T4 T5 T6 T7 (ix2 r j) = gelu (Y r j) := pay130_apply hY r j
  unfold hK hv gated
  rw [pay134_apply, pay133_apply]
  simp only [pay132_apply, pay130_apply hY, e, hA, hW, hgs, hga, h0, h1, hx, hgm]

theorem xK_apply (H : Fin 2048 → EReal) (r : Fin 256) (hH : ∀ d, hK T0 T1 T2 T3 T4 T5 T6 T7 a W gs ga w0 w1 x gm (ix2 r d) = H d) (hgf : ∀ d, gf (ix2 0 d) = Gf d) (hsc : ∀ d, sc (ix3 0 0 d) = Sc d) (hsh : ∀ d, sh (ix3 0 0 d) = Sh d)
    (d : Fin 2048) : xK T0 T1 T2 T3 T4 T5 T6 T7 a W gs ga w0 w1 x gm gf sc sh (ix2 r d) = xfv H Gf Sc Sh d := by
  have e (j : Fin 2048) := hH j
  unfold hK at e
  unfold xK
  rw [pay135_apply]
  simp only [e, hgf, hsc, hsh]

/-- The second half is computed as the first is, cut into parts elsewhere. -/
theorem hK'_eq : hK' T0 T1 T2 T3 T4 T5 T6 T7 a W gs ga w0 w1 x gm = hK T0 T1 T2 T3 T4 T5 T6 T7 a W gs ga w0 w1 x gm := rfl
theorem xK'_eq : xK' T0 T1 T2 T3 T4 T5 T6 T7 a W gs ga w0 w1 x gm gf sc sh = xK T0 T1 T2 T3 T4 T5 T6 T7 a W gs ga w0 w1 x gm gf sc sh := rfl

end Halves

end Cert.Kernel4Ideal.Val
-- ==== Proof.OutHost.lean ====
/- What the host hands the projection out, and a window's block of it, read off at an index. -/
module

public import proofs.«01_k».proof.Proof.OutPay
public import proofs.«01_k».proof.Proof.Gen.Kernel4Ideal.Frame
public import Idealize.ShloMosaic.Lib.Claim
public import Idealize.ShloMosaic.Lib.Pipeline.ValueKit

@[expose] public section

set_option maxRecDepth 16384

noncomputable section

namespace Cert.Kernel4Ideal.Val

open Cert.Kernel4Ideal Cert.Kernel4Ideal.Gen
open Idealize.ShloMosaic Idealize.ShloMosaic.TcCoe Idealize.ShloMosaic.StableHlo Idealize.ShloMosaic.Tactic

variable (m : (ℓ : Loc nD τ sig) → Buf (Elt Ideal) ℓ) (c : Dev nD)

/-- The recurrence's result, a chunk's places first. -/
def yV (y : FVec Ideal S2x4096x1024 .f32) : FVec Ideal S2x16x4x256x256 .bf16 :=
  truncf (F := Ideal) .bf16 (transpose S2x16x4x256x256 [0, 2, 3, 1, 4] (shapeCast S2x256x16x4x256 y shapeCasts_S2x4096x1024_S2x256x16x4x256) transposes_S2x256x16x4x256_S2x16x4x256x256_0_2_3_1_4) bitsLt_bf16_f32

/-- The rows of both sequences in one. -/
def attV (x : FVec Ideal S2x4096x1024 .f32) : FVec Ideal S8192x1024 .bf16 := truncf (F := Ideal) .bf16 (shapeCast S8192x1024 x shapeCasts_S2x4096x1024_S8192x1024) bitsLt_bf16_f32
def rowsV (x : FVec Ideal S2x4096x2048 .f32) : FVec Ideal S8192x2048 .f32 := shapeCast S8192x2048 x shapeCasts_S2x4096x2048_S8192x2048

/-- The modulation, cut in six rows. -/
def modV (x : FVec Ideal S2x12288 .f32) : FVec Ideal S2x6x2048 .f32 := shapeCast S2x6x2048 x shapeCasts_S2x12288_S2x6x2048

def gain1V (x : FVec Ideal S1024 .f32) : FVec Ideal S1x1024 .f32 := shapeCast S1x1024 x shapeCasts_S1024_S1x1024
def gain2V (x : FVec Ideal S2048 .f32) : FVec Ideal S1x2048 .f32 := shapeCast S1x2048 x shapeCasts_S2048_S1x2048

theorem V_y : V m c main_v2 = yV (m ((c : Thread nD τ).loc main_arg0)) := by
  unfold_abbrev_sides
  after_results
  rfl

theorem V_att : V m c main_v4 = attV (m ((c : Thread nD τ).loc main_arg1)) := by
  unfold_abbrev_sides
  after_results
  rfl

theorem V_x : V m c main_v5 = rowsV (m ((c : Thread nD τ).loc main_arg2)) := by
  unfold_abbrev_sides
  after_results
  rfl

theorem V_mod : V m c main_v6 = modV (m ((c : Thread nD τ).loc main_arg3)) := by
  unfold_abbrev_sides
  after_results
  rfl

theorem V_wg : V m c main_v7 = truncf (F := Ideal) .bf16 (m ((c : Thread nD τ).loc main_arg4)) bitsLt_bf16_f32 := by
  unfold_abbrev_sides
  after_results

theorem V_wo : V m c main_v8 = truncf (F := Ideal) .bf16 (m ((c : Thread nD τ).loc main_arg7)) bitsLt_bf16_f32 := by
  unfold_abbrev_sides
  after_results

theorem V_gs : V m c main_v9 = gain1V (m ((c : Thread nD τ).loc main_arg5)) := by
  unfold_abbrev_sides
  after_results
  rfl

theorem V_ga : V m c main_v10 = gain1V (m ((c : Thread nD τ).loc main_arg6)) := by
  unfold_abbrev_sides
  after_results
  rfl

theorem V_gf : V m c main_v11 = gain2V (m ((c : Thread nD τ).loc main_arg8)) := by
  unfold_abbrev_sides
  after_results
  rfl

theorem yV_apply (y : FVec Ideal S2x4096x1024 .f32) (b : Fin 2) (s : Fin 16) (q : Fin 4) (k l : Fin 256) :
    yV y (ix5 b s q k l) = y (ix3 b ⟨16 * k.val + s.val, by omega⟩ ⟨256 * q.val + l.val, by omega⟩) := by
  pointwise [yV]
  congr 2
  · exact Fin.ext (by show k.val * 16 + s.val = 16 * k.val + s.val; omega)
  · exact Fin.ext (by show q.val * 256 + l.val = 256 * q.val + l.val; omega)

theorem attV_apply (x : FVec Ideal S2x4096x1024 .f32) (b : Fin 2) (t : Fin 4096) (r : Fin 8192) (hr : r.val = 4096 * b.val + t.val) (d : Fin 1024) :
    attV x (ix2 r d) = x (ix3 b t d) := by
  have e1 : (⟨r.val / 4096, by omega⟩ : Fin 2) = b := Fin.ext (by show r.val / 4096 = b.val; omega)
  have e2 : (⟨r.val % 4096, by omega⟩ : Fin 4096) = t := Fin.ext (by show r.val % 4096 = t.val; omega)
  pointwise [attV]
  rw [e1, e2]

theorem rowsV_apply (x : FVec Ideal S2x4096x2048 .f32) (b : Fin 2) (t : Fin 4096) (r : Fin 8192) (hr : r.val = 4096 * b.val + t.val) (d : Fin 2048) :
    rowsV x (ix2 r d) = x (ix3 b t d) := by
  have e1 : (⟨r.val / 4096, by omega⟩ : Fin 2) = b := Fin.ext (by show r.val / 4096 = b.val; omega)
  have e2 : (⟨r.val % 4096, by omega⟩ : Fin 4096) = t := Fin.ext (by show r.val % 4096 = t.val; omega)
  pointwise [rowsV]
  rw [e1, e2]

theorem modV_2 (x : FVec Ideal S2x12288 .f32) (b : Fin 2) (d : Fin 2048) : modV x (ix3 b 2 d) = x (ix2 b ⟨4096 + d.val, by omega⟩) := by
  pointwise [modV]

theorem modV_3 (x : FVec Ideal S2x12288 .f32) (b : Fin 2) (d : Fin 2048) : modV x (ix3 b 3 d) = x (ix2 b ⟨6144 + d.val, by omega⟩) := by
  pointwise [modV]

theorem modV_4 (x : FVec Ideal S2x12288 .f32) (b : Fin 2) (d : Fin 2048) : modV x (ix3 b 4 d) = x (ix2 b ⟨8192 + d.val, by omega⟩) := by
  pointwise [modV]

theorem gain1V_apply (x : FVec Ideal S1024 .f32) (d : Fin 1024) : gain1V x (ix2 0 d) = x (ix1 d) := by
  pointwise [gain1V]

theorem gain2V_apply (x : FVec Ideal S2048 .f32) (d : Fin 2048) : gain2V x (ix2 0 d) = x (ix1 d) := by
  pointwise [gain2V]

theorem lt_points (t : Fin cfg0.N) : t.val < 16 := lt_of_lt_of_eq t.isLt (show cfg0.N = 16 from N_0)

theorem e0 : ∀ t : Fin cfg0.N, win0_0.index t = ![t.val / 8, 0, 0, t.val % 8, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val / 8, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![1, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)

/-- The sequence, the row in it and the row of the array that a row of a point's block is. -/
def sq (t : Fin cfg0.N) : Fin 2 := ⟨t.val / 8, by have := lt_points t; omega⟩
def seqRow (t : Fin cfg0.N) (r : Fin 512) : Fin 4096 := ⟨512 * (t.val % 8) + r.val, by omega⟩
def row (t : Fin cfg0.N) (r : Fin 512) : Fin 8192 := ⟨512 * t.val + r.val, by have := lt_points t; omega⟩

theorem row_val (t : Fin cfg0.N) (r : Fin 512) : (row t r).val = 4096 * (sq t).val + (seqRow t r).val := by
  show 512 * t.val + r.val = 4096 * (t.val / 8) + (512 * (t.val % 8) + r.val)
  omega

theorem iblk0_apply (t : Fin cfg0.N) (s : Fin 16) (q : Fin 4) (k : Fin 32) (l : Fin 256) : (iblk m c 0 t : Vec Ideal S1x16x4x32x256 .bf16) (ix5 0 s q k l)
    = (m ((c : Thread nD τ).loc main_arg0) : FVec Ideal S2x4096x1024 .f32) (ix3 (sq t) ⟨16 * (32 * (t.val % 8) + k.val) + s.val, by omega⟩ ⟨256 * q.val + l.val, by omega⟩) := by
  refine Eq.trans ?_ ((congrFun (V_y m c) (ix5 (sq t) s q ⟨32 * (t.val % 8) + k.val, by omega⟩ l)).trans (yV_apply _ (sq t) s q ⟨32 * (t.val % 8) + k.val, by omega⟩ l))
  unfold iblk
  rw [View.read_apply]
  show V m c main_v2 _ = V m c main_v2 _
  congr 1
  blk_ext [e0, sq]

theorem iblk1_apply (t : Fin cfg0.N) (r : Fin 512) (k : Fin 1024) : (iblk m c 1 t : Vec Ideal S512x1024 .bf16) (ix2 r k)
    = (m ((c : Thread nD τ).loc main_arg1) : FVec Ideal S2x4096x1024 .f32) (ix3 (sq t) (seqRow t r) k) := by
  refine Eq.trans ?_ ((congrFun (V_att m c) (ix2 (row t r) k)).trans (attV_apply _ (sq t) (seqRow t r) (row t r) (row_val t r) k))
  unfold iblk
  rw [View.read_apply]
  show V m c main_v4 _ = V m c main_v4 _
  congr 1
  blk_ext [e1, row]

theorem iblk2_apply (t : Fin cfg0.N) (r : Fin 512) (k : Fin 2048) : (iblk m c 2 t : Vec Ideal S512x2048 .f32) (ix2 r k)
    = (m ((c : Thread nD τ).loc main_arg2) : FVec Ideal S2x4096x2048 .f32) (ix3 (sq t) (seqRow t r) k) := by
  refine Eq.trans ?_ ((congrFun (V_x m c) (ix2 (row t r) k)).trans (rowsV_apply _ (sq t) (seqRow t r) (row t r) (row_val t r) k))
  unfold iblk
  rw [View.read_apply]
  show V m c main_v5 _ = V m c main_v5 _
  congr 1
  blk_ext [e2, row]

theorem iblk3_2 (t : Fin cfg0.N) (d : Fin 2048) : (iblk m c 3 t : Vec Ideal S1x6x2048 .f32) (ix3 0 2 d)
    = (m ((c : Thread nD τ).loc main_arg3) : FVec Ideal S2x12288 .f32) (ix2 (sq t) ⟨4096 + d.val, by omega⟩) := by
  refine Eq.trans ?_ ((congrFun (V_mod m c) (ix3 (sq t) 2 d)).trans (modV_2 _ (sq t) d))
  unfold iblk
  rw [View.read_apply]
  show V m c main_v6 _ = V m c main_v6 _
  congr 1
  blk_ext [e3, sq]

theorem iblk3_3 (t : Fin cfg0.N) (d : Fin 2048) : (iblk m c 3 t : Vec Ideal S1x6x2048 .f32) (ix3 0 3 d)
    = (m ((c : Thread nD τ).loc main_arg3) : FVec Ideal S2x12288 .f32) (ix2 (sq t) ⟨6144 + d.val, by omega⟩) := by
  refine Eq.trans ?_ ((congrFun (V_mod m c) (ix3 (sq t) 3 d)).trans (modV_3 _ (sq t) d))
  unfold iblk
  rw [View.read_apply]
  show V m c main_v6 _ = V m c main_v6 _
  congr 1
  blk_ext [e3, sq]

theorem iblk3_4 (t : Fin cfg0.N) (d : Fin 2048) : (iblk m c 3 t : Vec Ideal S1x6x2048 .f32) (ix3 0 4 d)
    = (m ((c : Thread nD τ).loc main_arg3) : FVec Ideal S2x12288 .f32) (ix2 (sq t) ⟨8192 + d.val, by omega⟩) := by
  refine Eq.trans ?_ ((congrFun (V_mod m c) (ix3 (sq t) 4 d)).trans (modV_4 _ (sq t) d))
  unfold iblk
  rw [View.read_apply]
  show V m c main_v6 _ = V m c main_v6 _
  congr 1
  blk_ext [e3, sq]

theorem iblk4_apply (t : Fin cfg0.N) (j n : Fin 1024) : (iblk m c 4 t : Vec Ideal S1024x1024 .bf16) (ix2 j n)
    = (m ((c : Thread nD τ).loc main_arg4) : FVec Ideal S1024x1024 .f32) (ix2 j n) := by
  refine Eq.trans ?_ (congrFun (V_wg m c) (ix2 j n))
  unfold iblk
  rw [View.read_apply]
  show V m c main_v7 _ = V m c main_v7 _
  congr 1
  blk_ext [e4]

theorem iblk5_apply (t : Fin cfg0.N) (k : Fin 1024) : (iblk m c 5 t : Vec Ideal S1x1024 .f32) (ix2 0 k)
    = (m ((c : Thread nD τ).loc main_arg5) : FVec Ideal S1024 .f32) (ix1 k) := by
  refine Eq.trans ?_ ((congrFun (V_gs m c) (ix2 0 k)).trans (gain1V_apply _ k))
  unfold iblk
  rw [View.read_apply]
  show V m c main_v9 _ = V m c main_v9 _
  congr 1
  blk_ext [e5]

theorem iblk6_apply (t : Fin cfg0.N) (k : Fin 1024) : (iblk m c 6 t : Vec Ideal S1x1024 .f32) (ix2 0 k)
    = (m ((c : Thread nD τ).loc main_arg6) : FVec Ideal S1024 .f32) (ix1 k) := by
  refine Eq.trans ?_ ((congrFun (V_ga m c) (ix2 0 k)).trans (gain1V_apply _ k))
  unfold iblk
  rw [View.read_apply]
  show V m c main_v10 _ = V m c main_v10 _
  congr 1
  blk_ext [e6]

theorem iblk7_apply (t : Fin cfg0.N) (k : Fin 1024) (d : Fin 2048) : (iblk m c 7 t : Vec Ideal S1024x2048 .bf16) (ix2 k d)
    = (m ((c : Thread nD τ).loc main_arg7) : FVec Ideal S2048x2048 .f32) (ix2 ⟨0 + k.val, by omega⟩ d) := by
  refine Eq.trans ?_ (congrFun (V_wo m c) (ix2 ⟨0 + k.val, by omega⟩ d))
  unfold iblk
  rw [View.read_apply]
  show V m c main_v8 _ = V m c main_v8 _
  congr 1
  blk_ext [e7]

theorem iblk8_apply (t : Fin cfg0.N) (k : Fin 1024) (d : Fin 2048) : (iblk m c 8 t : Vec Ideal S1024x2048 .bf16) (ix2 k d)
    = (m ((c : Thread nD τ).loc main_arg7) : FVec Ideal S2048x2048 .f32) (ix2 ⟨1024 + k.val, by omega⟩ d) := by
  refine Eq.trans ?_ (congrFun (V_wo m c) (ix2 ⟨1024 + k.val, by omega⟩ d))
  unfold iblk
  rw [View.read_apply]
  show V m c main_v8 _ = V m c main_v8 _
  congr 1
  blk_ext [e8]

theorem iblk9_apply (t : Fin cfg0.N) (k : Fin 2048) : (iblk m c 9 t : Vec Ideal S1x2048 .f32) (ix2 0 k)
    = (m ((c : Thread nD τ).loc main_arg8) : FVec Ideal S2048 .f32) (ix1 k) := by
  refine Eq.trans ?_ ((congrFun (V_gf m c) (ix2 0 k)).trans (gain2V_apply _ k))
  unfold iblk
  rw [View.read_apply]
  show V m c main_v11 _ = V m c main_v11 _
  congr 1
  blk_ext [e9]

end Cert.Kernel4Ideal.Val
-- ==== Proof.OutCells.lean ====
/- The recurrence's result through the scratch buffer: sixteenths of a tile's rows are stored, and whole tiles read back. -/
module

public import proofs.«01_k».proof.Proof.OutHost
public import Idealize.ShloMosaic.Lib.Pipeline.ReadBack

@[expose] public section

set_option maxRecDepth 16384
set_option maxHeartbeats 4000000

noncomputable section

namespace Cert.Kernel4Ideal.Val

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

/-- Whether a store is of every sixteenth row of the tile `k`, the first at `s`. -/
def isRow (p : View.Piece (Elt Ideal) S8x256x128 .f32) (k s : ℕ) : Bool :=
  p.1.off 0 == k && p.1.off 1 == s && p.1.off 2 == 0 && p.1.size 0 == 1 && p.1.size 1 == 16 && p.1.size 2 == 128 && p.1.stride 1 == 16 && p.1.stride 2 == 1

/-- Stores of every sixteenth row, at each of sixteen places of each of eight tiles, leave nothing out. -/
theorem cover_of_isRow (L : List (View.Piece (Elt Ideal) S8x256x128 .f32)) (h : ((List.range 8).all fun k => (List.range 16).all fun s => L.any fun p => isRow p k s) = true)
    (y : S8x256x128.Idx) : ∃ p ∈ L, y ∈ p.1.set := by
  simp only [List.all_eq_true, List.mem_range, List.any_eq_true] at h
  have h0 : (y 0).val < 8 := (y 0).isLt
  have h1 : (y 1).val < 256 := (y 1).isLt
  have h2 : (y 2).val < 128 := (y 2).isLt
  obtain ⟨p, hp, hr⟩ := h (y 0).val h0 ((y 1).val % 16) (Nat.mod_lt _ (by norm_num))
  simp only [isRow, Bool.and_eq_true, beq_iff_eq] at hr
  obtain ⟨⟨⟨⟨⟨⟨⟨o0, o1⟩, o2⟩, s0⟩, s1⟩, s2⟩, r1⟩, r2⟩ := hr
  refine ⟨p, hp, p.1.mem_set.mpr fun a => ?_⟩
  match a with
  | ⟨0, _⟩ => exact ⟨0, lt_of_lt_of_eq Nat.one_pos s0.symm, by show (y 0).val = p.1.off 0 + p.1.stride 0 * 0; omega⟩
  | ⟨1, _⟩ => exact ⟨(y 1).val / 16, lt_of_lt_of_eq (by omega) s1.symm, by show (y 1).val = p.1.off 1 + p.1.stride 1 * ((y 1).val / 16); rw [o1, r1]; omega⟩
  | ⟨2, _⟩ => exact ⟨(y 2).val, lt_of_lt_of_eq h2 s2.symm, by show (y 2).val = p.1.off 2 + p.1.stride 2 * (y 2).val; rw [o2, r2]; omega⟩

/-- What the buffer holds of half a block of rows, the first at `h`: the tile, the row, and the column in the tile. -/
def scrG (t : Fin cfg0.N) (h : ℕ) (hh : h ≤ 256) (y : S8x256x128.Idx) : EReal :=
  (m ((c : Thread nD τ).loc main_arg0) : FVec Ideal S2x4096x1024 .f32)
    (ix3 (sq t) (seqRow t ⟨h + (y 1).val, by have h1 : (y 1).val < 256 := (y 1).isLt; omega⟩) ⟨128 * (y 0).val + (y 2).val, by have h0 : (y 0).val < 8 := (y 0).isLt; have h2 : (y 2).val < 128 := (y 2).isLt; omega⟩)

/-- Rows as they are stored. -/
def stK (v : FVec Ideal S1x1x1x16x128 .bf16) : FVec Ideal S1x16x128 .f32 :=
  shapeCast S1x16x128 (extf (F := Ideal) .f32 (shapeCast S16x128 v shapeCasts_S1x1x1x16x128_S16x128) bitsLt_bf16_f32) shapeCasts_S16x128_S1x16x128

theorem stK_apply (v : FVec Ideal S1x1x1x16x128 .bf16) (a : Fin 1) (r : Fin 16) (l : Fin 128) : stK v (ix3 a r l) = v (ix5 0 0 0 r l) := by
  pointwise [stK]

theorem row_piece (t : Fin cfg0.N) (h : ℕ) (hh : h ≤ 256) (k s q l c0 : ℕ) (hk : k ≤ 7) (hs : s ≤ 15) (hq : 128 * k = 256 * q + l) (hl : l ≤ 128) (hc : 16 * c0 = h)
    (b : ∀ a, (![0, s, q, c0, l] : Fin 5 → ℕ) a + (![1, 1, 1, 16, 128] : Fin 5 → ℕ) a ≤ S1x16x4x32x256.size a) (hb) (x : S1x16x128.Idx) :
    stK (View.ld (iblk m c 0 t : Vec Ideal S1x16x4x32x256 .bf16) (Rect.unit ![0, s, q, c0, l] ![1, 1, 1, 16, 128] b)) x
      = scrG m c t h hh ((⟨(⟨![k, s, 0], ![1, 16, 128], ![1, 16, 1], hb⟩ : LoadRect S8x256x128), spos_1_16_1⟩ : Rect S8x256x128).emb x) := by
  revert x
  change ∀ x : S1x16x128.Idx, _
  intro x
  idx_vars x
  rw [stK_apply]
  unfold scrG
  refine Eq.trans ?_ ((iblk0_apply m c t ⟨s, by omega⟩ ⟨q, by omega⟩ ⟨c0 + x1.val, by omega⟩ ⟨l + x2.val, by omega⟩).trans ?_)
  · show (iblk m c 0 t : Vec Ideal S1x16x4x32x256 .bf16) _ = (iblk m c 0 t : Vec Ideal S1x16x4x32x256 .bf16) _
    congr 1
    funext a
    apply Fin.ext
    match a with
    | ⟨0, _⟩ => rfl
    | ⟨1, _⟩ => rfl
    | ⟨2, _⟩ => rfl
    | ⟨3, _⟩ => show c0 + 1 * x1.val = c0 + x1.val; omega
    | ⟨4, _⟩ => show l + 1 * x2.val = l + x2.val; omega
  · congr 2
    · exact Fin.ext (by show 16 * (32 * (t.val % 8) + (c0 + x1.val)) + s = 512 * (t.val % 8) + (h + (s + 16 * x1.val)); omega)
    · exact Fin.ext (by show 256 * q + (l + x2.val) = 128 * (k + 1 * x0.val) + (0 + 1 * x2.val); omega)

/-- The stores of the first half of a point's rows. -/
def rowsA (t : Fin cfg0.N) : List (View.Piece (Elt Ideal) S8x256x128 .f32) :=
  [⟨⟨(⟨![7, 15, 0], ![1, 16, 128], ![1, 16, 1], inb_S8x256x128_S1x16x128_7_15_0_s_1_16_1⟩ : LoadRect S8x256x128), spos_1_16_1⟩, k0_pay129 (F := Ideal) (View.ld (iblk m c 0 t : Vec Ideal S1x16x4x32x256 .bf16) (Rect.unit ![0, 15, 3, 0, 128] ![1, 1, 1, 16, 128] inb_S1x16x4x32x256_S1x1x1x16x128_0_15_3_0_128))⟩,
   ⟨⟨(⟨![6, 15, 0], ![1, 16, 128], ![1, 16, 1], inb_S8x256x128_S1x16x128_6_15_0_s_1_16_1⟩ : LoadRect S8x256x128), spos_1_16_1⟩, k0_pay128 (F := Ideal) (View.ld (iblk m c 0 t : Vec Ideal S1x16x4x32x256 .bf16) (Rect.unit ![0, 15, 3, 0, 0] ![1, 1, 1, 16, 128] inb_S1x16x4x32x256_S1x1x1x16x128_0_15_3_0_0))⟩,
   ⟨⟨(⟨![5, 15, 0], ![1, 16, 128], ![1, 16, 1], inb_S8x256x128_S1x16x128_5_15_0_s_1_16_1⟩ : LoadRect S8x256x128), spos_1_16_1⟩, k0_pay127 (F := Ideal) (View.ld (iblk m c 0 t : Vec Ideal S1x16x4x32x256 .bf16) (Rect.unit ![0, 15, 2, 0, 128] ![1, 1, 1, 16, 128] inb_S1x16x4x32x256_S1x1x1x16x128_0_15_2_0_128))⟩,
   ⟨⟨(⟨![4, 15, 0], ![1, 16, 128], ![1, 16, 1], inb_S8x256x128_S1x16x128_4_15_0_s_1_16_1⟩ : LoadRect S8x256x128), spos_1_16_1⟩, k0_pay126 (F := Ideal) (View.ld (iblk m c 0 t : Vec Ideal S1x16x4x32x256 .bf16) (Rect.unit ![0, 15, 2, 0, 0] ![1, 1, 1, 16, 128] inb_S1x16x4x32x256_S1x1x1x16x128_0_15_2_0_0))⟩,
   ⟨⟨(⟨![3, 15, 0], ![1, 16, 128], ![1, 16, 1], inb_S8x256x128_S1x16x128_3_15_0_s_1_16_1⟩ : LoadRect S8x256x128), spos_1_16_1⟩, k0_pay125 (F := Ideal) (View.ld (iblk m c 0 t : Vec Ideal S1x16x4x32x256 .bf16) (Rect.unit ![0, 15, 1, 0, 128] ![1, 1, 1, 16, 128] inb_S1x16x4x32x256_S1x1x1x16x128_0_15_1_0_128))⟩,
   ⟨⟨(⟨![2, 15, 0], ![1, 16, 128], ![1, 16, 1], inb_S8x256x128_S1x16x128_2_15_0_s_1_16_1⟩ : LoadRect S8x256x128), spos_1_16_1⟩, k0_pay124 (F := Ideal) (View.ld (iblk m c 0 t : Vec Ideal S1x16x4x32x256 .bf16) (Rect.unit ![0, 15, 1, 0, 0] ![1, 1, 1, 16, 128] inb_S1x16x4x32x256_S1x1x1x16x128_0_15_1_0_0))⟩,
   ⟨⟨(⟨![1, 15, 0], ![1, 16, 128], ![1, 16, 1], inb_S8x256x128_S1x16x128_1_15_0_s_1_16_1⟩ : LoadRect S8x256x128), spos_1_16_1⟩, k0_pay123 (F := Ideal) (View.ld (iblk m c 0 t : Vec Ideal S1x16x4x32x256 .bf16) (Rect.unit ![0, 15, 0, 0, 128] ![1, 1, 1, 16, 128] inb_S1x16x4x32x256_S1x1x1x16x128_0_15_0_0_128))⟩,
   ⟨⟨(⟨![0, 15, 0], ![1, 16, 128], ![1, 16, 1], inb_S8x256x128_S1x16x128_0_15_0_s_1_16_1⟩ : LoadRect S8x256x128), spos_1_16_1⟩, k0_pay122 (F := Ideal) (View.ld (iblk m c 0 t : Vec Ideal S1x16x4x32x256 .bf16) (Rect.unit ![0, 15, 0, 0, 0] ![1, 1, 1, 16, 128] inb_S1x16x4x32x256_S1x1x1x16x128_0_15_0_0_0))⟩,
   ⟨⟨(⟨![7, 14, 0], ![1, 16, 128], ![1, 16, 1], inb_S8x256x128_S1x16x128_7_14_0_s_1_16_1⟩ : LoadRect S8x256x128), spos_1_16_1⟩, k0_pay121 (F := Ideal) (View.ld (iblk m c 0 t : Vec Ideal S1x16x4x32x256 .bf16) (Rect.unit ![0, 14, 3, 0, 128] ![1, 1, 1, 16, 128] inb_S1x16x4x32x256_S1x1x1x16x128_0_14_3_0_128))⟩,
   ⟨⟨(⟨![6, 14, 0], ![1, 16, 128], ![1, 16, 1], inb_S8x256x128_S1x16x128_6_14_0_s_1_16_1⟩ : LoadRect S8x256x128), spos_1_16_1⟩, k0_pay120 (F := Ideal) (View.ld (iblk m c 0 t : Vec Ideal S1x16x4x32x256 .bf16) (Rect.unit ![0, 14, 3, 0, 0] ![1, 1, 1, 16, 128] inb_S1x16x4x32x256_S1x1x1x16x128_0_14_3_0_0))⟩,
   ⟨⟨(⟨![5, 14, 0], ![1, 16, 128], ![1, 16, 1], inb_S8x256x128_S1x16x128_5_14_0_s_1_16_1⟩ : LoadRect S8x256x128), spos_1_16_1⟩, k0_pay119 (F := Ideal) (View.ld (iblk m c 0 t : Vec Ideal S1x16x4x32x256 .bf16) (Rect.unit ![0, 14, 2, 0, 128] ![1, 1, 1, 16, 128] inb_S1x16x4x32x256_S1x1x1x16x128_0_14_2_0_128))⟩,
   ⟨⟨(⟨![4, 14, 0], ![1, 16, 128], ![1, 16, 1], inb_S8x256x128_S1x16x128_4_14_0_s_1_16_1⟩ : LoadRect S8x256x128), spos_1_16_1⟩, k0_pay118 (F := Ideal) (View.ld (iblk m c 0 t : Vec Ideal S1x16x4x32x256 .bf16) (Rect.unit ![0, 14, 2, 0, 0] ![1, 1, 1, 16, 128] inb_S1x16x4x32x256_S1x1x1x16x128_0_14_2_0_0))⟩,
   ⟨⟨(⟨![3, 14, 0], ![1, 16, 128], ![1, 16, 1], inb_S8x256x128_S1x16x128_3_14_0_s_1_16_1⟩ : LoadRect S8x256x128), spos_1_16_1⟩, k0_pay117 (F := Ideal) (View.ld (iblk m c 0 t : Vec Ideal S1x16x4x32x256 .bf16) (Rect.unit ![0, 14, 1, 0, 128] ![1, 1, 1, 16, 128] inb_S1x16x4x32x256_S1x1x1x16x128_0_14_1_0_128))⟩,
   ⟨⟨(⟨![2, 14, 0], ![1, 16, 128], ![1, 16, 1], inb_S8x256x128_S1x16x128_2_14_0_s_1_16_1⟩ : LoadRect S8x256x128), spos_1_16_1⟩, k0_pay116 (F := Ideal) (View.ld (iblk m c 0 t : Vec Ideal S1x16x4x32x256 .bf16) (Rect.unit ![0, 14, 1, 0, 0] ![1, 1, 1, 16, 128] inb_S1x16x4x32x256_S1x1x1x16x128_0_14_1_0_0))⟩,
   ⟨⟨(⟨![1, 14, 0], ![1, 16, 128], ![1, 16, 1], inb_S8x256x128_S1x16x128_1_14_0_s_1_16_1⟩ : LoadRect S8x256x128), spos_1_16_1⟩, k0_pay115 (F := Ideal) (View.ld (iblk m c 0 t : Vec Ideal S1x16x4x32x256 .bf16) (Rect.unit ![0, 14, 0, 0, 128] ![1, 1, 1, 16, 128] inb_S1x16x4x32x256_S1x1x1x16x128_0_14_0_0_128))⟩,
   ⟨⟨(⟨![0, 14, 0], ![1, 16, 128], ![1, 16, 1], inb_S8x256x128_S1x16x128_0_14_0_s_1_16_1⟩ : LoadRect S8x256x128), spos_1_16_1⟩, k0_pay114 (F := Ideal) (View.ld (iblk m c 0 t : Vec Ideal S1x16x4x32x256 .bf16) (Rect.unit ![0, 14, 0, 0, 0] ![1, 1, 1, 16, 128] inb_S1x16x4x32x256_S1x1x1x16x128_0_14_0_0_0))⟩,
   ⟨⟨(⟨![7, 13, 0], ![1, 16, 128], ![1, 16, 1], inb_S8x256x128_S1x16x128_7_13_0_s_1_16_1⟩ : LoadRect S8x256x128), spos_1_16_1⟩, k0_pay113 (F := Ideal) (View.ld (iblk m c 0 t : Vec Ideal S1x16x4x32x256 .bf16) (Rect.unit ![0, 13, 3, 0, 128] ![1, 1, 1, 16, 128] inb_S1x16x4x32x256_S1x1x1x16x128_0_13_3_0_128))⟩,
   ⟨⟨(⟨![6, 13, 0], ![1, 16, 128], ![1, 16, 1], inb_S8x256x128_S1x16x128_6_13_0_s_1_16_1⟩ : LoadRect S8x256x128), spos_1_16_1⟩, k0_pay112 (F := Ideal) (View.ld (iblk m c 0 t : Vec Ideal S1x16x4x32x256 .bf16) (Rect.unit ![0, 13, 3, 0, 0] ![1, 1, 1, 16, 128] inb_S1x16x4x32x256_S1x1x1x16x128_0_13_3_0_0))⟩,
   ⟨⟨(⟨![5, 13, 0], ![1, 16, 128], ![1, 16, 1], inb_S8x256x128_S1x16x128_5_13_0_s_1_16_1⟩ : LoadRect S8x256x128), spos_1_16_1⟩, k0_pay111 (F := Ideal) (View.ld (iblk m c 0 t : Vec Ideal S1x16x4x32x256 .bf16) (Rect.unit ![0, 13, 2, 0, 128] ![1, 1, 1, 16, 128] inb_S1x16x4x32x256_S1x1x1x16x128_0_13_2_0_128))⟩,
   ⟨⟨(⟨![4, 13, 0], ![1, 16, 128], ![1, 16, 1], inb_S8x256x128_S1x16x128_4_13_0_s_1_16_1⟩ : LoadRect S8x256x128), spos_1_16_1⟩, k0_pay110 (F := Ideal) (View.ld (iblk m c 0 t : Vec Ideal S1x16x4x32x256 .bf16) (Rect.unit ![0, 13, 2, 0, 0] ![1, 1, 1, 16, 128] inb_S1x16x4x32x256_S1x1x1x16x128_0_13_2_0_0))⟩,
   ⟨⟨(⟨![3, 13, 0], ![1, 16, 128], ![1, 16, 1], inb_S8x256x128_S1x16x128_3_13_0_s_1_16_1⟩ : LoadRect S8x256x128), spos_1_16_1⟩, k0_pay109 (F := Ideal) (View.ld (iblk m c 0 t : Vec Ideal S1x16x4x32x256 .bf16) (Rect.unit ![0, 13, 1, 0, 128] ![1, 1, 1, 16, 128] inb_S1x16x4x32x256_S1x1x1x16x128_0_13_1_0_128))⟩,
   ⟨⟨(⟨![2, 13, 0], ![1, 16, 128], ![1, 16, 1], inb_S8x256x128_S1x16x128_2_13_0_s_1_16_1⟩ : LoadRect S8x256x128), spos_1_16_1⟩, k0_pay108 (F := Ideal) (View.ld (iblk m c 0 t : Vec Ideal S1x16x4x32x256 .bf16) (Rect.unit ![0, 13, 1, 0, 0] ![1, 1, 1, 16, 128] inb_S1x16x4x32x256_S1x1x1x16x128_0_13_1_0_0))⟩,
   ⟨⟨(⟨![1, 13, 0], ![1, 16, 128], ![1, 16, 1], inb_S8x256x128_S1x16x128_1_13_0_s_1_16_1⟩ : LoadRect S8x256x128), spos_1_16_1⟩, k0_pay107 (F := Ideal) (View.ld (iblk m c 0 t : Vec Ideal S1x16x4x32x256 .bf16) (Rect.unit ![0, 13, 0, 0, 128] ![1, 1, 1, 16, 128] inb_S1x16x4x32x256_S1x1x1x16x128_0_13_0_0_128))⟩,
   ⟨⟨(⟨![0, 13, 0], ![1, 16, 128], ![1, 16, 1], inb_S8x256x128_S1x16x128_0_13_0_s_1_16_1⟩ : LoadRect S8x256x128), spos_1_16_1⟩, k0_pay106 (F := Ideal) (View.ld (iblk m c 0 t : Vec Ideal S1x16x4x32x256 .bf16) (Rect.unit ![0, 13, 0, 0, 0] ![1, 1, 1, 16, 128] inb_S1x16x4x32x256_S1x1x1x16x128_0_13_0_0_0))⟩,
   ⟨⟨(⟨![7, 12, 0], ![1, 16, 128], ![1, 16, 1], inb_S8x256x128_S1x16x128_7_12_0_s_1_16_1⟩ : LoadRect S8x256x128), spos_1_16_1⟩, k0_pay105 (F := Ideal) (View.ld (iblk m c 0 t : Vec Ideal S1x16x4x32x256 .bf16) (Rect.unit ![0, 12, 3, 0, 128] ![1, 1, 1, 16, 128] inb_S1x16x4x32x256_S1x1x1x16x128_0_12_3_0_128))⟩,
   ⟨⟨(⟨![6, 12, 0], ![1, 16, 128], ![1, 16, 1], inb_S8x256x128_S1x16x128_6_12_0_s_1_16_1⟩ : LoadRect S8x256x128), spos_1_16_1⟩, k0_pay104 (F := Ideal) (View.ld (iblk m c 0 t : Vec Ideal S1x16x4x32x256 .bf16) (Rect.unit ![0, 12, 3, 0, 0] ![1, 1, 1, 16, 128] inb_S1x16x4x32x256_S1x1x1x16x128_0_12_3_0_0))⟩,
   ⟨⟨(⟨![5, 12, 0], ![1, 16, 128], ![1, 16, 1], inb_S8x256x128_S1x16x128_5_12_0_s_1_16_1⟩ : LoadRect S8x256x128), spos_1_16_1⟩, k0_pay103 (F := Ideal) (View.ld (iblk m c 0 t : Vec Ideal S1x16x4x32x256 .bf16) (Rect.unit ![0, 12, 2, 0, 128] ![1, 1, 1, 16, 128] inb_S1x16x4x32x256_S1x1x1x16x128_0_12_2_0_128))⟩,
   ⟨⟨(⟨![4, 12, 0], ![1, 16, 128], ![1, 16, 1], inb_S8x256x128_S1x16x128_4_12_0_s_1_16_1⟩ : LoadRect S8x256x128), spos_1_16_1⟩, k0_pay102 (F := Ideal) (View.ld (iblk m c 0 t : Vec Ideal S1x16x4x32x256 .bf16) (Rect.unit ![0, 12, 2, 0, 0] ![1, 1, 1, 16, 128] inb_S1x16x4x32x256_S1x1x1x16x128_0_12_2_0_0))⟩,
   ⟨⟨(⟨![3, 12, 0], ![1, 16, 128], ![1, 16, 1], inb_S8x256x128_S1x16x128_3_12_0_s_1_16_1⟩ : LoadRect S8x256x128), spos_1_16_1⟩, k0_pay101 (F := Ideal) (View.ld (iblk m c 0 t : Vec Ideal S1x16x4x32x256 .bf16) (Rect.unit ![0, 12, 1, 0, 128] ![1, 1, 1, 16, 128] inb_S1x16x4x32x256_S1x1x1x16x128_0_12_1_0_128))⟩,
   ⟨⟨(⟨![2, 12, 0], ![1, 16, 128], ![1, 16, 1], inb_S8x256x128_S1x16x128_2_12_0_s_1_16_1⟩ : LoadRect S8x256x128), spos_1_16_1⟩, k0_pay100 (F := Ideal) (View.ld (iblk m c 0 t : Vec Ideal S1x16x4x32x256 .bf16) (Rect.unit ![0, 12, 1, 0, 0] ![1, 1, 1, 16, 128] inb_S1x16x4x32x256_S1x1x1x16x128_0_12_1_0_0))⟩,
   ⟨⟨(⟨![1, 12, 0], ![1, 16, 128], ![1, 16, 1], inb_S8x256x128_S1x16x128_1_12_0_s_1_16_1⟩ : LoadRect S8x256x128), spos_1_16_1⟩, k0_pay99 (F := Ideal) (View.ld (iblk m c 0 t : Vec Ideal S1x16x4x32x256 .bf16) (Rect.unit ![0, 12, 0, 0, 128] ![1, 1, 1, 16, 128] inb_S1x16x4x32x256_S1x1x1x16x128_0_12_0_0_128))⟩,
   ⟨⟨(⟨![0, 12, 0], ![1, 16, 128], ![1, 16, 1], inb_S8x256x128_S1x16x128_0_12_0_s_1_16_1⟩ : LoadRect S8x256x128), spos_1_16_1⟩, k0_pay98 (F := Ideal) (View.ld (iblk m c 0 t : Vec Ideal S1x16x4x32x256 .bf16) (Rect.unit ![0, 12, 0, 0, 0] ![1, 1, 1, 16, 128] inb_S1x16x4x32x256_S1x1x1x16x128_0_12_0_0_0))⟩,
   ⟨⟨(⟨![7, 11, 0], ![1, 16, 128], ![1, 16, 1], inb_S8x256x128_S1x16x128_7_11_0_s_1_16_1⟩ : LoadRect S8x256x128), spos_1_16_1⟩, k0_pay97 (F := Ideal) (View.ld (iblk m c 0 t : Vec Ideal S1x16x4x32x256 .bf16) (Rect.unit ![0, 11, 3, 0, 128] ![1, 1, 1, 16, 128] inb_S1x16x4x32x256_S1x1x1x16x128_0_11_3_0_128))⟩,
   ⟨⟨(⟨![6, 11, 0], ![1, 16, 128], ![1, 16, 1], inb_S8x256x128_S1x16x128_6_11_0_s_1_16_1⟩ : LoadRect S8x256x128), spos_1_16_1⟩, k0_pay96 (F := Ideal) (View.ld (iblk m c 0 t : Vec Ideal S1x16x4x32x256 .bf16) (Rect.unit ![0, 11, 3, 0, 0] ![1, 1, 1, 16, 128] inb_S1x16x4x32x256_S1x1x1x16x128_0_11_3_0_0))⟩,
   ⟨⟨(⟨![5, 11, 0], ![1, 16, 128], ![1, 16, 1], inb_S8x256x128_S1x16x128_5_11_0_s_1_16_1⟩ : LoadRect S8x256x128), spos_1_16_1⟩, k0_pay95 (F := Ideal) (View.ld (iblk m c 0 t : Vec Ideal S1x16x4x32x256 .bf16) (Rect.unit ![0, 11, 2, 0, 128] ![1, 1, 1, 16, 128] inb_S1x16x4x32x256_S1x1x1x16x128_0_11_2_0_128))⟩,
   ⟨⟨(⟨![4, 11, 0], ![1, 16, 128], ![1, 16, 1], inb_S8x256x128_S1x16x128_4_11_0_s_1_16_1⟩ : LoadRect S8x256x128), spos_1_16_1⟩, k0_pay94 (F := Ideal) (View.ld (iblk m c 0 t : Vec Ideal S1x16x4x32x256 .bf16) (Rect.unit ![0, 11, 2, 0, 0] ![1, 1, 1, 16, 128] inb_S1x16x4x32x256_S1x1x1x16x128_0_11_2_0_0))⟩,
   ⟨⟨(⟨![3, 11, 0], ![1, 16, 128], ![1, 16, 1], inb_S8x256x128_S1x16x128_3_11_0_s_1_16_1⟩ : LoadRect S8x256x128), spos_1_16_1⟩, k0_pay93 (F := Ideal) (View.ld (iblk m c 0 t : Vec Ideal S1x16x4x32x256 .bf16) (Rect.unit ![0, 11, 1, 0, 128] ![1, 1, 1, 16, 128] inb_S1x16x4x32x256_S1x1x1x16x128_0_11_1_0_128))⟩,
   ⟨⟨(⟨![2, 11, 0], ![1, 16, 128], ![1, 16, 1], inb_S8x256x128_S1x16x128_2_11_0_s_1_16_1⟩ : LoadRect S8x256x128), spos_1_16_1⟩, k0_pay92 (F := Ideal) (View.ld (iblk m c 0 t : Vec Ideal S1x16x4x32x256 .bf16) (Rect.unit ![0, 11, 1, 0, 0] ![1, 1, 1, 16, 128] inb_S1x16x4x32x256_S1x1x1x16x128_0_11_1_0_0))⟩,
   ⟨⟨(⟨![1, 11, 0], ![1, 16, 128], ![1, 16, 1], inb_S8x256x128_S1x16x128_1_11_0_s_1_16_1⟩ : LoadRect S8x256x128), spos_1_16_1⟩, k0_pay91 (F := Ideal) (View.ld (iblk m c 0 t : Vec Ideal S1x16x4x32x256 .bf16) (Rect.unit ![0, 11, 0, 0, 128] ![1, 1, 1, 16, 128] inb_S1x16x4x32x256_S1x1x1x16x128_0_11_0_0_128))⟩,
   ⟨⟨(⟨![0, 11, 0], ![1, 16, 128], ![1, 16, 1], inb_S8x256x128_S1x16x128_0_11_0_s_1_16_1⟩ : LoadRect S8x256x128), spos_1_16_1⟩, k0_pay90 (F := Ideal) (View.ld (iblk m c 0 t : Vec Ideal S1x16x4x32x256 .bf16) (Rect.unit ![0, 11, 0, 0, 0] ![1, 1, 1, 16, 128] inb_S1x16x4x32x256_S1x1x1x16x128_0_11_0_0_0))⟩,
   ⟨⟨(⟨![7, 10, 0], ![1, 16, 128], ![1, 16, 1], inb_S8x256x128_S1x16x128_7_10_0_s_1_16_1⟩ : LoadRect S8x256x128), spos_1_16_1⟩, k0_pay89 (F := Ideal) (View.ld (iblk m c 0 t : Vec Ideal S1x16x4x32x256 .bf16) (Rect.unit ![0, 10, 3, 0, 128] ![1, 1, 1, 16, 128] inb_S1x16x4x32x256_S1x1x1x16x128_0_10_3_0_128))⟩,
   ⟨⟨(⟨![6, 10, 0], ![1, 16, 128], ![1, 16, 1], inb_S8x256x128_S1x16x128_6_10_0_s_1_16_1⟩ : LoadRect S8x256x128), spos_1_16_1⟩, k0_pay88 (F := Ideal) (View.ld (iblk m c 0 t : Vec Ideal S1x16x4x32x256 .bf16) (Rect.unit ![0, 10, 3, 0, 0] ![1, 1, 1, 16, 128] inb_S1x16x4x32x256_S1x1x1x16x128_0_10_3_0_0))⟩,
   ⟨⟨(⟨![5, 10, 0], ![1, 16, 128], ![1, 16, 1], inb_S8x256x128_S1x16x128_5_10_0_s_1_16_1⟩ : LoadRect S8x256x128), spos_1_16_1⟩, k0_pay87 (F := Ideal) (View.ld (iblk m c 0 t : Vec Ideal S1x16x4x32x256 .bf16) (Rect.unit ![0, 10, 2, 0, 128] ![1, 1, 1, 16, 128] inb_S1x16x4x32x256_S1x1x1x16x128_0_10_2_0_128))⟩,
   ⟨⟨(⟨![4, 10, 0], ![1, 16, 128], ![1, 16, 1], inb_S8x256x128_S1x16x128_4_10_0_s_1_16_1⟩ : LoadRect S8x256x128), spos_1_16_1⟩, k0_pay86 (F := Ideal) (View.ld (iblk m c 0 t : Vec Ideal S1x16x4x32x256 .bf16) (Rect.unit ![0, 10, 2, 0, 0] ![1, 1, 1, 16, 128] inb_S1x16x4x32x256_S1x1x1x16x128_0_10_2_0_0))⟩,
   ⟨⟨(⟨![3, 10, 0], ![1, 16, 128], ![1, 16, 1], inb_S8x256x128_S1x16x128_3_10_0_s_1_16_1⟩ : LoadRect S8x256x128), spos_1_16_1⟩, k0_pay85 (F := Ideal) (View.ld (iblk m c 0 t : Vec Ideal S1x16x4x32x256 .bf16) (Rect.unit ![0, 10, 1, 0, 128] ![1, 1, 1, 16, 128] inb_S1x16x4x32x256_S1x1x1x16x128_0_10_1_0_128))⟩,
   ⟨⟨(⟨![2, 10, 0], ![1, 16, 128], ![1, 16, 1], inb_S8x256x128_S1x16x128_2_10_0_s_1_16_1⟩ : LoadRect S8x256x128), spos_1_16_1⟩, k0_pay84 (F := Ideal) (View.ld (iblk m c 0 t : Vec Ideal S1x16x4x32x256 .bf16) (Rect.unit ![0, 10, 1, 0, 0] ![1, 1, 1, 16, 128] inb_S1x16x4x32x256_S1x1x1x16x128_0_10_1_0_0))⟩,
   ⟨⟨(⟨![1, 10, 0], ![1, 16, 128], ![1, 16, 1], inb_S8x256x128_S1x16x128_1_10_0_s_1_16_1⟩ : LoadRect S8x256x128), spos_1_16_1⟩, k0_pay83 (F := Ideal) (View.ld (iblk m c 0 t : Vec Ideal S1x16x4x32x256 .bf16) (Rect.unit ![0, 10, 0, 0, 128] ![1, 1, 1, 16, 128] inb_S1x16x4x32x256_S1x1x1x16x128_0_10_0_0_128))⟩,
   ⟨⟨(⟨![0, 10, 0], ![1, 16, 128], ![1, 16, 1], inb_S8x256x128_S1x16x128_0_10_0_s_1_16_1⟩ : LoadRect S8x256x128), spos_1_16_1⟩, k0_pay82 (F := Ideal) (View.ld (iblk m c 0 t : Vec Ideal S1x16x4x32x256 .bf16) (Rect.unit ![0, 10, 0, 0, 0] ![1, 1, 1, 16, 128] inb_S1x16x4x32x256_S1x1x1x16x128_0_10_0_0_0))⟩,
   ⟨⟨(⟨![7, 9, 0], ![1, 16, 128], ![1, 16, 1], inb_S8x256x128_S1x16x128_7_9_0_s_1_16_1⟩ : LoadRect S8x256x128), spos_1_16_1⟩, k0_pay81 (F := Ideal) (View.ld (iblk m c 0 t : Vec Ideal S1x16x4x32x256 .bf16) (Rect.unit ![0, 9, 3, 0, 128] ![1, 1, 1, 16, 128] inb_S1x16x4x32x256_S1x1x1x16x128_0_9_3_0_128))⟩,
   ⟨⟨(⟨![6, 9, 0], ![1, 16, 128], ![1, 16, 1], inb_S8x256x128_S1x16x128_6_9_0_s_1_16_1⟩ : LoadRect S8x256x128), spos_1_16_1⟩, k0_pay80 (F := Ideal) (View.ld (iblk m c 0 t : Vec Ideal S1x16x4x32x256 .bf16) (Rect.unit ![0, 9, 3, 0, 0] ![1, 1, 1, 16, 128] inb_S1x16x4x32x256_S1x1x1x16x128_0_9_3_0_0))⟩,
   ⟨⟨(⟨![5, 9, 0], ![1, 16, 128], ![1, 16, 1], inb_S8x256x128_S1x16x128_5_9_0_s_1_16_1⟩ : LoadRect S8x256x128), spos_1_16_1⟩, k0_pay79 (F := Ideal) (View.ld (iblk m c 0 t : Vec Ideal S1x16x4x32x256 .bf16) (Rect.unit ![0, 9, 2, 0, 128] ![1, 1, 1, 16, 128] inb_S1x16x4x32x256_S1x1x1x16x128_0_9_2_0_128))⟩,
   ⟨⟨(⟨![4, 9, 0], ![1, 16, 128], ![1, 16, 1], inb_S8x256x128_S1x16x128_4_9_0_s_1_16_1⟩ : LoadRect S8x256x128), spos_1_16_1⟩, k0_pay78 (F := Ideal) (View.ld (iblk m c 0 t : Vec Ideal S1x16x4x32x256 .bf16) (Rect.unit ![0, 9, 2, 0, 0] ![1, 1, 1, 16, 128] inb_S1x16x4x32x256_S1x1x1x16x128_0_9_2_0_0))⟩,
   ⟨⟨(⟨![3, 9, 0], ![1, 16, 128], ![1, 16, 1], inb_S8x256x128_S1x16x128_3_9_0_s_1_16_1⟩ : LoadRect S8x256x128), spos_1_16_1⟩, k0_pay77 (F := Ideal) (View.ld (iblk m c 0 t : Vec Ideal S1x16x4x32x256 .bf16) (Rect.unit ![0, 9, 1, 0, 128] ![1, 1, 1, 16, 128] inb_S1x16x4x32x256_S1x1x1x16x128_0_9_1_0_128))⟩,
   ⟨⟨(⟨![2, 9, 0], ![1, 16, 128], ![1, 16, 1], inb_S8x256x128_S1x16x128_2_9_0_s_1_16_1⟩ : LoadRect S8x256x128), spos_1_16_1⟩, k0_pay76 (F := Ideal) (View.ld (iblk m c 0 t : Vec Ideal S1x16x4x32x256 .bf16) (Rect.unit ![0, 9, 1, 0, 0] ![1, 1, 1, 16, 128] inb_S1x16x4x32x256_S1x1x1x16x128_0_9_1_0_0))⟩,
   ⟨⟨(⟨![1, 9, 0], ![1, 16, 128], ![1, 16, 1], inb_S8x256x128_S1x16x128_1_9_0_s_1_16_1⟩ : LoadRect S8x256x128), spos_1_16_1⟩, k0_pay75 (F := Ideal) (View.ld (iblk m c 0 t : Vec Ideal S1x16x4x32x256 .bf16) (Rect.unit ![0, 9, 0, 0, 128] ![1, 1, 1, 16, 128] inb_S1x16x4x32x256_S1x1x1x16x128_0_9_0_0_128))⟩,
   ⟨⟨(⟨![0, 9, 0], ![1, 16, 128], ![1, 16, 1], inb_S8x256x128_S1x16x128_0_9_0_s_1_16_1⟩ : LoadRect S8x256x128), spos_1_16_1⟩, k0_pay74 (F := Ideal) (View.ld (iblk m c 0 t : Vec Ideal S1x16x4x32x256 .bf16) (Rect.unit ![0, 9, 0, 0, 0] ![1, 1, 1, 16, 128] inb_S1x16x4x32x256_S1x1x1x16x128_0_9_0_0_0))⟩,
   ⟨⟨(⟨![7, 8, 0], ![1, 16, 128], ![1, 16, 1], inb_S8x256x128_S1x16x128_7_8_0_s_1_16_1⟩ : LoadRect S8x256x128), spos_1_16_1⟩, k0_pay73 (F := Ideal) (View.ld (iblk m c 0 t : Vec Ideal S1x16x4x32x256 .bf16) (Rect.unit ![0, 8, 3, 0, 128] ![1, 1, 1, 16, 128] inb_S1x16x4x32x256_S1x1x1x16x128_0_8_3_0_128))⟩,
   ⟨⟨(⟨![6, 8, 0], ![1, 16, 128], ![1, 16, 1], inb_S8x256x128_S1x16x128_6_8_0_s_1_16_1⟩ : LoadRect S8x256x128), spos_1_16_1⟩, k0_pay72 (F := Ideal) (View.ld (iblk m c 0 t : Vec Ideal S1x16x4x32x256 .bf16) (Rect.unit ![0, 8, 3, 0, 0] ![1, 1, 1, 16, 128] inb_S1x16x4x32x256_S1x1x1x16x128_0_8_3_0_0))⟩,
   ⟨⟨(⟨![5, 8, 0], ![1, 16, 128], ![1, 16, 1], inb_S8x256x128_S1x16x128_5_8_0_s_1_16_1⟩ : LoadRect S8x256x128), spos_1_16_1⟩, k0_pay71 (F := Ideal) (View.ld (iblk m c 0 t : Vec Ideal S1x16x4x32x256 .bf16) (Rect.unit ![0, 8, 2, 0, 128] ![1, 1, 1, 16, 128] inb_S1x16x4x32x256_S1x1x1x16x128_0_8_2_0_128))⟩,
   ⟨⟨(⟨![4, 8, 0], ![1, 16, 128], ![1, 16, 1], inb_S8x256x128_S1x16x128_4_8_0_s_1_16_1⟩ : LoadRect S8x256x128), spos_1_16_1⟩, k0_pay70 (F := Ideal) (View.ld (iblk m c 0 t : Vec Ideal S1x16x4x32x256 .bf16) (Rect.unit ![0, 8, 2, 0, 0] ![1, 1, 1, 16, 128] inb_S1x16x4x32x256_S1x1x1x16x128_0_8_2_0_0))⟩,
   ⟨⟨(⟨![3, 8, 0], ![1, 16, 128], ![1, 16, 1], inb_S8x256x128_S1x16x128_3_8_0_s_1_16_1⟩ : LoadRect S8x256x128), spos_1_16_1⟩, k0_pay69 (F := Ideal) (View.ld (iblk m c 0 t : Vec Ideal S1x16x4x32x256 .bf16) (Rect.unit ![0, 8, 1, 0, 128] ![1, 1, 1, 16, 128] inb_S1x16x4x32x256_S1x1x1x16x128_0_8_1_0_128))⟩,
   ⟨⟨(⟨![2, 8, 0], ![1, 16, 128], ![1, 16, 1], inb_S8x256x128_S1x16x128_2_8_0_s_1_16_1⟩ : LoadRect S8x256x128), spos_1_16_1⟩, k0_pay68 (F := Ideal) (View.ld (iblk m c 0 t : Vec Ideal S1x16x4x32x256 .bf16) (Rect.unit ![0, 8, 1, 0, 0] ![1, 1, 1, 16, 128] inb_S1x16x4x32x256_S1x1x1x16x128_0_8_1_0_0))⟩,
   ⟨⟨(⟨![1, 8, 0], ![1, 16, 128], ![1, 16, 1], inb_S8x256x128_S1x16x128_1_8_0_s_1_16_1⟩ : LoadRect S8x256x128), spos_1_16_1⟩, k0_pay67 (F := Ideal) (View.ld (iblk m c 0 t : Vec Ideal S1x16x4x32x256 .bf16) (Rect.unit ![0, 8, 0, 0, 128] ![1, 1, 1, 16, 128] inb_S1x16x4x32x256_S1x1x1x16x128_0_8_0_0_128))⟩,
   ⟨⟨(⟨![0, 8, 0], ![1, 16, 128], ![1, 16, 1], inb_S8x256x128_S1x16x128_0_8_0_s_1_16_1⟩ : LoadRect S8x256x128), spos_1_16_1⟩, k0_pay66 (F := Ideal) (View.ld (iblk m c 0 t : Vec Ideal S1x16x4x32x256 .bf16) (Rect.unit ![0, 8, 0, 0, 0] ![1, 1, 1, 16, 128] inb_S1x16x4x32x256_S1x1x1x16x128_0_8_0_0_0))⟩,
   ⟨⟨(⟨![7, 7, 0], ![1, 16, 128], ![1, 16, 1], inb_S8x256x128_S1x16x128_7_7_0_s_1_16_1⟩ : LoadRect S8x256x128), spos_1_16_1⟩, k0_pay65 (F := Ideal) (View.ld (iblk m c 0 t : Vec Ideal S1x16x4x32x256 .bf16) (Rect.unit ![0, 7, 3, 0, 128] ![1, 1, 1, 16, 128] inb_S1x16x4x32x256_S1x1x1x16x128_0_7_3_0_128))⟩,
   ⟨⟨(⟨![6, 7, 0], ![1, 16, 128], ![1, 16, 1], inb_S8x256x128_S1x16x128_6_7_0_s_1_16_1⟩ : LoadRect S8x256x128), spos_1_16_1⟩, k0_pay64 (F := Ideal) (View.ld (iblk m c 0 t : Vec Ideal S1x16x4x32x256 .bf16) (Rect.unit ![0, 7, 3, 0, 0] ![1, 1, 1, 16, 128] inb_S1x16x4x32x256_S1x1x1x16x128_0_7_3_0_0))⟩,
   ⟨⟨(⟨![5, 7, 0], ![1, 16, 128], ![1, 16, 1], inb_S8x256x128_S1x16x128_5_7_0_s_1_16_1⟩ : LoadRect S8x256x128), spos_1_16_1⟩, k0_pay63 (F := Ideal) (View.ld (iblk m c 0 t : Vec Ideal S1x16x4x32x256 .bf16) (Rect.unit ![0, 7, 2, 0, 128] ![1, 1, 1, 16, 128] inb_S1x16x4x32x256_S1x1x1x16x128_0_7_2_0_128))⟩,
   ⟨⟨(⟨![4, 7, 0], ![1, 16, 128], ![1, 16, 1], inb_S8x256x128_S1x16x128_4_7_0_s_1_16_1⟩ : LoadRect S8x256x128), spos_1_16_1⟩, k0_pay62 (F := Ideal) (View.ld (iblk m c 0 t : Vec Ideal S1x16x4x32x256 .bf16) (Rect.unit ![0, 7, 2, 0, 0] ![1, 1, 1, 16, 128] inb_S1x16x4x32x256_S1x1x1x16x128_0_7_2_0_0))⟩,
   ⟨⟨(⟨![3, 7, 0], ![1, 16, 128], ![1, 16, 1], inb_S8x256x128_S1x16x128_3_7_0_s_1_16_1⟩ : LoadRect S8x256x128), spos_1_16_1⟩, k0_pay61 (F := Ideal) (View.ld (iblk m c 0 t : Vec Ideal S1x16x4x32x256 .bf16) (Rect.unit ![0, 7, 1, 0, 128] ![1, 1, 1, 16, 128] inb_S1x16x4x32x256_S1x1x1x16x128_0_7_1_0_128))⟩,
   ⟨⟨(⟨![2, 7, 0], ![1, 16, 128], ![1, 16, 1], inb_S8x256x128_S1x16x128_2_7_0_s_1_16_1⟩ : LoadRect S8x256x128), spos_1_16_1⟩, k0_pay60 (F := Ideal) (View.ld (iblk m c 0 t : Vec Ideal S1x16x4x32x256 .bf16) (Rect.unit ![0, 7, 1, 0, 0] ![1, 1, 1, 16, 128] inb_S1x16x4x32x256_S1x1x1x16x128_0_7_1_0_0))⟩,
   ⟨⟨(⟨![1, 7, 0], ![1, 16, 128], ![1, 16, 1], inb_S8x256x128_S1x16x128_1_7_0_s_1_16_1⟩ : LoadRect S8x256x128), spos_1_16_1⟩, k0_pay59 (F := Ideal) (View.ld (iblk m c 0 t : Vec Ideal S1x16x4x32x256 .bf16) (Rect.unit ![0, 7, 0, 0, 128] ![1, 1, 1, 16, 128] inb_S1x16x4x32x256_S1x1x1x16x128_0_7_0_0_128))⟩,
   ⟨⟨(⟨![0, 7, 0], ![1, 16, 128], ![1, 16, 1], inb_S8x256x128_S1x16x128_0_7_0_s_1_16_1⟩ : LoadRect S8x256x128), spos_1_16_1⟩, k0_pay58 (F := Ideal) (View.ld (iblk m c 0 t : Vec Ideal S1x16x4x32x256 .bf16) (Rect.unit ![0, 7, 0, 0, 0] ![1, 1, 1, 16, 128] inb_S1x16x4x32x256_S1x1x1x16x128_0_7_0_0_0))⟩,
   ⟨⟨(⟨![7, 6, 0], ![1, 16, 128], ![1, 16, 1], inb_S8x256x128_S1x16x128_7_6_0_s_1_16_1⟩ : LoadRect S8x256x128), spos_1_16_1⟩, k0_pay57 (F := Ideal) (View.ld (iblk m c 0 t : Vec Ideal S1x16x4x32x256 .bf16) (Rect.unit ![0, 6, 3, 0, 128] ![1, 1, 1, 16, 128] inb_S1x16x4x32x256_S1x1x1x16x128_0_6_3_0_128))⟩,
   ⟨⟨(⟨![6, 6, 0], ![1, 16, 128], ![1, 16, 1], inb_S8x256x128_S1x16x128_6_6_0_s_1_16_1⟩ : LoadRect S8x256x128), spos_1_16_1⟩, k0_pay56 (F := Ideal) (View.ld (iblk m c 0 t : Vec Ideal S1x16x4x32x256 .bf16) (Rect.unit ![0, 6, 3, 0, 0] ![1, 1, 1, 16, 128] inb_S1x16x4x32x256_S1x1x1x16x128_0_6_3_0_0))⟩,
   ⟨⟨(⟨![5, 6, 0], ![1, 16, 128], ![1, 16, 1], inb_S8x256x128_S1x16x128_5_6_0_s_1_16_1⟩ : LoadRect S8x256x128), spos_1_16_1⟩, k0_pay55 (F := Ideal) (View.ld (iblk m c 0 t : Vec Ideal S1x16x4x32x256 .bf16) (Rect.unit ![0, 6, 2, 0, 128] ![1, 1, 1, 16, 128] inb_S1x16x4x32x256_S1x1x1x16x128_0_6_2_0_128))⟩,
   ⟨⟨(⟨![4, 6, 0], ![1, 16, 128], ![1, 16, 1], inb_S8x256x128_S1x16x128_4_6_0_s_1_16_1⟩ : LoadRect S8x256x128), spos_1_16_1⟩, k0_pay54 (F := Ideal) (View.ld (iblk m c 0 t : Vec Ideal S1x16x4x32x256 .bf16) (Rect.unit ![0, 6, 2, 0, 0] ![1, 1, 1, 16, 128] inb_S1x16x4x32x256_S1x1x1x16x128_0_6_2_0_0))⟩,
   ⟨⟨(⟨![3, 6, 0], ![1, 16, 128], ![1, 16, 1], inb_S8x256x128_S1x16x128_3_6_0_s_1_16_1⟩ : LoadRect S8x256x128), spos_1_16_1⟩, k0_pay53 (F := Ideal) (View.ld (iblk m c 0 t : Vec Ideal S1x16x4x32x256 .bf16) (Rect.unit ![0, 6, 1, 0, 128] ![1, 1, 1, 16, 128] inb_S1x16x4x32x256_S1x1x1x16x128_0_6_1_0_128))⟩,
   ⟨⟨(⟨![2, 6, 0], ![1, 16, 128], ![1, 16, 1], inb_S8x256x128_S1x16x128_2_6_0_s_1_16_1⟩ : LoadRect S8x256x128), spos_1_16_1⟩, k0_pay52 (F := Ideal) (View.ld (iblk m c 0 t : Vec Ideal S1x16x4x32x256 .bf16) (Rect.unit ![0, 6, 1, 0, 0] ![1, 1, 1, 16, 128] inb_S1x16x4x32x256_S1x1x1x16x128_0_6_1_0_0))⟩,
   ⟨⟨(⟨![1, 6, 0], ![1, 16, 128], ![1, 16, 1], inb_S8x256x128_S1x16x128_1_6_0_s_1_16_1⟩ : LoadRect S8x256x128), spos_1_16_1⟩, k0_pay51 (F := Ideal) (View.ld (iblk m c 0 t : Vec Ideal S1x16x4x32x256 .bf16) (Rect.unit ![0, 6, 0, 0, 128] ![1, 1, 1, 16, 128] inb_S1x16x4x32x256_S1x1x1x16x128_0_6_0_0_128))⟩,
   ⟨⟨(⟨![0, 6, 0], ![1, 16, 128], ![1, 16, 1], inb_S8x256x128_S1x16x128_0_6_0_s_1_16_1⟩ : LoadRect S8x256x128), spos_1_16_1⟩, k0_pay50 (F := Ideal) (View.ld (iblk m c 0 t : Vec Ideal S1x16x4x32x256 .bf16) (Rect.unit ![0, 6, 0, 0, 0] ![1, 1, 1, 16, 128] inb_S1x16x4x32x256_S1x1x1x16x128_0_6_0_0_0))⟩,
   ⟨⟨(⟨![7, 5, 0], ![1, 16, 128], ![1, 16, 1], inb_S8x256x128_S1x16x128_7_5_0_s_1_16_1⟩ : LoadRect S8x256x128), spos_1_16_1⟩, k0_pay49 (F := Ideal) (View.ld (iblk m c 0 t : Vec Ideal S1x16x4x32x256 .bf16) (Rect.unit ![0, 5, 3, 0, 128] ![1, 1, 1, 16, 128] inb_S1x16x4x32x256_S1x1x1x16x128_0_5_3_0_128))⟩,
   ⟨⟨(⟨![6, 5, 0], ![1, 16, 128], ![1, 16, 1], inb_S8x256x128_S1x16x128_6_5_0_s_1_16_1⟩ : LoadRect S8x256x128), spos_1_16_1⟩, k0_pay48 (F := Ideal) (View.ld (iblk m c 0 t : Vec Ideal S1x16x4x32x256 .bf16) (Rect.unit ![0, 5, 3, 0, 0] ![1, 1, 1, 16, 128] inb_S1x16x4x32x256_S1x1x1x16x128_0_5_3_0_0))⟩,
   ⟨⟨(⟨![5, 5, 0], ![1, 16, 128], ![1, 16, 1], inb_S8x256x128_S1x16x128_5_5_0_s_1_16_1⟩ : LoadRect S8x256x128), spos_1_16_1⟩, k0_pay47 (F := Ideal) (View.ld (iblk m c 0 t : Vec Ideal S1x16x4x32x256 .bf16) (Rect.unit ![0, 5, 2, 0, 128] ![1, 1, 1, 16, 128] inb_S1x16x4x32x256_S1x1x1x16x128_0_5_2_0_128))⟩,
   ⟨⟨(⟨![4, 5, 0], ![1, 16, 128], ![1, 16, 1], inb_S8x256x128_S1x16x128_4_5_0_s_1_16_1⟩ : LoadRect S8x256x128), spos_1_16_1⟩, k0_pay46 (F := Ideal) (View.ld (iblk m c 0 t : Vec Ideal S1x16x4x32x256 .bf16) (Rect.unit ![0, 5, 2, 0, 0] ![1, 1, 1, 16, 128] inb_S1x16x4x32x256_S1x1x1x16x128_0_5_2_0_0))⟩,
   ⟨⟨(⟨![3, 5, 0], ![1, 16, 128], ![1, 16, 1], inb_S8x256x128_S1x16x128_3_5_0_s_1_16_1⟩ : LoadRect S8x256x128), spos_1_16_1⟩, k0_pay45 (F := Ideal) (View.ld (iblk m c 0 t : Vec Ideal S1x16x4x32x256 .bf16) (Rect.unit ![0, 5, 1, 0, 128] ![1, 1, 1, 16, 128] inb_S1x16x4x32x256_S1x1x1x16x128_0_5_1_0_128))⟩,
   ⟨⟨(⟨![2, 5, 0], ![1, 16, 128], ![1, 16, 1], inb_S8x256x128_S1x16x128_2_5_0_s_1_16_1⟩ : LoadRect S8x256x128), spos_1_16_1⟩, k0_pay44 (F := Ideal) (View.ld (iblk m c 0 t : Vec Ideal S1x16x4x32x256 .bf16) (Rect.unit ![0, 5, 1, 0, 0] ![1, 1, 1, 16, 128] inb_S1x16x4x32x256_S1x1x1x16x128_0_5_1_0_0))⟩,
   ⟨⟨(⟨![1, 5, 0], ![1, 16, 128], ![1, 16, 1], inb_S8x256x128_S1x16x128_1_5_0_s_1_16_1⟩ : LoadRect S8x256x128), spos_1_16_1⟩, k0_pay43 (F := Ideal) (View.ld (iblk m c 0 t : Vec Ideal S1x16x4x32x256 .bf16) (Rect.unit ![0, 5, 0, 0, 128] ![1, 1, 1, 16, 128] inb_S1x16x4x32x256_S1x1x1x16x128_0_5_0_0_128))⟩,
   ⟨⟨(⟨![0, 5, 0], ![1, 16, 128], ![1, 16, 1], inb_S8x256x128_S1x16x128_0_5_0_s_1_16_1⟩ : LoadRect S8x256x128), spos_1_16_1⟩, k0_pay42 (F := Ideal) (View.ld (iblk m c 0 t : Vec Ideal S1x16x4x32x256 .bf16) (Rect.unit ![0, 5, 0, 0, 0] ![1, 1, 1, 16, 128] inb_S1x16x4x32x256_S1x1x1x16x128_0_5_0_0_0))⟩,
   ⟨⟨(⟨![7, 4, 0], ![1, 16, 128], ![1, 16, 1], inb_S8x256x128_S1x16x128_7_4_0_s_1_16_1⟩ : LoadRect S8x256x128), spos_1_16_1⟩, k0_pay41 (F := Ideal) (View.ld (iblk m c 0 t : Vec Ideal S1x16x4x32x256 .bf16) (Rect.unit ![0, 4, 3, 0, 128] ![1, 1, 1, 16, 128] inb_S1x16x4x32x256_S1x1x1x16x128_0_4_3_0_128))⟩,
   ⟨⟨(⟨![6, 4, 0], ![1, 16, 128], ![1, 16, 1], inb_S8x256x128_S1x16x128_6_4_0_s_1_16_1⟩ : LoadRect S8x256x128), spos_1_16_1⟩, k0_pay40 (F := Ideal) (View.ld (iblk m c 0 t : Vec Ideal S1x16x4x32x256 .bf16) (Rect.unit ![0, 4, 3, 0, 0] ![1, 1, 1, 16, 128] inb_S1x16x4x32x256_S1x1x1x16x128_0_4_3_0_0))⟩,
   ⟨⟨(⟨![5, 4, 0], ![1, 16, 128], ![1, 16, 1], inb_S8x256x128_S1x16x128_5_4_0_s_1_16_1⟩ : LoadRect S8x256x128), spos_1_16_1⟩, k0_pay39 (F := Ideal) (View.ld (iblk m c 0 t : Vec Ideal S1x16x4x32x256 .bf16) (Rect.unit ![0, 4, 2, 0, 128] ![1, 1, 1, 16, 128] inb_S1x16x4x32x256_S1x1x1x16x128_0_4_2_0_128))⟩,
   ⟨⟨(⟨![4, 4, 0], ![1, 16, 128], ![1, 16, 1], inb_S8x256x128_S1x16x128_4_4_0_s_1_16_1⟩ : LoadRect S8x256x128), spos_1_16_1⟩, k0_pay38 (F := Ideal) (View.ld (iblk m c 0 t : Vec Ideal S1x16x4x32x256 .bf16) (Rect.unit ![0, 4, 2, 0, 0] ![1, 1, 1, 16, 128] inb_S1x16x4x32x256_S1x1x1x16x128_0_4_2_0_0))⟩,
   ⟨⟨(⟨![3, 4, 0], ![1, 16, 128], ![1, 16, 1], inb_S8x256x128_S1x16x128_3_4_0_s_1_16_1⟩ : LoadRect S8x256x128), spos_1_16_1⟩, k0_pay37 (F := Ideal) (View.ld (iblk m c 0 t : Vec Ideal S1x16x4x32x256 .bf16) (Rect.unit ![0, 4, 1, 0, 128] ![1, 1, 1, 16, 128] inb_S1x16x4x32x256_S1x1x1x16x128_0_4_1_0_128))⟩,
   ⟨⟨(⟨![2, 4, 0], ![1, 16, 128], ![1, 16, 1], inb_S8x256x128_S1x16x128_2_4_0_s_1_16_1⟩ : LoadRect S8x256x128), spos_1_16_1⟩, k0_pay36 (F := Ideal) (View.ld (iblk m c 0 t : Vec Ideal S1x16x4x32x256 .bf16) (Rect.unit ![0, 4, 1, 0, 0] ![1, 1, 1, 16, 128] inb_S1x16x4x32x256_S1x1x1x16x128_0_4_1_0_0))⟩,
   ⟨⟨(⟨![1, 4, 0], ![1, 16, 128], ![1, 16, 1], inb_S8x256x128_S1x16x128_1_4_0_s_1_16_1⟩ : LoadRect S8x256x128), spos_1_16_1⟩, k0_pay35 (F := Ideal) (View.ld (iblk m c 0 t : Vec Ideal S1x16x4x32x256 .bf16) (Rect.unit ![0, 4, 0, 0, 128] ![1, 1, 1, 16, 128] inb_S1x16x4x32x256_S1x1x1x16x128_0_4_0_0_128))⟩,
   ⟨⟨(⟨![0, 4, 0], ![1, 16, 128], ![1, 16, 1], inb_S8x256x128_S1x16x128_0_4_0_s_1_16_1⟩ : LoadRect S8x256x128), spos_1_16_1⟩, k0_pay34 (F := Ideal) (View.ld (iblk m c 0 t : Vec Ideal S1x16x4x32x256 .bf16) (Rect.unit ![0, 4, 0, 0, 0] ![1, 1, 1, 16, 128] inb_S1x16x4x32x256_S1x1x1x16x128_0_4_0_0_0))⟩,
   ⟨⟨(⟨![7, 3, 0], ![1, 16, 128], ![1, 16, 1], inb_S8x256x128_S1x16x128_7_3_0_s_1_16_1⟩ : LoadRect S8x256x128), spos_1_16_1⟩, k0_pay33 (F := Ideal) (View.ld (iblk m c 0 t : Vec Ideal S1x16x4x32x256 .bf16) (Rect.unit ![0, 3, 3, 0, 128] ![1, 1, 1, 16, 128] inb_S1x16x4x32x256_S1x1x1x16x128_0_3_3_0_128))⟩,
   ⟨⟨(⟨![6, 3, 0], ![1, 16, 128], ![1, 16, 1], inb_S8x256x128_S1x16x128_6_3_0_s_1_16_1⟩ : LoadRect S8x256x128), spos_1_16_1⟩, k0_pay32 (F := Ideal) (View.ld (iblk m c 0 t : Vec Ideal S1x16x4x32x256 .bf16) (Rect.unit ![0, 3, 3, 0, 0] ![1, 1, 1, 16, 128] inb_S1x16x4x32x256_S1x1x1x16x128_0_3_3_0_0))⟩,
   ⟨⟨(⟨![5, 3, 0], ![1, 16, 128], ![1, 16, 1], inb_S8x256x128_S1x16x128_5_3_0_s_1_16_1⟩ : LoadRect S8x256x128), spos_1_16_1⟩, k0_pay31 (F := Ideal) (View.ld (iblk m c 0 t : Vec Ideal S1x16x4x32x256 .bf16) (Rect.unit ![0, 3, 2, 0, 128] ![1, 1, 1, 16, 128] inb_S1x16x4x32x256_S1x1x1x16x128_0_3_2_0_128))⟩,
   ⟨⟨(⟨![4, 3, 0], ![1, 16, 128], ![1, 16, 1], inb_S8x256x128_S1x16x128_4_3_0_s_1_16_1⟩ : LoadRect S8x256x128), spos_1_16_1⟩, k0_pay30 (F := Ideal) (View.ld (iblk m c 0 t : Vec Ideal S1x16x4x32x256 .bf16) (Rect.unit ![0, 3, 2, 0, 0] ![1, 1, 1, 16, 128] inb_S1x16x4x32x256_S1x1x1x16x128_0_3_2_0_0))⟩,
   ⟨⟨(⟨![3, 3, 0], ![1, 16, 128], ![1, 16, 1], inb_S8x256x128_S1x16x128_3_3_0_s_1_16_1⟩ : LoadRect S8x256x128), spos_1_16_1⟩, k0_pay29 (F := Ideal) (View.ld (iblk m c 0 t : Vec Ideal S1x16x4x32x256 .bf16) (Rect.unit ![0, 3, 1, 0, 128] ![1, 1, 1, 16, 128] inb_S1x16x4x32x256_S1x1x1x16x128_0_3_1_0_128))⟩,
   ⟨⟨(⟨![2, 3, 0], ![1, 16, 128], ![1, 16, 1], inb_S8x256x128_S1x16x128_2_3_0_s_1_16_1⟩ : LoadRect S8x256x128), spos_1_16_1⟩, k0_pay28 (F := Ideal) (View.ld (iblk m c 0 t : Vec Ideal S1x16x4x32x256 .bf16) (Rect.unit ![0, 3, 1, 0, 0] ![1, 1, 1, 16, 128] inb_S1x16x4x32x256_S1x1x1x16x128_0_3_1_0_0))⟩,
   ⟨⟨(⟨![1, 3, 0], ![1, 16, 128], ![1, 16, 1], inb_S8x256x128_S1x16x128_1_3_0_s_1_16_1⟩ : LoadRect S8x256x128), spos_1_16_1⟩, k0_pay27 (F := Ideal) (View.ld (iblk m c 0 t : Vec Ideal S1x16x4x32x256 .bf16) (Rect.unit ![0, 3, 0, 0, 128] ![1, 1, 1, 16, 128] inb_S1x16x4x32x256_S1x1x1x16x128_0_3_0_0_128))⟩,
   ⟨⟨(⟨![0, 3, 0], ![1, 16, 128], ![1, 16, 1], inb_S8x256x128_S1x16x128_0_3_0_s_1_16_1⟩ : LoadRect S8x256x128), spos_1_16_1⟩, k0_pay26 (F := Ideal) (View.ld (iblk m c 0 t : Vec Ideal S1x16x4x32x256 .bf16) (Rect.unit ![0, 3, 0, 0, 0] ![1, 1, 1, 16, 128] inb_S1x16x4x32x256_S1x1x1x16x128_0_3_0_0_0))⟩,
   ⟨⟨(⟨![7, 2, 0], ![1, 16, 128], ![1, 16, 1], inb_S8x256x128_S1x16x128_7_2_0_s_1_16_1⟩ : LoadRect S8x256x128), spos_1_16_1⟩, k0_pay25 (F := Ideal) (View.ld (iblk m c 0 t : Vec Ideal S1x16x4x32x256 .bf16) (Rect.unit ![0, 2, 3, 0, 128] ![1, 1, 1, 16, 128] inb_S1x16x4x32x256_S1x1x1x16x128_0_2_3_0_128))⟩,
   ⟨⟨(⟨![6, 2, 0], ![1, 16, 128], ![1, 16, 1], inb_S8x256x128_S1x16x128_6_2_0_s_1_16_1⟩ : LoadRect S8x256x128), spos_1_16_1⟩, k0_pay24 (F := Ideal) (View.ld (iblk m c 0 t : Vec Ideal S1x16x4x32x256 .bf16) (Rect.unit ![0, 2, 3, 0, 0] ![1, 1, 1, 16, 128] inb_S1x16x4x32x256_S1x1x1x16x128_0_2_3_0_0))⟩,
   ⟨⟨(⟨![5, 2, 0], ![1, 16, 128], ![1, 16, 1], inb_S8x256x128_S1x16x128_5_2_0_s_1_16_1⟩ : LoadRect S8x256x128), spos_1_16_1⟩, k0_pay23 (F := Ideal) (View.ld (iblk m c 0 t : Vec Ideal S1x16x4x32x256 .bf16) (Rect.unit ![0, 2, 2, 0, 128] ![1, 1, 1, 16, 128] inb_S1x16x4x32x256_S1x1x1x16x128_0_2_2_0_128))⟩,
   ⟨⟨(⟨![4, 2, 0], ![1, 16, 128], ![1, 16, 1], inb_S8x256x128_S1x16x128_4_2_0_s_1_16_1⟩ : LoadRect S8x256x128), spos_1_16_1⟩, k0_pay22 (F := Ideal) (View.ld (iblk m c 0 t : Vec Ideal S1x16x4x32x256 .bf16) (Rect.unit ![0, 2, 2, 0, 0] ![1, 1, 1, 16, 128] inb_S1x16x4x32x256_S1x1x1x16x128_0_2_2_0_0))⟩,
   ⟨⟨(⟨![3, 2, 0], ![1, 16, 128], ![1, 16, 1], inb_S8x256x128_S1x16x128_3_2_0_s_1_16_1⟩ : LoadRect S8x256x128), spos_1_16_1⟩, k0_pay21 (F := Ideal) (View.ld (iblk m c 0 t : Vec Ideal S1x16x4x32x256 .bf16) (Rect.unit ![0, 2, 1, 0, 128] ![1, 1, 1, 16, 128] inb_S1x16x4x32x256_S1x1x1x16x128_0_2_1_0_128))⟩,
   ⟨⟨(⟨![2, 2, 0], ![1, 16, 128], ![1, 16, 1], inb_S8x256x128_S1x16x128_2_2_0_s_1_16_1⟩ : LoadRect S8x256x128), spos_1_16_1⟩, k0_pay20 (F := Ideal) (View.ld (iblk m c 0 t : Vec Ideal S1x16x4x32x256 .bf16) (Rect.unit ![0, 2, 1, 0, 0] ![1, 1, 1, 16, 128] inb_S1x16x4x32x256_S1x1x1x16x128_0_2_1_0_0))⟩,
   ⟨⟨(⟨![1, 2, 0], ![1, 16, 128], ![1, 16, 1], inb_S8x256x128_S1x16x128_1_2_0_s_1_16_1⟩ : LoadRect S8x256x128), spos_1_16_1⟩, k0_pay19 (F := Ideal) (View.ld (iblk m c 0 t : Vec Ideal S1x16x4x32x256 .bf16) (Rect.unit ![0, 2, 0, 0, 128] ![1, 1, 1, 16, 128] inb_S1x16x4x32x256_S1x1x1x16x128_0_2_0_0_128))⟩,
   ⟨⟨(⟨![0, 2, 0], ![1, 16, 128], ![1, 16, 1], inb_S8x256x128_S1x16x128_0_2_0_s_1_16_1⟩ : LoadRect S8x256x128), spos_1_16_1⟩, k0_pay18 (F := Ideal) (View.ld (iblk m c 0 t : Vec Ideal S1x16x4x32x256 .bf16) (Rect.unit ![0, 2, 0, 0, 0] ![1, 1, 1, 16, 128] inb_S1x16x4x32x256_S1x1x1x16x128_0_2_0_0_0))⟩,
   ⟨⟨(⟨![7, 1, 0], ![1, 16, 128], ![1, 16, 1], inb_S8x256x128_S1x16x128_7_1_0_s_1_16_1⟩ : LoadRect S8x256x128), spos_1_16_1⟩, k0_pay17 (F := Ideal) (View.ld (iblk m c 0 t : Vec Ideal S1x16x4x32x256 .bf16) (Rect.unit ![0, 1, 3, 0, 128] ![1, 1, 1, 16, 128] inb_S1x16x4x32x256_S1x1x1x16x128_0_1_3_0_128))⟩,
   ⟨⟨(⟨![6, 1, 0], ![1, 16, 128], ![1, 16, 1], inb_S8x256x128_S1x16x128_6_1_0_s_1_16_1⟩ : LoadRect S8x256x128), spos_1_16_1⟩, k0_pay16 (F := Ideal) (View.ld (iblk m c 0 t : Vec Ideal S1x16x4x32x256 .bf16) (Rect.unit ![0, 1, 3, 0, 0] ![1, 1, 1, 16, 128] inb_S1x16x4x32x256_S1x1x1x16x128_0_1_3_0_0))⟩,
   ⟨⟨(⟨![5, 1, 0], ![1, 16, 128], ![1, 16, 1], inb_S8x256x128_S1x16x128_5_1_0_s_1_16_1⟩ : LoadRect S8x256x128), spos_1_16_1⟩, k0_pay15 (F := Ideal) (View.ld (iblk m c 0 t : Vec Ideal S1x16x4x32x256 .bf16) (Rect.unit ![0, 1, 2, 0, 128] ![1, 1, 1, 16, 128] inb_S1x16x4x32x256_S1x1x1x16x128_0_1_2_0_128))⟩,
   ⟨⟨(⟨![4, 1, 0], ![1, 16, 128], ![1, 16, 1], inb_S8x256x128_S1x16x128_4_1_0_s_1_16_1⟩ : LoadRect S8x256x128), spos_1_16_1⟩, k0_pay14 (F := Ideal) (View.ld (iblk m c 0 t : Vec Ideal S1x16x4x32x256 .bf16) (Rect.unit ![0, 1, 2, 0, 0] ![1, 1, 1, 16, 128] inb_S1x16x4x32x256_S1x1x1x16x128_0_1_2_0_0))⟩,
   ⟨⟨(⟨![3, 1, 0], ![1, 16, 128], ![1, 16, 1], inb_S8x256x128_S1x16x128_3_1_0_s_1_16_1⟩ : LoadRect S8x256x128), spos_1_16_1⟩, k0_pay13 (F := Ideal) (View.ld (iblk m c 0 t : Vec Ideal S1x16x4x32x256 .bf16) (Rect.unit ![0, 1, 1, 0, 128] ![1, 1, 1, 16, 128] inb_S1x16x4x32x256_S1x1x1x16x128_0_1_1_0_128))⟩,
   ⟨⟨(⟨![2, 1, 0], ![1, 16, 128], ![1, 16, 1], inb_S8x256x128_S1x16x128_2_1_0_s_1_16_1⟩ : LoadRect S8x256x128), spos_1_16_1⟩, k0_pay12 (F := Ideal) (View.ld (iblk m c 0 t : Vec Ideal S1x16x4x32x256 .bf16) (Rect.unit ![0, 1, 1, 0, 0] ![1, 1, 1, 16, 128] inb_S1x16x4x32x256_S1x1x1x16x128_0_1_1_0_0))⟩,
   ⟨⟨(⟨![1, 1, 0], ![1, 16, 128], ![1, 16, 1], inb_S8x256x128_S1x16x128_1_1_0_s_1_16_1⟩ : LoadRect S8x256x128), spos_1_16_1⟩, k0_pay11 (F := Ideal) (View.ld (iblk m c 0 t : Vec Ideal S1x16x4x32x256 .bf16) (Rect.unit ![0, 1, 0, 0, 128] ![1, 1, 1, 16, 128] inb_S1x16x4x32x256_S1x1x1x16x128_0_1_0_0_128))⟩,
   ⟨⟨(⟨![0, 1, 0], ![1, 16, 128], ![1, 16, 1], inb_S8x256x128_S1x16x128_0_1_0_s_1_16_1⟩ : LoadRect S8x256x128), spos_1_16_1⟩, k0_pay10 (F := Ideal) (View.ld (iblk m c 0 t : Vec Ideal S1x16x4x32x256 .bf16) (Rect.unit ![0, 1, 0, 0, 0] ![1, 1, 1, 16, 128] inb_S1x16x4x32x256_S1x1x1x16x128_0_1_0_0_0))⟩,
   ⟨⟨(⟨![7, 0, 0], ![1, 16, 128], ![1, 16, 1], inb_S8x256x128_S1x16x128_7_0_0_s_1_16_1⟩ : LoadRect S8x256x128), spos_1_16_1⟩, k0_pay9 (F := Ideal) (View.ld (iblk m c 0 t : Vec Ideal S1x16x4x32x256 .bf16) (Rect.unit ![0, 0, 3, 0, 128] ![1, 1, 1, 16, 128] inb_S1x16x4x32x256_S1x1x1x16x128_0_0_3_0_128))⟩,
   ⟨⟨(⟨![6, 0, 0], ![1, 16, 128], ![1, 16, 1], inb_S8x256x128_S1x16x128_6_0_0_s_1_16_1⟩ : LoadRect S8x256x128), spos_1_16_1⟩, k0_pay8 (F := Ideal) (View.ld (iblk m c 0 t : Vec Ideal S1x16x4x32x256 .bf16) (Rect.unit ![0, 0, 3, 0, 0] ![1, 1, 1, 16, 128] inb_S1x16x4x32x256_S1x1x1x16x128_0_0_3_0_0))⟩,
   ⟨⟨(⟨![5, 0, 0], ![1, 16, 128], ![1, 16, 1], inb_S8x256x128_S1x16x128_5_0_0_s_1_16_1⟩ : LoadRect S8x256x128), spos_1_16_1⟩, k0_pay7 (F := Ideal) (View.ld (iblk m c 0 t : Vec Ideal S1x16x4x32x256 .bf16) (Rect.unit ![0, 0, 2, 0, 128] ![1, 1, 1, 16, 128] inb_S1x16x4x32x256_S1x1x1x16x128_0_0_2_0_128))⟩,
   ⟨⟨(⟨![4, 0, 0], ![1, 16, 128], ![1, 16, 1], inb_S8x256x128_S1x16x128_4_0_0_s_1_16_1⟩ : LoadRect S8x256x128), spos_1_16_1⟩, k0_pay6 (F := Ideal) (View.ld (iblk m c 0 t : Vec Ideal S1x16x4x32x256 .bf16) (Rect.unit ![0, 0, 2, 0, 0] ![1, 1, 1, 16, 128] inb_S1x16x4x32x256_S1x1x1x16x128_0_0_2_0_0))⟩,
   ⟨⟨(⟨![3, 0, 0], ![1, 16, 128], ![1, 16, 1], inb_S8x256x128_S1x16x128_3_0_0_s_1_16_1⟩ : LoadRect S8x256x128), spos_1_16_1⟩, k0_pay5 (F := Ideal) (View.ld (iblk m c 0 t : Vec Ideal S1x16x4x32x256 .bf16) (Rect.unit ![0, 0, 1, 0, 128] ![1, 1, 1, 16, 128] inb_S1x16x4x32x256_S1x1x1x16x128_0_0_1_0_128))⟩,
   ⟨⟨(⟨![2, 0, 0], ![1, 16, 128], ![1, 16, 1], inb_S8x256x128_S1x16x128_2_0_0_s_1_16_1⟩ : LoadRect S8x256x128), spos_1_16_1⟩, k0_pay4 (F := Ideal) (View.ld (iblk m c 0 t : Vec Ideal S1x16x4x32x256 .bf16) (Rect.unit ![0, 0, 1, 0, 0] ![1, 1, 1, 16, 128] inb_S1x16x4x32x256_S1x1x1x16x128_0_0_1_0_0))⟩,
   ⟨⟨(⟨![1, 0, 0], ![1, 16, 128], ![1, 16, 1], inb_S8x256x128_S1x16x128_1_0_0_s_1_16_1⟩ : LoadRect S8x256x128), spos_1_16_1⟩, k0_pay3 (F := Ideal) (View.ld (iblk m c 0 t : Vec Ideal S1x16x4x32x256 .bf16) (Rect.unit ![0, 0, 0, 0, 128] ![1, 1, 1, 16, 128] inb_S1x16x4x32x256_S1x1x1x16x128_0_0_0_0_128))⟩,
   ⟨⟨(⟨![0, 0, 0], ![1, 16, 128], ![1, 16, 1], inb_S8x256x128_S1x16x128_0_0_0_s_1_16_1⟩ : LoadRect S8x256x128), spos_1_16_1⟩, k0_pay2 (F := Ideal) (View.ld (iblk m c 0 t : Vec Ideal S1x16x4x32x256 .bf16) (Rect.unit ![0, 0, 0, 0, 0] ![1, 1, 1, 16, 128] inb_S1x16x4x32x256_S1x1x1x16x128_0_0_0_0_0))⟩]

/-- The stores of the second half. -/
def rowsB (t : Fin cfg0.N) : List (View.Piece (Elt Ideal) S8x256x128 .f32) :=
  [⟨⟨(⟨![7, 15, 0], ![1, 16, 128], ![1, 16, 1], inb_S8x256x128_S1x16x128_7_15_0_s_1_16_1⟩ : LoadRect S8x256x128), spos_1_16_1⟩, k0_pay295 (F := Ideal) (k0_pay294 (View.ld (iblk m c 0 t : Vec Ideal S1x16x4x32x256 .bf16) (Rect.unit ![0, 15, 3, 16, 128] ![1, 1, 1, 16, 128] inb_S1x16x4x32x256_S1x1x1x16x128_0_15_3_16_128)))⟩,
   ⟨⟨(⟨![6, 15, 0], ![1, 16, 128], ![1, 16, 1], inb_S8x256x128_S1x16x128_6_15_0_s_1_16_1⟩ : LoadRect S8x256x128), spos_1_16_1⟩, k0_pay293 (F := Ideal) (View.ld (iblk m c 0 t : Vec Ideal S1x16x4x32x256 .bf16) (Rect.unit ![0, 15, 3, 16, 0] ![1, 1, 1, 16, 128] inb_S1x16x4x32x256_S1x1x1x16x128_0_15_3_16_0))⟩,
   ⟨⟨(⟨![5, 15, 0], ![1, 16, 128], ![1, 16, 1], inb_S8x256x128_S1x16x128_5_15_0_s_1_16_1⟩ : LoadRect S8x256x128), spos_1_16_1⟩, k0_pay292 (F := Ideal) (View.ld (iblk m c 0 t : Vec Ideal S1x16x4x32x256 .bf16) (Rect.unit ![0, 15, 2, 16, 128] ![1, 1, 1, 16, 128] inb_S1x16x4x32x256_S1x1x1x16x128_0_15_2_16_128))⟩,
   ⟨⟨(⟨![4, 15, 0], ![1, 16, 128], ![1, 16, 1], inb_S8x256x128_S1x16x128_4_15_0_s_1_16_1⟩ : LoadRect S8x256x128), spos_1_16_1⟩, k0_pay291 (F := Ideal) (View.ld (iblk m c 0 t : Vec Ideal S1x16x4x32x256 .bf16) (Rect.unit ![0, 15, 2, 16, 0] ![1, 1, 1, 16, 128] inb_S1x16x4x32x256_S1x1x1x16x128_0_15_2_16_0))⟩,
   ⟨⟨(⟨![3, 15, 0], ![1, 16, 128], ![1, 16, 1], inb_S8x256x128_S1x16x128_3_15_0_s_1_16_1⟩ : LoadRect S8x256x128), spos_1_16_1⟩, k0_pay290 (F := Ideal) (k0_pay289 (View.ld (iblk m c 0 t : Vec Ideal S1x16x4x32x256 .bf16) (Rect.unit ![0, 15, 1, 16, 128] ![1, 1, 1, 16, 128] inb_S1x16x4x32x256_S1x1x1x16x128_0_15_1_16_128)))⟩,
   ⟨⟨(⟨![2, 15, 0], ![1, 16, 128], ![1, 16, 1], inb_S8x256x128_S1x16x128_2_15_0_s_1_16_1⟩ : LoadRect S8x256x128), spos_1_16_1⟩, k0_pay288 (F := Ideal) (View.ld (iblk m c 0 t : Vec Ideal S1x16x4x32x256 .bf16) (Rect.unit ![0, 15, 1, 16, 0] ![1, 1, 1, 16, 128] inb_S1x16x4x32x256_S1x1x1x16x128_0_15_1_16_0))⟩,
   ⟨⟨(⟨![1, 15, 0], ![1, 16, 128], ![1, 16, 1], inb_S8x256x128_S1x16x128_1_15_0_s_1_16_1⟩ : LoadRect S8x256x128), spos_1_16_1⟩, k0_pay287 (F := Ideal) (View.ld (iblk m c 0 t : Vec Ideal S1x16x4x32x256 .bf16) (Rect.unit ![0, 15, 0, 16, 128] ![1, 1, 1, 16, 128] inb_S1x16x4x32x256_S1x1x1x16x128_0_15_0_16_128))⟩,
   ⟨⟨(⟨![0, 15, 0], ![1, 16, 128], ![1, 16, 1], inb_S8x256x128_S1x16x128_0_15_0_s_1_16_1⟩ : LoadRect S8x256x128), spos_1_16_1⟩, k0_pay286 (F := Ideal) (View.ld (iblk m c 0 t : Vec Ideal S1x16x4x32x256 .bf16) (Rect.unit ![0, 15, 0, 16, 0] ![1, 1, 1, 16, 128] inb_S1x16x4x32x256_S1x1x1x16x128_0_15_0_16_0))⟩,
   ⟨⟨(⟨![7, 14, 0], ![1, 16, 128], ![1, 16, 1], inb_S8x256x128_S1x16x128_7_14_0_s_1_16_1⟩ : LoadRect S8x256x128), spos_1_16_1⟩, k0_pay285 (F := Ideal) (k0_pay284 (View.ld (iblk m c 0 t : Vec Ideal S1x16x4x32x256 .bf16) (Rect.unit ![0, 14, 3, 16, 128] ![1, 1, 1, 16, 128] inb_S1x16x4x32x256_S1x1x1x16x128_0_14_3_16_128)))⟩,
   ⟨⟨(⟨![6, 14, 0], ![1, 16, 128], ![1, 16, 1], inb_S8x256x128_S1x16x128_6_14_0_s_1_16_1⟩ : LoadRect S8x256x128), spos_1_16_1⟩, k0_pay283 (F := Ideal) (View.ld (iblk m c 0 t : Vec Ideal S1x16x4x32x256 .bf16) (Rect.unit ![0, 14, 3, 16, 0] ![1, 1, 1, 16, 128] inb_S1x16x4x32x256_S1x1x1x16x128_0_14_3_16_0))⟩,
   ⟨⟨(⟨![5, 14, 0], ![1, 16, 128], ![1, 16, 1], inb_S8x256x128_S1x16x128_5_14_0_s_1_16_1⟩ : LoadRect S8x256x128), spos_1_16_1⟩, k0_pay282 (F := Ideal) (View.ld (iblk m c 0 t : Vec Ideal S1x16x4x32x256 .bf16) (Rect.unit ![0, 14, 2, 16, 128] ![1, 1, 1, 16, 128] inb_S1x16x4x32x256_S1x1x1x16x128_0_14_2_16_128))⟩,
   ⟨⟨(⟨![4, 14, 0], ![1, 16, 128], ![1, 16, 1], inb_S8x256x128_S1x16x128_4_14_0_s_1_16_1⟩ : LoadRect S8x256x128), spos_1_16_1⟩, k0_pay281 (F := Ideal) (View.ld (iblk m c 0 t : Vec Ideal S1x16x4x32x256 .bf16) (Rect.unit ![0, 14, 2, 16, 0] ![1, 1, 1, 16, 128] inb_S1x16x4x32x256_S1x1x1x16x128_0_14_2_16_0))⟩,
   ⟨⟨(⟨![3, 14, 0], ![1, 16, 128], ![1, 16, 1], inb_S8x256x128_S1x16x128_3_14_0_s_1_16_1⟩ : LoadRect S8x256x128), spos_1_16_1⟩, k0_pay280 (F := Ideal) (k0_pay279 (View.ld (iblk m c 0 t : Vec Ideal S1x16x4x32x256 .bf16) (Rect.unit ![0, 14, 1, 16, 128] ![1, 1, 1, 16, 128] inb_S1x16x4x32x256_S1x1x1x16x128_0_14_1_16_128)))⟩,
   ⟨⟨(⟨![2, 14, 0], ![1, 16, 128], ![1, 16, 1], inb_S8x256x128_S1x16x128_2_14_0_s_1_16_1⟩ : LoadRect S8x256x128), spos_1_16_1⟩, k0_pay278 (F := Ideal) (View.ld (iblk m c 0 t : Vec Ideal S1x16x4x32x256 .bf16) (Rect.unit ![0, 14, 1, 16, 0] ![1, 1, 1, 16, 128] inb_S1x16x4x32x256_S1x1x1x16x128_0_14_1_16_0))⟩,
   ⟨⟨(⟨![1, 14, 0], ![1, 16, 128], ![1, 16, 1], inb_S8x256x128_S1x16x128_1_14_0_s_1_16_1⟩ : LoadRect S8x256x128), spos_1_16_1⟩, k0_pay277 (F := Ideal) (View.ld (iblk m c 0 t : Vec Ideal S1x16x4x32x256 .bf16) (Rect.unit ![0, 14, 0, 16, 128] ![1, 1, 1, 16, 128] inb_S1x16x4x32x256_S1x1x1x16x128_0_14_0_16_128))⟩,
   ⟨⟨(⟨![0, 14, 0], ![1, 16, 128], ![1, 16, 1], inb_S8x256x128_S1x16x128_0_14_0_s_1_16_1⟩ : LoadRect S8x256x128), spos_1_16_1⟩, k0_pay276 (F := Ideal) (View.ld (iblk m c 0 t : Vec Ideal S1x16x4x32x256 .bf16) (Rect.unit ![0, 14, 0, 16, 0] ![1, 1, 1, 16, 128] inb_S1x16x4x32x256_S1x1x1x16x128_0_14_0_16_0))⟩,
   ⟨⟨(⟨![7, 13, 0], ![1, 16, 128], ![1, 16, 1], inb_S8x256x128_S1x16x128_7_13_0_s_1_16_1⟩ : LoadRect S8x256x128), spos_1_16_1⟩, k0_pay275 (F := Ideal) (k0_pay274 (View.ld (iblk m c 0 t : Vec Ideal S1x16x4x32x256 .bf16) (Rect.unit ![0, 13, 3, 16, 128] ![1, 1, 1, 16, 128] inb_S1x16x4x32x256_S1x1x1x16x128_0_13_3_16_128)))⟩,
   ⟨⟨(⟨![6, 13, 0], ![1, 16, 128], ![1, 16, 1], inb_S8x256x128_S1x16x128_6_13_0_s_1_16_1⟩ : LoadRect S8x256x128), spos_1_16_1⟩, k0_pay273 (F := Ideal) (View.ld (iblk m c 0 t : Vec Ideal S1x16x4x32x256 .bf16) (Rect.unit ![0, 13, 3, 16, 0] ![1, 1, 1, 16, 128] inb_S1x16x4x32x256_S1x1x1x16x128_0_13_3_16_0))⟩,
   ⟨⟨(⟨![5, 13, 0], ![1, 16, 128], ![1, 16, 1], inb_S8x256x128_S1x16x128_5_13_0_s_1_16_1⟩ : LoadRect S8x256x128), spos_1_16_1⟩, k0_pay272 (F := Ideal) (View.ld (iblk m c 0 t : Vec Ideal S1x16x4x32x256 .bf16) (Rect.unit ![0, 13, 2, 16, 128] ![1, 1, 1, 16, 128] inb_S1x16x4x32x256_S1x1x1x16x128_0_13_2_16_128))⟩,
   ⟨⟨(⟨![4, 13, 0], ![1, 16, 128], ![1, 16, 1], inb_S8x256x128_S1x16x128_4_13_0_s_1_16_1⟩ : LoadRect S8x256x128), spos_1_16_1⟩, k0_pay271 (F := Ideal) (View.ld (iblk m c 0 t : Vec Ideal S1x16x4x32x256 .bf16) (Rect.unit ![0, 13, 2, 16, 0] ![1, 1, 1, 16, 128] inb_S1x16x4x32x256_S1x1x1x16x128_0_13_2_16_0))⟩,
   ⟨⟨(⟨![3, 13, 0], ![1, 16, 128], ![1, 16, 1], inb_S8x256x128_S1x16x128_3_13_0_s_1_16_1⟩ : LoadRect S8x256x128), spos_1_16_1⟩, k0_pay270 (F := Ideal) (k0_pay269 (View.ld (iblk m c 0 t : Vec Ideal S1x16x4x32x256 .bf16) (Rect.unit ![0, 13, 1, 16, 128] ![1, 1, 1, 16, 128] inb_S1x16x4x32x256_S1x1x1x16x128_0_13_1_16_128)))⟩,
   ⟨⟨(⟨![2, 13, 0], ![1, 16, 128], ![1, 16, 1], inb_S8x256x128_S1x16x128_2_13_0_s_1_16_1⟩ : LoadRect S8x256x128), spos_1_16_1⟩, k0_pay268 (F := Ideal) (View.ld (iblk m c 0 t : Vec Ideal S1x16x4x32x256 .bf16) (Rect.unit ![0, 13, 1, 16, 0] ![1, 1, 1, 16, 128] inb_S1x16x4x32x256_S1x1x1x16x128_0_13_1_16_0))⟩,
   ⟨⟨(⟨![1, 13, 0], ![1, 16, 128], ![1, 16, 1], inb_S8x256x128_S1x16x128_1_13_0_s_1_16_1⟩ : LoadRect S8x256x128), spos_1_16_1⟩, k0_pay267 (F := Ideal) (View.ld (iblk m c 0 t : Vec Ideal S1x16x4x32x256 .bf16) (Rect.unit ![0, 13, 0, 16, 128] ![1, 1, 1, 16, 128] inb_S1x16x4x32x256_S1x1x1x16x128_0_13_0_16_128))⟩,
   ⟨⟨(⟨![0, 13, 0], ![1, 16, 128], ![1, 16, 1], inb_S8x256x128_S1x16x128_0_13_0_s_1_16_1⟩ : LoadRect S8x256x128), spos_1_16_1⟩, k0_pay266 (F := Ideal) (View.ld (iblk m c 0 t : Vec Ideal S1x16x4x32x256 .bf16) (Rect.unit ![0, 13, 0, 16, 0] ![1, 1, 1, 16, 128] inb_S1x16x4x32x256_S1x1x1x16x128_0_13_0_16_0))⟩,
   ⟨⟨(⟨![7, 12, 0], ![1, 16, 128], ![1, 16, 1], inb_S8x256x128_S1x16x128_7_12_0_s_1_16_1⟩ : LoadRect S8x256x128), spos_1_16_1⟩, k0_pay265 (F := Ideal) (k0_pay264 (View.ld (iblk m c 0 t : Vec Ideal S1x16x4x32x256 .bf16) (Rect.unit ![0, 12, 3, 16, 128] ![1, 1, 1, 16, 128] inb_S1x16x4x32x256_S1x1x1x16x128_0_12_3_16_128)))⟩,
   ⟨⟨(⟨![6, 12, 0], ![1, 16, 128], ![1, 16, 1], inb_S8x256x128_S1x16x128_6_12_0_s_1_16_1⟩ : LoadRect S8x256x128), spos_1_16_1⟩, k0_pay263 (F := Ideal) (View.ld (iblk m c 0 t : Vec Ideal S1x16x4x32x256 .bf16) (Rect.unit ![0, 12, 3, 16, 0] ![1, 1, 1, 16, 128] inb_S1x16x4x32x256_S1x1x1x16x128_0_12_3_16_0))⟩,
   ⟨⟨(⟨![5, 12, 0], ![1, 16, 128], ![1, 16, 1], inb_S8x256x128_S1x16x128_5_12_0_s_1_16_1⟩ : LoadRect S8x256x128), spos_1_16_1⟩, k0_pay262 (F := Ideal) (View.ld (iblk m c 0 t : Vec Ideal S1x16x4x32x256 .bf16) (Rect.unit ![0, 12, 2, 16, 128] ![1, 1, 1, 16, 128] inb_S1x16x4x32x256_S1x1x1x16x128_0_12_2_16_128))⟩,
   ⟨⟨(⟨![4, 12, 0], ![1, 16, 128], ![1, 16, 1], inb_S8x256x128_S1x16x128_4_12_0_s_1_16_1⟩ : LoadRect S8x256x128), spos_1_16_1⟩, k0_pay261 (F := Ideal) (View.ld (iblk m c 0 t : Vec Ideal S1x16x4x32x256 .bf16) (Rect.unit ![0, 12, 2, 16, 0] ![1, 1, 1, 16, 128] inb_S1x16x4x32x256_S1x1x1x16x128_0_12_2_16_0))⟩,
   ⟨⟨(⟨![3, 12, 0], ![1, 16, 128], ![1, 16, 1], inb_S8x256x128_S1x16x128_3_12_0_s_1_16_1⟩ : LoadRect S8x256x128), spos_1_16_1⟩, k0_pay260 (F := Ideal) (k0_pay259 (View.ld (iblk m c 0 t : Vec Ideal S1x16x4x32x256 .bf16) (Rect.unit ![0, 12, 1, 16, 128] ![1, 1, 1, 16, 128] inb_S1x16x4x32x256_S1x1x1x16x128_0_12_1_16_128)))⟩,
   ⟨⟨(⟨![2, 12, 0], ![1, 16, 128], ![1, 16, 1], inb_S8x256x128_S1x16x128_2_12_0_s_1_16_1⟩ : LoadRect S8x256x128), spos_1_16_1⟩, k0_pay258 (F := Ideal) (View.ld (iblk m c 0 t : Vec Ideal S1x16x4x32x256 .bf16) (Rect.unit ![0, 12, 1, 16, 0] ![1, 1, 1, 16, 128] inb_S1x16x4x32x256_S1x1x1x16x128_0_12_1_16_0))⟩,
   ⟨⟨(⟨![1, 12, 0], ![1, 16, 128], ![1, 16, 1], inb_S8x256x128_S1x16x128_1_12_0_s_1_16_1⟩ : LoadRect S8x256x128), spos_1_16_1⟩, k0_pay257 (F := Ideal) (View.ld (iblk m c 0 t : Vec Ideal S1x16x4x32x256 .bf16) (Rect.unit ![0, 12, 0, 16, 128] ![1, 1, 1, 16, 128] inb_S1x16x4x32x256_S1x1x1x16x128_0_12_0_16_128))⟩,
   ⟨⟨(⟨![0, 12, 0], ![1, 16, 128], ![1, 16, 1], inb_S8x256x128_S1x16x128_0_12_0_s_1_16_1⟩ : LoadRect S8x256x128), spos_1_16_1⟩, k0_pay256 (F := Ideal) (View.ld (iblk m c 0 t : Vec Ideal S1x16x4x32x256 .bf16) (Rect.unit ![0, 12, 0, 16, 0] ![1, 1, 1, 16, 128] inb_S1x16x4x32x256_S1x1x1x16x128_0_12_0_16_0))⟩,
   ⟨⟨(⟨![7, 11, 0], ![1, 16, 128], ![1, 16, 1], inb_S8x256x128_S1x16x128_7_11_0_s_1_16_1⟩ : LoadRect S8x256x128), spos_1_16_1⟩, k0_pay255 (F := Ideal) (k0_pay254 (View.ld (iblk m c 0 t : Vec Ideal S1x16x4x32x256 .bf16) (Rect.unit ![0, 11, 3, 16, 128] ![1, 1, 1, 16, 128] inb_S1x16x4x32x256_S1x1x1x16x128_0_11_3_16_128)))⟩,
   ⟨⟨(⟨![6, 11, 0], ![1, 16, 128], ![1, 16, 1], inb_S8x256x128_S1x16x128_6_11_0_s_1_16_1⟩ : LoadRect S8x256x128), spos_1_16_1⟩, k0_pay253 (F := Ideal) (View.ld (iblk m c 0 t : Vec Ideal S1x16x4x32x256 .bf16) (Rect.unit ![0, 11, 3, 16, 0] ![1, 1, 1, 16, 128] inb_S1x16x4x32x256_S1x1x1x16x128_0_11_3_16_0))⟩,
   ⟨⟨(⟨![5, 11, 0], ![1, 16, 128], ![1, 16, 1], inb_S8x256x128_S1x16x128_5_11_0_s_1_16_1⟩ : LoadRect S8x256x128), spos_1_16_1⟩, k0_pay252 (F := Ideal) (View.ld (iblk m c 0 t : Vec Ideal S1x16x4x32x256 .bf16) (Rect.unit ![0, 11, 2, 16, 128] ![1, 1, 1, 16, 128] inb_S1x16x4x32x256_S1x1x1x16x128_0_11_2_16_128))⟩,
   ⟨⟨(⟨![4, 11, 0], ![1, 16, 128], ![1, 16, 1], inb_S8x256x128_S1x16x128_4_11_0_s_1_16_1⟩ : LoadRect S8x256x128), spos_1_16_1⟩, k0_pay251 (F := Ideal) (View.ld (iblk m c 0 t : Vec Ideal S1x16x4x32x256 .bf16) (Rect.unit ![0, 11, 2, 16, 0] ![1, 1, 1, 16, 128] inb_S1x16x4x32x256_S1x1x1x16x128_0_11_2_16_0))⟩,
   ⟨⟨(⟨![3, 11, 0], ![1, 16, 128], ![1, 16, 1], inb_S8x256x128_S1x16x128_3_11_0_s_1_16_1⟩ : LoadRect S8x256x128), spos_1_16_1⟩, k0_pay250 (F := Ideal) (k0_pay249 (View.ld (iblk m c 0 t : Vec Ideal S1x16x4x32x256 .bf16) (Rect.unit ![0, 11, 1, 16, 128] ![1, 1, 1, 16, 128] inb_S1x16x4x32x256_S1x1x1x16x128_0_11_1_16_128)))⟩,
   ⟨⟨(⟨![2, 11, 0], ![1, 16, 128], ![1, 16, 1], inb_S8x256x128_S1x16x128_2_11_0_s_1_16_1⟩ : LoadRect S8x256x128), spos_1_16_1⟩, k0_pay248 (F := Ideal) (View.ld (iblk m c 0 t : Vec Ideal S1x16x4x32x256 .bf16) (Rect.unit ![0, 11, 1, 16, 0] ![1, 1, 1, 16, 128] inb_S1x16x4x32x256_S1x1x1x16x128_0_11_1_16_0))⟩,
   ⟨⟨(⟨![1, 11, 0], ![1, 16, 128], ![1, 16, 1], inb_S8x256x128_S1x16x128_1_11_0_s_1_16_1⟩ : LoadRect S8x256x128), spos_1_16_1⟩, k0_pay247 (F := Ideal) (View.ld (iblk m c 0 t : Vec Ideal S1x16x4x32x256 .bf16) (Rect.unit ![0, 11, 0, 16, 128] ![1, 1, 1, 16, 128] inb_S1x16x4x32x256_S1x1x1x16x128_0_11_0_16_128))⟩,
   ⟨⟨(⟨![0, 11, 0], ![1, 16, 128], ![1, 16, 1], inb_S8x256x128_S1x16x128_0_11_0_s_1_16_1⟩ : LoadRect S8x256x128), spos_1_16_1⟩, k0_pay246 (F := Ideal) (View.ld (iblk m c 0 t : Vec Ideal S1x16x4x32x256 .bf16) (Rect.unit ![0, 11, 0, 16, 0] ![1, 1, 1, 16, 128] inb_S1x16x4x32x256_S1x1x1x16x128_0_11_0_16_0))⟩,
   ⟨⟨(⟨![7, 10, 0], ![1, 16, 128], ![1, 16, 1], inb_S8x256x128_S1x16x128_7_10_0_s_1_16_1⟩ : LoadRect S8x256x128), spos_1_16_1⟩, k0_pay245 (F := Ideal) (k0_pay244 (View.ld (iblk m c 0 t : Vec Ideal S1x16x4x32x256 .bf16) (Rect.unit ![0, 10, 3, 16, 128] ![1, 1, 1, 16, 128] inb_S1x16x4x32x256_S1x1x1x16x128_0_10_3_16_128)))⟩,
   ⟨⟨(⟨![6, 10, 0], ![1, 16, 128], ![1, 16, 1], inb_S8x256x128_S1x16x128_6_10_0_s_1_16_1⟩ : LoadRect S8x256x128), spos_1_16_1⟩, k0_pay243 (F := Ideal) (View.ld (iblk m c 0 t : Vec Ideal S1x16x4x32x256 .bf16) (Rect.unit ![0, 10, 3, 16, 0] ![1, 1, 1, 16, 128] inb_S1x16x4x32x256_S1x1x1x16x128_0_10_3_16_0))⟩,
   ⟨⟨(⟨![5, 10, 0], ![1, 16, 128], ![1, 16, 1], inb_S8x256x128_S1x16x128_5_10_0_s_1_16_1⟩ : LoadRect S8x256x128), spos_1_16_1⟩, k0_pay242 (F := Ideal) (View.ld (iblk m c 0 t : Vec Ideal S1x16x4x32x256 .bf16) (Rect.unit ![0, 10, 2, 16, 128] ![1, 1, 1, 16, 128] inb_S1x16x4x32x256_S1x1x1x16x128_0_10_2_16_128))⟩,
   ⟨⟨(⟨![4, 10, 0], ![1, 16, 128], ![1, 16, 1], inb_S8x256x128_S1x16x128_4_10_0_s_1_16_1⟩ : LoadRect S8x256x128), spos_1_16_1⟩, k0_pay241 (F := Ideal) (View.ld (iblk m c 0 t : Vec Ideal S1x16x4x32x256 .bf16) (Rect.unit ![0, 10, 2, 16, 0] ![1, 1, 1, 16, 128] inb_S1x16x4x32x256_S1x1x1x16x128_0_10_2_16_0))⟩,
   ⟨⟨(⟨![3, 10, 0], ![1, 16, 128], ![1, 16, 1], inb_S8x256x128_S1x16x128_3_10_0_s_1_16_1⟩ : LoadRect S8x256x128), spos_1_16_1⟩, k0_pay240 (F := Ideal) (k0_pay239 (View.ld (iblk m c 0 t : Vec Ideal S1x16x4x32x256 .bf16) (Rect.unit ![0, 10, 1, 16, 128] ![1, 1, 1, 16, 128] inb_S1x16x4x32x256_S1x1x1x16x128_0_10_1_16_128)))⟩,
   ⟨⟨(⟨![2, 10, 0], ![1, 16, 128], ![1, 16, 1], inb_S8x256x128_S1x16x128_2_10_0_s_1_16_1⟩ : LoadRect S8x256x128), spos_1_16_1⟩, k0_pay238 (F := Ideal) (View.ld (iblk m c 0 t : Vec Ideal S1x16x4x32x256 .bf16) (Rect.unit ![0, 10, 1, 16, 0] ![1, 1, 1, 16, 128] inb_S1x16x4x32x256_S1x1x1x16x128_0_10_1_16_0))⟩,
   ⟨⟨(⟨![1, 10, 0], ![1, 16, 128], ![1, 16, 1], inb_S8x256x128_S1x16x128_1_10_0_s_1_16_1⟩ : LoadRect S8x256x128), spos_1_16_1⟩, k0_pay237 (F := Ideal) (View.ld (iblk m c 0 t : Vec Ideal S1x16x4x32x256 .bf16) (Rect.unit ![0, 10, 0, 16, 128] ![1, 1, 1, 16, 128] inb_S1x16x4x32x256_S1x1x1x16x128_0_10_0_16_128))⟩,
   ⟨⟨(⟨![0, 10, 0], ![1, 16, 128], ![1, 16, 1], inb_S8x256x128_S1x16x128_0_10_0_s_1_16_1⟩ : LoadRect S8x256x128), spos_1_16_1⟩, k0_pay236 (F := Ideal) (View.ld (iblk m c 0 t : Vec Ideal S1x16x4x32x256 .bf16) (Rect.unit ![0, 10, 0, 16, 0] ![1, 1, 1, 16, 128] inb_S1x16x4x32x256_S1x1x1x16x128_0_10_0_16_0))⟩,
   ⟨⟨(⟨![7, 9, 0], ![1, 16, 128], ![1, 16, 1], inb_S8x256x128_S1x16x128_7_9_0_s_1_16_1⟩ : LoadRect S8x256x128), spos_1_16_1⟩, k0_pay235 (F := Ideal) (k0_pay234 (View.ld (iblk m c 0 t : Vec Ideal S1x16x4x32x256 .bf16) (Rect.unit ![0, 9, 3, 16, 128] ![1, 1, 1, 16, 128] inb_S1x16x4x32x256_S1x1x1x16x128_0_9_3_16_128)))⟩,
   ⟨⟨(⟨![6, 9, 0], ![1, 16, 128], ![1, 16, 1], inb_S8x256x128_S1x16x128_6_9_0_s_1_16_1⟩ : LoadRect S8x256x128), spos_1_16_1⟩, k0_pay233 (F := Ideal) (View.ld (iblk m c 0 t : Vec Ideal S1x16x4x32x256 .bf16) (Rect.unit ![0, 9, 3, 16, 0] ![1, 1, 1, 16, 128] inb_S1x16x4x32x256_S1x1x1x16x128_0_9_3_16_0))⟩,
   ⟨⟨(⟨![5, 9, 0], ![1, 16, 128], ![1, 16, 1], inb_S8x256x128_S1x16x128_5_9_0_s_1_16_1⟩ : LoadRect S8x256x128), spos_1_16_1⟩, k0_pay232 (F := Ideal) (View.ld (iblk m c 0 t : Vec Ideal S1x16x4x32x256 .bf16) (Rect.unit ![0, 9, 2, 16, 128] ![1, 1, 1, 16, 128] inb_S1x16x4x32x256_S1x1x1x16x128_0_9_2_16_128))⟩,
   ⟨⟨(⟨![4, 9, 0], ![1, 16, 128], ![1, 16, 1], inb_S8x256x128_S1x16x128_4_9_0_s_1_16_1⟩ : LoadRect S8x256x128), spos_1_16_1⟩, k0_pay231 (F := Ideal) (View.ld (iblk m c 0 t : Vec Ideal S1x16x4x32x256 .bf16) (Rect.unit ![0, 9, 2, 16, 0] ![1, 1, 1, 16, 128] inb_S1x16x4x32x256_S1x1x1x16x128_0_9_2_16_0))⟩,
   ⟨⟨(⟨![3, 9, 0], ![1, 16, 128], ![1, 16, 1], inb_S8x256x128_S1x16x128_3_9_0_s_1_16_1⟩ : LoadRect S8x256x128), spos_1_16_1⟩, k0_pay230 (F := Ideal) (k0_pay229 (View.ld (iblk m c 0 t : Vec Ideal S1x16x4x32x256 .bf16) (Rect.unit ![0, 9, 1, 16, 128] ![1, 1, 1, 16, 128] inb_S1x16x4x32x256_S1x1x1x16x128_0_9_1_16_128)))⟩,
   ⟨⟨(⟨![2, 9, 0], ![1, 16, 128], ![1, 16, 1], inb_S8x256x128_S1x16x128_2_9_0_s_1_16_1⟩ : LoadRect S8x256x128), spos_1_16_1⟩, k0_pay228 (F := Ideal) (View.ld (iblk m c 0 t : Vec Ideal S1x16x4x32x256 .bf16) (Rect.unit ![0, 9, 1, 16, 0] ![1, 1, 1, 16, 128] inb_S1x16x4x32x256_S1x1x1x16x128_0_9_1_16_0))⟩,
   ⟨⟨(⟨![1, 9, 0], ![1, 16, 128], ![1, 16, 1], inb_S8x256x128_S1x16x128_1_9_0_s_1_16_1⟩ : LoadRect S8x256x128), spos_1_16_1⟩, k0_pay227 (F := Ideal) (View.ld (iblk m c 0 t : Vec Ideal S1x16x4x32x256 .bf16) (Rect.unit ![0, 9, 0, 16, 128] ![1, 1, 1, 16, 128] inb_S1x16x4x32x256_S1x1x1x16x128_0_9_0_16_128))⟩,
   ⟨⟨(⟨![0, 9, 0], ![1, 16, 128], ![1, 16, 1], inb_S8x256x128_S1x16x128_0_9_0_s_1_16_1⟩ : LoadRect S8x256x128), spos_1_16_1⟩, k0_pay226 (F := Ideal) (View.ld (iblk m c 0 t : Vec Ideal S1x16x4x32x256 .bf16) (Rect.unit ![0, 9, 0, 16, 0] ![1, 1, 1, 16, 128] inb_S1x16x4x32x256_S1x1x1x16x128_0_9_0_16_0))⟩,
   ⟨⟨(⟨![7, 8, 0], ![1, 16, 128], ![1, 16, 1], inb_S8x256x128_S1x16x128_7_8_0_s_1_16_1⟩ : LoadRect S8x256x128), spos_1_16_1⟩, k0_pay225 (F := Ideal) (k0_pay224 (View.ld (iblk m c 0 t : Vec Ideal S1x16x4x32x256 .bf16) (Rect.unit ![0, 8, 3, 16, 128] ![1, 1, 1, 16, 128] inb_S1x16x4x32x256_S1x1x1x16x128_0_8_3_16_128)))⟩,
   ⟨⟨(⟨![6, 8, 0], ![1, 16, 128], ![1, 16, 1], inb_S8x256x128_S1x16x128_6_8_0_s_1_16_1⟩ : LoadRect S8x256x128), spos_1_16_1⟩, k0_pay223 (F := Ideal) (View.ld (iblk m c 0 t : Vec Ideal S1x16x4x32x256 .bf16) (Rect.unit ![0, 8, 3, 16, 0] ![1, 1, 1, 16, 128] inb_S1x16x4x32x256_S1x1x1x16x128_0_8_3_16_0))⟩,
   ⟨⟨(⟨![5, 8, 0], ![1, 16, 128], ![1, 16, 1], inb_S8x256x128_S1x16x128_5_8_0_s_1_16_1⟩ : LoadRect S8x256x128), spos_1_16_1⟩, k0_pay222 (F := Ideal) (View.ld (iblk m c 0 t : Vec Ideal S1x16x4x32x256 .bf16) (Rect.unit ![0, 8, 2, 16, 128] ![1, 1, 1, 16, 128] inb_S1x16x4x32x256_S1x1x1x16x128_0_8_2_16_128))⟩,
   ⟨⟨(⟨![4, 8, 0], ![1, 16, 128], ![1, 16, 1], inb_S8x256x128_S1x16x128_4_8_0_s_1_16_1⟩ : LoadRect S8x256x128), spos_1_16_1⟩, k0_pay221 (F := Ideal) (View.ld (iblk m c 0 t : Vec Ideal S1x16x4x32x256 .bf16) (Rect.unit ![0, 8, 2, 16, 0] ![1, 1, 1, 16, 128] inb_S1x16x4x32x256_S1x1x1x16x128_0_8_2_16_0))⟩,
   ⟨⟨(⟨![3, 8, 0], ![1, 16, 128], ![1, 16, 1], inb_S8x256x128_S1x16x128_3_8_0_s_1_16_1⟩ : LoadRect S8x256x128), spos_1_16_1⟩, k0_pay220 (F := Ideal) (k0_pay219 (View.ld (iblk m c 0 t : Vec Ideal S1x16x4x32x256 .bf16) (Rect.unit ![0, 8, 1, 16, 128] ![1, 1, 1, 16, 128] inb_S1x16x4x32x256_S1x1x1x16x128_0_8_1_16_128)))⟩,
   ⟨⟨(⟨![2, 8, 0], ![1, 16, 128], ![1, 16, 1], inb_S8x256x128_S1x16x128_2_8_0_s_1_16_1⟩ : LoadRect S8x256x128), spos_1_16_1⟩, k0_pay218 (F := Ideal) (View.ld (iblk m c 0 t : Vec Ideal S1x16x4x32x256 .bf16) (Rect.unit ![0, 8, 1, 16, 0] ![1, 1, 1, 16, 128] inb_S1x16x4x32x256_S1x1x1x16x128_0_8_1_16_0))⟩,
   ⟨⟨(⟨![1, 8, 0], ![1, 16, 128], ![1, 16, 1], inb_S8x256x128_S1x16x128_1_8_0_s_1_16_1⟩ : LoadRect S8x256x128), spos_1_16_1⟩, k0_pay217 (F := Ideal) (View.ld (iblk m c 0 t : Vec Ideal S1x16x4x32x256 .bf16) (Rect.unit ![0, 8, 0, 16, 128] ![1, 1, 1, 16, 128] inb_S1x16x4x32x256_S1x1x1x16x128_0_8_0_16_128))⟩,
   ⟨⟨(⟨![0, 8, 0], ![1, 16, 128], ![1, 16, 1], inb_S8x256x128_S1x16x128_0_8_0_s_1_16_1⟩ : LoadRect S8x256x128), spos_1_16_1⟩, k0_pay216 (F := Ideal) (View.ld (iblk m c 0 t : Vec Ideal S1x16x4x32x256 .bf16) (Rect.unit ![0, 8, 0, 16, 0] ![1, 1, 1, 16, 128] inb_S1x16x4x32x256_S1x1x1x16x128_0_8_0_16_0))⟩,
   ⟨⟨(⟨![7, 7, 0], ![1, 16, 128], ![1, 16, 1], inb_S8x256x128_S1x16x128_7_7_0_s_1_16_1⟩ : LoadRect S8x256x128), spos_1_16_1⟩, k0_pay215 (F := Ideal) (k0_pay214 (View.ld (iblk m c 0 t : Vec Ideal S1x16x4x32x256 .bf16) (Rect.unit ![0, 7, 3, 16, 128] ![1, 1, 1, 16, 128] inb_S1x16x4x32x256_S1x1x1x16x128_0_7_3_16_128)))⟩,
   ⟨⟨(⟨![6, 7, 0], ![1, 16, 128], ![1, 16, 1], inb_S8x256x128_S1x16x128_6_7_0_s_1_16_1⟩ : LoadRect S8x256x128), spos_1_16_1⟩, k0_pay213 (F := Ideal) (View.ld (iblk m c 0 t : Vec Ideal S1x16x4x32x256 .bf16) (Rect.unit ![0, 7, 3, 16, 0] ![1, 1, 1, 16, 128] inb_S1x16x4x32x256_S1x1x1x16x128_0_7_3_16_0))⟩,
   ⟨⟨(⟨![5, 7, 0], ![1, 16, 128], ![1, 16, 1], inb_S8x256x128_S1x16x128_5_7_0_s_1_16_1⟩ : LoadRect S8x256x128), spos_1_16_1⟩, k0_pay212 (F := Ideal) (View.ld (iblk m c 0 t : Vec Ideal S1x16x4x32x256 .bf16) (Rect.unit ![0, 7, 2, 16, 128] ![1, 1, 1, 16, 128] inb_S1x16x4x32x256_S1x1x1x16x128_0_7_2_16_128))⟩,
   ⟨⟨(⟨![4, 7, 0], ![1, 16, 128], ![1, 16, 1], inb_S8x256x128_S1x16x128_4_7_0_s_1_16_1⟩ : LoadRect S8x256x128), spos_1_16_1⟩, k0_pay211 (F := Ideal) (View.ld (iblk m c 0 t : Vec Ideal S1x16x4x32x256 .bf16) (Rect.unit ![0, 7, 2, 16, 0] ![1, 1, 1, 16, 128] inb_S1x16x4x32x256_S1x1x1x16x128_0_7_2_16_0))⟩,
   ⟨⟨(⟨![3, 7, 0], ![1, 16, 128], ![1, 16, 1], inb_S8x256x128_S1x16x128_3_7_0_s_1_16_1⟩ : LoadRect S8x256x128), spos_1_16_1⟩, k0_pay210 (F := Ideal) (k0_pay209 (View.ld (iblk m c 0 t : Vec Ideal S1x16x4x32x256 .bf16) (Rect.unit ![0, 7, 1, 16, 128] ![1, 1, 1, 16, 128] inb_S1x16x4x32x256_S1x1x1x16x128_0_7_1_16_128)))⟩,
   ⟨⟨(⟨![2, 7, 0], ![1, 16, 128], ![1, 16, 1], inb_S8x256x128_S1x16x128_2_7_0_s_1_16_1⟩ : LoadRect S8x256x128), spos_1_16_1⟩, k0_pay208 (F := Ideal) (View.ld (iblk m c 0 t : Vec Ideal S1x16x4x32x256 .bf16) (Rect.unit ![0, 7, 1, 16, 0] ![1, 1, 1, 16, 128] inb_S1x16x4x32x256_S1x1x1x16x128_0_7_1_16_0))⟩,
   ⟨⟨(⟨![1, 7, 0], ![1, 16, 128], ![1, 16, 1], inb_S8x256x128_S1x16x128_1_7_0_s_1_16_1⟩ : LoadRect S8x256x128), spos_1_16_1⟩, k0_pay207 (F := Ideal) (View.ld (iblk m c 0 t : Vec Ideal S1x16x4x32x256 .bf16) (Rect.unit ![0, 7, 0, 16, 128] ![1, 1, 1, 16, 128] inb_S1x16x4x32x256_S1x1x1x16x128_0_7_0_16_128))⟩,
   ⟨⟨(⟨![0, 7, 0], ![1, 16, 128], ![1, 16, 1], inb_S8x256x128_S1x16x128_0_7_0_s_1_16_1⟩ : LoadRect S8x256x128), spos_1_16_1⟩, k0_pay206 (F := Ideal) (View.ld (iblk m c 0 t : Vec Ideal S1x16x4x32x256 .bf16) (Rect.unit ![0, 7, 0, 16, 0] ![1, 1, 1, 16, 128] inb_S1x16x4x32x256_S1x1x1x16x128_0_7_0_16_0))⟩,
   ⟨⟨(⟨![7, 6, 0], ![1, 16, 128], ![1, 16, 1], inb_S8x256x128_S1x16x128_7_6_0_s_1_16_1⟩ : LoadRect S8x256x128), spos_1_16_1⟩, k0_pay205 (F := Ideal) (k0_pay204 (View.ld (iblk m c 0 t : Vec Ideal S1x16x4x32x256 .bf16) (Rect.unit ![0, 6, 3, 16, 128] ![1, 1, 1, 16, 128] inb_S1x16x4x32x256_S1x1x1x16x128_0_6_3_16_128)))⟩,
   ⟨⟨(⟨![6, 6, 0], ![1, 16, 128], ![1, 16, 1], inb_S8x256x128_S1x16x128_6_6_0_s_1_16_1⟩ : LoadRect S8x256x128), spos_1_16_1⟩, k0_pay203 (F := Ideal) (View.ld (iblk m c 0 t : Vec Ideal S1x16x4x32x256 .bf16) (Rect.unit ![0, 6, 3, 16, 0] ![1, 1, 1, 16, 128] inb_S1x16x4x32x256_S1x1x1x16x128_0_6_3_16_0))⟩,
   ⟨⟨(⟨![5, 6, 0], ![1, 16, 128], ![1, 16, 1], inb_S8x256x128_S1x16x128_5_6_0_s_1_16_1⟩ : LoadRect S8x256x128), spos_1_16_1⟩, k0_pay202 (F := Ideal) (View.ld (iblk m c 0 t : Vec Ideal S1x16x4x32x256 .bf16) (Rect.unit ![0, 6, 2, 16, 128] ![1, 1, 1, 16, 128] inb_S1x16x4x32x256_S1x1x1x16x128_0_6_2_16_128))⟩,
   ⟨⟨(⟨![4, 6, 0], ![1, 16, 128], ![1, 16, 1], inb_S8x256x128_S1x16x128_4_6_0_s_1_16_1⟩ : LoadRect S8x256x128), spos_1_16_1⟩, k0_pay201 (F := Ideal) (View.ld (iblk m c 0 t : Vec Ideal S1x16x4x32x256 .bf16) (Rect.unit ![0, 6, 2, 16, 0] ![1, 1, 1, 16, 128] inb_S1x16x4x32x256_S1x1x1x16x128_0_6_2_16_0))⟩,
   ⟨⟨(⟨![3, 6, 0], ![1, 16, 128], ![1, 16, 1], inb_S8x256x128_S1x16x128_3_6_0_s_1_16_1⟩ : LoadRect S8x256x128), spos_1_16_1⟩, k0_pay200 (F := Ideal) (k0_pay199 (View.ld (iblk m c 0 t : Vec Ideal S1x16x4x32x256 .bf16) (Rect.unit ![0, 6, 1, 16, 128] ![1, 1, 1, 16, 128] inb_S1x16x4x32x256_S1x1x1x16x128_0_6_1_16_128)))⟩,
   ⟨⟨(⟨![2, 6, 0], ![1, 16, 128], ![1, 16, 1], inb_S8x256x128_S1x16x128_2_6_0_s_1_16_1⟩ : LoadRect S8x256x128), spos_1_16_1⟩, k0_pay198 (F := Ideal) (View.ld (iblk m c 0 t : Vec Ideal S1x16x4x32x256 .bf16) (Rect.unit ![0, 6, 1, 16, 0] ![1, 1, 1, 16, 128] inb_S1x16x4x32x256_S1x1x1x16x128_0_6_1_16_0))⟩,
   ⟨⟨(⟨![1, 6, 0], ![1, 16, 128], ![1, 16, 1], inb_S8x256x128_S1x16x128_1_6_0_s_1_16_1⟩ : LoadRect S8x256x128), spos_1_16_1⟩, k0_pay197 (F := Ideal) (View.ld (iblk m c 0 t : Vec Ideal S1x16x4x32x256 .bf16) (Rect.unit ![0, 6, 0, 16, 128] ![1, 1, 1, 16, 128] inb_S1x16x4x32x256_S1x1x1x16x128_0_6_0_16_128))⟩,
   ⟨⟨(⟨![0, 6, 0], ![1, 16, 128], ![1, 16, 1], inb_S8x256x128_S1x16x128_0_6_0_s_1_16_1⟩ : LoadRect S8x256x128), spos_1_16_1⟩, k0_pay196 (F := Ideal) (View.ld (iblk m c 0 t : Vec Ideal S1x16x4x32x256 .bf16) (Rect.unit ![0, 6, 0, 16, 0] ![1, 1, 1, 16, 128] inb_S1x16x4x32x256_S1x1x1x16x128_0_6_0_16_0))⟩,
   ⟨⟨(⟨![7, 5, 0], ![1, 16, 128], ![1, 16, 1], inb_S8x256x128_S1x16x128_7_5_0_s_1_16_1⟩ : LoadRect S8x256x128), spos_1_16_1⟩, k0_pay195 (F := Ideal) (k0_pay194 (View.ld (iblk m c 0 t : Vec Ideal S1x16x4x32x256 .bf16) (Rect.unit ![0, 5, 3, 16, 128] ![1, 1, 1, 16, 128] inb_S1x16x4x32x256_S1x1x1x16x128_0_5_3_16_128)))⟩,
   ⟨⟨(⟨![6, 5, 0], ![1, 16, 128], ![1, 16, 1], inb_S8x256x128_S1x16x128_6_5_0_s_1_16_1⟩ : LoadRect S8x256x128), spos_1_16_1⟩, k0_pay193 (F := Ideal) (View.ld (iblk m c 0 t : Vec Ideal S1x16x4x32x256 .bf16) (Rect.unit ![0, 5, 3, 16, 0] ![1, 1, 1, 16, 128] inb_S1x16x4x32x256_S1x1x1x16x128_0_5_3_16_0))⟩,
   ⟨⟨(⟨![5, 5, 0], ![1, 16, 128], ![1, 16, 1], inb_S8x256x128_S1x16x128_5_5_0_s_1_16_1⟩ : LoadRect S8x256x128), spos_1_16_1⟩, k0_pay192 (F := Ideal) (View.ld (iblk m c 0 t : Vec Ideal S1x16x4x32x256 .bf16) (Rect.unit ![0, 5, 2, 16, 128] ![1, 1, 1, 16, 128] inb_S1x16x4x32x256_S1x1x1x16x128_0_5_2_16_128))⟩,
   ⟨⟨(⟨![4, 5, 0], ![1, 16, 128], ![1, 16, 1], inb_S8x256x128_S1x16x128_4_5_0_s_1_16_1⟩ : LoadRect S8x256x128), spos_1_16_1⟩, k0_pay191 (F := Ideal) (View.ld (iblk m c 0 t : Vec Ideal S1x16x4x32x256 .bf16) (Rect.unit ![0, 5, 2, 16, 0] ![1, 1, 1, 16, 128] inb_S1x16x4x32x256_S1x1x1x16x128_0_5_2_16_0))⟩,
   ⟨⟨(⟨![3, 5, 0], ![1, 16, 128], ![1, 16, 1], inb_S8x256x128_S1x16x128_3_5_0_s_1_16_1⟩ : LoadRect S8x256x128), spos_1_16_1⟩, k0_pay190 (F := Ideal) (k0_pay189 (View.ld (iblk m c 0 t : Vec Ideal S1x16x4x32x256 .bf16) (Rect.unit ![0, 5, 1, 16, 128] ![1, 1, 1, 16, 128] inb_S1x16x4x32x256_S1x1x1x16x128_0_5_1_16_128)))⟩,
   ⟨⟨(⟨![2, 5, 0], ![1, 16, 128], ![1, 16, 1], inb_S8x256x128_S1x16x128_2_5_0_s_1_16_1⟩ : LoadRect S8x256x128), spos_1_16_1⟩, k0_pay188 (F := Ideal) (View.ld (iblk m c 0 t : Vec Ideal S1x16x4x32x256 .bf16) (Rect.unit ![0, 5, 1, 16, 0] ![1, 1, 1, 16, 128] inb_S1x16x4x32x256_S1x1x1x16x128_0_5_1_16_0))⟩,
   ⟨⟨(⟨![1, 5, 0], ![1, 16, 128], ![1, 16, 1], inb_S8x256x128_S1x16x128_1_5_0_s_1_16_1⟩ : LoadRect S8x256x128), spos_1_16_1⟩, k0_pay187 (F := Ideal) (View.ld (iblk m c 0 t : Vec Ideal S1x16x4x32x256 .bf16) (Rect.unit ![0, 5, 0, 16, 128] ![1, 1, 1, 16, 128] inb_S1x16x4x32x256_S1x1x1x16x128_0_5_0_16_128))⟩,
   ⟨⟨(⟨![0, 5, 0], ![1, 16, 128], ![1, 16, 1], inb_S8x256x128_S1x16x128_0_5_0_s_1_16_1⟩ : LoadRect S8x256x128), spos_1_16_1⟩, k0_pay186 (F := Ideal) (View.ld (iblk m c 0 t : Vec Ideal S1x16x4x32x256 .bf16) (Rect.unit ![0, 5, 0, 16, 0] ![1, 1, 1, 16, 128] inb_S1x16x4x32x256_S1x1x1x16x128_0_5_0_16_0))⟩,
   ⟨⟨(⟨![7, 4, 0], ![1, 16, 128], ![1, 16, 1], inb_S8x256x128_S1x16x128_7_4_0_s_1_16_1⟩ : LoadRect S8x256x128), spos_1_16_1⟩, k0_pay185 (F := Ideal) (k0_pay184 (View.ld (iblk m c 0 t : Vec Ideal S1x16x4x32x256 .bf16) (Rect.unit ![0, 4, 3, 16, 128] ![1, 1, 1, 16, 128] inb_S1x16x4x32x256_S1x1x1x16x128_0_4_3_16_128)))⟩,
   ⟨⟨(⟨![6, 4, 0], ![1, 16, 128], ![1, 16, 1], inb_S8x256x128_S1x16x128_6_4_0_s_1_16_1⟩ : LoadRect S8x256x128), spos_1_16_1⟩, k0_pay183 (F := Ideal) (View.ld (iblk m c 0 t : Vec Ideal S1x16x4x32x256 .bf16) (Rect.unit ![0, 4, 3, 16, 0] ![1, 1, 1, 16, 128] inb_S1x16x4x32x256_S1x1x1x16x128_0_4_3_16_0))⟩,
   ⟨⟨(⟨![5, 4, 0], ![1, 16, 128], ![1, 16, 1], inb_S8x256x128_S1x16x128_5_4_0_s_1_16_1⟩ : LoadRect S8x256x128), spos_1_16_1⟩, k0_pay182 (F := Ideal) (View.ld (iblk m c 0 t : Vec Ideal S1x16x4x32x256 .bf16) (Rect.unit ![0, 4, 2, 16, 128] ![1, 1, 1, 16, 128] inb_S1x16x4x32x256_S1x1x1x16x128_0_4_2_16_128))⟩,
   ⟨⟨(⟨![4, 4, 0], ![1, 16, 128], ![1, 16, 1], inb_S8x256x128_S1x16x128_4_4_0_s_1_16_1⟩ : LoadRect S8x256x128), spos_1_16_1⟩, k0_pay181 (F := Ideal) (View.ld (iblk m c 0 t : Vec Ideal S1x16x4x32x256 .bf16) (Rect.unit ![0, 4, 2, 16, 0] ![1, 1, 1, 16, 128] inb_S1x16x4x32x256_S1x1x1x16x128_0_4_2_16_0))⟩,
   ⟨⟨(⟨![3, 4, 0], ![1, 16, 128], ![1, 16, 1], inb_S8x256x128_S1x16x128_3_4_0_s_1_16_1⟩ : LoadRect S8x256x128), spos_1_16_1⟩, k0_pay180 (F := Ideal) (k0_pay179 (View.ld (iblk m c 0 t : Vec Ideal S1x16x4x32x256 .bf16) (Rect.unit ![0, 4, 1, 16, 128] ![1, 1, 1, 16, 128] inb_S1x16x4x32x256_S1x1x1x16x128_0_4_1_16_128)))⟩,
   ⟨⟨(⟨![2, 4, 0], ![1, 16, 128], ![1, 16, 1], inb_S8x256x128_S1x16x128_2_4_0_s_1_16_1⟩ : LoadRect S8x256x128), spos_1_16_1⟩, k0_pay178 (F := Ideal) (View.ld (iblk m c 0 t : Vec Ideal S1x16x4x32x256 .bf16) (Rect.unit ![0, 4, 1, 16, 0] ![1, 1, 1, 16, 128] inb_S1x16x4x32x256_S1x1x1x16x128_0_4_1_16_0))⟩,
   ⟨⟨(⟨![1, 4, 0], ![1, 16, 128], ![1, 16, 1], inb_S8x256x128_S1x16x128_1_4_0_s_1_16_1⟩ : LoadRect S8x256x128), spos_1_16_1⟩, k0_pay177 (F := Ideal) (View.ld (iblk m c 0 t : Vec Ideal S1x16x4x32x256 .bf16) (Rect.unit ![0, 4, 0, 16, 128] ![1, 1, 1, 16, 128] inb_S1x16x4x32x256_S1x1x1x16x128_0_4_0_16_128))⟩,
   ⟨⟨(⟨![0, 4, 0], ![1, 16, 128], ![1, 16, 1], inb_S8x256x128_S1x16x128_0_4_0_s_1_16_1⟩ : LoadRect S8x256x128), spos_1_16_1⟩, k0_pay176 (F := Ideal) (View.ld (iblk m c 0 t : Vec Ideal S1x16x4x32x256 .bf16) (Rect.unit ![0, 4, 0, 16, 0] ![1, 1, 1, 16, 128] inb_S1x16x4x32x256_S1x1x1x16x128_0_4_0_16_0))⟩,
   ⟨⟨(⟨![7, 3, 0], ![1, 16, 128], ![1, 16, 1], inb_S8x256x128_S1x16x128_7_3_0_s_1_16_1⟩ : LoadRect S8x256x128), spos_1_16_1⟩, k0_pay175 (F := Ideal) (k0_pay174 (View.ld (iblk m c 0 t : Vec Ideal S1x16x4x32x256 .bf16) (Rect.unit ![0, 3, 3, 16, 128] ![1, 1, 1, 16, 128] inb_S1x16x4x32x256_S1x1x1x16x128_0_3_3_16_128)))⟩,
   ⟨⟨(⟨![6, 3, 0], ![1, 16, 128], ![1, 16, 1], inb_S8x256x128_S1x16x128_6_3_0_s_1_16_1⟩ : LoadRect S8x256x128), spos_1_16_1⟩, k0_pay173 (F := Ideal) (View.ld (iblk m c 0 t : Vec Ideal S1x16x4x32x256 .bf16) (Rect.unit ![0, 3, 3, 16, 0] ![1, 1, 1, 16, 128] inb_S1x16x4x32x256_S1x1x1x16x128_0_3_3_16_0))⟩,
   ⟨⟨(⟨![5, 3, 0], ![1, 16, 128], ![1, 16, 1], inb_S8x256x128_S1x16x128_5_3_0_s_1_16_1⟩ : LoadRect S8x256x128), spos_1_16_1⟩, k0_pay172 (F := Ideal) (View.ld (iblk m c 0 t : Vec Ideal S1x16x4x32x256 .bf16) (Rect.unit ![0, 3, 2, 16, 128] ![1, 1, 1, 16, 128] inb_S1x16x4x32x256_S1x1x1x16x128_0_3_2_16_128))⟩,
   ⟨⟨(⟨![4, 3, 0], ![1, 16, 128], ![1, 16, 1], inb_S8x256x128_S1x16x128_4_3_0_s_1_16_1⟩ : LoadRect S8x256x128), spos_1_16_1⟩, k0_pay171 (F := Ideal) (View.ld (iblk m c 0 t : Vec Ideal S1x16x4x32x256 .bf16) (Rect.unit ![0, 3, 2, 16, 0] ![1, 1, 1, 16, 128] inb_S1x16x4x32x256_S1x1x1x16x128_0_3_2_16_0))⟩,
   ⟨⟨(⟨![3, 3, 0], ![1, 16, 128], ![1, 16, 1], inb_S8x256x128_S1x16x128_3_3_0_s_1_16_1⟩ : LoadRect S8x256x128), spos_1_16_1⟩, k0_pay170 (F := Ideal) (k0_pay169 (View.ld (iblk m c 0 t : Vec Ideal S1x16x4x32x256 .bf16) (Rect.unit ![0, 3, 1, 16, 128] ![1, 1, 1, 16, 128] inb_S1x16x4x32x256_S1x1x1x16x128_0_3_1_16_128)))⟩,
   ⟨⟨(⟨![2, 3, 0], ![1, 16, 128], ![1, 16, 1], inb_S8x256x128_S1x16x128_2_3_0_s_1_16_1⟩ : LoadRect S8x256x128), spos_1_16_1⟩, k0_pay168 (F := Ideal) (View.ld (iblk m c 0 t : Vec Ideal S1x16x4x32x256 .bf16) (Rect.unit ![0, 3, 1, 16, 0] ![1, 1, 1, 16, 128] inb_S1x16x4x32x256_S1x1x1x16x128_0_3_1_16_0))⟩,
   ⟨⟨(⟨![1, 3, 0], ![1, 16, 128], ![1, 16, 1], inb_S8x256x128_S1x16x128_1_3_0_s_1_16_1⟩ : LoadRect S8x256x128), spos_1_16_1⟩, k0_pay167 (F := Ideal) (View.ld (iblk m c 0 t : Vec Ideal S1x16x4x32x256 .bf16) (Rect.unit ![0, 3, 0, 16, 128] ![1, 1, 1, 16, 128] inb_S1x16x4x32x256_S1x1x1x16x128_0_3_0_16_128))⟩,
   ⟨⟨(⟨![0, 3, 0], ![1, 16, 128], ![1, 16, 1], inb_S8x256x128_S1x16x128_0_3_0_s_1_16_1⟩ : LoadRect S8x256x128), spos_1_16_1⟩, k0_pay166 (F := Ideal) (View.ld (iblk m c 0 t : Vec Ideal S1x16x4x32x256 .bf16) (Rect.unit ![0, 3, 0, 16, 0] ![1, 1, 1, 16, 128] inb_S1x16x4x32x256_S1x1x1x16x128_0_3_0_16_0))⟩,
   ⟨⟨(⟨![7, 2, 0], ![1, 16, 128], ![1, 16, 1], inb_S8x256x128_S1x16x128_7_2_0_s_1_16_1⟩ : LoadRect S8x256x128), spos_1_16_1⟩, k0_pay165 (F := Ideal) (k0_pay164 (View.ld (iblk m c 0 t : Vec Ideal S1x16x4x32x256 .bf16) (Rect.unit ![0, 2, 3, 16, 128] ![1, 1, 1, 16, 128] inb_S1x16x4x32x256_S1x1x1x16x128_0_2_3_16_128)))⟩,
   ⟨⟨(⟨![6, 2, 0], ![1, 16, 128], ![1, 16, 1], inb_S8x256x128_S1x16x128_6_2_0_s_1_16_1⟩ : LoadRect S8x256x128), spos_1_16_1⟩, k0_pay163 (F := Ideal) (View.ld (iblk m c 0 t : Vec Ideal S1x16x4x32x256 .bf16) (Rect.unit ![0, 2, 3, 16, 0] ![1, 1, 1, 16, 128] inb_S1x16x4x32x256_S1x1x1x16x128_0_2_3_16_0))⟩,
   ⟨⟨(⟨![5, 2, 0], ![1, 16, 128], ![1, 16, 1], inb_S8x256x128_S1x16x128_5_2_0_s_1_16_1⟩ : LoadRect S8x256x128), spos_1_16_1⟩, k0_pay162 (F := Ideal) (View.ld (iblk m c 0 t : Vec Ideal S1x16x4x32x256 .bf16) (Rect.unit ![0, 2, 2, 16, 128] ![1, 1, 1, 16, 128] inb_S1x16x4x32x256_S1x1x1x16x128_0_2_2_16_128))⟩,
   ⟨⟨(⟨![4, 2, 0], ![1, 16, 128], ![1, 16, 1], inb_S8x256x128_S1x16x128_4_2_0_s_1_16_1⟩ : LoadRect S8x256x128), spos_1_16_1⟩, k0_pay161 (F := Ideal) (View.ld (iblk m c 0 t : Vec Ideal S1x16x4x32x256 .bf16) (Rect.unit ![0, 2, 2, 16, 0] ![1, 1, 1, 16, 128] inb_S1x16x4x32x256_S1x1x1x16x128_0_2_2_16_0))⟩,
   ⟨⟨(⟨![3, 2, 0], ![1, 16, 128], ![1, 16, 1], inb_S8x256x128_S1x16x128_3_2_0_s_1_16_1⟩ : LoadRect S8x256x128), spos_1_16_1⟩, k0_pay160 (F := Ideal) (k0_pay159 (View.ld (iblk m c 0 t : Vec Ideal S1x16x4x32x256 .bf16) (Rect.unit ![0, 2, 1, 16, 128] ![1, 1, 1, 16, 128] inb_S1x16x4x32x256_S1x1x1x16x128_0_2_1_16_128)))⟩,
   ⟨⟨(⟨![2, 2, 0], ![1, 16, 128], ![1, 16, 1], inb_S8x256x128_S1x16x128_2_2_0_s_1_16_1⟩ : LoadRect S8x256x128), spos_1_16_1⟩, k0_pay158 (F := Ideal) (View.ld (iblk m c 0 t : Vec Ideal S1x16x4x32x256 .bf16) (Rect.unit ![0, 2, 1, 16, 0] ![1, 1, 1, 16, 128] inb_S1x16x4x32x256_S1x1x1x16x128_0_2_1_16_0))⟩,
   ⟨⟨(⟨![1, 2, 0], ![1, 16, 128], ![1, 16, 1], inb_S8x256x128_S1x16x128_1_2_0_s_1_16_1⟩ : LoadRect S8x256x128), spos_1_16_1⟩, k0_pay157 (F := Ideal) (View.ld (iblk m c 0 t : Vec Ideal S1x16x4x32x256 .bf16) (Rect.unit ![0, 2, 0, 16, 128] ![1, 1, 1, 16, 128] inb_S1x16x4x32x256_S1x1x1x16x128_0_2_0_16_128))⟩,
   ⟨⟨(⟨![0, 2, 0], ![1, 16, 128], ![1, 16, 1], inb_S8x256x128_S1x16x128_0_2_0_s_1_16_1⟩ : LoadRect S8x256x128), spos_1_16_1⟩, k0_pay156 (F := Ideal) (View.ld (iblk m c 0 t : Vec Ideal S1x16x4x32x256 .bf16) (Rect.unit ![0, 2, 0, 16, 0] ![1, 1, 1, 16, 128] inb_S1x16x4x32x256_S1x1x1x16x128_0_2_0_16_0))⟩,
   ⟨⟨(⟨![7, 1, 0], ![1, 16, 128], ![1, 16, 1], inb_S8x256x128_S1x16x128_7_1_0_s_1_16_1⟩ : LoadRect S8x256x128), spos_1_16_1⟩, k0_pay155 (F := Ideal) (k0_pay154 (View.ld (iblk m c 0 t : Vec Ideal S1x16x4x32x256 .bf16) (Rect.unit ![0, 1, 3, 16, 128] ![1, 1, 1, 16, 128] inb_S1x16x4x32x256_S1x1x1x16x128_0_1_3_16_128)))⟩,
   ⟨⟨(⟨![6, 1, 0], ![1, 16, 128], ![1, 16, 1], inb_S8x256x128_S1x16x128_6_1_0_s_1_16_1⟩ : LoadRect S8x256x128), spos_1_16_1⟩, k0_pay153 (F := Ideal) (View.ld (iblk m c 0 t : Vec Ideal S1x16x4x32x256 .bf16) (Rect.unit ![0, 1, 3, 16, 0] ![1, 1, 1, 16, 128] inb_S1x16x4x32x256_S1x1x1x16x128_0_1_3_16_0))⟩,
   ⟨⟨(⟨![5, 1, 0], ![1, 16, 128], ![1, 16, 1], inb_S8x256x128_S1x16x128_5_1_0_s_1_16_1⟩ : LoadRect S8x256x128), spos_1_16_1⟩, k0_pay152 (F := Ideal) (View.ld (iblk m c 0 t : Vec Ideal S1x16x4x32x256 .bf16) (Rect.unit ![0, 1, 2, 16, 128] ![1, 1, 1, 16, 128] inb_S1x16x4x32x256_S1x1x1x16x128_0_1_2_16_128))⟩,
   ⟨⟨(⟨![4, 1, 0], ![1, 16, 128], ![1, 16, 1], inb_S8x256x128_S1x16x128_4_1_0_s_1_16_1⟩ : LoadRect S8x256x128), spos_1_16_1⟩, k0_pay151 (F := Ideal) (View.ld (iblk m c 0 t : Vec Ideal S1x16x4x32x256 .bf16) (Rect.unit ![0, 1, 2, 16, 0] ![1, 1, 1, 16, 128] inb_S1x16x4x32x256_S1x1x1x16x128_0_1_2_16_0))⟩,
   ⟨⟨(⟨![3, 1, 0], ![1, 16, 128], ![1, 16, 1], inb_S8x256x128_S1x16x128_3_1_0_s_1_16_1⟩ : LoadRect S8x256x128), spos_1_16_1⟩, k0_pay150 (F := Ideal) (k0_pay149 (View.ld (iblk m c 0 t : Vec Ideal S1x16x4x32x256 .bf16) (Rect.unit ![0, 1, 1, 16, 128] ![1, 1, 1, 16, 128] inb_S1x16x4x32x256_S1x1x1x16x128_0_1_1_16_128)))⟩,
   ⟨⟨(⟨![2, 1, 0], ![1, 16, 128], ![1, 16, 1], inb_S8x256x128_S1x16x128_2_1_0_s_1_16_1⟩ : LoadRect S8x256x128), spos_1_16_1⟩, k0_pay148 (F := Ideal) (View.ld (iblk m c 0 t : Vec Ideal S1x16x4x32x256 .bf16) (Rect.unit ![0, 1, 1, 16, 0] ![1, 1, 1, 16, 128] inb_S1x16x4x32x256_S1x1x1x16x128_0_1_1_16_0))⟩,
   ⟨⟨(⟨![1, 1, 0], ![1, 16, 128], ![1, 16, 1], inb_S8x256x128_S1x16x128_1_1_0_s_1_16_1⟩ : LoadRect S8x256x128), spos_1_16_1⟩, k0_pay147 (F := Ideal) (View.ld (iblk m c 0 t : Vec Ideal S1x16x4x32x256 .bf16) (Rect.unit ![0, 1, 0, 16, 128] ![1, 1, 1, 16, 128] inb_S1x16x4x32x256_S1x1x1x16x128_0_1_0_16_128))⟩,
   ⟨⟨(⟨![0, 1, 0], ![1, 16, 128], ![1, 16, 1], inb_S8x256x128_S1x16x128_0_1_0_s_1_16_1⟩ : LoadRect S8x256x128), spos_1_16_1⟩, k0_pay146 (F := Ideal) (View.ld (iblk m c 0 t : Vec Ideal S1x16x4x32x256 .bf16) (Rect.unit ![0, 1, 0, 16, 0] ![1, 1, 1, 16, 128] inb_S1x16x4x32x256_S1x1x1x16x128_0_1_0_16_0))⟩,
   ⟨⟨(⟨![7, 0, 0], ![1, 16, 128], ![1, 16, 1], inb_S8x256x128_S1x16x128_7_0_0_s_1_16_1⟩ : LoadRect S8x256x128), spos_1_16_1⟩, k0_pay145 (F := Ideal) (k0_pay144 (View.ld (iblk m c 0 t : Vec Ideal S1x16x4x32x256 .bf16) (Rect.unit ![0, 0, 3, 16, 128] ![1, 1, 1, 16, 128] inb_S1x16x4x32x256_S1x1x1x16x128_0_0_3_16_128)))⟩,
   ⟨⟨(⟨![6, 0, 0], ![1, 16, 128], ![1, 16, 1], inb_S8x256x128_S1x16x128_6_0_0_s_1_16_1⟩ : LoadRect S8x256x128), spos_1_16_1⟩, k0_pay143 (F := Ideal) (View.ld (iblk m c 0 t : Vec Ideal S1x16x4x32x256 .bf16) (Rect.unit ![0, 0, 3, 16, 0] ![1, 1, 1, 16, 128] inb_S1x16x4x32x256_S1x1x1x16x128_0_0_3_16_0))⟩,
   ⟨⟨(⟨![5, 0, 0], ![1, 16, 128], ![1, 16, 1], inb_S8x256x128_S1x16x128_5_0_0_s_1_16_1⟩ : LoadRect S8x256x128), spos_1_16_1⟩, k0_pay142 (F := Ideal) (View.ld (iblk m c 0 t : Vec Ideal S1x16x4x32x256 .bf16) (Rect.unit ![0, 0, 2, 16, 128] ![1, 1, 1, 16, 128] inb_S1x16x4x32x256_S1x1x1x16x128_0_0_2_16_128))⟩,
   ⟨⟨(⟨![4, 0, 0], ![1, 16, 128], ![1, 16, 1], inb_S8x256x128_S1x16x128_4_0_0_s_1_16_1⟩ : LoadRect S8x256x128), spos_1_16_1⟩, k0_pay141 (F := Ideal) (View.ld (iblk m c 0 t : Vec Ideal S1x16x4x32x256 .bf16) (Rect.unit ![0, 0, 2, 16, 0] ![1, 1, 1, 16, 128] inb_S1x16x4x32x256_S1x1x1x16x128_0_0_2_16_0))⟩,
   ⟨⟨(⟨![3, 0, 0], ![1, 16, 128], ![1, 16, 1], inb_S8x256x128_S1x16x128_3_0_0_s_1_16_1⟩ : LoadRect S8x256x128), spos_1_16_1⟩, k0_pay140 (F := Ideal) (k0_pay139 (View.ld (iblk m c 0 t : Vec Ideal S1x16x4x32x256 .bf16) (Rect.unit ![0, 0, 1, 16, 128] ![1, 1, 1, 16, 128] inb_S1x16x4x32x256_S1x1x1x16x128_0_0_1_16_128)))⟩,
   ⟨⟨(⟨![2, 0, 0], ![1, 16, 128], ![1, 16, 1], inb_S8x256x128_S1x16x128_2_0_0_s_1_16_1⟩ : LoadRect S8x256x128), spos_1_16_1⟩, k0_pay138 (F := Ideal) (View.ld (iblk m c 0 t : Vec Ideal S1x16x4x32x256 .bf16) (Rect.unit ![0, 0, 1, 16, 0] ![1, 1, 1, 16, 128] inb_S1x16x4x32x256_S1x1x1x16x128_0_0_1_16_0))⟩,
   ⟨⟨(⟨![1, 0, 0], ![1, 16, 128], ![1, 16, 1], inb_S8x256x128_S1x16x128_1_0_0_s_1_16_1⟩ : LoadRect S8x256x128), spos_1_16_1⟩, k0_pay137 (F := Ideal) (View.ld (iblk m c 0 t : Vec Ideal S1x16x4x32x256 .bf16) (Rect.unit ![0, 0, 0, 16, 128] ![1, 1, 1, 16, 128] inb_S1x16x4x32x256_S1x1x1x16x128_0_0_0_16_128))⟩,
   ⟨⟨(⟨![0, 0, 0], ![1, 16, 128], ![1, 16, 1], inb_S8x256x128_S1x16x128_0_0_0_s_1_16_1⟩ : LoadRect S8x256x128), spos_1_16_1⟩, k0_pay136 (F := Ideal) (View.ld (iblk m c 0 t : Vec Ideal S1x16x4x32x256 .bf16) (Rect.unit ![0, 0, 0, 16, 0] ![1, 1, 1, 16, 128] inb_S1x16x4x32x256_S1x1x1x16x128_0_0_0_16_0))⟩]

theorem rowsA_apply (t : Fin cfg0.N) (L : List (View.Piece (Elt Ideal) S8x256x128 .f32)) (y : S8x256x128.Idx) : View.canon (rowsA m c t ++ L) y = scrG m c t 0 (by norm_num) y := by
  refine View.canon_append_of_piecesOf (Val := Elt Ideal) (e := .f32) (scrG m c t 0 (by norm_num)) L (rowsA m c t) ?_ y ?_
  swap
  · exact cover_of_isRow (rowsA m c t) (by sl_kernel_rfl) y
  unfold rowsA
  refine ⟨fun x => row_piece m c t 0 (by decide) 7 15 3 128 0 (by decide) (by decide) (by decide) (by decide) (by decide) inb_S1x16x4x32x256_S1x1x1x16x128_0_15_3_0_128 inb_S8x256x128_S1x16x128_7_15_0_s_1_16_1 x, ?_⟩
  refine ⟨fun x => row_piece m c t 0 (by decide) 6 15 3 0 0 (by decide) (by decide) (by decide) (by decide) (by decide) inb_S1x16x4x32x256_S1x1x1x16x128_0_15_3_0_0 inb_S8x256x128_S1x16x128_6_15_0_s_1_16_1 x, ?_⟩
  refine ⟨fun x => row_piece m c t 0 (by decide) 5 15 2 128 0 (by decide) (by decide) (by decide) (by decide) (by decide) inb_S1x16x4x32x256_S1x1x1x16x128_0_15_2_0_128 inb_S8x256x128_S1x16x128_5_15_0_s_1_16_1 x, ?_⟩
  refine ⟨fun x => row_piece m c t 0 (by decide) 4 15 2 0 0 (by decide) (by decide) (by decide) (by decide) (by decide) inb_S1x16x4x32x256_S1x1x1x16x128_0_15_2_0_0 inb_S8x256x128_S1x16x128_4_15_0_s_1_16_1 x, ?_⟩
  refine ⟨fun x => row_piece m c t 0 (by decide) 3 15 1 128 0 (by decide) (by decide) (by decide) (by decide) (by decide) inb_S1x16x4x32x256_S1x1x1x16x128_0_15_1_0_128 inb_S8x256x128_S1x16x128_3_15_0_s_1_16_1 x, ?_⟩
  refine ⟨fun x => row_piece m c t 0 (by decide) 2 15 1 0 0 (by decide) (by decide) (by decide) (by decide) (by decide) inb_S1x16x4x32x256_S1x1x1x16x128_0_15_1_0_0 inb_S8x256x128_S1x16x128_2_15_0_s_1_16_1 x, ?_⟩
  refine ⟨fun x => row_piece m c t 0 (by decide) 1 15 0 128 0 (by decide) (by decide) (by decide) (by decide) (by decide) inb_S1x16x4x32x256_S1x1x1x16x128_0_15_0_0_128 inb_S8x256x128_S1x16x128_1_15_0_s_1_16_1 x, ?_⟩
  refine ⟨fun x => row_piece m c t 0 (by decide) 0 15 0 0 0 (by decide) (by decide) (by decide) (by decide) (by decide) inb_S1x16x4x32x256_S1x1x1x16x128_0_15_0_0_0 inb_S8x256x128_S1x16x128_0_15_0_s_1_16_1 x, ?_⟩
  refine ⟨fun x => row_piece m c t 0 (by decide) 7 14 3 128 0 (by decide) (by decide) (by decide) (by decide) (by decide) inb_S1x16x4x32x256_S1x1x1x16x128_0_14_3_0_128 inb_S8x256x128_S1x16x128_7_14_0_s_1_16_1 x, ?_⟩
  refine ⟨fun x => row_piece m c t 0 (by decide) 6 14 3 0 0 (by decide) (by decide) (by decide) (by decide) (by decide) inb_S1x16x4x32x256_S1x1x1x16x128_0_14_3_0_0 inb_S8x256x128_S1x16x128_6_14_0_s_1_16_1 x, ?_⟩
  refine ⟨fun x => row_piece m c t 0 (by decide) 5 14 2 128 0 (by decide) (by decide) (by decide) (by decide) (by decide) inb_S1x16x4x32x256_S1x1x1x16x128_0_14_2_0_128 inb_S8x256x128_S1x16x128_5_14_0_s_1_16_1 x, ?_⟩
  refine ⟨fun x => row_piece m c t 0 (by decide) 4 14 2 0 0 (by decide) (by decide) (by decide) (by decide) (by decide) inb_S1x16x4x32x256_S1x1x1x16x128_0_14_2_0_0 inb_S8x256x128_S1x16x128_4_14_0_s_1_16_1 x, ?_⟩
  refine ⟨fun x => row_piece m c t 0 (by decide) 3 14 1 128 0 (by decide) (by decide) (by decide) (by decide) (by decide) inb_S1x16x4x32x256_S1x1x1x16x128_0_14_1_0_128 inb_S8x256x128_S1x16x128_3_14_0_s_1_16_1 x, ?_⟩
  refine ⟨fun x => row_piece m c t 0 (by decide) 2 14 1 0 0 (by decide) (by decide) (by decide) (by decide) (by decide) inb_S1x16x4x32x256_S1x1x1x16x128_0_14_1_0_0 inb_S8x256x128_S1x16x128_2_14_0_s_1_16_1 x, ?_⟩
  refine ⟨fun x => row_piece m c t 0 (by decide) 1 14 0 128 0 (by decide) (by decide) (by decide) (by decide) (by decide) inb_S1x16x4x32x256_S1x1x1x16x128_0_14_0_0_128 inb_S8x256x128_S1x16x128_1_14_0_s_1_16_1 x, ?_⟩
  refine ⟨fun x => row_piece m c t 0 (by decide) 0 14 0 0 0 (by decide) (by decide) (by decide) (by decide) (by decide) inb_S1x16x4x32x256_S1x1x1x16x128_0_14_0_0_0 inb_S8x256x128_S1x16x128_0_14_0_s_1_16_1 x, ?_⟩
  refine ⟨fun x => row_piece m c t 0 (by decide) 7 13 3 128 0 (by decide) (by decide) (by decide) (by decide) (by decide) inb_S1x16x4x32x256_S1x1x1x16x128_0_13_3_0_128 inb_S8x256x128_S1x16x128_7_13_0_s_1_16_1 x, ?_⟩
  refine ⟨fun x => row_piece m c t 0 (by decide) 6 13 3 0 0 (by decide) (by decide) (by decide) (by decide) (by decide) inb_S1x16x4x32x256_S1x1x1x16x128_0_13_3_0_0 inb_S8x256x128_S1x16x128_6_13_0_s_1_16_1 x, ?_⟩
  refine ⟨fun x => row_piece m c t 0 (by decide) 5 13 2 128 0 (by decide) (by decide) (by decide) (by decide) (by decide) inb_S1x16x4x32x256_S1x1x1x16x128_0_13_2_0_128 inb_S8x256x128_S1x16x128_5_13_0_s_1_16_1 x, ?_⟩
  refine ⟨fun x => row_piece m c t 0 (by decide) 4 13 2 0 0 (by decide) (by decide) (by decide) (by decide) (by decide) inb_S1x16x4x32x256_S1x1x1x16x128_0_13_2_0_0 inb_S8x256x128_S1x16x128_4_13_0_s_1_16_1 x, ?_⟩
  refine ⟨fun x => row_piece m c t 0 (by decide) 3 13 1 128 0 (by decide) (by decide) (by decide) (by decide) (by decide) inb_S1x16x4x32x256_S1x1x1x16x128_0_13_1_0_128 inb_S8x256x128_S1x16x128_3_13_0_s_1_16_1 x, ?_⟩
  refine ⟨fun x => row_piece m c t 0 (by decide) 2 13 1 0 0 (by decide) (by decide) (by decide) (by decide) (by decide) inb_S1x16x4x32x256_S1x1x1x16x128_0_13_1_0_0 inb_S8x256x128_S1x16x128_2_13_0_s_1_16_1 x, ?_⟩
  refine ⟨fun x => row_piece m c t 0 (by decide) 1 13 0 128 0 (by decide) (by decide) (by decide) (by decide) (by decide) inb_S1x16x4x32x256_S1x1x1x16x128_0_13_0_0_128 inb_S8x256x128_S1x16x128_1_13_0_s_1_16_1 x, ?_⟩
  refine ⟨fun x => row_piece m c t 0 (by decide) 0 13 0 0 0 (by decide) (by decide) (by decide) (by decide) (by decide) inb_S1x16x4x32x256_S1x1x1x16x128_0_13_0_0_0 inb_S8x256x128_S1x16x128_0_13_0_s_1_16_1 x, ?_⟩
  refine ⟨fun x => row_piece m c t 0 (by decide) 7 12 3 128 0 (by decide) (by decide) (by decide) (by decide) (by decide) inb_S1x16x4x32x256_S1x1x1x16x128_0_12_3_0_128 inb_S8x256x128_S1x16x128_7_12_0_s_1_16_1 x, ?_⟩
  refine ⟨fun x => row_piece m c t 0 (by decide) 6 12 3 0 0 (by decide) (by decide) (by decide) (by decide) (by decide) inb_S1x16x4x32x256_S1x1x1x16x128_0_12_3_0_0 inb_S8x256x128_S1x16x128_6_12_0_s_1_16_1 x, ?_⟩
  refine ⟨fun x => row_piece m c t 0 (by decide) 5 12 2 128 0 (by decide) (by decide) (by decide) (by decide) (by decide) inb_S1x16x4x32x256_S1x1x1x16x128_0_12_2_0_128 inb_S8x256x128_S1x16x128_5_12_0_s_1_16_1 x, ?_⟩
  refine ⟨fun x => row_piece m c t 0 (by decide) 4 12 2 0 0 (by decide) (by decide) (by decide) (by decide) (by decide) inb_S1x16x4x32x256_S1x1x1x16x128_0_12_2_0_0 inb_S8x256x128_S1x16x128_4_12_0_s_1_16_1 x, ?_⟩
  refine ⟨fun x => row_piece m c t 0 (by decide) 3 12 1 128 0 (by decide) (by decide) (by decide) (by decide) (by decide) inb_S1x16x4x32x256_S1x1x1x16x128_0_12_1_0_128 inb_S8x256x128_S1x16x128_3_12_0_s_1_16_1 x, ?_⟩
  refine ⟨fun x => row_piece m c t 0 (by decide) 2 12 1 0 0 (by decide) (by decide) (by decide) (by decide) (by decide) inb_S1x16x4x32x256_S1x1x1x16x128_0_12_1_0_0 inb_S8x256x128_S1x16x128_2_12_0_s_1_16_1 x, ?_⟩
  refine ⟨fun x => row_piece m c t 0 (by decide) 1 12 0 128 0 (by decide) (by decide) (by decide) (by decide) (by decide) inb_S1x16x4x32x256_S1x1x1x16x128_0_12_0_0_128 inb_S8x256x128_S1x16x128_1_12_0_s_1_16_1 x, ?_⟩
  refine ⟨fun x => row_piece m c t 0 (by decide) 0 12 0 0 0 (by decide) (by decide) (by decide) (by decide) (by decide) inb_S1x16x4x32x256_S1x1x1x16x128_0_12_0_0_0 inb_S8x256x128_S1x16x128_0_12_0_s_1_16_1 x, ?_⟩
  refine ⟨fun x => row_piece m c t 0 (by decide) 7 11 3 128 0 (by decide) (by decide) (by decide) (by decide) (by decide) inb_S1x16x4x32x256_S1x1x1x16x128_0_11_3_0_128 inb_S8x256x128_S1x16x128_7_11_0_s_1_16_1 x, ?_⟩
  refine ⟨fun x => row_piece m c t 0 (by decide) 6 11 3 0 0 (by decide) (by decide) (by decide) (by decide) (by decide) inb_S1x16x4x32x256_S1x1x1x16x128_0_11_3_0_0 inb_S8x256x128_S1x16x128_6_11_0_s_1_16_1 x, ?_⟩
  refine ⟨fun x => row_piece m c t 0 (by decide) 5 11 2 128 0 (by decide) (by decide) (by decide) (by decide) (by decide) inb_S1x16x4x32x256_S1x1x1x16x128_0_11_2_0_128 inb_S8x256x128_S1x16x128_5_11_0_s_1_16_1 x, ?_⟩
  refine ⟨fun x => row_piece m c t 0 (by decide) 4 11 2 0 0 (by decide) (by decide) (by decide) (by decide) (by decide) inb_S1x16x4x32x256_S1x1x1x16x128_0_11_2_0_0 inb_S8x256x128_S1x16x128_4_11_0_s_1_16_1 x, ?_⟩
  refine ⟨fun x => row_piece m c t 0 (by decide) 3 11 1 128 0 (by decide) (by decide) (by decide) (by decide) (by decide) inb_S1x16x4x32x256_S1x1x1x16x128_0_11_1_0_128 inb_S8x256x128_S1x16x128_3_11_0_s_1_16_1 x, ?_⟩
  refine ⟨fun x => row_piece m c t 0 (by decide) 2 11 1 0 0 (by decide) (by decide) (by decide) (by decide) (by decide) inb_S1x16x4x32x256_S1x1x1x16x128_0_11_1_0_0 inb_S8x256x128_S1x16x128_2_11_0_s_1_16_1 x, ?_⟩
  refine ⟨fun x => row_piece m c t 0 (by decide) 1 11 0 128 0 (by decide) (by decide) (by decide) (by decide) (by decide) inb_S1x16x4x32x256_S1x1x1x16x128_0_11_0_0_128 inb_S8x256x128_S1x16x128_1_11_0_s_1_16_1 x, ?_⟩
  refine ⟨fun x => row_piece m c t 0 (by decide) 0 11 0 0 0 (by decide) (by decide) (by decide) (by decide) (by decide) inb_S1x16x4x32x256_S1x1x1x16x128_0_11_0_0_0 inb_S8x256x128_S1x16x128_0_11_0_s_1_16_1 x, ?_⟩
  refine ⟨fun x => row_piece m c t 0 (by decide) 7 10 3 128 0 (by decide) (by decide) (by decide) (by decide) (by decide) inb_S1x16x4x32x256_S1x1x1x16x128_0_10_3_0_128 inb_S8x256x128_S1x16x128_7_10_0_s_1_16_1 x, ?_⟩
  refine ⟨fun x => row_piece m c t 0 (by decide) 6 10 3 0 0 (by decide) (by decide) (by decide) (by decide) (by decide) inb_S1x16x4x32x256_S1x1x1x16x128_0_10_3_0_0 inb_S8x256x128_S1x16x128_6_10_0_s_1_16_1 x, ?_⟩
  refine ⟨fun x => row_piece m c t 0 (by decide) 5 10 2 128 0 (by decide) (by decide) (by decide) (by decide) (by decide) inb_S1x16x4x32x256_S1x1x1x16x128_0_10_2_0_128 inb_S8x256x128_S1x16x128_5_10_0_s_1_16_1 x, ?_⟩
  refine ⟨fun x => row_piece m c t 0 (by decide) 4 10 2 0 0 (by decide) (by decide) (by decide) (by decide) (by decide) inb_S1x16x4x32x256_S1x1x1x16x128_0_10_2_0_0 inb_S8x256x128_S1x16x128_4_10_0_s_1_16_1 x, ?_⟩
  refine ⟨fun x => row_piece m c t 0 (by decide) 3 10 1 128 0 (by decide) (by decide) (by decide) (by decide) (by decide) inb_S1x16x4x32x256_S1x1x1x16x128_0_10_1_0_128 inb_S8x256x128_S1x16x128_3_10_0_s_1_16_1 x, ?_⟩
  refine ⟨fun x => row_piece m c t 0 (by decide) 2 10 1 0 0 (by decide) (by decide) (by decide) (by decide) (by decide) inb_S1x16x4x32x256_S1x1x1x16x128_0_10_1_0_0 inb_S8x256x128_S1x16x128_2_10_0_s_1_16_1 x, ?_⟩
  refine ⟨fun x => row_piece m c t 0 (by decide) 1 10 0 128 0 (by decide) (by decide) (by decide) (by decide) (by decide) inb_S1x16x4x32x256_S1x1x1x16x128_0_10_0_0_128 inb_S8x256x128_S1x16x128_1_10_0_s_1_16_1 x, ?_⟩
  refine ⟨fun x => row_piece m c t 0 (by decide) 0 10 0 0 0 (by decide) (by decide) (by decide) (by decide) (by decide) inb_S1x16x4x32x256_S1x1x1x16x128_0_10_0_0_0 inb_S8x256x128_S1x16x128_0_10_0_s_1_16_1 x, ?_⟩
  refine ⟨fun x => row_piece m c t 0 (by decide) 7 9 3 128 0 (by decide) (by decide) (by decide) (by decide) (by decide) inb_S1x16x4x32x256_S1x1x1x16x128_0_9_3_0_128 inb_S8x256x128_S1x16x128_7_9_0_s_1_16_1 x, ?_⟩
  refine ⟨fun x => row_piece m c t 0 (by decide) 6 9 3 0 0 (by decide) (by decide) (by decide) (by decide) (by decide) inb_S1x16x4x32x256_S1x1x1x16x128_0_9_3_0_0 inb_S8x256x128_S1x16x128_6_9_0_s_1_16_1 x, ?_⟩
  refine ⟨fun x => row_piece m c t 0 (by decide) 5 9 2 128 0 (by decide) (by decide) (by decide) (by decide) (by decide) inb_S1x16x4x32x256_S1x1x1x16x128_0_9_2_0_128 inb_S8x256x128_S1x16x128_5_9_0_s_1_16_1 x, ?_⟩
  refine ⟨fun x => row_piece m c t 0 (by decide) 4 9 2 0 0 (by decide) (by decide) (by decide) (by decide) (by decide) inb_S1x16x4x32x256_S1x1x1x16x128_0_9_2_0_0 inb_S8x256x128_S1x16x128_4_9_0_s_1_16_1 x, ?_⟩
  refine ⟨fun x => row_piece m c t 0 (by decide) 3 9 1 128 0 (by decide) (by decide) (by decide) (by decide) (by decide) inb_S1x16x4x32x256_S1x1x1x16x128_0_9_1_0_128 inb_S8x256x128_S1x16x128_3_9_0_s_1_16_1 x, ?_⟩
  refine ⟨fun x => row_piece m c t 0 (by decide) 2 9 1 0 0 (by decide) (by decide) (by decide) (by decide) (by decide) inb_S1x16x4x32x256_S1x1x1x16x128_0_9_1_0_0 inb_S8x256x128_S1x16x128_2_9_0_s_1_16_1 x, ?_⟩
  refine ⟨fun x => row_piece m c t 0 (by decide) 1 9 0 128 0 (by decide) (by decide) (by decide) (by decide) (by decide) inb_S1x16x4x32x256_S1x1x1x16x128_0_9_0_0_128 inb_S8x256x128_S1x16x128_1_9_0_s_1_16_1 x, ?_⟩
  refine ⟨fun x => row_piece m c t 0 (by decide) 0 9 0 0 0 (by decide) (by decide) (by decide) (by decide) (by decide) inb_S1x16x4x32x256_S1x1x1x16x128_0_9_0_0_0 inb_S8x256x128_S1x16x128_0_9_0_s_1_16_1 x, ?_⟩
  refine ⟨fun x => row_piece m c t 0 (by decide) 7 8 3 128 0 (by decide) (by decide) (by decide) (by decide) (by decide) inb_S1x16x4x32x256_S1x1x1x16x128_0_8_3_0_128 inb_S8x256x128_S1x16x128_7_8_0_s_1_16_1 x, ?_⟩
  refine ⟨fun x => row_piece m c t 0 (by decide) 6 8 3 0 0 (by decide) (by decide) (by decide) (by decide) (by decide) inb_S1x16x4x32x256_S1x1x1x16x128_0_8_3_0_0 inb_S8x256x128_S1x16x128_6_8_0_s_1_16_1 x, ?_⟩
  refine ⟨fun x => row_piece m c t 0 (by decide) 5 8 2 128 0 (by decide) (by decide) (by decide) (by decide) (by decide) inb_S1x16x4x32x256_S1x1x1x16x128_0_8_2_0_128 inb_S8x256x128_S1x16x128_5_8_0_s_1_16_1 x, ?_⟩
  refine ⟨fun x => row_piece m c t 0 (by decide) 4 8 2 0 0 (by decide) (by decide) (by decide) (by decide) (by decide) inb_S1x16x4x32x256_S1x1x1x16x128_0_8_2_0_0 inb_S8x256x128_S1x16x128_4_8_0_s_1_16_1 x, ?_⟩
  refine ⟨fun x => row_piece m c t 0 (by decide) 3 8 1 128 0 (by decide) (by decide) (by decide) (by decide) (by decide) inb_S1x16x4x32x256_S1x1x1x16x128_0_8_1_0_128 inb_S8x256x128_S1x16x128_3_8_0_s_1_16_1 x, ?_⟩
  refine ⟨fun x => row_piece m c t 0 (by decide) 2 8 1 0 0 (by decide) (by decide) (by decide) (by decide) (by decide) inb_S1x16x4x32x256_S1x1x1x16x128_0_8_1_0_0 inb_S8x256x128_S1x16x128_2_8_0_s_1_16_1 x, ?_⟩
  refine ⟨fun x => row_piece m c t 0 (by decide) 1 8 0 128 0 (by decide) (by decide) (by decide) (by decide) (by decide) inb_S1x16x4x32x256_S1x1x1x16x128_0_8_0_0_128 inb_S8x256x128_S1x16x128_1_8_0_s_1_16_1 x, ?_⟩
  refine ⟨fun x => row_piece m c t 0 (by decide) 0 8 0 0 0 (by decide) (by decide) (by decide) (by decide) (by decide) inb_S1x16x4x32x256_S1x1x1x16x128_0_8_0_0_0 inb_S8x256x128_S1x16x128_0_8_0_s_1_16_1 x, ?_⟩
  refine ⟨fun x => row_piece m c t 0 (by decide) 7 7 3 128 0 (by decide) (by decide) (by decide) (by decide) (by decide) inb_S1x16x4x32x256_S1x1x1x16x128_0_7_3_0_128 inb_S8x256x128_S1x16x128_7_7_0_s_1_16_1 x, ?_⟩
  refine ⟨fun x => row_piece m c t 0 (by decide) 6 7 3 0 0 (by decide) (by decide) (by decide) (by decide) (by decide) inb_S1x16x4x32x256_S1x1x1x16x128_0_7_3_0_0 inb_S8x256x128_S1x16x128_6_7_0_s_1_16_1 x, ?_⟩
  refine ⟨fun x => row_piece m c t 0 (by decide) 5 7 2 128 0 (by decide) (by decide) (by decide) (by decide) (by decide) inb_S1x16x4x32x256_S1x1x1x16x128_0_7_2_0_128 inb_S8x256x128_S1x16x128_5_7_0_s_1_16_1 x, ?_⟩
  refine ⟨fun x => row_piece m c t 0 (by decide) 4 7 2 0 0 (by decide) (by decide) (by decide) (by decide) (by decide) inb_S1x16x4x32x256_S1x1x1x16x128_0_7_2_0_0 inb_S8x256x128_S1x16x128_4_7_0_s_1_16_1 x, ?_⟩
  refine ⟨fun x => row_piece m c t 0 (by decide) 3 7 1 128 0 (by decide) (by decide) (by decide) (by decide) (by decide) inb_S1x16x4x32x256_S1x1x1x16x128_0_7_1_0_128 inb_S8x256x128_S1x16x128_3_7_0_s_1_16_1 x, ?_⟩
  refine ⟨fun x => row_piece m c t 0 (by decide) 2 7 1 0 0 (by decide) (by decide) (by decide) (by decide) (by decide) inb_S1x16x4x32x256_S1x1x1x16x128_0_7_1_0_0 inb_S8x256x128_S1x16x128_2_7_0_s_1_16_1 x, ?_⟩
  refine ⟨fun x => row_piece m c t 0 (by decide) 1 7 0 128 0 (by decide) (by decide) (by decide) (by decide) (by decide) inb_S1x16x4x32x256_S1x1x1x16x128_0_7_0_0_128 inb_S8x256x128_S1x16x128_1_7_0_s_1_16_1 x, ?_⟩
  refine ⟨fun x => row_piece m c t 0 (by decide) 0 7 0 0 0 (by decide) (by decide) (by decide) (by decide) (by decide) inb_S1x16x4x32x256_S1x1x1x16x128_0_7_0_0_0 inb_S8x256x128_S1x16x128_0_7_0_s_1_16_1 x, ?_⟩
  refine ⟨fun x => row_piece m c t 0 (by decide) 7 6 3 128 0 (by decide) (by decide) (by decide) (by decide) (by decide) inb_S1x16x4x32x256_S1x1x1x16x128_0_6_3_0_128 inb_S8x256x128_S1x16x128_7_6_0_s_1_16_1 x, ?_⟩
  refine ⟨fun x => row_piece m c t 0 (by decide) 6 6 3 0 0 (by decide) (by decide) (by decide) (by decide) (by decide) inb_S1x16x4x32x256_S1x1x1x16x128_0_6_3_0_0 inb_S8x256x128_S1x16x128_6_6_0_s_1_16_1 x, ?_⟩
  refine ⟨fun x => row_piece m c t 0 (by decide) 5 6 2 128 0 (by decide) (by decide) (by decide) (by decide) (by decide) inb_S1x16x4x32x256_S1x1x1x16x128_0_6_2_0_128 inb_S8x256x128_S1x16x128_5_6_0_s_1_16_1 x, ?_⟩
  refine ⟨fun x => row_piece m c t 0 (by decide) 4 6 2 0 0 (by decide) (by decide) (by decide) (by decide) (by decide) inb_S1x16x4x32x256_S1x1x1x16x128_0_6_2_0_0 inb_S8x256x128_S1x16x128_4_6_0_s_1_16_1 x, ?_⟩
  refine ⟨fun x => row_piece m c t 0 (by decide) 3 6 1 128 0 (by decide) (by decide) (by decide) (by decide) (by decide) inb_S1x16x4x32x256_S1x1x1x16x128_0_6_1_0_128 inb_S8x256x128_S1x16x128_3_6_0_s_1_16_1 x, ?_⟩
  refine ⟨fun x => row_piece m c t 0 (by decide) 2 6 1 0 0 (by decide) (by decide) (by decide) (by decide) (by decide) inb_S1x16x4x32x256_S1x1x1x16x128_0_6_1_0_0 inb_S8x256x128_S1x16x128_2_6_0_s_1_16_1 x, ?_⟩
  refine ⟨fun x => row_piece m c t 0 (by decide) 1 6 0 128 0 (by decide) (by decide) (by decide) (by decide) (by decide) inb_S1x16x4x32x256_S1x1x1x16x128_0_6_0_0_128 inb_S8x256x128_S1x16x128_1_6_0_s_1_16_1 x, ?_⟩
  refine ⟨fun x => row_piece m c t 0 (by decide) 0 6 0 0 0 (by decide) (by decide) (by decide) (by decide) (by decide) inb_S1x16x4x32x256_S1x1x1x16x128_0_6_0_0_0 inb_S8x256x128_S1x16x128_0_6_0_s_1_16_1 x, ?_⟩
  refine ⟨fun x => row_piece m c t 0 (by decide) 7 5 3 128 0 (by decide) (by decide) (by decide) (by decide) (by decide) inb_S1x16x4x32x256_S1x1x1x16x128_0_5_3_0_128 inb_S8x256x128_S1x16x128_7_5_0_s_1_16_1 x, ?_⟩
  refine ⟨fun x => row_piece m c t 0 (by decide) 6 5 3 0 0 (by decide) (by decide) (by decide) (by decide) (by decide) inb_S1x16x4x32x256_S1x1x1x16x128_0_5_3_0_0 inb_S8x256x128_S1x16x128_6_5_0_s_1_16_1 x, ?_⟩
  refine ⟨fun x => row_piece m c t 0 (by decide) 5 5 2 128 0 (by decide) (by decide) (by decide) (by decide) (by decide) inb_S1x16x4x32x256_S1x1x1x16x128_0_5_2_0_128 inb_S8x256x128_S1x16x128_5_5_0_s_1_16_1 x, ?_⟩
  refine ⟨fun x => row_piece m c t 0 (by decide) 4 5 2 0 0 (by decide) (by decide) (by decide) (by decide) (by decide) inb_S1x16x4x32x256_S1x1x1x16x128_0_5_2_0_0 inb_S8x256x128_S1x16x128_4_5_0_s_1_16_1 x, ?_⟩
  refine ⟨fun x => row_piece m c t 0 (by decide) 3 5 1 128 0 (by decide) (by decide) (by decide) (by decide) (by decide) inb_S1x16x4x32x256_S1x1x1x16x128_0_5_1_0_128 inb_S8x256x128_S1x16x128_3_5_0_s_1_16_1 x, ?_⟩
  refine ⟨fun x => row_piece m c t 0 (by decide) 2 5 1 0 0 (by decide) (by decide) (by decide) (by decide) (by decide) inb_S1x16x4x32x256_S1x1x1x16x128_0_5_1_0_0 inb_S8x256x128_S1x16x128_2_5_0_s_1_16_1 x, ?_⟩
  refine ⟨fun x => row_piece m c t 0 (by decide) 1 5 0 128 0 (by decide) (by decide) (by decide) (by decide) (by decide) inb_S1x16x4x32x256_S1x1x1x16x128_0_5_0_0_128 inb_S8x256x128_S1x16x128_1_5_0_s_1_16_1 x, ?_⟩
  refine ⟨fun x => row_piece m c t 0 (by decide) 0 5 0 0 0 (by decide) (by decide) (by decide) (by decide) (by decide) inb_S1x16x4x32x256_S1x1x1x16x128_0_5_0_0_0 inb_S8x256x128_S1x16x128_0_5_0_s_1_16_1 x, ?_⟩
  refine ⟨fun x => row_piece m c t 0 (by decide) 7 4 3 128 0 (by decide) (by decide) (by decide) (by decide) (by decide) inb_S1x16x4x32x256_S1x1x1x16x128_0_4_3_0_128 inb_S8x256x128_S1x16x128_7_4_0_s_1_16_1 x, ?_⟩
  refine ⟨fun x => row_piece m c t 0 (by decide) 6 4 3 0 0 (by decide) (by decide) (by decide) (by decide) (by decide) inb_S1x16x4x32x256_S1x1x1x16x128_0_4_3_0_0 inb_S8x256x128_S1x16x128_6_4_0_s_1_16_1 x, ?_⟩
  refine ⟨fun x => row_piece m c t 0 (by decide) 5 4 2 128 0 (by decide) (by decide) (by decide) (by decide) (by decide) inb_S1x16x4x32x256_S1x1x1x16x128_0_4_2_0_128 inb_S8x256x128_S1x16x128_5_4_0_s_1_16_1 x, ?_⟩
  refine ⟨fun x => row_piece m c t 0 (by decide) 4 4 2 0 0 (by decide) (by decide) (by decide) (by decide) (by decide) inb_S1x16x4x32x256_S1x1x1x16x128_0_4_2_0_0 inb_S8x256x128_S1x16x128_4_4_0_s_1_16_1 x, ?_⟩
  refine ⟨fun x => row_piece m c t 0 (by decide) 3 4 1 128 0 (by decide) (by decide) (by decide) (by decide) (by decide) inb_S1x16x4x32x256_S1x1x1x16x128_0_4_1_0_128 inb_S8x256x128_S1x16x128_3_4_0_s_1_16_1 x, ?_⟩
  refine ⟨fun x => row_piece m c t 0 (by decide) 2 4 1 0 0 (by decide) (by decide) (by decide) (by decide) (by decide) inb_S1x16x4x32x256_S1x1x1x16x128_0_4_1_0_0 inb_S8x256x128_S1x16x128_2_4_0_s_1_16_1 x, ?_⟩
  refine ⟨fun x => row_piece m c t 0 (by decide) 1 4 0 128 0 (by decide) (by decide) (by decide) (by decide) (by decide) inb_S1x16x4x32x256_S1x1x1x16x128_0_4_0_0_128 inb_S8x256x128_S1x16x128_1_4_0_s_1_16_1 x, ?_⟩
  refine ⟨fun x => row_piece m c t 0 (by decide) 0 4 0 0 0 (by decide) (by decide) (by decide) (by decide) (by decide) inb_S1x16x4x32x256_S1x1x1x16x128_0_4_0_0_0 inb_S8x256x128_S1x16x128_0_4_0_s_1_16_1 x, ?_⟩
  refine ⟨fun x => row_piece m c t 0 (by decide) 7 3 3 128 0 (by decide) (by decide) (by decide) (by decide) (by decide) inb_S1x16x4x32x256_S1x1x1x16x128_0_3_3_0_128 inb_S8x256x128_S1x16x128_7_3_0_s_1_16_1 x, ?_⟩
  refine ⟨fun x => row_piece m c t 0 (by decide) 6 3 3 0 0 (by decide) (by decide) (by decide) (by decide) (by decide) inb_S1x16x4x32x256_S1x1x1x16x128_0_3_3_0_0 inb_S8x256x128_S1x16x128_6_3_0_s_1_16_1 x, ?_⟩
  refine ⟨fun x => row_piece m c t 0 (by decide) 5 3 2 128 0 (by decide) (by decide) (by decide) (by decide) (by decide) inb_S1x16x4x32x256_S1x1x1x16x128_0_3_2_0_128 inb_S8x256x128_S1x16x128_5_3_0_s_1_16_1 x, ?_⟩
  refine ⟨fun x => row_piece m c t 0 (by decide) 4 3 2 0 0 (by decide) (by decide) (by decide) (by decide) (by decide) inb_S1x16x4x32x256_S1x1x1x16x128_0_3_2_0_0 inb_S8x256x128_S1x16x128_4_3_0_s_1_16_1 x, ?_⟩
  refine ⟨fun x => row_piece m c t 0 (by decide) 3 3 1 128 0 (by decide) (by decide) (by decide) (by decide) (by decide) inb_S1x16x4x32x256_S1x1x1x16x128_0_3_1_0_128 inb_S8x256x128_S1x16x128_3_3_0_s_1_16_1 x, ?_⟩
  refine ⟨fun x => row_piece m c t 0 (by decide) 2 3 1 0 0 (by decide) (by decide) (by decide) (by decide) (by decide) inb_S1x16x4x32x256_S1x1x1x16x128_0_3_1_0_0 inb_S8x256x128_S1x16x128_2_3_0_s_1_16_1 x, ?_⟩
  refine ⟨fun x => row_piece m c t 0 (by decide) 1 3 0 128 0 (by decide) (by decide) (by decide) (by decide) (by decide) inb_S1x16x4x32x256_S1x1x1x16x128_0_3_0_0_128 inb_S8x256x128_S1x16x128_1_3_0_s_1_16_1 x, ?_⟩
  refine ⟨fun x => row_piece m c t 0 (by decide) 0 3 0 0 0 (by decide) (by decide) (by decide) (by decide) (by decide) inb_S1x16x4x32x256_S1x1x1x16x128_0_3_0_0_0 inb_S8x256x128_S1x16x128_0_3_0_s_1_16_1 x, ?_⟩
  refine ⟨fun x => row_piece m c t 0 (by decide) 7 2 3 128 0 (by decide) (by decide) (by decide) (by decide) (by decide) inb_S1x16x4x32x256_S1x1x1x16x128_0_2_3_0_128 inb_S8x256x128_S1x16x128_7_2_0_s_1_16_1 x, ?_⟩
  refine ⟨fun x => row_piece m c t 0 (by decide) 6 2 3 0 0 (by decide) (by decide) (by decide) (by decide) (by decide) inb_S1x16x4x32x256_S1x1x1x16x128_0_2_3_0_0 inb_S8x256x128_S1x16x128_6_2_0_s_1_16_1 x, ?_⟩
  refine ⟨fun x => row_piece m c t 0 (by decide) 5 2 2 128 0 (by decide) (by decide) (by decide) (by decide) (by decide) inb_S1x16x4x32x256_S1x1x1x16x128_0_2_2_0_128 inb_S8x256x128_S1x16x128_5_2_0_s_1_16_1 x, ?_⟩
  refine ⟨fun x => row_piece m c t 0 (by decide) 4 2 2 0 0 (by decide) (by decide) (by decide) (by decide) (by decide) inb_S1x16x4x32x256_S1x1x1x16x128_0_2_2_0_0 inb_S8x256x128_S1x16x128_4_2_0_s_1_16_1 x, ?_⟩
  refine ⟨fun x => row_piece m c t 0 (by decide) 3 2 1 128 0 (by decide) (by decide) (by decide) (by decide) (by decide) inb_S1x16x4x32x256_S1x1x1x16x128_0_2_1_0_128 inb_S8x256x128_S1x16x128_3_2_0_s_1_16_1 x, ?_⟩
  refine ⟨fun x => row_piece m c t 0 (by decide) 2 2 1 0 0 (by decide) (by decide) (by decide) (by decide) (by decide) inb_S1x16x4x32x256_S1x1x1x16x128_0_2_1_0_0 inb_S8x256x128_S1x16x128_2_2_0_s_1_16_1 x, ?_⟩
  refine ⟨fun x => row_piece m c t 0 (by decide) 1 2 0 128 0 (by decide) (by decide) (by decide) (by decide) (by decide) inb_S1x16x4x32x256_S1x1x1x16x128_0_2_0_0_128 inb_S8x256x128_S1x16x128_1_2_0_s_1_16_1 x, ?_⟩
  refine ⟨fun x => row_piece m c t 0 (by decide) 0 2 0 0 0 (by decide) (by decide) (by decide) (by decide) (by decide) inb_S1x16x4x32x256_S1x1x1x16x128_0_2_0_0_0 inb_S8x256x128_S1x16x128_0_2_0_s_1_16_1 x, ?_⟩
  refine ⟨fun x => row_piece m c t 0 (by decide) 7 1 3 128 0 (by decide) (by decide) (by decide) (by decide) (by decide) inb_S1x16x4x32x256_S1x1x1x16x128_0_1_3_0_128 inb_S8x256x128_S1x16x128_7_1_0_s_1_16_1 x, ?_⟩
  refine ⟨fun x => row_piece m c t 0 (by decide) 6 1 3 0 0 (by decide) (by decide) (by decide) (by decide) (by decide) inb_S1x16x4x32x256_S1x1x1x16x128_0_1_3_0_0 inb_S8x256x128_S1x16x128_6_1_0_s_1_16_1 x, ?_⟩
  refine ⟨fun x => row_piece m c t 0 (by decide) 5 1 2 128 0 (by decide) (by decide) (by decide) (by decide) (by decide) inb_S1x16x4x32x256_S1x1x1x16x128_0_1_2_0_128 inb_S8x256x128_S1x16x128_5_1_0_s_1_16_1 x, ?_⟩
  refine ⟨fun x => row_piece m c t 0 (by decide) 4 1 2 0 0 (by decide) (by decide) (by decide) (by decide) (by decide) inb_S1x16x4x32x256_S1x1x1x16x128_0_1_2_0_0 inb_S8x256x128_S1x16x128_4_1_0_s_1_16_1 x, ?_⟩
  refine ⟨fun x => row_piece m c t 0 (by decide) 3 1 1 128 0 (by decide) (by decide) (by decide) (by decide) (by decide) inb_S1x16x4x32x256_S1x1x1x16x128_0_1_1_0_128 inb_S8x256x128_S1x16x128_3_1_0_s_1_16_1 x, ?_⟩
  refine ⟨fun x => row_piece m c t 0 (by decide) 2 1 1 0 0 (by decide) (by decide) (by decide) (by decide) (by decide) inb_S1x16x4x32x256_S1x1x1x16x128_0_1_1_0_0 inb_S8x256x128_S1x16x128_2_1_0_s_1_16_1 x, ?_⟩
  refine ⟨fun x => row_piece m c t 0 (by decide) 1 1 0 128 0 (by decide) (by decide) (by decide) (by decide) (by decide) inb_S1x16x4x32x256_S1x1x1x16x128_0_1_0_0_128 inb_S8x256x128_S1x16x128_1_1_0_s_1_16_1 x, ?_⟩
  refine ⟨fun x => row_piece m c t 0 (by decide) 0 1 0 0 0 (by decide) (by decide) (by decide) (by decide) (by decide) inb_S1x16x4x32x256_S1x1x1x16x128_0_1_0_0_0 inb_S8x256x128_S1x16x128_0_1_0_s_1_16_1 x, ?_⟩
  refine ⟨fun x => row_piece m c t 0 (by decide) 7 0 3 128 0 (by decide) (by decide) (by decide) (by decide) (by decide) inb_S1x16x4x32x256_S1x1x1x16x128_0_0_3_0_128 inb_S8x256x128_S1x16x128_7_0_0_s_1_16_1 x, ?_⟩
  refine ⟨fun x => row_piece m c t 0 (by decide) 6 0 3 0 0 (by decide) (by decide) (by decide) (by decide) (by decide) inb_S1x16x4x32x256_S1x1x1x16x128_0_0_3_0_0 inb_S8x256x128_S1x16x128_6_0_0_s_1_16_1 x, ?_⟩
  refine ⟨fun x => row_piece m c t 0 (by decide) 5 0 2 128 0 (by decide) (by decide) (by decide) (by decide) (by decide) inb_S1x16x4x32x256_S1x1x1x16x128_0_0_2_0_128 inb_S8x256x128_S1x16x128_5_0_0_s_1_16_1 x, ?_⟩
  refine ⟨fun x => row_piece m c t 0 (by decide) 4 0 2 0 0 (by decide) (by decide) (by decide) (by decide) (by decide) inb_S1x16x4x32x256_S1x1x1x16x128_0_0_2_0_0 inb_S8x256x128_S1x16x128_4_0_0_s_1_16_1 x, ?_⟩
  refine ⟨fun x => row_piece m c t 0 (by decide) 3 0 1 128 0 (by decide) (by decide) (by decide) (by decide) (by decide) inb_S1x16x4x32x256_S1x1x1x16x128_0_0_1_0_128 inb_S8x256x128_S1x16x128_3_0_0_s_1_16_1 x, ?_⟩
  refine ⟨fun x => row_piece m c t 0 (by decide) 2 0 1 0 0 (by decide) (by decide) (by decide) (by decide) (by decide) inb_S1x16x4x32x256_S1x1x1x16x128_0_0_1_0_0 inb_S8x256x128_S1x16x128_2_0_0_s_1_16_1 x, ?_⟩
  refine ⟨fun x => row_piece m c t 0 (by decide) 1 0 0 128 0 (by decide) (by decide) (by decide) (by decide) (by decide) inb_S1x16x4x32x256_S1x1x1x16x128_0_0_0_0_128 inb_S8x256x128_S1x16x128_1_0_0_s_1_16_1 x, ?_⟩
  refine ⟨fun x => row_piece m c t 0 (by decide) 0 0 0 0 0 (by decide) (by decide) (by decide) (by decide) (by decide) inb_S1x16x4x32x256_S1x1x1x16x128_0_0_0_0_0 inb_S8x256x128_S1x16x128_0_0_0_s_1_16_1 x, ?_⟩
  exact trivial

theorem rowsB_apply (t : Fin cfg0.N) (L : List (View.Piece (Elt Ideal) S8x256x128 .f32)) (y : S8x256x128.Idx) : View.canon (rowsB m c t ++ L) y = scrG m c t 256 (by norm_num) y := by
  refine View.canon_append_of_piecesOf (Val := Elt Ideal) (e := .f32) (scrG m c t 256 (by norm_num)) L (rowsB m c t) ?_ y ?_
  swap
  · exact cover_of_isRow (rowsB m c t) (by sl_kernel_rfl) y
  unfold rowsB
  refine ⟨fun x => row_piece m c t 256 (by decide) 7 15 3 128 16 (by decide) (by decide) (by decide) (by decide) (by decide) inb_S1x16x4x32x256_S1x1x1x16x128_0_15_3_16_128 inb_S8x256x128_S1x16x128_7_15_0_s_1_16_1 x, ?_⟩
  refine ⟨fun x => row_piece m c t 256 (by decide) 6 15 3 0 16 (by decide) (by decide) (by decide) (by decide) (by decide) inb_S1x16x4x32x256_S1x1x1x16x128_0_15_3_16_0 inb_S8x256x128_S1x16x128_6_15_0_s_1_16_1 x, ?_⟩
  refine ⟨fun x => row_piece m c t 256 (by decide) 5 15 2 128 16 (by decide) (by decide) (by decide) (by decide) (by decide) inb_S1x16x4x32x256_S1x1x1x16x128_0_15_2_16_128 inb_S8x256x128_S1x16x128_5_15_0_s_1_16_1 x, ?_⟩
  refine ⟨fun x => row_piece m c t 256 (by decide) 4 15 2 0 16 (by decide) (by decide) (by decide) (by decide) (by decide) inb_S1x16x4x32x256_S1x1x1x16x128_0_15_2_16_0 inb_S8x256x128_S1x16x128_4_15_0_s_1_16_1 x, ?_⟩
  refine ⟨fun x => row_piece m c t 256 (by decide) 3 15 1 128 16 (by decide) (by decide) (by decide) (by decide) (by decide) inb_S1x16x4x32x256_S1x1x1x16x128_0_15_1_16_128 inb_S8x256x128_S1x16x128_3_15_0_s_1_16_1 x, ?_⟩
  refine ⟨fun x => row_piece m c t 256 (by decide) 2 15 1 0 16 (by decide) (by decide) (by decide) (by decide) (by decide) inb_S1x16x4x32x256_S1x1x1x16x128_0_15_1_16_0 inb_S8x256x128_S1x16x128_2_15_0_s_1_16_1 x, ?_⟩
  refine ⟨fun x => row_piece m c t 256 (by decide) 1 15 0 128 16 (by decide) (by decide) (by decide) (by decide) (by decide) inb_S1x16x4x32x256_S1x1x1x16x128_0_15_0_16_128 inb_S8x256x128_S1x16x128_1_15_0_s_1_16_1 x, ?_⟩
  refine ⟨fun x => row_piece m c t 256 (by decide) 0 15 0 0 16 (by decide) (by decide) (by decide) (by decide) (by decide) inb_S1x16x4x32x256_S1x1x1x16x128_0_15_0_16_0 inb_S8x256x128_S1x16x128_0_15_0_s_1_16_1 x, ?_⟩
  refine ⟨fun x => row_piece m c t 256 (by decide) 7 14 3 128 16 (by decide) (by decide) (by decide) (by decide) (by decide) inb_S1x16x4x32x256_S1x1x1x16x128_0_14_3_16_128 inb_S8x256x128_S1x16x128_7_14_0_s_1_16_1 x, ?_⟩
  refine ⟨fun x => row_piece m c t 256 (by decide) 6 14 3 0 16 (by decide) (by decide) (by decide) (by decide) (by decide) inb_S1x16x4x32x256_S1x1x1x16x128_0_14_3_16_0 inb_S8x256x128_S1x16x128_6_14_0_s_1_16_1 x, ?_⟩
  refine ⟨fun x => row_piece m c t 256 (by decide) 5 14 2 128 16 (by decide) (by decide) (by decide) (by decide) (by decide) inb_S1x16x4x32x256_S1x1x1x16x128_0_14_2_16_128 inb_S8x256x128_S1x16x128_5_14_0_s_1_16_1 x, ?_⟩
  refine ⟨fun x => row_piece m c t 256 (by decide) 4 14 2 0 16 (by decide) (by decide) (by decide) (by decide) (by decide) inb_S1x16x4x32x256_S1x1x1x16x128_0_14_2_16_0 inb_S8x256x128_S1x16x128_4_14_0_s_1_16_1 x, ?_⟩
  refine ⟨fun x => row_piece m c t 256 (by decide) 3 14 1 128 16 (by decide) (by decide) (by decide) (by decide) (by decide) inb_S1x16x4x32x256_S1x1x1x16x128_0_14_1_16_128 inb_S8x256x128_S1x16x128_3_14_0_s_1_16_1 x, ?_⟩
  refine ⟨fun x => row_piece m c t 256 (by decide) 2 14 1 0 16 (by decide) (by decide) (by decide) (by decide) (by decide) inb_S1x16x4x32x256_S1x1x1x16x128_0_14_1_16_0 inb_S8x256x128_S1x16x128_2_14_0_s_1_16_1 x, ?_⟩
  refine ⟨fun x => row_piece m c t 256 (by decide) 1 14 0 128 16 (by decide) (by decide) (by decide) (by decide) (by decide) inb_S1x16x4x32x256_S1x1x1x16x128_0_14_0_16_128 inb_S8x256x128_S1x16x128_1_14_0_s_1_16_1 x, ?_⟩
  refine ⟨fun x => row_piece m c t 256 (by decide) 0 14 0 0 16 (by decide) (by decide) (by decide) (by decide) (by decide) inb_S1x16x4x32x256_S1x1x1x16x128_0_14_0_16_0 inb_S8x256x128_S1x16x128_0_14_0_s_1_16_1 x, ?_⟩
  refine ⟨fun x => row_piece m c t 256 (by decide) 7 13 3 128 16 (by decide) (by decide) (by decide) (by decide) (by decide) inb_S1x16x4x32x256_S1x1x1x16x128_0_13_3_16_128 inb_S8x256x128_S1x16x128_7_13_0_s_1_16_1 x, ?_⟩
  refine ⟨fun x => row_piece m c t 256 (by decide) 6 13 3 0 16 (by decide) (by decide) (by decide) (by decide) (by decide) inb_S1x16x4x32x256_S1x1x1x16x128_0_13_3_16_0 inb_S8x256x128_S1x16x128_6_13_0_s_1_16_1 x, ?_⟩
  refine ⟨fun x => row_piece m c t 256 (by decide) 5 13 2 128 16 (by decide) (by decide) (by decide) (by decide) (by decide) inb_S1x16x4x32x256_S1x1x1x16x128_0_13_2_16_128 inb_S8x256x128_S1x16x128_5_13_0_s_1_16_1 x, ?_⟩
  refine ⟨fun x => row_piece m c t 256 (by decide) 4 13 2 0 16 (by decide) (by decide) (by decide) (by decide) (by decide) inb_S1x16x4x32x256_S1x1x1x16x128_0_13_2_16_0 inb_S8x256x128_S1x16x128_4_13_0_s_1_16_1 x, ?_⟩
  refine ⟨fun x => row_piece m c t 256 (by decide) 3 13 1 128 16 (by decide) (by decide) (by decide) (by decide) (by decide) inb_S1x16x4x32x256_S1x1x1x16x128_0_13_1_16_128 inb_S8x256x128_S1x16x128_3_13_0_s_1_16_1 x, ?_⟩
  refine ⟨fun x => row_piece m c t 256 (by decide) 2 13 1 0 16 (by decide) (by decide) (by decide) (by decide) (by decide) inb_S1x16x4x32x256_S1x1x1x16x128_0_13_1_16_0 inb_S8x256x128_S1x16x128_2_13_0_s_1_16_1 x, ?_⟩
  refine ⟨fun x => row_piece m c t 256 (by decide) 1 13 0 128 16 (by decide) (by decide) (by decide) (by decide) (by decide) inb_S1x16x4x32x256_S1x1x1x16x128_0_13_0_16_128 inb_S8x256x128_S1x16x128_1_13_0_s_1_16_1 x, ?_⟩
  refine ⟨fun x => row_piece m c t 256 (by decide) 0 13 0 0 16 (by decide) (by decide) (by decide) (by decide) (by decide) inb_S1x16x4x32x256_S1x1x1x16x128_0_13_0_16_0 inb_S8x256x128_S1x16x128_0_13_0_s_1_16_1 x, ?_⟩
  refine ⟨fun x => row_piece m c t 256 (by decide) 7 12 3 128 16 (by decide) (by decide) (by decide) (by decide) (by decide) inb_S1x16x4x32x256_S1x1x1x16x128_0_12_3_16_128 inb_S8x256x128_S1x16x128_7_12_0_s_1_16_1 x, ?_⟩
  refine ⟨fun x => row_piece m c t 256 (by decide) 6 12 3 0 16 (by decide) (by decide) (by decide) (by decide) (by decide) inb_S1x16x4x32x256_S1x1x1x16x128_0_12_3_16_0 inb_S8x256x128_S1x16x128_6_12_0_s_1_16_1 x, ?_⟩
  refine ⟨fun x => row_piece m c t 256 (by decide) 5 12 2 128 16 (by decide) (by decide) (by decide) (by decide) (by decide) inb_S1x16x4x32x256_S1x1x1x16x128_0_12_2_16_128 inb_S8x256x128_S1x16x128_5_12_0_s_1_16_1 x, ?_⟩
  refine ⟨fun x => row_piece m c t 256 (by decide) 4 12 2 0 16 (by decide) (by decide) (by decide) (by decide) (by decide) inb_S1x16x4x32x256_S1x1x1x16x128_0_12_2_16_0 inb_S8x256x128_S1x16x128_4_12_0_s_1_16_1 x, ?_⟩
  refine ⟨fun x => row_piece m c t 256 (by decide) 3 12 1 128 16 (by decide) (by decide) (by decide) (by decide) (by decide) inb_S1x16x4x32x256_S1x1x1x16x128_0_12_1_16_128 inb_S8x256x128_S1x16x128_3_12_0_s_1_16_1 x, ?_⟩
  refine ⟨fun x => row_piece m c t 256 (by decide) 2 12 1 0 16 (by decide) (by decide) (by decide) (by decide) (by decide) inb_S1x16x4x32x256_S1x1x1x16x128_0_12_1_16_0 inb_S8x256x128_S1x16x128_2_12_0_s_1_16_1 x, ?_⟩
  refine ⟨fun x => row_piece m c t 256 (by decide) 1 12 0 128 16 (by decide) (by decide) (by decide) (by decide) (by decide) inb_S1x16x4x32x256_S1x1x1x16x128_0_12_0_16_128 inb_S8x256x128_S1x16x128_1_12_0_s_1_16_1 x, ?_⟩
  refine ⟨fun x => row_piece m c t 256 (by decide) 0 12 0 0 16 (by decide) (by decide) (by decide) (by decide) (by decide) inb_S1x16x4x32x256_S1x1x1x16x128_0_12_0_16_0 inb_S8x256x128_S1x16x128_0_12_0_s_1_16_1 x, ?_⟩
  refine ⟨fun x => row_piece m c t 256 (by decide) 7 11 3 128 16 (by decide) (by decide) (by decide) (by decide) (by decide) inb_S1x16x4x32x256_S1x1x1x16x128_0_11_3_16_128 inb_S8x256x128_S1x16x128_7_11_0_s_1_16_1 x, ?_⟩
  refine ⟨fun x => row_piece m c t 256 (by decide) 6 11 3 0 16 (by decide) (by decide) (by decide) (by decide) (by decide) inb_S1x16x4x32x256_S1x1x1x16x128_0_11_3_16_0 inb_S8x256x128_S1x16x128_6_11_0_s_1_16_1 x, ?_⟩
  refine ⟨fun x => row_piece m c t 256 (by decide) 5 11 2 128 16 (by decide) (by decide) (by decide) (by decide) (by decide) inb_S1x16x4x32x256_S1x1x1x16x128_0_11_2_16_128 inb_S8x256x128_S1x16x128_5_11_0_s_1_16_1 x, ?_⟩
  refine ⟨fun x => row_piece m c t 256 (by decide) 4 11 2 0 16 (by decide) (by decide) (by decide) (by decide) (by decide) inb_S1x16x4x32x256_S1x1x1x16x128_0_11_2_16_0 inb_S8x256x128_S1x16x128_4_11_0_s_1_16_1 x, ?_⟩
  refine ⟨fun x => row_piece m c t 256 (by decide) 3 11 1 128 16 (by decide) (by decide) (by decide) (by decide) (by decide) inb_S1x16x4x32x256_S1x1x1x16x128_0_11_1_16_128 inb_S8x256x128_S1x16x128_3_11_0_s_1_16_1 x, ?_⟩
  refine ⟨fun x => row_piece m c t 256 (by decide) 2 11 1 0 16 (by decide) (by decide) (by decide) (by decide) (by decide) inb_S1x16x4x32x256_S1x1x1x16x128_0_11_1_16_0 inb_S8x256x128_S1x16x128_2_11_0_s_1_16_1 x, ?_⟩
  refine ⟨fun x => row_piece m c t 256 (by decide) 1 11 0 128 16 (by decide) (by decide) (by decide) (by decide) (by decide) inb_S1x16x4x32x256_S1x1x1x16x128_0_11_0_16_128 inb_S8x256x128_S1x16x128_1_11_0_s_1_16_1 x, ?_⟩
  refine ⟨fun x => row_piece m c t 256 (by decide) 0 11 0 0 16 (by decide) (by decide) (by decide) (by decide) (by decide) inb_S1x16x4x32x256_S1x1x1x16x128_0_11_0_16_0 inb_S8x256x128_S1x16x128_0_11_0_s_1_16_1 x, ?_⟩
  refine ⟨fun x => row_piece m c t 256 (by decide) 7 10 3 128 16 (by decide) (by decide) (by decide) (by decide) (by decide) inb_S1x16x4x32x256_S1x1x1x16x128_0_10_3_16_128 inb_S8x256x128_S1x16x128_7_10_0_s_1_16_1 x, ?_⟩
  refine ⟨fun x => row_piece m c t 256 (by decide) 6 10 3 0 16 (by decide) (by decide) (by decide) (by decide) (by decide) inb_S1x16x4x32x256_S1x1x1x16x128_0_10_3_16_0 inb_S8x256x128_S1x16x128_6_10_0_s_1_16_1 x, ?_⟩
  refine ⟨fun x => row_piece m c t 256 (by decide) 5 10 2 128 16 (by decide) (by decide) (by decide) (by decide) (by decide) inb_S1x16x4x32x256_S1x1x1x16x128_0_10_2_16_128 inb_S8x256x128_S1x16x128_5_10_0_s_1_16_1 x, ?_⟩
  refine ⟨fun x => row_piece m c t 256 (by decide) 4 10 2 0 16 (by decide) (by decide) (by decide) (by decide) (by decide) inb_S1x16x4x32x256_S1x1x1x16x128_0_10_2_16_0 inb_S8x256x128_S1x16x128_4_10_0_s_1_16_1 x, ?_⟩
  refine ⟨fun x => row_piece m c t 256 (by decide) 3 10 1 128 16 (by decide) (by decide) (by decide) (by decide) (by decide) inb_S1x16x4x32x256_S1x1x1x16x128_0_10_1_16_128 inb_S8x256x128_S1x16x128_3_10_0_s_1_16_1 x, ?_⟩
  refine ⟨fun x => row_piece m c t 256 (by decide) 2 10 1 0 16 (by decide) (by decide) (by decide) (by decide) (by decide) inb_S1x16x4x32x256_S1x1x1x16x128_0_10_1_16_0 inb_S8x256x128_S1x16x128_2_10_0_s_1_16_1 x, ?_⟩
  refine ⟨fun x => row_piece m c t 256 (by decide) 1 10 0 128 16 (by decide) (by decide) (by decide) (by decide) (by decide) inb_S1x16x4x32x256_S1x1x1x16x128_0_10_0_16_128 inb_S8x256x128_S1x16x128_1_10_0_s_1_16_1 x, ?_⟩
  refine ⟨fun x => row_piece m c t 256 (by decide) 0 10 0 0 16 (by decide) (by decide) (by decide) (by decide) (by decide) inb_S1x16x4x32x256_S1x1x1x16x128_0_10_0_16_0 inb_S8x256x128_S1x16x128_0_10_0_s_1_16_1 x, ?_⟩
  refine ⟨fun x => row_piece m c t 256 (by decide) 7 9 3 128 16 (by decide) (by decide) (by decide) (by decide) (by decide) inb_S1x16x4x32x256_S1x1x1x16x128_0_9_3_16_128 inb_S8x256x128_S1x16x128_7_9_0_s_1_16_1 x, ?_⟩
  refine ⟨fun x => row_piece m c t 256 (by decide) 6 9 3 0 16 (by decide) (by decide) (by decide) (by decide) (by decide) inb_S1x16x4x32x256_S1x1x1x16x128_0_9_3_16_0 inb_S8x256x128_S1x16x128_6_9_0_s_1_16_1 x, ?_⟩
  refine ⟨fun x => row_piece m c t 256 (by decide) 5 9 2 128 16 (by decide) (by decide) (by decide) (by decide) (by decide) inb_S1x16x4x32x256_S1x1x1x16x128_0_9_2_16_128 inb_S8x256x128_S1x16x128_5_9_0_s_1_16_1 x, ?_⟩
  refine ⟨fun x => row_piece m c t 256 (by decide) 4 9 2 0 16 (by decide) (by decide) (by decide) (by decide) (by decide) inb_S1x16x4x32x256_S1x1x1x16x128_0_9_2_16_0 inb_S8x256x128_S1x16x128_4_9_0_s_1_16_1 x, ?_⟩
  refine ⟨fun x => row_piece m c t 256 (by decide) 3 9 1 128 16 (by decide) (by decide) (by decide) (by decide) (by decide) inb_S1x16x4x32x256_S1x1x1x16x128_0_9_1_16_128 inb_S8x256x128_S1x16x128_3_9_0_s_1_16_1 x, ?_⟩
  refine ⟨fun x => row_piece m c t 256 (by decide) 2 9 1 0 16 (by decide) (by decide) (by decide) (by decide) (by decide) inb_S1x16x4x32x256_S1x1x1x16x128_0_9_1_16_0 inb_S8x256x128_S1x16x128_2_9_0_s_1_16_1 x, ?_⟩
  refine ⟨fun x => row_piece m c t 256 (by decide) 1 9 0 128 16 (by decide) (by decide) (by decide) (by decide) (by decide) inb_S1x16x4x32x256_S1x1x1x16x128_0_9_0_16_128 inb_S8x256x128_S1x16x128_1_9_0_s_1_16_1 x, ?_⟩
  refine ⟨fun x => row_piece m c t 256 (by decide) 0 9 0 0 16 (by decide) (by decide) (by decide) (by decide) (by decide) inb_S1x16x4x32x256_S1x1x1x16x128_0_9_0_16_0 inb_S8x256x128_S1x16x128_0_9_0_s_1_16_1 x, ?_⟩
  refine ⟨fun x => row_piece m c t 256 (by decide) 7 8 3 128 16 (by decide) (by decide) (by decide) (by decide) (by decide) inb_S1x16x4x32x256_S1x1x1x16x128_0_8_3_16_128 inb_S8x256x128_S1x16x128_7_8_0_s_1_16_1 x, ?_⟩
  refine ⟨fun x => row_piece m c t 256 (by decide) 6 8 3 0 16 (by decide) (by decide) (by decide) (by decide) (by decide) inb_S1x16x4x32x256_S1x1x1x16x128_0_8_3_16_0 inb_S8x256x128_S1x16x128_6_8_0_s_1_16_1 x, ?_⟩
  refine ⟨fun x => row_piece m c t 256 (by decide) 5 8 2 128 16 (by decide) (by decide) (by decide) (by decide) (by decide) inb_S1x16x4x32x256_S1x1x1x16x128_0_8_2_16_128 inb_S8x256x128_S1x16x128_5_8_0_s_1_16_1 x, ?_⟩
  refine ⟨fun x => row_piece m c t 256 (by decide) 4 8 2 0 16 (by decide) (by decide) (by decide) (by decide) (by decide) inb_S1x16x4x32x256_S1x1x1x16x128_0_8_2_16_0 inb_S8x256x128_S1x16x128_4_8_0_s_1_16_1 x, ?_⟩
  refine ⟨fun x => row_piece m c t 256 (by decide) 3 8 1 128 16 (by decide) (by decide) (by decide) (by decide) (by decide) inb_S1x16x4x32x256_S1x1x1x16x128_0_8_1_16_128 inb_S8x256x128_S1x16x128_3_8_0_s_1_16_1 x, ?_⟩
  refine ⟨fun x => row_piece m c t 256 (by decide) 2 8 1 0 16 (by decide) (by decide) (by decide) (by decide) (by decide) inb_S1x16x4x32x256_S1x1x1x16x128_0_8_1_16_0 inb_S8x256x128_S1x16x128_2_8_0_s_1_16_1 x, ?_⟩
  refine ⟨fun x => row_piece m c t 256 (by decide) 1 8 0 128 16 (by decide) (by decide) (by decide) (by decide) (by decide) inb_S1x16x4x32x256_S1x1x1x16x128_0_8_0_16_128 inb_S8x256x128_S1x16x128_1_8_0_s_1_16_1 x, ?_⟩
  refine ⟨fun x => row_piece m c t 256 (by decide) 0 8 0 0 16 (by decide) (by decide) (by decide) (by decide) (by decide) inb_S1x16x4x32x256_S1x1x1x16x128_0_8_0_16_0 inb_S8x256x128_S1x16x128_0_8_0_s_1_16_1 x, ?_⟩
  refine ⟨fun x => row_piece m c t 256 (by decide) 7 7 3 128 16 (by decide) (by decide) (by decide) (by decide) (by decide) inb_S1x16x4x32x256_S1x1x1x16x128_0_7_3_16_128 inb_S8x256x128_S1x16x128_7_7_0_s_1_16_1 x, ?_⟩
  refine ⟨fun x => row_piece m c t 256 (by decide) 6 7 3 0 16 (by decide) (by decide) (by decide) (by decide) (by decide) inb_S1x16x4x32x256_S1x1x1x16x128_0_7_3_16_0 inb_S8x256x128_S1x16x128_6_7_0_s_1_16_1 x, ?_⟩
  refine ⟨fun x => row_piece m c t 256 (by decide) 5 7 2 128 16 (by decide) (by decide) (by decide) (by decide) (by decide) inb_S1x16x4x32x256_S1x1x1x16x128_0_7_2_16_128 inb_S8x256x128_S1x16x128_5_7_0_s_1_16_1 x, ?_⟩
  refine ⟨fun x => row_piece m c t 256 (by decide) 4 7 2 0 16 (by decide) (by decide) (by decide) (by decide) (by decide) inb_S1x16x4x32x256_S1x1x1x16x128_0_7_2_16_0 inb_S8x256x128_S1x16x128_4_7_0_s_1_16_1 x, ?_⟩
  refine ⟨fun x => row_piece m c t 256 (by decide) 3 7 1 128 16 (by decide) (by decide) (by decide) (by decide) (by decide) inb_S1x16x4x32x256_S1x1x1x16x128_0_7_1_16_128 inb_S8x256x128_S1x16x128_3_7_0_s_1_16_1 x, ?_⟩
  refine ⟨fun x => row_piece m c t 256 (by decide) 2 7 1 0 16 (by decide) (by decide) (by decide) (by decide) (by decide) inb_S1x16x4x32x256_S1x1x1x16x128_0_7_1_16_0 inb_S8x256x128_S1x16x128_2_7_0_s_1_16_1 x, ?_⟩
  refine ⟨fun x => row_piece m c t 256 (by decide) 1 7 0 128 16 (by decide) (by decide) (by decide) (by decide) (by decide) inb_S1x16x4x32x256_S1x1x1x16x128_0_7_0_16_128 inb_S8x256x128_S1x16x128_1_7_0_s_1_16_1 x, ?_⟩
  refine ⟨fun x => row_piece m c t 256 (by decide) 0 7 0 0 16 (by decide) (by decide) (by decide) (by decide) (by decide) inb_S1x16x4x32x256_S1x1x1x16x128_0_7_0_16_0 inb_S8x256x128_S1x16x128_0_7_0_s_1_16_1 x, ?_⟩
  refine ⟨fun x => row_piece m c t 256 (by decide) 7 6 3 128 16 (by decide) (by decide) (by decide) (by decide) (by decide) inb_S1x16x4x32x256_S1x1x1x16x128_0_6_3_16_128 inb_S8x256x128_S1x16x128_7_6_0_s_1_16_1 x, ?_⟩
  refine ⟨fun x => row_piece m c t 256 (by decide) 6 6 3 0 16 (by decide) (by decide) (by decide) (by decide) (by decide) inb_S1x16x4x32x256_S1x1x1x16x128_0_6_3_16_0 inb_S8x256x128_S1x16x128_6_6_0_s_1_16_1 x, ?_⟩
  refine ⟨fun x => row_piece m c t 256 (by decide) 5 6 2 128 16 (by decide) (by decide) (by decide) (by decide) (by decide) inb_S1x16x4x32x256_S1x1x1x16x128_0_6_2_16_128 inb_S8x256x128_S1x16x128_5_6_0_s_1_16_1 x, ?_⟩
  refine ⟨fun x => row_piece m c t 256 (by decide) 4 6 2 0 16 (by decide) (by decide) (by decide) (by decide) (by decide) inb_S1x16x4x32x256_S1x1x1x16x128_0_6_2_16_0 inb_S8x256x128_S1x16x128_4_6_0_s_1_16_1 x, ?_⟩
  refine ⟨fun x => row_piece m c t 256 (by decide) 3 6 1 128 16 (by decide) (by decide) (by decide) (by decide) (by decide) inb_S1x16x4x32x256_S1x1x1x16x128_0_6_1_16_128 inb_S8x256x128_S1x16x128_3_6_0_s_1_16_1 x, ?_⟩
  refine ⟨fun x => row_piece m c t 256 (by decide) 2 6 1 0 16 (by decide) (by decide) (by decide) (by decide) (by decide) inb_S1x16x4x32x256_S1x1x1x16x128_0_6_1_16_0 inb_S8x256x128_S1x16x128_2_6_0_s_1_16_1 x, ?_⟩
  refine ⟨fun x => row_piece m c t 256 (by decide) 1 6 0 128 16 (by decide) (by decide) (by decide) (by decide) (by decide) inb_S1x16x4x32x256_S1x1x1x16x128_0_6_0_16_128 inb_S8x256x128_S1x16x128_1_6_0_s_1_16_1 x, ?_⟩
  refine ⟨fun x => row_piece m c t 256 (by decide) 0 6 0 0 16 (by decide) (by decide) (by decide) (by decide) (by decide) inb_S1x16x4x32x256_S1x1x1x16x128_0_6_0_16_0 inb_S8x256x128_S1x16x128_0_6_0_s_1_16_1 x, ?_⟩
  refine ⟨fun x => row_piece m c t 256 (by decide) 7 5 3 128 16 (by decide) (by decide) (by decide) (by decide) (by decide) inb_S1x16x4x32x256_S1x1x1x16x128_0_5_3_16_128 inb_S8x256x128_S1x16x128_7_5_0_s_1_16_1 x, ?_⟩
  refine ⟨fun x => row_piece m c t 256 (by decide) 6 5 3 0 16 (by decide) (by decide) (by decide) (by decide) (by decide) inb_S1x16x4x32x256_S1x1x1x16x128_0_5_3_16_0 inb_S8x256x128_S1x16x128_6_5_0_s_1_16_1 x, ?_⟩
  refine ⟨fun x => row_piece m c t 256 (by decide) 5 5 2 128 16 (by decide) (by decide) (by decide) (by decide) (by decide) inb_S1x16x4x32x256_S1x1x1x16x128_0_5_2_16_128 inb_S8x256x128_S1x16x128_5_5_0_s_1_16_1 x, ?_⟩
  refine ⟨fun x => row_piece m c t 256 (by decide) 4 5 2 0 16 (by decide) (by decide) (by decide) (by decide) (by decide) inb_S1x16x4x32x256_S1x1x1x16x128_0_5_2_16_0 inb_S8x256x128_S1x16x128_4_5_0_s_1_16_1 x, ?_⟩
  refine ⟨fun x => row_piece m c t 256 (by decide) 3 5 1 128 16 (by decide) (by decide) (by decide) (by decide) (by decide) inb_S1x16x4x32x256_S1x1x1x16x128_0_5_1_16_128 inb_S8x256x128_S1x16x128_3_5_0_s_1_16_1 x, ?_⟩
  refine ⟨fun x => row_piece m c t 256 (by decide) 2 5 1 0 16 (by decide) (by decide) (by decide) (by decide) (by decide) inb_S1x16x4x32x256_S1x1x1x16x128_0_5_1_16_0 inb_S8x256x128_S1x16x128_2_5_0_s_1_16_1 x, ?_⟩
  refine ⟨fun x => row_piece m c t 256 (by decide) 1 5 0 128 16 (by decide) (by decide) (by decide) (by decide) (by decide) inb_S1x16x4x32x256_S1x1x1x16x128_0_5_0_16_128 inb_S8x256x128_S1x16x128_1_5_0_s_1_16_1 x, ?_⟩
  refine ⟨fun x => row_piece m c t 256 (by decide) 0 5 0 0 16 (by decide) (by decide) (by decide) (by decide) (by decide) inb_S1x16x4x32x256_S1x1x1x16x128_0_5_0_16_0 inb_S8x256x128_S1x16x128_0_5_0_s_1_16_1 x, ?_⟩
  refine ⟨fun x => row_piece m c t 256 (by decide) 7 4 3 128 16 (by decide) (by decide) (by decide) (by decide) (by decide) inb_S1x16x4x32x256_S1x1x1x16x128_0_4_3_16_128 inb_S8x256x128_S1x16x128_7_4_0_s_1_16_1 x, ?_⟩
  refine ⟨fun x => row_piece m c t 256 (by decide) 6 4 3 0 16 (by decide) (by decide) (by decide) (by decide) (by decide) inb_S1x16x4x32x256_S1x1x1x16x128_0_4_3_16_0 inb_S8x256x128_S1x16x128_6_4_0_s_1_16_1 x, ?_⟩
  refine ⟨fun x => row_piece m c t 256 (by decide) 5 4 2 128 16 (by decide) (by decide) (by decide) (by decide) (by decide) inb_S1x16x4x32x256_S1x1x1x16x128_0_4_2_16_128 inb_S8x256x128_S1x16x128_5_4_0_s_1_16_1 x, ?_⟩
  refine ⟨fun x => row_piece m c t 256 (by decide) 4 4 2 0 16 (by decide) (by decide) (by decide) (by decide) (by decide) inb_S1x16x4x32x256_S1x1x1x16x128_0_4_2_16_0 inb_S8x256x128_S1x16x128_4_4_0_s_1_16_1 x, ?_⟩
  refine ⟨fun x => row_piece m c t 256 (by decide) 3 4 1 128 16 (by decide) (by decide) (by decide) (by decide) (by decide) inb_S1x16x4x32x256_S1x1x1x16x128_0_4_1_16_128 inb_S8x256x128_S1x16x128_3_4_0_s_1_16_1 x, ?_⟩
  refine ⟨fun x => row_piece m c t 256 (by decide) 2 4 1 0 16 (by decide) (by decide) (by decide) (by decide) (by decide) inb_S1x16x4x32x256_S1x1x1x16x128_0_4_1_16_0 inb_S8x256x128_S1x16x128_2_4_0_s_1_16_1 x, ?_⟩
  refine ⟨fun x => row_piece m c t 256 (by decide) 1 4 0 128 16 (by decide) (by decide) (by decide) (by decide) (by decide) inb_S1x16x4x32x256_S1x1x1x16x128_0_4_0_16_128 inb_S8x256x128_S1x16x128_1_4_0_s_1_16_1 x, ?_⟩
  refine ⟨fun x => row_piece m c t 256 (by decide) 0 4 0 0 16 (by decide) (by decide) (by decide) (by decide) (by decide) inb_S1x16x4x32x256_S1x1x1x16x128_0_4_0_16_0 inb_S8x256x128_S1x16x128_0_4_0_s_1_16_1 x, ?_⟩
  refine ⟨fun x => row_piece m c t 256 (by decide) 7 3 3 128 16 (by decide) (by decide) (by decide) (by decide) (by decide) inb_S1x16x4x32x256_S1x1x1x16x128_0_3_3_16_128 inb_S8x256x128_S1x16x128_7_3_0_s_1_16_1 x, ?_⟩
  refine ⟨fun x => row_piece m c t 256 (by decide) 6 3 3 0 16 (by decide) (by decide) (by decide) (by decide) (by decide) inb_S1x16x4x32x256_S1x1x1x16x128_0_3_3_16_0 inb_S8x256x128_S1x16x128_6_3_0_s_1_16_1 x, ?_⟩
  refine ⟨fun x => row_piece m c t 256 (by decide) 5 3 2 128 16 (by decide) (by decide) (by decide) (by decide) (by decide) inb_S1x16x4x32x256_S1x1x1x16x128_0_3_2_16_128 inb_S8x256x128_S1x16x128_5_3_0_s_1_16_1 x, ?_⟩
  refine ⟨fun x => row_piece m c t 256 (by decide) 4 3 2 0 16 (by decide) (by decide) (by decide) (by decide) (by decide) inb_S1x16x4x32x256_S1x1x1x16x128_0_3_2_16_0 inb_S8x256x128_S1x16x128_4_3_0_s_1_16_1 x, ?_⟩
  refine ⟨fun x => row_piece m c t 256 (by decide) 3 3 1 128 16 (by decide) (by decide) (by decide) (by decide) (by decide) inb_S1x16x4x32x256_S1x1x1x16x128_0_3_1_16_128 inb_S8x256x128_S1x16x128_3_3_0_s_1_16_1 x, ?_⟩
  refine ⟨fun x => row_piece m c t 256 (by decide) 2 3 1 0 16 (by decide) (by decide) (by decide) (by decide) (by decide) inb_S1x16x4x32x256_S1x1x1x16x128_0_3_1_16_0 inb_S8x256x128_S1x16x128_2_3_0_s_1_16_1 x, ?_⟩
  refine ⟨fun x => row_piece m c t 256 (by decide) 1 3 0 128 16 (by decide) (by decide) (by decide) (by decide) (by decide) inb_S1x16x4x32x256_S1x1x1x16x128_0_3_0_16_128 inb_S8x256x128_S1x16x128_1_3_0_s_1_16_1 x, ?_⟩
  refine ⟨fun x => row_piece m c t 256 (by decide) 0 3 0 0 16 (by decide) (by decide) (by decide) (by decide) (by decide) inb_S1x16x4x32x256_S1x1x1x16x128_0_3_0_16_0 inb_S8x256x128_S1x16x128_0_3_0_s_1_16_1 x, ?_⟩
  refine ⟨fun x => row_piece m c t 256 (by decide) 7 2 3 128 16 (by decide) (by decide) (by decide) (by decide) (by decide) inb_S1x16x4x32x256_S1x1x1x16x128_0_2_3_16_128 inb_S8x256x128_S1x16x128_7_2_0_s_1_16_1 x, ?_⟩
  refine ⟨fun x => row_piece m c t 256 (by decide) 6 2 3 0 16 (by decide) (by decide) (by decide) (by decide) (by decide) inb_S1x16x4x32x256_S1x1x1x16x128_0_2_3_16_0 inb_S8x256x128_S1x16x128_6_2_0_s_1_16_1 x, ?_⟩
  refine ⟨fun x => row_piece m c t 256 (by decide) 5 2 2 128 16 (by decide) (by decide) (by decide) (by decide) (by decide) inb_S1x16x4x32x256_S1x1x1x16x128_0_2_2_16_128 inb_S8x256x128_S1x16x128_5_2_0_s_1_16_1 x, ?_⟩
  refine ⟨fun x => row_piece m c t 256 (by decide) 4 2 2 0 16 (by decide) (by decide) (by decide) (by decide) (by decide) inb_S1x16x4x32x256_S1x1x1x16x128_0_2_2_16_0 inb_S8x256x128_S1x16x128_4_2_0_s_1_16_1 x, ?_⟩
  refine ⟨fun x => row_piece m c t 256 (by decide) 3 2 1 128 16 (by decide) (by decide) (by decide) (by decide) (by decide) inb_S1x16x4x32x256_S1x1x1x16x128_0_2_1_16_128 inb_S8x256x128_S1x16x128_3_2_0_s_1_16_1 x, ?_⟩
  refine ⟨fun x => row_piece m c t 256 (by decide) 2 2 1 0 16 (by decide) (by decide) (by decide) (by decide) (by decide) inb_S1x16x4x32x256_S1x1x1x16x128_0_2_1_16_0 inb_S8x256x128_S1x16x128_2_2_0_s_1_16_1 x, ?_⟩
  refine ⟨fun x => row_piece m c t 256 (by decide) 1 2 0 128 16 (by decide) (by decide) (by decide) (by decide) (by decide) inb_S1x16x4x32x256_S1x1x1x16x128_0_2_0_16_128 inb_S8x256x128_S1x16x128_1_2_0_s_1_16_1 x, ?_⟩
  refine ⟨fun x => row_piece m c t 256 (by decide) 0 2 0 0 16 (by decide) (by decide) (by decide) (by decide) (by decide) inb_S1x16x4x32x256_S1x1x1x16x128_0_2_0_16_0 inb_S8x256x128_S1x16x128_0_2_0_s_1_16_1 x, ?_⟩
  refine ⟨fun x => row_piece m c t 256 (by decide) 7 1 3 128 16 (by decide) (by decide) (by decide) (by decide) (by decide) inb_S1x16x4x32x256_S1x1x1x16x128_0_1_3_16_128 inb_S8x256x128_S1x16x128_7_1_0_s_1_16_1 x, ?_⟩
  refine ⟨fun x => row_piece m c t 256 (by decide) 6 1 3 0 16 (by decide) (by decide) (by decide) (by decide) (by decide) inb_S1x16x4x32x256_S1x1x1x16x128_0_1_3_16_0 inb_S8x256x128_S1x16x128_6_1_0_s_1_16_1 x, ?_⟩
  refine ⟨fun x => row_piece m c t 256 (by decide) 5 1 2 128 16 (by decide) (by decide) (by decide) (by decide) (by decide) inb_S1x16x4x32x256_S1x1x1x16x128_0_1_2_16_128 inb_S8x256x128_S1x16x128_5_1_0_s_1_16_1 x, ?_⟩
  refine ⟨fun x => row_piece m c t 256 (by decide) 4 1 2 0 16 (by decide) (by decide) (by decide) (by decide) (by decide) inb_S1x16x4x32x256_S1x1x1x16x128_0_1_2_16_0 inb_S8x256x128_S1x16x128_4_1_0_s_1_16_1 x, ?_⟩
  refine ⟨fun x => row_piece m c t 256 (by decide) 3 1 1 128 16 (by decide) (by decide) (by decide) (by decide) (by decide) inb_S1x16x4x32x256_S1x1x1x16x128_0_1_1_16_128 inb_S8x256x128_S1x16x128_3_1_0_s_1_16_1 x, ?_⟩
  refine ⟨fun x => row_piece m c t 256 (by decide) 2 1 1 0 16 (by decide) (by decide) (by decide) (by decide) (by decide) inb_S1x16x4x32x256_S1x1x1x16x128_0_1_1_16_0 inb_S8x256x128_S1x16x128_2_1_0_s_1_16_1 x, ?_⟩
  refine ⟨fun x => row_piece m c t 256 (by decide) 1 1 0 128 16 (by decide) (by decide) (by decide) (by decide) (by decide) inb_S1x16x4x32x256_S1x1x1x16x128_0_1_0_16_128 inb_S8x256x128_S1x16x128_1_1_0_s_1_16_1 x, ?_⟩
  refine ⟨fun x => row_piece m c t 256 (by decide) 0 1 0 0 16 (by decide) (by decide) (by decide) (by decide) (by decide) inb_S1x16x4x32x256_S1x1x1x16x128_0_1_0_16_0 inb_S8x256x128_S1x16x128_0_1_0_s_1_16_1 x, ?_⟩
  refine ⟨fun x => row_piece m c t 256 (by decide) 7 0 3 128 16 (by decide) (by decide) (by decide) (by decide) (by decide) inb_S1x16x4x32x256_S1x1x1x16x128_0_0_3_16_128 inb_S8x256x128_S1x16x128_7_0_0_s_1_16_1 x, ?_⟩
  refine ⟨fun x => row_piece m c t 256 (by decide) 6 0 3 0 16 (by decide) (by decide) (by decide) (by decide) (by decide) inb_S1x16x4x32x256_S1x1x1x16x128_0_0_3_16_0 inb_S8x256x128_S1x16x128_6_0_0_s_1_16_1 x, ?_⟩
  refine ⟨fun x => row_piece m c t 256 (by decide) 5 0 2 128 16 (by decide) (by decide) (by decide) (by decide) (by decide) inb_S1x16x4x32x256_S1x1x1x16x128_0_0_2_16_128 inb_S8x256x128_S1x16x128_5_0_0_s_1_16_1 x, ?_⟩
  refine ⟨fun x => row_piece m c t 256 (by decide) 4 0 2 0 16 (by decide) (by decide) (by decide) (by decide) (by decide) inb_S1x16x4x32x256_S1x1x1x16x128_0_0_2_16_0 inb_S8x256x128_S1x16x128_4_0_0_s_1_16_1 x, ?_⟩
  refine ⟨fun x => row_piece m c t 256 (by decide) 3 0 1 128 16 (by decide) (by decide) (by decide) (by decide) (by decide) inb_S1x16x4x32x256_S1x1x1x16x128_0_0_1_16_128 inb_S8x256x128_S1x16x128_3_0_0_s_1_16_1 x, ?_⟩
  refine ⟨fun x => row_piece m c t 256 (by decide) 2 0 1 0 16 (by decide) (by decide) (by decide) (by decide) (by decide) inb_S1x16x4x32x256_S1x1x1x16x128_0_0_1_16_0 inb_S8x256x128_S1x16x128_2_0_0_s_1_16_1 x, ?_⟩
  refine ⟨fun x => row_piece m c t 256 (by decide) 1 0 0 128 16 (by decide) (by decide) (by decide) (by decide) (by decide) inb_S1x16x4x32x256_S1x1x1x16x128_0_0_0_16_128 inb_S8x256x128_S1x16x128_1_0_0_s_1_16_1 x, ?_⟩
  refine ⟨fun x => row_piece m c t 256 (by decide) 0 0 0 0 16 (by decide) (by decide) (by decide) (by decide) (by decide) inb_S1x16x4x32x256_S1x1x1x16x128_0_0_0_16_0 inb_S8x256x128_S1x16x128_0_0_0_s_1_16_1 x, ?_⟩
  exact trivial

/-- A tile read back. -/
theorem tile_read (t : Fin cfg0.N) (h : ℕ) (hh : h ≤ 256) (M : List (View.Piece (Elt Ideal) S8x256x128 .f32)) (hM : ∀ y, View.canon M y = scrG m c t h hh y) (k : ℕ) (hk : k ≤ 7)
    (b : ∀ a, (![k, 0, 0] : Fin 3 → ℕ) a + (![1, 256, 128] : Fin 3 → ℕ) a ≤ S8x256x128.size a) (r : Fin 256) (l : Fin 128) :
    ((View.whole cc0_scratch0).readCov M (Rect.unit (s := S8x256x128) ![k, 0, 0] ![1, 256, 128] b).toLoadRect : FVec Ideal S1x256x128 .f32) (ix3 0 r l)
      = (m ((c : Thread nD τ).loc main_arg0) : FVec Ideal S2x4096x1024 .f32) (ix3 (sq t) (seqRow t ⟨h + r.val, by omega⟩) ⟨128 * k + l.val, by omega⟩) := by
  rw [View.readCov_eq_canon']
  refine (hM _).trans ?_
  unfold scrG
  congr 2
  · exact Fin.ext (by show 512 * (t.val % 8) + (h + (0 + 1 * r.val)) = 512 * (t.val % 8) + (h + r.val); omega)
  · exact Fin.ext (by show 128 * (k + 1 * 0) + (0 + 1 * l.val) = 128 * k + l.val; omega)

end Cert.Kernel4Ideal.Val
-- ==== Proof.OutRef.lean ====
/- The reference's projection out, read off at an index. -/
module

public import proofs.«01_k».proof.Proof.OutPay
public import proofs.«01_k».proof.Proof.Gen.Reference4Ideal.Run
public import Idealize.ShloMosaic.Lib.Pointwise

@[expose] public section

set_option maxRecDepth 16384

noncomputable section

namespace Cert.Reference4Ideal.Val

open Cert.Reference4Ideal Cert.Reference4Ideal.Gen
open Idealize.ShloMosaic
open Cert.Kernel4Ideal.Val (eps gelu nrm1 nrm2 gated hv xfv)

abbrev Wide := FVec Ideal S2x4096x2048 .f32
abbrev Half := FVec Ideal S2x4096x1024 .f32
abbrev Mod := FVec Ideal S2x12288 .f32

def geluR (y : Half) : Half :=
  mulf y (mulf (broadcastInDim S2x4096x1024 ![] bcast_S_S2x4096x1024 (constant S_ .f32 0x3F000000#32)) (addf (broadcastInDim S2x4096x1024 ![] bcast_S_S2x4096x1024 (constant S_ .f32 0x3F800000#32)) (Host.tanh (mulf (broadcastInDim S2x4096x1024 ![] bcast_S_S2x4096x1024 (constant S_ .f32 0x3F4C422A#32)) (addf y (mulf (broadcastInDim S2x4096x1024 ![] bcast_S_S2x4096x1024 (constant S_ .f32 0x3D372713#32)) (mulf (mulf y y) y)))))))

def sigR (z : Half) : Half :=
  Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf z)))

/-- The recurrence's result through both gates. -/
def gatedR (y : Half) (w : FVec Ideal S1024x1024 .f32) : Half :=
  mulf (geluR y) (sigR (Host.dotGeneral dot_S2x4096x1024_S1024x1024_S2x4096x1024_2_0_01_1_n_n none (geluR y) w))

def rms1R (x : Half) : Half :=
  mulf x (broadcastInDim S2x4096x1024 ![0, 1, 2] bcast_S2x4096x1_S2x4096x1024_0_1_2 (Host.rsqrt (addf (Host.divf (broadcastInDim S2x4096x1 ![0, 1] bcast_S2x4096_S2x4096x1_0_1 (Host.reduceAdd (mulf x x) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x358637BD#32)))))

def rms2R (x : Wide) : Wide :=
  mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))

def gain1R (g : FVec Ideal S1024 .f32) : Half :=
  broadcastInDim S2x4096x1024 ![0, 1, 2] bcast_S1x1x1024_S2x4096x1024_0_1_2 (broadcastInDim S1x1x1024 ![2] bcast_S1024_S1x1x1024_2 g)
def gain2R (g : FVec Ideal S2048 .f32) : Wide :=
  broadcastInDim S2x4096x2048 ![0, 1, 2] bcast_S1x1x2048_S2x4096x2048_0_1_2 (broadcastInDim S1x1x2048 ![2] bcast_S2048_S1x1x2048_2 g)

def modR (mod : Mod) : FVec Ideal S2x1x12288 .f32 := broadcastInDim S2x1x12288 ![0, 2] bcast_S2x12288_S2x1x12288_0_2 mod

def gateR (mod : Mod) : Wide :=
  broadcastInDim S2x4096x2048 ![0, 1, 2] bcast_S2x1x2048_S2x4096x2048_0_1_2 (extractStridedSlice S2x1x2048 ![0, 0, 4096] (modR mod) slices_S2x1x12288_S2x1x2048_0_0_4096)
def shiftR (mod : Mod) : Wide :=
  broadcastInDim S2x4096x2048 ![0, 1, 2] bcast_S2x1x2048_S2x4096x2048_0_1_2 (extractStridedSlice S2x1x2048 ![0, 0, 6144] (modR mod) slices_S2x1x12288_S2x1x2048_0_0_6144)
def scaleR (mod : Mod) : Wide :=
  broadcastInDim S2x4096x2048 ![0, 1, 2] bcast_S2x1x2048_S2x4096x2048_0_1_2 (addf (broadcastInDim S2x1x2048 ![] bcast_S_S2x1x2048 (constant S_ .f32 0x3F800000#32)) (extractStridedSlice S2x1x2048 ![0, 0, 8192] (modR mod) slices_S2x1x12288_S2x1x2048_0_0_8192))

/-- Both groups, normalised, beside each other. -/
def mixedR (s a : Half) (gs ga : FVec Ideal S1024 .f32) : Wide :=
  concatenate S2x4096x2048 2 [⟨S2x4096x1024, mulf (rms1R s) (gain1R gs)⟩, ⟨S2x4096x1024, mulf (rms1R a) (gain1R ga)⟩] concatenates_S2x4096x1024_S2x4096x1024_S2x4096x2048_d2

/-- The residual after the first half of the layer. -/
def resR (y a : Half) (x : Wide) (mod : Mod) (wg : FVec Ideal S1024x1024 .f32) (gs ga : FVec Ideal S1024 .f32) (wo : FVec Ideal S2048x2048 .f32) : Wide :=
  addf x (mulf (gateR mod) (Host.dotGeneral dot_S2x4096x2048_S2048x2048_S2x4096x2048_2_0_01_1_n_n none (mixedR (gatedR y wg) a gs ga) wo))

/-- The rows of both sequences in one. -/
def flatR (h : Wide) : FVec Ideal S8192x2048 .f32 := shapeCast S8192x2048 h shapeCasts_S2x4096x2048_S8192x2048

/-- The feed-forward's input. -/
def inR (h : Wide) (mod : Mod) (gf : FVec Ideal S2048 .f32) : Wide := addf (mulf (mulf (rms2R h) (gain2R gf)) (scaleR mod)) (shiftR mod)

def xfR (h : Wide) (mod : Mod) (gf : FVec Ideal S2048 .f32) : FVec Ideal S8192x2048 .bf16 := truncf .bf16 (flatR (inR h mod gf)) bitsLt_bf16_f32

theorem geluR_apply (y : Half) (b : Fin 2) (t : Fin 4096) (n : Fin 1024) : geluR y (ix3 b t n) = gelu (y (ix3 b t n)) := by
  pointwise [geluR]
  unfold gelu
  rw [mul_comm (y (ix3 b t n) * y (ix3 b t n)) (y (ix3 b t n))]

theorem sigR_apply (z : Half) (i : S2x4096x1024.Idx) : sigR z i = Ideal.logistic (z i) := by
  pointwise [sigR]
  rfl

theorem gatedR_apply (y : Half) (w : FVec Ideal S1024x1024 .f32) (b : Fin 2) (t : Fin 4096) (n : Fin 1024) :
    gatedR y w (ix3 b t n) = gated (fun j => y (ix3 b t j)) (fun j n => w (ix2 j n)) n := by
  unfold gated
  pointwise [gatedR]
  rw [sigR_apply, geluR_apply]
  pointwise
  simp only [geluR_apply]

theorem rms1R_apply (x : Half) (b : Fin 2) (t : Fin 4096) (k : Fin 1024) : rms1R x (ix3 b t k) = nrm1 (fun j => x (ix3 b t j)) k := by
  pointwise [rms1R]
  rfl

theorem rms2R_apply (x : Wide) (b : Fin 2) (t : Fin 4096) (k : Fin 2048) : rms2R x (ix3 b t k) = nrm2 (fun j => x (ix3 b t j)) k := by
  pointwise [rms2R]
  rfl

theorem mixedR_s (s a : Half) (gs ga : FVec Ideal S1024 .f32) (b : Fin 2) (t : Fin 4096) (k : Fin 1024) :
    mixedR s a gs ga (ix3 b t ⟨0 + k.val, by omega⟩) = nrm1 (fun j => s (ix3 b t j)) k * gs (ix1 k) := by
  pointwise [mixedR, gain1R]
  rw [rms1R_apply]

theorem mixedR_a (s a : Half) (gs ga : FVec Ideal S1024 .f32) (b : Fin 2) (t : Fin 4096) (k : Fin 1024) :
    mixedR s a gs ga (ix3 b t ⟨1024 + k.val, by omega⟩) = nrm1 (fun j => a (ix3 b t j)) k * ga (ix1 k) := by
  pointwise [mixedR, gain1R]
  rw [rms1R_apply]

/-- A sum over 2048 is one over the first 1024 and one over the others. -/
theorem sum_halves (f : Fin 2048 → EReal) : ∑ k : Fin 2048, f k = (∑ k : Fin 1024, f ⟨0 + k.val, by omega⟩) + ∑ k : Fin 1024, f ⟨1024 + k.val, by omega⟩ := by
  refine (Fin.sum_univ_add (a := 1024) (b := 1024) f).trans ?_
  congr 1

theorem resR_apply (y a : Half) (x : Wide) (mod : Mod) (wg : FVec Ideal S1024x1024 .f32) (gs ga : FVec Ideal S1024 .f32) (wo : FVec Ideal S2048x2048 .f32) (b : Fin 2) (t : Fin 4096) (d : Fin 2048) :
    resR y a x mod wg gs ga wo (ix3 b t d)
      = hv (fun j => y (ix3 b t j)) (fun j => a (ix3 b t j)) (fun j n => wg (ix2 j n)) (fun k => gs (ix1 k)) (fun k => ga (ix1 k)) (fun k d => wo (ix2 ⟨0 + k.val, by omega⟩ d)) (fun k d => wo (ix2 ⟨1024 + k.val, by omega⟩ d))
          (fun d => x (ix3 b t d)) (fun d => mod (ix2 b ⟨4096 + d.val, by omega⟩)) d := by
  unfold hv
  pointwise [resR, gateR, modR]
  rw [sum_halves]
  simp only [mixedR_s, mixedR_a, gatedR_apply]
  simp only [Nat.zero_add]

theorem flatR_apply (h : Wide) (b : Fin 2) (t : Fin 4096) (r : Fin 8192) (hr : r.val = 4096 * b.val + t.val) (d : Fin 2048) : flatR h (ix2 r d) = h (ix3 b t d) := by
  have e1 : (⟨r.val / 4096, by omega⟩ : Fin 2) = b := Fin.ext (by show r.val / 4096 = b.val; omega)
  have e2 : (⟨r.val % 4096, by omega⟩ : Fin 4096) = t := Fin.ext (by show r.val % 4096 = t.val; omega)
  pointwise [flatR]
  rw [e1, e2]

theorem inR_apply (h : Wide) (mod : Mod) (gf : FVec Ideal S2048 .f32) (b : Fin 2) (t : Fin 4096) (d : Fin 2048) :
    inR h mod gf (ix3 b t d)
      = xfv (fun j => h (ix3 b t j)) (fun j => gf (ix1 j)) (fun j => mod (ix2 b ⟨8192 + j.val, by omega⟩)) (fun j => mod (ix2 b ⟨6144 + j.val, by omega⟩)) d := by
  unfold xfv
  pointwise [inR, gain2R, scaleR, shiftR, modR]
  rw [rms2R_apply]

theorem xfR_apply (h : Wide) (mod : Mod) (gf : FVec Ideal S2048 .f32) (b : Fin 2) (t : Fin 4096) (r : Fin 8192) (hr : r.val = 4096 * b.val + t.val) (d : Fin 2048) :
    xfR h mod gf (ix2 r d)
      = xfv (fun j => h (ix3 b t j)) (fun j => gf (ix1 j)) (fun j => mod (ix2 b ⟨8192 + j.val, by omega⟩)) (fun j => mod (ix2 b ⟨6144 + j.val, by omega⟩)) d :=
  (flatR_apply _ b t r hr d).trans (inR_apply h mod gf b t d)

end Cert.Reference4Ideal.Val
-- ==== Proof.OutBlock.lean ====
/- What a grid point of the projection out leaves in its two blocks. -/
module

public import proofs.«01_k».proof.Proof.OutCells
public import proofs.«01_k».proof.Proof.OutRef
public import proofs.«01_k».proof.Proof.Gen.Kernel4Ideal.Value

@[expose] public section

set_option maxRecDepth 16384
set_option maxHeartbeats 4000000

noncomputable section

namespace Cert.Kernel4Ideal.Val

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

/-- The reference's residual and its results on the arguments the kernel is called with. -/
abbrev resM : FVec Ideal Reference4Ideal.S2x4096x2048 .f32 :=
  Reference4Ideal.Val.resR (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
abbrev hM : FVec Ideal Reference4Ideal.S8192x2048 .f32 := Reference4Ideal.Val.flatR (resM m c)
abbrev xfM : FVec Ideal Reference4Ideal.S8192x2048 .bf16 := Reference4Ideal.Val.xfR (resM m c) (m ((c : Thread nD τ).loc main_arg3)) (m ((c : Thread nD τ).loc main_arg8))

/-- Rows of the modulation's block: the gate, the shift, the scale. -/
abbrev gateB (t : Fin cfg0.N) : FVec Ideal S1x1x2048 .f32 := View.ld (iblk m c 3 t : Vec Ideal S1x6x2048 .f32) (Rect.unit ![0, 2, 0] ![1, 1, 2048] inb_S1x6x2048_S1x1x2048_0_2_0)
abbrev shiftB (t : Fin cfg0.N) : FVec Ideal S1x1x2048 .f32 := View.ld (iblk m c 3 t : Vec Ideal S1x6x2048 .f32) (Rect.unit ![0, 3, 0] ![1, 1, 2048] inb_S1x6x2048_S1x1x2048_0_3_0)
abbrev scaleB (t : Fin cfg0.N) : FVec Ideal S1x1x2048 .f32 := View.ld (iblk m c 3 t : Vec Ideal S1x6x2048 .f32) (Rect.unit ![0, 4, 0] ![1, 1, 2048] inb_S1x6x2048_S1x1x2048_0_4_0)

/-- Half of a point's rows, the first at `h`: of the attention's result, and of the layer's input. -/
abbrev attB (t : Fin cfg0.N) (h : ℕ) (i : ∀ a, (![h, 0] : Fin 2 → ℕ) a + (![256, 1024] : Fin 2 → ℕ) a ≤ S512x1024.size a) : FVec Ideal S256x1024 .bf16 :=
  View.ld (iblk m c 1 t : Vec Ideal S512x1024 .bf16) (Rect.unit ![h, 0] ![256, 1024] i)
abbrev inB (t : Fin cfg0.N) (h : ℕ) (i : ∀ a, (![h, 0] : Fin 2 → ℕ) a + (![256, 2048] : Fin 2 → ℕ) a ≤ S512x2048.size a) : FVec Ideal S256x2048 .f32 :=
  View.ld (iblk m c 2 t : Vec Ideal S512x2048 .f32) (Rect.unit ![h, 0] ![256, 2048] i)

theorem gateB_apply (t : Fin cfg0.N) (d : Fin 2048) : gateB m c t (ix3 0 0 d) = (m ((c : Thread nD τ).loc main_arg3) : FVec Ideal S2x12288 .f32) (ix2 (sq t) ⟨4096 + d.val, by omega⟩) := by
  refine Eq.trans ?_ (iblk3_2 m c t d)
  show (iblk m c 3 t : Vec Ideal S1x6x2048 .f32) _ = (iblk m c 3 t : Vec Ideal S1x6x2048 .f32) _
  congr 1
  funext a
  apply Fin.ext
  match a with
  | ⟨0, _⟩ => rfl
  | ⟨1, _⟩ => rfl
  | ⟨2, _⟩ => show 0 + 1 * d.val = d.val; omega

theorem shiftB_apply (t : Fin cfg0.N) (d : Fin 2048) : shiftB m c t (ix3 0 0 d) = (m ((c : Thread nD τ).loc main_arg3) : FVec Ideal S2x12288 .f32) (ix2 (sq t) ⟨6144 + d.val, by omega⟩) := by
  refine Eq.trans ?_ (iblk3_3 m c t d)
  show (iblk m c 3 t : Vec Ideal S1x6x2048 .f32) _ = (iblk m c 3 t : Vec Ideal S1x6x2048 .f32) _
  congr 1
  funext a
  apply Fin.ext
  match a with
  | ⟨0, _⟩ => rfl
  | ⟨1, _⟩ => rfl
  | ⟨2, _⟩ => show 0 + 1 * d.val = d.val; omega

theorem scaleB_apply (t : Fin cfg0.N) (d : Fin 2048) : scaleB m c t (ix3 0 0 d) = (m ((c : Thread nD τ).loc main_arg3) : FVec Ideal S2x12288 .f32) (ix2 (sq t) ⟨8192 + d.val, by omega⟩) := by
  refine Eq.trans ?_ (iblk3_4 m c t d)
  show (iblk m c 3 t : Vec Ideal S1x6x2048 .f32) _ = (iblk m c 3 t : Vec Ideal S1x6x2048 .f32) _
  congr 1
  funext a
  apply Fin.ext
  match a with
  | ⟨0, _⟩ => rfl
  | ⟨1, _⟩ => rfl
  | ⟨2, _⟩ => show 0 + 1 * d.val = d.val; omega

theorem attB_apply (t : Fin cfg0.N) (h : ℕ) (i) (hh : h ≤ 256) (r : Fin 256) (k : Fin 1024) :
    attB m c t h i (ix2 r k) = (m ((c : Thread nD τ).loc main_arg1) : FVec Ideal S2x4096x1024 .f32) (ix3 (sq t) (seqRow t ⟨h + r.val, by omega⟩) k) := by
  refine Eq.trans ?_ (iblk1_apply m c t ⟨h + r.val, by omega⟩ k)
  show (iblk m c 1 t : Vec Ideal S512x1024 .bf16) _ = (iblk m c 1 t : Vec Ideal S512x1024 .bf16) _
  congr 1
  funext a
  apply Fin.ext
  match a with
  | ⟨0, _⟩ => show h + 1 * r.val = h + r.val; omega
  | ⟨1, _⟩ => show 0 + 1 * k.val = k.val; omega

theorem inB_apply (t : Fin cfg0.N) (h : ℕ) (i) (hh : h ≤ 256) (r : Fin 256) (k : Fin 2048) :
    inB m c t h i (ix2 r k) = (m ((c : Thread nD τ).loc main_arg2) : FVec Ideal S2x4096x2048 .f32) (ix3 (sq t) (seqRow t ⟨h + r.val, by omega⟩) k) := by
  refine Eq.trans ?_ (iblk2_apply m c t ⟨h + r.val, by omega⟩ k)
  show (iblk m c 2 t : Vec Ideal S512x2048 .f32) _ = (iblk m c 2 t : Vec Ideal S512x2048 .f32) _
  congr 1
  funext a
  apply Fin.ext
  match a with
  | ⟨0, _⟩ => show h + 1 * r.val = h + r.val; omega
  | ⟨1, _⟩ => show 0 + 1 * k.val = k.val; omega

section Half

variable (t : Fin cfg0.N) (h : ℕ) (hh : h ≤ 256) (ia : ∀ a, (![h, 0] : Fin 2 → ℕ) a + (![256, 1024] : Fin 2 → ℕ) a ≤ S512x1024.size a) (ix : ∀ a, (![h, 0] : Fin 2 → ℕ) a + (![256, 2048] : Fin 2 → ℕ) a ≤ S512x2048.size a)
  (M : List (View.Piece (Elt Ideal) S8x256x128 .f32)) (hM : ∀ y, View.canon M y = scrG m c t h hh y)

include hM

theorem tiles_read (r : Fin 256) (n : Fin 1024) :
    k0_pay296 (F := Ideal) ((View.whole cc0_scratch0).readCov M (Rect.unit (s := S8x256x128) ![0, 0, 0] ![1, 256, 128] inb_S8x256x128_S1x256x128_0_0_0).toLoadRect) ((View.whole cc0_scratch0).readCov M (Rect.unit (s := S8x256x128) ![1, 0, 0] ![1, 256, 128] inb_S8x256x128_S1x256x128_1_0_0).toLoadRect) ((View.whole cc0_scratch0).readCov M (Rect.unit (s := S8x256x128) ![2, 0, 0] ![1, 256, 128] inb_S8x256x128_S1x256x128_2_0_0).toLoadRect) ((View.whole cc0_scratch0).readCov M (Rect.unit (s := S8x256x128) ![3, 0, 0] ![1, 256, 128] inb_S8x256x128_S1x256x128_3_0_0).toLoadRect) ((View.whole cc0_scratch0).readCov M (Rect.unit (s := S8x256x128) ![4, 0, 0] ![1, 256, 128] inb_S8x256x128_S1x256x128_4_0_0).toLoadRect) ((View.whole cc0_scratch0).readCov M (Rect.unit (s := S8x256x128) ![5, 0, 0] ![1, 256, 128] inb_S8x256x128_S1x256x128_5_0_0).toLoadRect) ((View.whole cc0_scratch0).readCov M (Rect.unit (s := S8x256x128) ![6, 0, 0] ![1, 256, 128] inb_S8x256x128_S1x256x128_6_0_0).toLoadRect) ((View.whole cc0_scratch0).readCov M (Rect.unit (s := S8x256x128) ![7, 0, 0] ![1, 256, 128] inb_S8x256x128_S1x256x128_7_0_0).toLoadRect) (ix2 r n)
      = (m ((c : Thread nD τ).loc main_arg0) : FVec Ideal S2x4096x1024 .f32) (ix3 (sq t) (seqRow t ⟨h + r.val, by omega⟩) n) :=
  pay296_apply _ _ _ _ _ _ _ _ (fun r n => (m ((c : Thread nD τ).loc main_arg0) : FVec Ideal S2x4096x1024 .f32) (ix3 (sq t) (seqRow t ⟨h + r.val, by omega⟩) n))
    (fun r l => tile_read m c t h hh M hM 0 (by norm_num) inb_S8x256x128_S1x256x128_0_0_0 r l) (fun r l => tile_read m c t h hh M hM 1 (by norm_num) inb_S8x256x128_S1x256x128_1_0_0 r l) (fun r l => tile_read m c t h hh M hM 2 (by norm_num) inb_S8x256x128_S1x256x128_2_0_0 r l) (fun r l => tile_read m c t h hh M hM 3 (by norm_num) inb_S8x256x128_S1x256x128_3_0_0 r l) (fun r l => tile_read m c t h hh M hM 4 (by norm_num) inb_S8x256x128_S1x256x128_4_0_0 r l) (fun r l => tile_read m c t h hh M hM 5 (by norm_num) inb_S8x256x128_S1x256x128_5_0_0 r l) (fun r l => tile_read m c t h hh M hM 6 (by norm_num) inb_S8x256x128_S1x256x128_6_0_0 r l) (fun r l => tile_read m c t h hh M hM 7 (by norm_num) inb_S8x256x128_S1x256x128_7_0_0 r l) r n

theorem h_apply (r : Fin 256) (d : Fin 2048) :
    hK ((View.whole cc0_scratch0).readCov M (Rect.unit (s := S8x256x128) ![0, 0, 0] ![1, 256, 128] inb_S8x256x128_S1x256x128_0_0_0).toLoadRect) ((View.whole cc0_scratch0).readCov M (Rect.unit (s := S8x256x128) ![1, 0, 0] ![1, 256, 128] inb_S8x256x128_S1x256x128_1_0_0).toLoadRect) ((View.whole cc0_scratch0).readCov M (Rect.unit (s := S8x256x128) ![2, 0, 0] ![1, 256, 128] inb_S8x256x128_S1x256x128_2_0_0).toLoadRect) ((View.whole cc0_scratch0).readCov M (Rect.unit (s := S8x256x128) ![3, 0, 0] ![1, 256, 128] inb_S8x256x128_S1x256x128_3_0_0).toLoadRect) ((View.whole cc0_scratch0).readCov M (Rect.unit (s := S8x256x128) ![4, 0, 0] ![1, 256, 128] inb_S8x256x128_S1x256x128_4_0_0).toLoadRect) ((View.whole cc0_scratch0).readCov M (Rect.unit (s := S8x256x128) ![5, 0, 0] ![1, 256, 128] inb_S8x256x128_S1x256x128_5_0_0).toLoadRect) ((View.whole cc0_scratch0).readCov M (Rect.unit (s := S8x256x128) ![6, 0, 0] ![1, 256, 128] inb_S8x256x128_S1x256x128_6_0_0).toLoadRect) ((View.whole cc0_scratch0).readCov M (Rect.unit (s := S8x256x128) ![7, 0, 0] ![1, 256, 128] inb_S8x256x128_S1x256x128_7_0_0).toLoadRect) (attB m c t h ia) (iblk m c 4 t) (iblk m c 5 t) (iblk m c 6 t) (iblk m c 7 t) (iblk m c 8 t) (inB m c t h ix) (gateB m c t) (ix2 r d)
      = resM m c (ix3 (sq t) (seqRow t ⟨h + r.val, by omega⟩) d) := by
  refine Eq.trans ?_ (Reference4Ideal.Val.resR_apply _ _ _ _ _ _ _ _ (sq t) (seqRow t ⟨h + r.val, by omega⟩) d).symm
  exact hK_apply (tiles_read m c t h hh M hM) (attB_apply m c t h ia hh) (iblk4_apply m c t) (iblk5_apply m c t) (iblk6_apply m c t) (iblk7_apply m c t) (iblk8_apply m c t)
    (inB_apply m c t h ix hh) (gateB_apply m c t) r d

theorem x_apply (r : Fin 256) (d : Fin 2048) :
    xK ((View.whole cc0_scratch0).readCov M (Rect.unit (s := S8x256x128) ![0, 0, 0] ![1, 256, 128] inb_S8x256x128_S1x256x128_0_0_0).toLoadRect) ((View.whole cc0_scratch0).readCov M (Rect.unit (s := S8x256x128) ![1, 0, 0] ![1, 256, 128] inb_S8x256x128_S1x256x128_1_0_0).toLoadRect) ((View.whole cc0_scratch0).readCov M (Rect.unit (s := S8x256x128) ![2, 0, 0] ![1, 256, 128] inb_S8x256x128_S1x256x128_2_0_0).toLoadRect) ((View.whole cc0_scratch0).readCov M (Rect.unit (s := S8x256x128) ![3, 0, 0] ![1, 256, 128] inb_S8x256x128_S1x256x128_3_0_0).toLoadRect) ((View.whole cc0_scratch0).readCov M (Rect.unit (s := S8x256x128) ![4, 0, 0] ![1, 256, 128] inb_S8x256x128_S1x256x128_4_0_0).toLoadRect) ((View.whole cc0_scratch0).readCov M (Rect.unit (s := S8x256x128) ![5, 0, 0] ![1, 256, 128] inb_S8x256x128_S1x256x128_5_0_0).toLoadRect) ((View.whole cc0_scratch0).readCov M (Rect.unit (s := S8x256x128) ![6, 0, 0] ![1, 256, 128] inb_S8x256x128_S1x256x128_6_0_0).toLoadRect) ((View.whole cc0_scratch0).readCov M (Rect.unit (s := S8x256x128) ![7, 0, 0] ![1, 256, 128] inb_S8x256x128_S1x256x128_7_0_0).toLoadRect) (attB m c t h ia) (iblk m c 4 t) (iblk m c 5 t) (iblk m c 6 t) (iblk m c 7 t) (iblk m c 8 t) (inB m c t h ix) (gateB m c t) (iblk m c 9 t) (scaleB m c t) (shiftB m c t) (ix2 r d)
      = xfM m c (ix2 (row t ⟨h + r.val, by omega⟩) d) := by
  refine Eq.trans ?_ (Reference4Ideal.Val.xfR_apply _ _ _ (sq t) (seqRow t ⟨h + r.val, by omega⟩) (row t ⟨h + r.val, by omega⟩) (row_val t _) d).symm
  exact xK_apply _ r (h_apply m c t h hh ia ix M hM r) (iblk9_apply m c t) (scaleB_apply m c t) (shiftB_apply m c t) d

end Half

/-- The results' entries that a point's blocks hold. -/
def hB (t : Fin cfg0.N) (y : S512x2048.Idx) : EReal := hM m c (ix2 (row t (y 0)) (y 1))
def xB (t : Fin cfg0.N) (y : S512x2048.Idx) : EReal := xfM m c (ix2 (row t (y 0)) (y 1))

theorem h_piece (t : Fin cfg0.N) (h : ℕ) (hh : h ≤ 256) (ia) (ix : ∀ a, (![h, 0] : Fin 2 → ℕ) a + (![256, 2048] : Fin 2 → ℕ) a ≤ S512x2048.size a) (M : List (View.Piece (Elt Ideal) S8x256x128 .f32)) (hM : ∀ y, View.canon M y = scrG m c t h hh y) (x : S256x2048.Idx) :
    hK ((View.whole cc0_scratch0).readCov M (Rect.unit (s := S8x256x128) ![0, 0, 0] ![1, 256, 128] inb_S8x256x128_S1x256x128_0_0_0).toLoadRect) ((View.whole cc0_scratch0).readCov M (Rect.unit (s := S8x256x128) ![1, 0, 0] ![1, 256, 128] inb_S8x256x128_S1x256x128_1_0_0).toLoadRect) ((View.whole cc0_scratch0).readCov M (Rect.unit (s := S8x256x128) ![2, 0, 0] ![1, 256, 128] inb_S8x256x128_S1x256x128_2_0_0).toLoadRect) ((View.whole cc0_scratch0).readCov M (Rect.unit (s := S8x256x128) ![3, 0, 0] ![1, 256, 128] inb_S8x256x128_S1x256x128_3_0_0).toLoadRect) ((View.whole cc0_scratch0).readCov M (Rect.unit (s := S8x256x128) ![4, 0, 0] ![1, 256, 128] inb_S8x256x128_S1x256x128_4_0_0).toLoadRect) ((View.whole cc0_scratch0).readCov M (Rect.unit (s := S8x256x128) ![5, 0, 0] ![1, 256, 128] inb_S8x256x128_S1x256x128_5_0_0).toLoadRect) ((View.whole cc0_scratch0).readCov M (Rect.unit (s := S8x256x128) ![6, 0, 0] ![1, 256, 128] inb_S8x256x128_S1x256x128_6_0_0).toLoadRect) ((View.whole cc0_scratch0).readCov M (Rect.unit (s := S8x256x128) ![7, 0, 0] ![1, 256, 128] inb_S8x256x128_S1x256x128_7_0_0).toLoadRect) (attB m c t h ia) (iblk m c 4 t) (iblk m c 5 t) (iblk m c 6 t) (iblk m c 7 t) (iblk m c 8 t) (inB m c t h ix) (gateB m c t) x
      = hB m c t ((Rect.unit (s := S512x2048) ![h, 0] ![256, 2048] ix).emb x) := by
  revert x
  change ∀ x : S256x2048.Idx, _
  intro x
  idx_vars x
  refine (h_apply m c t h hh ia ix M hM x0 x1).trans ?_
  unfold hB
  refine (Reference4Ideal.Val.flatR_apply _ (sq t) (seqRow t ⟨h + x0.val, by omega⟩) (row t ⟨h + x0.val, by omega⟩) (row_val t _) x1).symm.trans ?_
  congr 2
  · exact Fin.ext (by show 512 * t.val + (h + x0.val) = 512 * t.val + (h + 1 * x0.val); omega)
  · exact Fin.ext (by show x1.val = 0 + 1 * x1.val; omega)

theorem x_piece (t : Fin cfg0.N) (h : ℕ) (hh : h ≤ 256) (ia) (ix : ∀ a, (![h, 0] : Fin 2 → ℕ) a + (![256, 2048] : Fin 2 → ℕ) a ≤ S512x2048.size a) (M : List (View.Piece (Elt Ideal) S8x256x128 .f32)) (hM : ∀ y, View.canon M y = scrG m c t h hh y) (x : S256x2048.Idx) :
    xK ((View.whole cc0_scratch0).readCov M (Rect.unit (s := S8x256x128) ![0, 0, 0] ![1, 256, 128] inb_S8x256x128_S1x256x128_0_0_0).toLoadRect) ((View.whole cc0_scratch0).readCov M (Rect.unit (s := S8x256x128) ![1, 0, 0] ![1, 256, 128] inb_S8x256x128_S1x256x128_1_0_0).toLoadRect) ((View.whole cc0_scratch0).readCov M (Rect.unit (s := S8x256x128) ![2, 0, 0] ![1, 256, 128] inb_S8x256x128_S1x256x128_2_0_0).toLoadRect) ((View.whole cc0_scratch0).readCov M (Rect.unit (s := S8x256x128) ![3, 0, 0] ![1, 256, 128] inb_S8x256x128_S1x256x128_3_0_0).toLoadRect) ((View.whole cc0_scratch0).readCov M (Rect.unit (s := S8x256x128) ![4, 0, 0] ![1, 256, 128] inb_S8x256x128_S1x256x128_4_0_0).toLoadRect) ((View.whole cc0_scratch0).readCov M (Rect.unit (s := S8x256x128) ![5, 0, 0] ![1, 256, 128] inb_S8x256x128_S1x256x128_5_0_0).toLoadRect) ((View.whole cc0_scratch0).readCov M (Rect.unit (s := S8x256x128) ![6, 0, 0] ![1, 256, 128] inb_S8x256x128_S1x256x128_6_0_0).toLoadRect) ((View.whole cc0_scratch0).readCov M (Rect.unit (s := S8x256x128) ![7, 0, 0] ![1, 256, 128] inb_S8x256x128_S1x256x128_7_0_0).toLoadRect) (attB m c t h ia) (iblk m c 4 t) (iblk m c 5 t) (iblk m c 6 t) (iblk m c 7 t) (iblk m c 8 t) (inB m c t h ix) (gateB m c t) (iblk m c 9 t) (scaleB m c t) (shiftB m c t) x
      = xB m c t ((Rect.unit (s := S512x2048) ![h, 0] ![256, 2048] ix).emb x) := by
  revert x
  change ∀ x : S256x2048.Idx, _
  intro x
  idx_vars x
  refine (x_apply m c t h hh ia ix M hM x0 x1).trans ?_
  unfold xB
  congr 2
  · exact Fin.ext (by show 512 * t.val + (h + x0.val) = 512 * t.val + (h + 1 * x0.val); omega)
  · exact Fin.ext (by show x1.val = 0 + 1 * x1.val; omega)

theorem first_half (t : Fin cfg0.N) (y : S8x256x128.Idx) : View.canon (rowsA m c t) y = scrG m c t 0 (by norm_num) y := by
  have h := rowsA_apply m c t [] y
  rw [List.append_nil] at h
  exact h

end Cert.Kernel4Ideal.Val
-- ==== Proof.OutValue.lean ====
/- The projection out: the residual's block that a grid point leaves, and the array. -/
module

public import proofs.«01_k».proof.Proof.OutBlock

@[expose] public section

set_option maxRecDepth 16384
set_option maxHeartbeats 4000000

noncomputable section

namespace Cert.Kernel4Ideal.Val

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

theorem out10 (t : Fin cfg0.N) : (outsAt0 m c t).1 = hB m c t := by
  unfold outsAt0
  dsimp only
  frame_out
  funext y
  refine View.canon_apply_of_pieces (Val := Elt Ideal) (e := .f32) (hB m c t) _ (View.PiecesOf.mem ?_) y ?_
  swap
  · exact View.cover_of_tiledL (s := S512x2048) _ S256x2048.size (by sl_kernel_rfl) y
  refine ⟨fun x => by dsimp only; exact (congrFun hK'_eq x).trans (h_piece m c t 256 (by norm_num) inb_S512x1024_S256x1024_256_0 inb_S512x2048_S256x2048_256_0 (rowsB m c t ++ rowsA m c t) (rowsB_apply m c t (rowsA m c t)) x), ?_⟩
  refine ⟨fun x => by dsimp only; exact h_piece m c t 0 (by norm_num) inb_S512x1024_S256x1024_0_0 inb_S512x2048_S256x2048_0_0 (rowsA m c t) (first_half m c t) x, ?_⟩
  exact trivial

theorem final10 : (dats m 0 c).arrAt 10 cfg0.N = hM m c := by
  refine (dats m 0 c).arrAt_eq_of_covers 10 _ (by decide +kernel) fun t hf y => ?_
  rw [after0_10]
  blk_simp
  revert y
  change ∀ y : S512x2048.Idx, (outsAt0 m c t).1 y = _
  intro y
  rw [out10]
  unfold hB
  idx_vars y
  congr 1
  blk_ext [e10, row]

end Cert.Kernel4Ideal.Val
-- ==== Proof.OutNext.lean ====
/- The projection out: the block of the feed-forward's input that a grid point leaves, and the array. -/
module

public import proofs.«01_k».proof.Proof.OutBlock

@[expose] public section

set_option maxRecDepth 16384
set_option maxHeartbeats 4000000

noncomputable section

namespace Cert.Kernel4Ideal.Val

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

theorem out11 (t : Fin cfg0.N) : (outsAt0 m c t).2 = xB m c t := by
  unfold outsAt0
  dsimp only
  frame_out
  funext y
  refine View.canon_apply_of_pieces (Val := Elt Ideal) (e := .bf16) (xB m c t) _ (View.PiecesOf.mem ?_) y ?_
  swap
  · exact View.cover_of_tiledL (s := S512x2048) _ S256x2048.size (by sl_kernel_rfl) y
  refine ⟨fun x => by dsimp only; exact (congrFun xK'_eq x).trans (x_piece m c t 256 (by norm_num) inb_S512x1024_S256x1024_256_0 inb_S512x2048_S256x2048_256_0 (rowsB m c t ++ rowsA m c t) (rowsB_apply m c t (rowsA m c t)) x), ?_⟩
  refine ⟨fun x => by dsimp only; exact x_piece m c t 0 (by norm_num) inb_S512x1024_S256x1024_0_0 inb_S512x2048_S256x2048_0_0 (rowsA m c t) (first_half m c t) x, ?_⟩
  exact trivial

theorem final11 : (dats m 0 c).arrAt 11 cfg0.N = xfM m c := by
  refine (dats m 0 c).arrAt_eq_of_covers 11 _ (by decide +kernel) fun t hf y => ?_
  rw [after0_11]
  blk_simp
  revert y
  change ∀ y : S512x2048.Idx, (outsAt0 m c t).2 y = _
  intro y
  rw [out11]
  unfold xB
  idx_vars y
  congr 1
  blk_ext [e11, row]

end Cert.Kernel4Ideal.Val
-- ==== Proof.OutAlgebraic.lean ====
/- The projection out: the kernel's two results are the reference's, at the extended reals. -/
module

public import proofs.«01_k».proof.Defs
public import proofs.«01_k».proof.Proof.OutValue
public import proofs.«01_k».proof.Proof.OutNext

@[expose] public section

set_option maxRecDepth 16384

noncomputable section

namespace Cert.Proof.Claims

open Idealize.ShloMosaic Idealize.ShloMosaic.TcCoe
open Idealize.SL.Sem

theorem res_congr {y y' a a' : Cert.Reference4Ideal.Val.Half} {x x' : Cert.Reference4Ideal.Val.Wide} {mod mod' : Cert.Reference4Ideal.Val.Mod} {wg wg' : FVec Ideal Cert.Reference4Ideal.S1024x1024 .f32}
    {gs gs' ga ga' : FVec Ideal Cert.Reference4Ideal.S1024 .f32} {wo wo' : FVec Ideal Cert.Reference4Ideal.S2048x2048 .f32}
    (e0 : y = y') (e1 : a = a') (e2 : x = x') (e3 : mod = mod') (e4 : wg = wg') (e5 : gs = gs') (e6 : ga = ga') (e7 : wo = wo') :
    Cert.Reference4Ideal.Val.resR y a x mod wg gs ga wo = Cert.Reference4Ideal.Val.resR y' a' x' mod' wg' gs' ga' wo' := by rw [e0, e1, e2, e3, e4, e5, e6, e7]

theorem xf_congr {h h' : Cert.Reference4Ideal.Val.Wide} {mod mod' : Cert.Reference4Ideal.Val.Mod} {g g' : FVec Ideal Cert.Reference4Ideal.S2048 .f32} (e0 : h = h') (e1 : mod = mod') (e2 : g = g') :
    Cert.Reference4Ideal.Val.xfR h mod g = Cert.Reference4Ideal.Val.xfR h' mod' g' := by rw [e0, e1, e2]

set_option maxHeartbeats 1000000 in
theorem algebraic4 : Cert.algebraic_Kernel4Ideal_Reference4Ideal (hKernel4Ideal := Cert.Kernel4Ideal.Gen.facts) (hReference4Ideal := Cert.Reference4Ideal.Gen.facts) :=
  fun m ρ m' ρ' _ harg => by
  refine ⟨fun c => Cert.Kernel4Ideal.Val.hM m c, fun c => Cert.Kernel4Ideal.Val.xfM m c, ?_, ?_⟩
  · refine (θ_run Cert.Kernel4Ideal.defs _ _).mono (fun r h c => ?_) (Cert.Kernel4Ideal.Value.run_blocks (F := Ideal) m ρ)
    obtain ⟨r0, r1, hk⟩ := h c
    exact ⟨r0.trans (Cert.Kernel4Ideal.Val.final10 m c), r1.trans (Cert.Kernel4Ideal.Val.final11 m c), hk⟩
  · refine (θ_run Cert.Reference4Ideal.defs _ _).mono (fun r h c => ?_) (Cert.Reference4Ideal.Value.run (F := Ideal) m' ρ')
    obtain ⟨a0, a1, a2, a3, a4, a5, a6, a7, a8⟩ := harg c
    obtain ⟨r0, r1, hk⟩ := h c
    have ep := res_congr a0 a1 a2 a3 a4 a5 a6 a7
    exact ⟨r0.trans (congrArg Cert.Reference4Ideal.Val.flatR ep), r1.trans (xf_congr ep a3 a8), hk⟩

end Cert.Proof.Claims

end
-- ==== Proof.ModFrames.lean ====
/- The frames of the modulation's programs. -/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import Idealize.ShloMosaic.Lib.Quiescent

@[expose] public section

set_option maxRecDepth 16384

noncomputable section

namespace Cert.Proof.Claims

open Idealize.ShloMosaic Idealize.ShloMosaic.TcCoe
open Idealize.SL.Sem

theorem frame_p5 : Cert.quiescent_Kernel5 (hKernel5 := Cert.Kernel5.Gen.facts) := fun m ρ _ => Cert.Kernel5.Gen.frame m ρ

theorem frame_pi5 : Cert.quiescent_Kernel5Ideal (hKernel5Ideal := Cert.Kernel5Ideal.Gen.facts) := fun m ρ _ => Cert.Kernel5Ideal.Gen.frame m ρ

theorem frame_ri5 : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- Nothing was rewritten. -/
theorem preserves5 : Cert.preserves_Kernel5_Kernel5Ideal := trivial

end Cert.Proof.Claims

end
-- ==== Proof.ModPay.lean ====
/- What one grid point of the modulation computes, read off at an index. -/
module

public import proofs.«01_k».proof.Proof.Gen.Kernel5Ideal.Value
public import proofs.«01_k».proof.Proof.Gen.Reference5Ideal.Run
public import Idealize.ShloMosaic.Lib.Pointwise

@[expose] public section

set_option maxRecDepth 16384

noncomputable section

namespace Cert.Kernel5Ideal.Val

open Cert.Kernel5Ideal Cert.Kernel5Ideal.Gen
open Idealize.ShloMosaic

def silu (x : EReal) : EReal := x * Ideal.logistic x

/-- A chunk of 256 features, as eight sums of every eighth. -/
theorem pay9_apply (x : FVec Ideal S1x256x1 .f32) (w : FVec Ideal S256x1024 .f32) (s : Fin 8) (l : Fin 1024) :
    k0_pay9 (F := Ideal) x w (ix2 s l) = ∑ j : Fin 32, silu (x (ix3 0 ⟨8 * j.val + s.val, by omega⟩ 0)) * w (ix2 ⟨8 * j.val + s.val, by omega⟩ l) := by
  pointwise [k0_pay9]
  rfl

/-- The eight sums together, plus the bias. -/
def lastK (A : FVec Ideal S8x1024 .f32) (b : FVec Ideal S1x1024 .f32) : FVec Ideal S1x1024 .f32 :=
  addf (F := Ideal) (shapeCast S1x1024 (multiReduction .add [0] S1024 A 0x00000000#32 reduces_S8x1024_S1024 (.inl rfl) rfl) shapeCasts_S1024_S1x1024) (shapeCast S1x1024 b shapeCasts_S1x1024_S1x1024)

theorem lastK_apply (A : FVec Ideal S8x1024 .f32) (b : FVec Ideal S1x1024 .f32) (l : Fin 1024) : lastK A b (ix2 0 l) = (∑ s : Fin 8, A (ix2 s l)) + b (ix2 0 l) := by
  pointwise [lastK]

/-- A sum cut in runs of the same length. -/
theorem sum_runs (a b : ℕ) (f : ℕ → EReal) : ∑ k : Fin (a * b), f k.val = ∑ i : Fin a, ∑ j : Fin b, f (b * i.val + j.val) := by
  rw [← Equiv.sum_comp finProdFinEquiv (fun k : Fin (a * b) => f k.val), Fintype.sum_prod_type]
  refine Finset.sum_congr rfl fun i _ => Finset.sum_congr rfl fun j _ => congrArg f ?_
  show j.val + b * i.val = b * i.val + j.val
  omega

/-- Every eighth of a chunk, from each of the first eight, is the chunk. -/
theorem sum_chunk (n : ℕ) (f : ℕ → EReal) : ∑ s : Fin 8, ∑ j : Fin 32, f (n + (8 * j.val + s.val)) = ∑ r : Fin 256, f (n + r.val) := by
  rw [Finset.sum_comm]
  exact (sum_runs 32 8 fun r => f (n + r)).symm

section Row

variable (C0 C1 C2 C3 C4 C5 C6 C7 : FVec Ideal S1x256x1 .f32) (W0 W1 W2 W3 W4 W5 W6 W7 : FVec Ideal S256x1024 .f32) (b : FVec Ideal S1x1024 .f32)

/-- A sequence's row of a point's block. -/
def rowK : FVec Ideal S1x1024 .f32 := k0_pay6 (F := Ideal) (k0_pay4 (k0_pay2 C0 W0 C1 W1 C2 W2) (k0_pay3 C3) W3 C4 W4 C5 W5 C6 W6) (k0_pay5 C7) W7 b

theorem second_eq : k0_pay1 (F := Ideal) (k0_pay8 (k0_pay7 C0 W0 C1 W1) C2 W2 C3 W3 C4 W4) (k0_pay9 C5 W5) C6 W6 C7 W7 b = rowK C0 C1 C2 C3 C4 C5 C6 C7 W0 W1 W2 W3 W4 W5 W6 W7 b := rfl

theorem rowK_eq : rowK C0 C1 C2 C3 C4 C5 C6 C7 W0 W1 W2 W3 W4 W5 W6 W7 b = lastK (addf (addf (addf (addf (addf (addf (addf (addf (broadcast S8x1024 (Scalar.ofBits .f32 0x00000000#32)) (k0_pay9 (F := Ideal) C0 W0)) (k0_pay9 (F := Ideal) C1 W1)) (k0_pay9 (F := Ideal) C2 W2)) (k0_pay9 (F := Ideal) C3 W3)) (k0_pay9 (F := Ideal) C4 W4)) (k0_pay9 (F := Ideal) C5 W5)) (k0_pay9 (F := Ideal) C6 W6)) (k0_pay9 (F := Ideal) C7 W7)) b := rfl

theorem rowK_apply (f : ℕ → Fin 1024 → EReal) (h0 : ∀ (r : Fin 256) (l : Fin 1024), silu (C0 (ix3 0 r 0)) * W0 (ix2 r l) = f (0 + r.val) l) (h1 : ∀ (r : Fin 256) (l : Fin 1024), silu (C1 (ix3 0 r 0)) * W1 (ix2 r l) = f (256 + r.val) l) (h2 : ∀ (r : Fin 256) (l : Fin 1024), silu (C2 (ix3 0 r 0)) * W2 (ix2 r l) = f (512 + r.val) l) (h3 : ∀ (r : Fin 256) (l : Fin 1024), silu (C3 (ix3 0 r 0)) * W3 (ix2 r l) = f (768 + r.val) l) (h4 : ∀ (r : Fin 256) (l : Fin 1024), silu (C4 (ix3 0 r 0)) * W4 (ix2 r l) = f (1024 + r.val) l) (h5 : ∀ (r : Fin 256) (l : Fin 1024), silu (C5 (ix3 0 r 0)) * W5 (ix2 r l) = f (1280 + r.val) l) (h6 : ∀ (r : Fin 256) (l : Fin 1024), silu (C6 (ix3 0 r 0)) * W6 (ix2 r l) = f (1536 + r.val) l) (h7 : ∀ (r : Fin 256) (l : Fin 1024), silu (C7 (ix3 0 r 0)) * W7 (ix2 r l) = f (1792 + r.val) l) (l : Fin 1024) :
    rowK C0 C1 C2 C3 C4 C5 C6 C7 W0 W1 W2 W3 W4 W5 W6 W7 b (ix2 0 l) = (∑ k : Fin 2048, f k.val l) + b (ix2 0 l) := by
  rw [rowK_eq, lastK_apply]
  congr 1
  rw [show (∑ k : Fin 2048, f k.val l) = _ from sum_runs 8 256 fun k => f k l, Fin.sum_univ_eight (fun i : Fin 8 => ∑ j : Fin 256, f (256 * i.val + j.val) l)]
  have e (s : Fin 8) : (addf (addf (addf (addf (addf (addf (addf (addf (broadcast S8x1024 (Scalar.ofBits .f32 0x00000000#32)) (k0_pay9 (F := Ideal) C0 W0)) (k0_pay9 (F := Ideal) C1 W1)) (k0_pay9 (F := Ideal) C2 W2)) (k0_pay9 (F := Ideal) C3 W3)) (k0_pay9 (F := Ideal) C4 W4)) (k0_pay9 (F := Ideal) C5 W5)) (k0_pay9 (F := Ideal) C6 W6)) (k0_pay9 (F := Ideal) C7 W7)) (ix2 s l) = (∑ j : Fin 32, f (0 + (8 * j.val + s.val)) l) + (∑ j : Fin 32, f (256 + (8 * j.val + s.val)) l) + (∑ j : Fin 32, f (512 + (8 * j.val + s.val)) l) + (∑ j : Fin 32, f (768 + (8 * j.val + s.val)) l) + (∑ j : Fin 32, f (1024 + (8 * j.val + s.val)) l) + (∑ j : Fin 32, f (1280 + (8 * j.val + s.val)) l) + (∑ j : Fin 32, f (1536 + (8 * j.val + s.val)) l) + (∑ j : Fin 32, f (1792 + (8 * j.val + s.val)) l) := by
    simp only [addf_apply, pay9_apply, h0, h1, h2, h3, h4, h5, h6, h7]
    rw [show (broadcast S8x1024 (Scalar.ofBits (F := Ideal) .f32 0x00000000#32) : FVec Ideal S8x1024 .f32) (ix2 s l) = 0 by pointwise []]
    show 0 + (∑ j : Fin 32, f (0 + (8 * j.val + s.val)) l) + (∑ j : Fin 32, f (256 + (8 * j.val + s.val)) l) + (∑ j : Fin 32, f (512 + (8 * j.val + s.val)) l) + (∑ j : Fin 32, f (768 + (8 * j.val + s.val)) l) + (∑ j : Fin 32, f (1024 + (8 * j.val + s.val)) l) + (∑ j : Fin 32, f (1280 + (8 * j.val + s.val)) l) + (∑ j : Fin 32, f (1536 + (8 * j.val + s.val)) l) + (∑ j : Fin 32, f (1792 + (8 * j.val + s.val)) l) = _
    rw [zero_add]
  rw [Finset.sum_congr rfl fun s _ => e s]
  simp only [Finset.sum_add_distrib]
  rw [sum_chunk 0 fun k => f k l]
  rw [sum_chunk 256 fun k => f k l]
  rw [sum_chunk 512 fun k => f k l]
  rw [sum_chunk 768 fun k => f k l]
  rw [sum_chunk 1024 fun k => f k l]
  rw [sum_chunk 1280 fun k => f k l]
  rw [sum_chunk 1536 fun k => f k l]
  rw [sum_chunk 1792 fun k => f k l]
  rfl

end Row

end Cert.Kernel5Ideal.Val

namespace Cert.Reference5Ideal.Val

open Cert.Reference5Ideal Cert.Reference5Ideal.Gen
open Idealize.ShloMosaic

def siluR (z : FVec Ideal S2x2048 .f32) : FVec Ideal S2x2048 .f32 :=
  mulf z (Host.divf (broadcastInDim S2x2048 ![] bcast_S_S2x2048 (constant S_ .f32 0x3F800000#32)) (addf (broadcastInDim S2x2048 ![] bcast_S_S2x2048 (constant S_ .f32 0x3F800000#32)) (Host.exp (Host.negf z))))

/-- The whole modulation. -/
def modR (x : FVec Ideal S2x2048 .f32) (w : FVec Ideal S2048x12288 .f32) (b : FVec Ideal S12288 .f32) : FVec Ideal S2x12288 .f32 :=
  addf (F := Ideal) (Host.dotGeneral dot_S2x2048_S2048x12288_S2x12288_1_0_0_1_n_n none (siluR x) w) (broadcastInDim S2x12288 ![0, 1] bcast_S1x12288_S2x12288_0_1 (broadcastInDim S1x12288 ![1] bcast_S12288_S1x12288_1 b))

theorem siluR_apply (z : FVec Ideal S2x2048 .f32) (i : S2x2048.Idx) : siluR z i = Kernel5Ideal.Val.silu (z i) := by
  pointwise [siluR]
  rfl

theorem modR_apply (x : FVec Ideal S2x2048 .f32) (w : FVec Ideal S2048x12288 .f32) (b : FVec Ideal S12288 .f32) (s : Fin 2) (n : Fin 12288) :
    modR x w b (ix2 s n) = (∑ k : Fin 2048, Kernel5Ideal.Val.silu (x (ix2 s k)) * w (ix2 k n)) + b (ix1 n) := by
  pointwise [modR]
  simp only [siluR_apply]

end Cert.Reference5Ideal.Val
-- ==== Proof.ModValue.lean ====
/- What the host hands the modulation, what a grid point leaves in its block, and the array: the reference's result. -/
module

public import proofs.«01_k».proof.Proof.ModPay
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel5Ideal.Val

open Cert.Kernel5Ideal Cert.Kernel5Ideal.Gen
open Idealize.ShloMosaic Idealize.ShloMosaic.TcCoe Idealize.ShloMosaic.StableHlo Idealize.ShloMosaic.Tactic

variable (m : (ℓ : Loc nD τ sig) → Buf (Elt Ideal) ℓ) (c : Dev nD)

/-- The conditioning vectors as columns, and the bias as a row. -/
def colV (x : FVec Ideal S2x2048 .f32) : FVec Ideal S2x2048x1 .f32 := shapeCast S2x2048x1 x shapeCasts_S2x2048_S2x2048x1
def rowV (x : FVec Ideal S12288 .f32) : FVec Ideal S1x12288 .f32 := shapeCast S1x12288 x shapeCasts_S12288_S1x12288

theorem V_x : V m c main_v0 = colV (m ((c : Thread nD τ).loc main_arg0)) := by
  unfold_abbrev_sides
  after_results
  rfl

theorem V_b : V m c main_v1 = rowV (m ((c : Thread nD τ).loc main_arg2)) := by
  unfold_abbrev_sides
  after_results
  rfl

theorem colV_apply (x : FVec Ideal S2x2048 .f32) (s : Fin 2) (k : Fin 2048) : colV x (ix3 s k 0) = x (ix2 s k) := by
  pointwise [colV]

theorem rowV_apply (x : FVec Ideal S12288 .f32) (n : Fin 12288) : rowV x (ix2 0 n) = x (ix1 n) := by
  pointwise [rowV]

theorem lt_points (t : Fin cfg0.N) : t.val < 12 := lt_of_lt_of_eq t.isLt (show cfg0.N = 12 from N_0)

theorem e0 : ∀ t : Fin cfg0.N, win0_0.index t = ![0, 0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)

/-- The feature that a lane of a point's block is. -/
def feat (t : Fin cfg0.N) (l : Fin 1024) : Fin 12288 := ⟨1024 * t.val + l.val, by have := lt_points t; omega⟩

abbrev xM : FVec Ideal S2x2048 .f32 := m ((c : Thread nD τ).loc main_arg0)
abbrev wM : FVec Ideal S2048x12288 .f32 := m ((c : Thread nD τ).loc main_arg1)
abbrev bM : FVec Ideal S12288 .f32 := m ((c : Thread nD τ).loc main_arg2)

theorem iblk0_apply (t : Fin cfg0.N) (s : Fin 2) (k : Fin 2048) : (iblk m c 0 t : Vec Ideal S2x2048x1 .f32) (ix3 s k 0) = xM m c (ix2 s k) := by
  refine Eq.trans ?_ ((congrFun (V_x m c) (ix3 s k 0)).trans (colV_apply _ s k))
  show V m c main_v0 _ = V m c main_v0 _
  congr 1
  blk_ext [e0]

theorem iblk1_apply (t : Fin cfg0.N) (k : Fin 2048) (l : Fin 1024) : (iblk m c 1 t : Vec Ideal S2048x1024 .f32) (ix2 k l) = wM m c (ix2 k (feat t l)) := by
  refine Eq.trans ?_ (congrFun (V_main_arg1 m c) (ix2 k (feat t l)))
  show V m c main_arg1 _ = V m c main_arg1 _
  congr 1
  blk_ext [e1, feat]

theorem iblk2_apply (t : Fin cfg0.N) (l : Fin 1024) : (iblk m c 2 t : Vec Ideal S1x1024 .f32) (ix2 0 l) = bM m c (ix1 (feat t l)) := by
  refine Eq.trans ?_ ((congrFun (V_b m c) (ix2 0 (feat t l))).trans (rowV_apply _ (feat t l)))
  show V m c main_v1 _ = V m c main_v1 _
  congr 1
  blk_ext [e2, feat]

/-- A chunk of a sequence's conditioning vector, of the weights, and the bias. -/
abbrev colB (t : Fin cfg0.N) (s n : ℕ) (i : ∀ a, (![s, n, 0] : Fin 3 → ℕ) a + (![1, 256, 1] : Fin 3 → ℕ) a ≤ S2x2048x1.size a) : FVec Ideal S1x256x1 .f32 :=
  View.ld (iblk m c 0 t : Vec Ideal S2x2048x1 .f32) (Rect.unit ![s, n, 0] ![1, 256, 1] i)
abbrev wtB (t : Fin cfg0.N) (n : ℕ) (i : ∀ a, (![n, 0] : Fin 2 → ℕ) a + (![256, 1024] : Fin 2 → ℕ) a ≤ S2048x1024.size a) : FVec Ideal S256x1024 .f32 :=
  View.ld (iblk m c 1 t : Vec Ideal S2048x1024 .f32) (Rect.unit ![n, 0] ![256, 1024] i)
abbrev biB (t : Fin cfg0.N) : FVec Ideal S1x1024 .f32 :=
  View.ld (iblk m c 2 t : Vec Ideal S1x1024 .f32) (Rect.unit ![0, 0] ![1, 1024] inb_S1x1024_S1x1024_0_0)

theorem colB_apply (t : Fin cfg0.N) (s n : ℕ) (hs : s < 2) (hn : n ≤ 1792) (i) (r : Fin 256) : colB m c t s n i (ix3 0 r 0) = xM m c (ix2 ⟨s, hs⟩ ⟨n + r.val, by omega⟩) := by
  refine Eq.trans ?_ (iblk0_apply m c t ⟨s, hs⟩ ⟨n + r.val, by omega⟩)
  show (iblk m c 0 t : Vec Ideal S2x2048x1 .f32) _ = (iblk m c 0 t : Vec Ideal S2x2048x1 .f32) _
  congr 1
  funext a
  apply Fin.ext
  match a with
  | ⟨0, _⟩ => rfl
  | ⟨1, _⟩ => show n + 1 * r.val = n + r.val; omega
  | ⟨2, _⟩ => rfl

theorem wtB_apply (t : Fin cfg0.N) (n : ℕ) (hn : n ≤ 1792) (i) (r : Fin 256) (l : Fin 1024) : wtB m c t n i (ix2 r l) = wM m c (ix2 ⟨n + r.val, by omega⟩ (feat t l)) := by
  refine Eq.trans ?_ (iblk1_apply m c t ⟨n + r.val, by omega⟩ l)
  show (iblk m c 1 t : Vec Ideal S2048x1024 .f32) _ = (iblk m c 1 t : Vec Ideal S2048x1024 .f32) _
  congr 1
  funext a
  apply Fin.ext
  match a with
  | ⟨0, _⟩ => show n + 1 * r.val = n + r.val; omega
  | ⟨1, _⟩ => show 0 + 1 * l.val = l.val; omega

theorem biB_apply (t : Fin cfg0.N) (l : Fin 1024) : biB m c t (ix2 0 l) = bM m c (ix1 (feat t l)) := by
  refine Eq.trans ?_ (iblk2_apply m c t l)
  show (iblk m c 2 t : Vec Ideal S1x1024 .f32) _ = (iblk m c 2 t : Vec Ideal S1x1024 .f32) _
  congr 1
  funext a
  apply Fin.ext
  match a with
  | ⟨0, _⟩ => rfl
  | ⟨1, _⟩ => show 0 + 1 * l.val = l.val; omega

/-- What a conditioning feature adds to a modulation feature. -/
def term (t : Fin cfg0.N) (s : Fin 2) (k : ℕ) (l : Fin 1024) : EReal :=
  silu (xM m c (ix2 s ⟨k % 2048, Nat.mod_lt _ (by norm_num)⟩)) * wM m c (ix2 ⟨k % 2048, Nat.mod_lt _ (by norm_num)⟩ (feat t l))

theorem piece_term (t : Fin cfg0.N) (s n : ℕ) (hs : s < 2) (hn : n ≤ 1792) (i j) (r : Fin 256) (l : Fin 1024) :
    silu (colB m c t s n i (ix3 0 r 0)) * wtB m c t n j (ix2 r l) = term m c t ⟨s, hs⟩ (n + r.val) l := by
  have e : (⟨(n + r.val) % 2048, Nat.mod_lt _ (by norm_num)⟩ : Fin 2048) = ⟨n + r.val, by omega⟩ := Fin.ext (Nat.mod_eq_of_lt (by omega))
  unfold term
  rw [colB_apply m c t s n hs hn i r, wtB_apply m c t n hn j r l, e]

abbrev modM : FVec Ideal Reference5Ideal.S2x12288 .f32 := Reference5Ideal.Val.modR (xM m c) (wM m c) (bM m c)

theorem modM_apply (t : Fin cfg0.N) (s : Fin 2) (l : Fin 1024) : modM m c (ix2 s (feat t l)) = (∑ k : Fin 2048, term m c t s k.val l) + bM m c (ix1 (feat t l)) := by
  refine (Reference5Ideal.Val.modR_apply (xM m c) (wM m c) (bM m c) s (feat t l)).trans ?_
  refine congrArg (· + bM m c (ix1 (feat t l))) (Finset.sum_congr rfl fun k _ => ?_)
  have e : (⟨k.val % 2048, Nat.mod_lt _ (by norm_num)⟩ : Fin 2048) = k := Fin.ext (Nat.mod_eq_of_lt k.isLt)
  unfold term
  rw [e]

def outB (t : Fin cfg0.N) : Vec Ideal S2x1024 .f32 := fun y => modM m c (ix2 ⟨(y 0).val, (y 0).isLt⟩ (feat t ⟨(y 1).val, (y 1).isLt⟩))

theorem row0 (t : Fin cfg0.N) (l : Fin 1024) : rowK (colB m c t 0 0 inb_S2x2048x1_S1x256x1_0_0_0) (colB m c t 0 256 inb_S2x2048x1_S1x256x1_0_256_0) (colB m c t 0 512 inb_S2x2048x1_S1x256x1_0_512_0) (colB m c t 0 768 inb_S2x2048x1_S1x256x1_0_768_0) (colB m c t 0 1024 inb_S2x2048x1_S1x256x1_0_1024_0) (colB m c t 0 1280 inb_S2x2048x1_S1x256x1_0_1280_0) (colB m c t 0 1536 inb_S2x2048x1_S1x256x1_0_1536_0) (colB m c t 0 1792 inb_S2x2048x1_S1x256x1_0_1792_0) (wtB m c t 0 inb_S2048x1024_S256x1024_0_0) (wtB m c t 256 inb_S2048x1024_S256x1024_256_0) (wtB m c t 512 inb_S2048x1024_S256x1024_512_0) (wtB m c t 768 inb_S2048x1024_S256x1024_768_0) (wtB m c t 1024 inb_S2048x1024_S256x1024_1024_0) (wtB m c t 1280 inb_S2048x1024_S256x1024_1280_0) (wtB m c t 1536 inb_S2048x1024_S256x1024_1536_0) (wtB m c t 1792 inb_S2048x1024_S256x1024_1792_0) (biB m c t) (ix2 0 l) = modM m c (ix2 0 (feat t l)) :=
  (rowK_apply _ _ _ _ _ _ _ _ _ _ _ _ _ _ _ _ _ (term m c t 0) (fun r l => piece_term m c t 0 0 (by norm_num) (by norm_num) _ _ r l) (fun r l => piece_term m c t 0 256 (by norm_num) (by norm_num) _ _ r l) (fun r l => piece_term m c t 0 512 (by norm_num) (by norm_num) _ _ r l) (fun r l => piece_term m c t 0 768 (by norm_num) (by norm_num) _ _ r l) (fun r l => piece_term m c t 0 1024 (by norm_num) (by norm_num) _ _ r l) (fun r l => piece_term m c t 0 1280 (by norm_num) (by norm_num) _ _ r l) (fun r l => piece_term m c t 0 1536 (by norm_num) (by norm_num) _ _ r l) (fun r l => piece_term m c t 0 1792 (by norm_num) (by norm_num) _ _ r l) l).trans
    ((congrArg ((∑ k : Fin 2048, term m c t 0 k.val l) + ·) (biB_apply m c t l)).trans (modM_apply m c t 0 l).symm)

theorem row1 (t : Fin cfg0.N) (l : Fin 1024) : rowK (colB m c t 1 0 inb_S2x2048x1_S1x256x1_1_0_0) (colB m c t 1 256 inb_S2x2048x1_S1x256x1_1_256_0) (colB m c t 1 512 inb_S2x2048x1_S1x256x1_1_512_0) (colB m c t 1 768 inb_S2x2048x1_S1x256x1_1_768_0) (colB m c t 1 1024 inb_S2x2048x1_S1x256x1_1_1024_0) (colB m c t 1 1280 inb_S2x2048x1_S1x256x1_1_1280_0) (colB m c t 1 1536 inb_S2x2048x1_S1x256x1_1_1536_0) (colB m c t 1 1792 inb_S2x2048x1_S1x256x1_1_1792_0) (wtB m c t 0 inb_S2048x1024_S256x1024_0_0) (wtB m c t 256 inb_S2048x1024_S256x1024_256_0) (wtB m c t 512 inb_S2048x1024_S256x1024_512_0) (wtB m c t 768 inb_S2048x1024_S256x1024_768_0) (wtB m c t 1024 inb_S2048x1024_S256x1024_1024_0) (wtB m c t 1280 inb_S2048x1024_S256x1024_1280_0) (wtB m c t 1536 inb_S2048x1024_S256x1024_1536_0) (wtB m c t 1792 inb_S2048x1024_S256x1024_1792_0) (biB m c t) (ix2 0 l) = modM m c (ix2 1 (feat t l)) :=
  (rowK_apply _ _ _ _ _ _ _ _ _ _ _ _ _ _ _ _ _ (term m c t 1) (fun r l => piece_term m c t 1 0 (by norm_num) (by norm_num) _ _ r l) (fun r l => piece_term m c t 1 256 (by norm_num) (by norm_num) _ _ r l) (fun r l => piece_term m c t 1 512 (by norm_num) (by norm_num) _ _ r l) (fun r l => piece_term m c t 1 768 (by norm_num) (by norm_num) _ _ r l) (fun r l => piece_term m c t 1 1024 (by norm_num) (by norm_num) _ _ r l) (fun r l => piece_term m c t 1 1280 (by norm_num) (by norm_num) _ _ r l) (fun r l => piece_term m c t 1 1536 (by norm_num) (by norm_num) _ _ r l) (fun r l => piece_term m c t 1 1792 (by norm_num) (by norm_num) _ _ r l) l).trans
    ((congrArg ((∑ k : Fin 2048, term m c t 1 k.val l) + ·) (biB_apply m c t l)).trans (modM_apply m c t 1 l).symm)

theorem outB_row (t : Fin cfg0.N) (s : ℕ) (hs : s < 2) (i) (l : Fin 1024) :
    outB m c t ((Rect.unit (s := S2x1024) ![s, 0] S1x1024.size i).emb (ix2 0 l)) = modM m c (ix2 ⟨s, hs⟩ (feat t l)) := by
  unfold outB
  congr 2
  congr 1
  exact Fin.ext (by show 0 + 1 * l.val = l.val; omega)

theorem out3 (t : Fin cfg0.N) : out0_3 (F := Ideal) (iblk m c 0 t) (iblk m c 1 t) (iblk m c 2 t) = outB m c t := by
  funext y
  unfold out0_3
  refine View.canon_apply_of_pieces (Val := Elt Ideal) (e := .f32) (outB m c t) _ (View.PiecesOf.mem ?_) y (cover0_3 _ _ y)
  refine ⟨?_, ?_, trivial⟩
  · change ∀ x : S1x1024.Idx, _
    intro x
    idx_vars x
    obtain rfl : x0 = 0 := Subsingleton.elim _ _
    exact (row1 m c t x1).trans (outB_row m c t 1 (by norm_num) _ x1).symm
  · change ∀ x : S1x1024.Idx, _
    intro x
    idx_vars x
    obtain rfl : x0 = 0 := Subsingleton.elim _ _
    exact (row0 m c t x1).trans (outB_row m c t 0 (by norm_num) _ x1).symm

theorem final3 : (dats m 0 c).arrAt 3 cfg0.N = modM m c := by
  refine (dats m 0 c).arrAt_eq_of_covers 3 _ (by decide +kernel) fun t hf y => ?_
  rw [after0_3]
  blk_simp
  revert y
  change ∀ y : S2x1024.Idx, out0_3 (F := Ideal) (iblk m c 0 t) (iblk m c 1 t) (iblk m c 2 t) y = _
  intro y
  rw [out3]
  unfold outB
  idx_vars y
  congr 1
  blk_ext [e3, feat]

end Cert.Kernel5Ideal.Val
-- ==== Proof.ModAlgebraic.lean ====
/- The modulation: the kernel's result is the reference's, at the extended reals. -/
module

public import proofs.«01_k».proof.Defs
public import proofs.«01_k».proof.Proof.ModValue

@[expose] public section

set_option maxRecDepth 16384

noncomputable section

namespace Cert.Proof.Claims

open Idealize.ShloMosaic Idealize.ShloMosaic.TcCoe
open Idealize.SL.Sem

theorem mod_congr {x x' : FVec Ideal Cert.Reference5Ideal.S2x2048 .f32} {w w' : FVec Ideal Cert.Reference5Ideal.S2048x12288 .f32} {b b' : FVec Ideal Cert.Reference5Ideal.S12288 .f32}
    (e0 : x = x') (e1 : w = w') (e2 : b = b') : Cert.Reference5Ideal.Val.modR x w b = Cert.Reference5Ideal.Val.modR x' w' b' := by rw [e0, e1, e2]

theorem algebraic5 : Cert.algebraic_Kernel5Ideal_Reference5Ideal (hKernel5Ideal := Cert.Kernel5Ideal.Gen.facts) (hReference5Ideal := Cert.Reference5Ideal.Gen.facts) :=
  fun m ρ m' ρ' _ harg => by
  refine ⟨fun c => Cert.Kernel5Ideal.Val.modM m c, ?_, ?_⟩
  · refine (θ_run Cert.Kernel5Ideal.defs _ _).mono (fun r h c => ?_) (Cert.Kernel5Ideal.Value.run_blocks (F := Ideal) m ρ)
    exact ⟨(h c).1.trans (Cert.Kernel5Ideal.Val.final3 m c), (h c).2⟩
  · refine (θ_run Cert.Reference5Ideal.defs _ _).mono (fun r h c => ?_) (Cert.Reference5Ideal.Value.run (F := Ideal) m' ρ')
    obtain ⟨a0, a1, a2⟩ := harg c
    obtain ⟨r0, hk⟩ := h c
    exact ⟨r0.trans (mod_congr a0 a1 a2), hk⟩

end Cert.Proof.Claims

end
-- ==== Proof.lean ====
/- What this certificate claims, from the modules that prove it. -/
module

public import proofs.«01_k».proof.Proof.Frames
public import proofs.«01_k».proof.Proof.Algebraic
public import proofs.«01_k».proof.Proof.FfnFrames
public import proofs.«01_k».proof.Proof.FfnAlgebraic
public import proofs.«01_k».proof.Proof.InFrames
public import proofs.«01_k».proof.Proof.InAlgebraic
public import proofs.«01_k».proof.Proof.OutFrames
public import proofs.«01_k».proof.Proof.OutAlgebraic
public import proofs.«01_k».proof.Proof.ModFrames
public import proofs.«01_k».proof.Proof.ModAlgebraic

@[expose] public section

namespace Cert.Proof

/-- Everything that is claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Claims.frame_p, Claims.frame_pi, Claims.frame_ri, Claims.frame_p2, Claims.frame_pi2, Claims.frame_ri2,
    Claims.frame_p3, Claims.frame_pi3, Claims.frame_ri3, Claims.frame_p4, Claims.frame_pi4, Claims.frame_ri4,
    Claims.frame_p5, Claims.frame_pi5, Claims.frame_ri5,
    Claims.preserves, Claims.algebraic, Claims.preserves2, Claims.algebraic2, Claims.preserves3, Claims.algebraic3,
    Claims.preserves4, Claims.algebraic4, Claims.preserves5, Claims.algebraic5⟩

end Cert.Proof
